-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1)
      ∧ r.2.mem ((c.tc : Thread Cert.QuantReferenceIdeal.nD Cert.QuantReferenceIdeal.τ).loc Cert.QuantReferenceIdeal.main_arg2) = m ((c.tc : Thread Cert.QuantReferenceIdeal.nD Cert.QuantReferenceIdeal.τ).loc Cert.QuantReferenceIdeal.main_arg2))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![9216, 96, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v1_0) i = v0 c i)
          ∧ (∀ i : (⟨3, ![9216, 8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v1_1) i = v1 c i)
          ∧ (∀ i : (⟨3, ![9216, 8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v1_2) i = v2 c i)
          ∧ (∀ i : (⟨2, ![9216, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.KernelIdeal.nD Cert.KernelIdeal.τ).loc Cert.KernelIdeal.main_v1_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![9216, 96, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v1_0) i = v0 c i)
          ∧ (∀ i : (⟨3, ![9216, 8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v1_1) i = v1 c i)
          ∧ (∀ i : (⟨3, ![9216, 8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v1_2) i = v2 c i)
          ∧ (∀ i : (⟨2, ![9216, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 i = 1#1 → r.2.mem ((c.tc : Thread Cert.ReferenceIdeal.nD Cert.ReferenceIdeal.τ).loc Cert.ReferenceIdeal.main_v1_3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Quant_QuantIdeal : Prop :=
  True

def algebraic_QuantIdeal_QuantReferenceIdeal [hQuantIdeal : Cert.QuantIdeal.Facts] [hQuantReferenceIdeal : Cert.QuantReferenceIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)
      ∧ m' ((c.tc : Thread Cert.QuantReferenceIdeal.nD Cert.QuantReferenceIdeal.τ).loc Cert.QuantReferenceIdeal.main_arg2) = m ((c.tc : Thread Cert.QuantIdeal.nD Cert.QuantIdeal.τ).loc Cert.QuantIdeal.main_arg2)) →
    ∃ (v0 : (c : Dev Cert.QuantIdeal.nD) → Buf (Elt Ideal) ((c.tc : Thread Cert.QuantIdeal.nD Cert.QuantIdeal.τ).loc Cert.QuantIdeal.main_v15_0)) (v1 : (c : Dev Cert.QuantIdeal.nD) → Buf (Elt Ideal) ((c.tc : Thread Cert.QuantIdeal.nD Cert.QuantIdeal.τ).loc Cert.QuantIdeal.main_v15_1)) (v2 : (c : Dev Cert.QuantIdeal.nD) → Buf (Elt Ideal) ((c.tc : Thread Cert.QuantIdeal.nD Cert.QuantIdeal.τ).loc Cert.QuantIdeal.main_v15_2)) (v3 : (c : Dev Cert.QuantIdeal.nD) → Buf (Elt Ideal) ((c.tc : Thread Cert.QuantIdeal.nD Cert.QuantIdeal.τ).loc Cert.QuantIdeal.main_v15_3)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v15_0) = v0 c
          ∧ r.2.mem ((c.tc : Thread Cert.QuantIdeal.nD Cert.QuantIdeal.τ).loc Cert.QuantIdeal.main_v15_1) = v1 c
          ∧ r.2.mem ((c.tc : Thread Cert.QuantIdeal.nD Cert.QuantIdeal.τ).loc Cert.QuantIdeal.main_v15_2) = v2 c
          ∧ r.2.mem ((c.tc : Thread Cert.QuantIdeal.nD Cert.QuantIdeal.τ).loc Cert.QuantIdeal.main_v15_3) = v3 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v14_0) = v0 c
          ∧ r.2.mem ((c.tc : Thread Cert.QuantReferenceIdeal.nD Cert.QuantReferenceIdeal.τ).loc Cert.QuantReferenceIdeal.main_v14_1) = v1 c
          ∧ r.2.mem ((c.tc : Thread Cert.QuantReferenceIdeal.nD Cert.QuantReferenceIdeal.τ).loc Cert.QuantReferenceIdeal.main_v14_2) = v2 c
          ∧ r.2.mem ((c.tc : Thread Cert.QuantReferenceIdeal.nD Cert.QuantReferenceIdeal.τ).loc Cert.QuantReferenceIdeal.main_v14_3) = v3 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1)
          ∧ r.2.mem ((c.tc : Thread Cert.QuantReferenceIdeal.nD Cert.QuantReferenceIdeal.τ).loc Cert.QuantReferenceIdeal.main_arg2) = m' ((c.tc : Thread Cert.QuantReferenceIdeal.nD Cert.QuantReferenceIdeal.τ).loc Cert.QuantReferenceIdeal.main_arg2))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantReferenceIdeal : Cert.QuantReferenceIdeal.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Quant (hQuant := hQuant)
    ∧ quiescent_QuantIdeal (hQuantIdeal := hQuantIdeal)
    ∧ quiescent_QuantReferenceIdeal (hQuantReferenceIdeal := hQuantReferenceIdeal)
    ∧ preserves_Kernel_KernelIdeal
    ∧ algebraic_KernelIdeal_ReferenceIdeal_on_written (hKernelIdeal := hKernelIdeal) (hReferenceIdeal := hReferenceIdeal) (hOn_written := hOn_written)
    ∧ preserves_Quant_QuantIdeal
    ∧ algebraic_QuantIdeal_QuantReferenceIdeal (hQuantIdeal := hQuantIdeal) (hQuantReferenceIdeal := hQuantReferenceIdeal)
-- ==== On_written.lean ====
abbrev S9216x12288 : Shape := ⟨2, ![9216, 12288]⟩
abbrev S12288x14336 : Shape := ⟨2, ![12288, 14336]⟩
abbrev S14336 : Shape := ⟨1, ![14336]⟩
abbrev S9216x128 : Shape := ⟨2, ![9216, 128]⟩
abbrev S_ : Shape := ⟨0, ![]⟩
abbrev S9216x96x128 : Shape := ⟨3, ![9216, 96, 128]⟩
abbrev S9216x8x128 : Shape := ⟨3, ![9216, 8, 128]⟩

class Facts : Prop where
  bcast_S_S9216x96x128 : S_.BroadcastsInDim S9216x96x128 (![] : Fin 0 → Fin S9216x96x128.rank)
  bcast_S_S9216x8x128 : S_.BroadcastsInDim S9216x8x128 (![] : Fin 0 → Fin S9216x8x128.rank)
  bcast_S_S9216x128 : S_.BroadcastsInDim S9216x128 (![] : Fin 0 → Fin S9216x128.rank)

variable [Facts]

def fn {F : FTy → Type} [FloatOps F] (main_arg0 : FVec F S9216x12288 .fp8e4m3) (main_arg1 : FVec F S12288x14336 .fp8e4m3) (main_arg2 : FVec F S14336 .f32) (main_arg3 : FVec F S9216x128 .f32) (main_arg4 : FVec F S9216x128 .f32) (main_arg5 : FVec F S9216x128 .f32) : IVec S9216x96x128 1 × IVec S9216x8x128 1 × IVec S9216x8x128 1 × IVec S9216x128 1 :=
  let main_c : IVec S_ 1 := constantI S_ 1 1#1
  let main_v0 : IVec S9216x96x128 1 := broadcastInDim S9216x96x128 ![] bcast_S_S9216x96x128 main_c
  let main_c_0 : IVec S_ 1 := constantI S_ 1 1#1
  let main_v1 : IVec S9216x8x128 1 := broadcastInDim S9216x8x128 ![] bcast_S_S9216x8x128 main_c_0
  let main_v2 : IVec S9216x128 32 := iotaInDim S9216x128 32 1
  let main_c_1 : IVec S_ 32 := constantI S_ 32 112#32
  let main_v3 : IVec S9216x128 32 := broadcastInDim S9216x128 ![] bcast_S_S9216x128 main_c_1
  let main_v4 : IVec S9216x128 1 := cmpi .slt main_v2 main_v3
  (main_v0, main_v1, main_v1, main_v4)
-- ==== Kernel.lean ====
abbrev S9216x12288 : Shape := ⟨2, ![9216, 12288]⟩
abbrev S12288x14336 : Shape := ⟨2, ![12288, 14336]⟩
abbrev S14336 : Shape := ⟨1, ![14336]⟩
abbrev S9216x128 : Shape := ⟨2, ![9216, 128]⟩
abbrev S1x14336 : Shape := ⟨2, ![1, 14336]⟩
abbrev S9216x96x128 : Shape := ⟨3, ![9216, 96, 128]⟩
abbrev S9216x8x128 : Shape := ⟨3, ![9216, 8, 128]⟩
abbrev S512x12288 : Shape := ⟨2, ![512, 12288]⟩
abbrev S12288x512 : Shape := ⟨2, ![12288, 512]⟩
abbrev S1x512 : Shape := ⟨2, ![1, 512]⟩
abbrev S512x128 : Shape := ⟨2, ![512, 128]⟩
abbrev S512x32x128 : Shape := ⟨3, ![512, 32, 128]⟩
abbrev S512x8x128 : Shape := ⟨3, ![512, 8, 128]⟩
abbrev S512x512 : Shape := ⟨2, ![512, 512]⟩
abbrev S128x128 : Shape := ⟨2, ![128, 128]⟩
abbrev S32x128 : Shape := ⟨2, ![32, 128]⟩
abbrev S1x128 : Shape := ⟨2, ![1, 128]⟩
abbrev S32 : Shape := ⟨1, ![32]⟩
abbrev S32x1 : Shape := ⟨2, ![32, 1]⟩
abbrev S32x4x128 : Shape := ⟨3, ![32, 4, 128]⟩

abbrev nBuf : Space → Nat
  | .hbm => 11
  | .vmem => 22
  | .smem => 0
  | _ => 0

abbrev bufTy : (tb : Table) → Fin (tcTables nBuf tb) → BufTy
  | .hbm, ⟨0, _⟩ => ⟨S9216x12288, .fp8e4m3⟩
  | .hbm, ⟨1, _⟩ => ⟨S12288x14336, .fp8e4m3⟩
  | .hbm, ⟨2, _⟩ => ⟨S14336, .f32⟩
  | .hbm, ⟨3, _⟩ => ⟨S9216x128, .f32⟩
  | .hbm, ⟨4, _⟩ => ⟨S9216x128, .f32⟩
  | .hbm, ⟨5, _⟩ => ⟨S9216x128, .f32⟩
  | .hbm, ⟨6, _⟩ => ⟨S1x14336, .f32⟩
  | .hbm, ⟨7, _⟩ => ⟨S9216x96x128, .fp8e4m3⟩
  | .hbm, ⟨8, _⟩ => ⟨S9216x8x128, .fp8e4m3⟩
  | .hbm, ⟨9, _⟩ => ⟨S9216x8x128, .fp8e4m3⟩
  | .hbm, ⟨10, _⟩ => ⟨S9216x128, .f32⟩
  | .local _ .vmem, ⟨0, _⟩ => ⟨S512x12288, .fp8e4m3⟩
  | .local _ .vmem, ⟨1, _⟩ => ⟨S512x12288, .fp8e4m3⟩
  | .local _ .vmem, ⟨2, _⟩ => ⟨S12288x512, .fp8e4m3⟩
  | .local _ .vmem, ⟨3, _⟩ => ⟨S12288x512, .fp8e4m3⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x32x128, .fp8e4m3⟩
  | .local _ .vmem, ⟨13, _⟩ => ⟨S512x32x128, .fp8e4m3⟩
  | .local _ .vmem, ⟨14, _⟩ => ⟨S512x8x128, .fp8e4m3⟩
  | .local _ .vmem, ⟨15, _⟩ => ⟨S512x8x128, .fp8e4m3⟩
  | .local _ .vmem, ⟨16, _⟩ => ⟨S512x8x128, .fp8e4m3⟩
  | .local _ .vmem, ⟨17, _⟩ => ⟨S512x8x128, .fp8e4m3⟩
  | .local _ .vmem, ⟨18, _⟩ => ⟨S512x128, .f32⟩
  | .local _ .vmem, ⟨19, _⟩ => ⟨S512x128, .f32⟩
  | .local _ .vmem, ⟨20, _⟩ => ⟨S512x512, .f32⟩
  | .local _ .vmem, ⟨21, _⟩ => ⟨S128x128, .f32⟩
  | _, _ => ⟨S9216x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![18, 28], ![false, false]⟩

def k0_cond1 (i : grid0.Coords) : BitVec 1 :=
  let arg1 : BitVec 32 := BitVec.ofNat 32 (i 1).val
  let c24_i32 : BitVec 32 := 24#32
  let v6 : BitVec 1 := Scalar.cmpi .slt arg1 c24_i32
  let v7 : BitVec 32 := Scalar.extui v6
  let c0_i32 : BitVec 32 := 0#32
  let v8 : BitVec 1 := Scalar.cmpi .ne v7 c0_i32
  v8

@[reducible] def k0_t1_loop : Scf.Loop 32 :=
  let c0_i32_9 : BitVec 32 := 0#32
  let c16_i32 : BitVec 32 := 16#32
  let v17 : BitVec 32 := Scalar.addi c0_i32_9 c16_i32
  let c1_i32 : BitVec 32 := 1#32
  ⟨c0_i32_9, v17, c1_i32⟩
def k0_mult1 (k0_t1 : Fin k0_t1_loop.trips) : BitVec 32 :=
  let c0_i32_9 : BitVec 32 := 0#32
  let c1_i32 : BitVec 32 := 1#32
  let arg14 : BitVec 32 := Scf.iv c0_i32_9 c1_i32 k0_t1
  let c32_i32 : BitVec 32 := 32#32
  let v18 : BitVec 32 := Scalar.muli arg14 c32_i32
  v18
def k0_off1 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let c32_i32 : BitVec 32 := 32#32
  let v18 : BitVec 32 := Scalar.muli arg14 c32_i32
  let v19 : BitVec 32 := v18
  let v20 : Index := Scalar.indexCast v19
  let c0_11 : Index := 0#32
  ![v20.toNat, 0]
def k0_off2 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let c32_i32 : BitVec 32 := 32#32
  let v18 : BitVec 32 := Scalar.muli arg14 c32_i32
  let v19 : BitVec 32 := v18
  let v30 : Index := Scalar.indexCast v19
  let c0_15 : Index := 0#32
  ![v30.toNat, 0]
def k0_off3 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let c32_i32 : BitVec 32 := 32#32
  let v18 : BitVec 32 := Scalar.muli arg14 c32_i32
  let v19 : BitVec 32 := v18
  let v119 : Index := Scalar.indexCast v19
  let c128 : Index := 128#32
  ![v119.toNat, 128]
def k0_off4 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let c32_i32 : BitVec 32 := 32#32
  let v18 : BitVec 32 := Scalar.muli arg14 c32_i32
  let v19 : BitVec 32 := v18
  let v208 : Index := Scalar.indexCast v19
  let c256 : Index := 256#32
  ![v208.toNat, 256]
def k0_off5 (k0_t1 : Fin k0_t1_loop.trips) : Fin 2 → Nat :=
  let c0_i32_9 : BitVec 32 := 0#32
  let c1_i32 : BitVec 32 := 1#32
  let arg14 : BitVec 32 := Scf.iv c0_i32_9 c1_i32 k0_t1
  let c32_i32 : BitVec 32 := 32#32
  let v18 : BitVec 32 := Scalar.muli arg14 c32_i32
  let v19 : BitVec 32 := v18
  let v297 : Index := Scalar.indexCast v19
  let c384 : Index := 384#32
  ![v297.toNat, 384]
def k0_off6 (i : grid0.Coords) (k0_t1 : Fin k0_t1_loop.trips) : Fin 3 → Nat :=
  let c0_i32_9 : BitVec 32 := 0#32
  let c1_i32 : BitVec 32 := 1#32
  let arg14 : BitVec 32 := Scf.iv c0_i32_9 c1_i32 k0_t1
  let c32_i32 : BitVec 32 := 32#32
  let v18 : BitVec 32 := Scalar.muli arg14 c32_i32
  let v19 : BitVec 32 := v18
  let v394 : Index := Scalar.indexCast v19
  let arg1 : BitVec 32 := BitVec.ofNat 32 (i 1).val
  let c0_i32_109 : BitVec 32 := 0#32
  let v391 : BitVec 32 := Scalar.subi arg1 c0_i32_109
  let c8_i32 : BitVec 32 := 8#32
  let v392 : BitVec 32 := Scalar.remsi v391 c8_i32
  let c4_i32_110 : BitVec 32 := 4#32
  let v393 : BitVec 32 := Scalar.muli v392 c4_i32_110
  let v395 : Index := Scalar.indexCast v393
  let c0_111 : Index := 0#32
  ![v394.toNat, v395.toNat, 0]
def k0_cond2 (i : grid0.Coords) : BitVec 1 :=
  let arg1 : BitVec 32 := BitVec.ofNat 32 (i 1).val
  let c24_i32_5 : BitVec 32 := 24#32
  let v9 : BitVec 1 := Scalar.cmpi .sge arg1 c24_i32_5
  let c26_i32 : BitVec 32 := 26#32
  let v10 : BitVec 1 := Scalar.cmpi .slt arg1 c26_i32
  let v11 : BitVec 1 := Scalar.andi v9 v10
  let v12 : BitVec 32 := Scalar.extui v11
  let c0_i32_6 : BitVec 32 := 0#32
  let v13 : BitVec 1 := Scalar.cmpi .ne v12 c0_i32_6
  v13

@[reducible] def k0_t2_loop : Scf.Loop 32 :=
  let c0_i32_9 : BitVec 32 := 0#32
  let c16_i32 : BitVec 32 := 16#32
  let v17 : BitVec 32 := Scalar.addi c0_i32_9 c16_i32
  let c1_i32 : BitVec 32 := 1#32
  ⟨c0_i32_9, v17, c1_i32⟩
def k0_mult2 (k0_t2 : Fin k0_t2_loop.trips) : BitVec 32 :=
  let c0_i32_9 : BitVec 32 := 0#32
  let c1_i32 : BitVec 32 := 1#32
  let arg14 : BitVec 32 := Scf.iv c0_i32_9 c1_i32 k0_t2
  let c32_i32 : BitVec 32 := 32#32
  let v18 : BitVec 32 := Scalar.muli arg14 c32_i32
  v18
def k0_off7 (k0_t2 : Fin k0_t2_loop.trips) : Fin 2 → Nat :=
  let c0_i32_9 : BitVec 32 := 0#32
  let c1_i32 : BitVec 32 := 1#32
  let arg14 : BitVec 32 := Scf.iv c0_i32_9 c1_i32 k0_t2
  let c32_i32 : BitVec 32 := 32#32
  let v18 : BitVec 32 := Scalar.muli arg14 c32_i32
  let v19 : BitVec 32 := v18
  let v20 : Index := Scalar.indexCast v19
  let c0_11 : Index := 0#32
  ![v20.toNat, 0]
def k0_off8 (k0_t2 : Fin k0_t2_loop.trips) : Fin 2 → Nat :=
  let c0_i32_9 : BitVec 32 := 0#32
  let c1_i32 : BitVec 32 := 1#32
  let arg14 : BitVec 32 := Scf.iv c0_i32_9 c1_i32 k0_t2
  let c32_i32 : BitVec 32 := 32#32
  let v18 : BitVec 32 := Scalar.muli arg14 c32_i32
  let v19 : BitVec 32 := v18
  let v30 : Index := Scalar.indexCast v19
  let c0_15 : Index := 0#32
  ![v30.toNat, 0]
def k0_off9 (k0_t2 : Fin k0_t2_loop.trips) : Fin 2 → Nat :=
  let c0_i32_9 : BitVec 32 := 0#32
  let c1_i32 : BitVec 32 := 1#32
  let arg14 : BitVec 32 := Scf.iv c0_i32_9 c1_i32 k0_t2
  let c32_i32 : BitVec 32 := 32#32
  let v18 : BitVec 32 := Scalar.muli arg14 c32_i32
  let v19 : BitVec 32 := v18
  let v119 : Index := Scalar.indexCast v19
  let c128 : Index := 128#32
  ![v119.toNat, 128]
def k0_off10 (k0_t2 : Fin k0_t2_loop.trips) : Fin 2 → Nat :=
  let c0_i32_9 : BitVec 32 := 0#32
  let c1_i32 : BitVec 32 := 1#32
  let arg14 : BitVec 32 := Scf.iv c0_i32_9 c1_i32 k0_t2
  let c32_i32 : BitVec 32 := 32#32
  let v18 : BitVec 32 := Scalar.muli arg14 c32_i32
  let v19 : BitVec 32 := v18
  let v208 : Index := Scalar.indexCast v19
  let c256 : Index := 256#32
  ![v208.toNat, 256]
def k0_off11 (k0_t2 : Fin k0_t2_loop.trips) : Fin 2 → Nat :=
  let c0_i32_9 : BitVec 32 := 0#32
  let c1_i32 : BitVec 32 := 1#32
  let arg14 : BitVec 32 := Scf.iv c0_i32_9 c1_i32 k0_t2
  let c32_i32 : BitVec 32 := 32#32
  let v18 : BitVec 32 := Scalar.muli arg14 c32_i32
  let v19 : BitVec 32 := v18
  let v297 : Index := Scalar.indexCast v19
  let c384 : Index := 384#32
  ![v297.toNat, 384]
def k0_off12 (i : grid0.Coords) (k0_t2 : Fin k0_t2_loop.trips) : Fin 3 → Nat :=
  let c0_i32_9 : BitVec 32 := 0#32
  let c1_i32 : BitVec 32 := 1#32
  let arg14 : BitVec 32 := Scf.iv c0_i32_9 c1_i32 k0_t2
  let c32_i32 : BitVec 32 := 32#32
  let v18 : BitVec 32 := Scalar.muli arg14 c32_i32
  let v19 : BitVec 32 := v18
  let v394 : Index := Scalar.indexCast v19
  let arg1 : BitVec 32 := BitVec.ofNat 32 (i 1).val
  let c24_i32_109 : BitVec 32 := 24#32
  let v391 : BitVec 32 := Scalar.subi arg1 c24_i32_109
  let c2_i32_110 : BitVec 32 := 2#32
  let v392 : BitVec 32 := Scalar.remsi v391 c2_i32_110
  let c4_i32_111 : BitVec 32 := 4#32
  let v393 : BitVec 32 := Scalar.muli v392 c4_i32_111
  let v395 : Index := Scalar.indexCast v393
  let c0_112 : Index := 0#32
  ![v394.toNat, v395.toNat, 0]
def k0_cond3 (i : grid0.Coords) : BitVec 1 :=
  let arg1 : BitVec 32 := BitVec.ofNat 32 (i 1).val
  let c26_i32_7 : BitVec 32 := 26#32
  let v14 : BitVec 1 := Scalar.cmpi .sge arg1 c26_i32_7
  let v15 : BitVec 32 := Scalar.extui v14
  let c0_i32_8 : BitVec 32 := 0#32
  let v16 : BitVec 1 := Scalar.cmpi .ne v15 c0_i32_8
  v16

@[reducible] def k0_t3_loop : Scf.Loop 32 :=
  let c0_i32_9 : BitVec 32 := 0#32
  let c16_i32 : BitVec 32 := 16#32
  let v17 : BitVec 32 := Scalar.addi c0_i32_9 c16_i32
  let c1_i32 : BitVec 32 := 1#32
  ⟨c0_i32_9, v17, c1_i32⟩
def k0_mult3 (k0_t3 : Fin k0_t3_loop.trips) : BitVec 32 :=
  let c0_i32_9 : BitVec 32 := 0#32
  let c1_i32 : BitVec 32 := 1#32
  let arg14 : BitVec 32 := Scf.iv c0_i32_9 c1_i32 k0_t3
  let c32_i32 : BitVec 32 := 32#32
  let v18 : BitVec 32 := Scalar.muli arg14 c32_i32
  v18
def k0_off13 (k0_t3 : Fin k0_t3_loop.trips) : Fin 2 → Nat :=
  let c0_i32_9 : BitVec 32 := 0#32
  let c1_i32 : BitVec 32 := 1#32
  let arg14 : BitVec 32 := Scf.iv c0_i32_9 c1_i32 k0_t3
  let c32_i32 : BitVec 32 := 32#32
  let v18 : BitVec 32 := Scalar.muli arg14 c32_i32
  let v19 : BitVec 32 := v18
  let v20 : Index := Scalar.indexCast v19
  let c0_11 : Index := 0#32
  ![v20.toNat, 0]
def k0_off14 (k0_t3 : Fin k0_t3_loop.trips) : Fin 2 → Nat :=
  let c0_i32_9 : BitVec 32 := 0#32
  let c1_i32 : BitVec 32 := 1#32
  let arg14 : BitVec 32 := Scf.iv c0_i32_9 c1_i32 k0_t3
  let c32_i32 : BitVec 32 := 32#32
  let v18 : BitVec 32 := Scalar.muli arg14 c32_i32
  let v19 : BitVec 32 := v18
  let v26 : Index := Scalar.indexCast v19
  let c0_13 : Index := 0#32
  ![v26.toNat, 0]
def k0_off15 (k0_t3 : Fin k0_t3_loop.trips) : Fin 2 → Nat :=
  let c0_i32_9 : BitVec 32 := 0#32
  let c1_i32 : BitVec 32 := 1#32
  let arg14 : BitVec 32 := Scf.iv c0_i32_9 c1_i32 k0_t3
  let c32_i32 : BitVec 32 := 32#32
  let v18 : BitVec 32 := Scalar.muli arg14 c32_i32
  let v19 : BitVec 32 := v18
  let v111 : Index := Scalar.indexCast v19
  let c128 : Index := 128#32
  ![v111.toNat, 128]
def k0_off16 (k0_t3 : Fin k0_t3_loop.trips) : Fin 2 → Nat :=
  let c0_i32_9 : BitVec 32 := 0#32
  let c1_i32 : BitVec 32 := 1#32
  let arg14 : BitVec 32 := Scf.iv c0_i32_9 c1_i32 k0_t3
  let c32_i32 : BitVec 32 := 32#32
  let v18 : BitVec 32 := Scalar.muli arg14 c32_i32
  let v19 : BitVec 32 := v18
  let v196 : Index := Scalar.indexCast v19
  let c256 : Index := 256#32
  ![v196.toNat, 256]
def k0_off17 (k0_t3 : Fin k0_t3_loop.trips) : Fin 2 → Nat :=
  let c0_i32_9 : BitVec 32 := 0#32
  let c1_i32 : BitVec 32 := 1#32
  let arg14 : BitVec 32 := Scf.iv c0_i32_9 c1_i32 k0_t3
  let c32_i32 : BitVec 32 := 32#32
  let v18 : BitVec 32 := Scalar.muli arg14 c32_i32
  let v19 : BitVec 32 := v18
  let v281 : Index := Scalar.indexCast v19
  let c384 : Index := 384#32
  ![v281.toNat, 384]
def k0_off18 (i : grid0.Coords) (k0_t3 : Fin k0_t3_loop.trips) : Fin 3 → Nat :=
  let c0_i32_9 : BitVec 32 := 0#32
  let c1_i32 : BitVec 32 := 1#32
  let arg14 : BitVec 32 := Scf.iv c0_i32_9 c1_i32 k0_t3
  let c32_i32 : BitVec 32 := 32#32
  let v18 : BitVec 32 := Scalar.muli arg14 c32_i32
  let v19 : BitVec 32 := v18
  let v374 : Index := Scalar.indexCast v19
  let arg1 : BitVec 32 := BitVec.ofNat 32 (i 1).val
  let c26_i32_104 : BitVec 32 := 26#32
  let v371 : BitVec 32 := Scalar.subi arg1 c26_i32_104
  let c2_i32_105 : BitVec 32 := 2#32
  let v372 : BitVec 32 := Scalar.remsi v371 c2_i32_105
  let c4_i32_106 : BitVec 32 := 4#32
  let v373 : BitVec 32 := Scalar.muli v372 c4_i32_106
  let v375 : Index := Scalar.indexCast v373
  let c0_107 : Index := 0#32
  ![v374.toNat, v375.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  ![arg0.toNat, v17.toNat, c0_i32_4.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x12288 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12288x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x32x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x8x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x8x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S9216x12288 : Shape := ⟨2, ![9216, 12288]⟩
abbrev S12288x14336 : Shape := ⟨2, ![12288, 14336]⟩
abbrev S14336 : Shape := ⟨1, ![14336]⟩
abbrev S9216x128 : Shape := ⟨2, ![9216, 128]⟩
abbrev S1x14336 : Shape := ⟨2, ![1, 14336]⟩
abbrev S9216x96x128 : Shape := ⟨3, ![9216, 96, 128]⟩
abbrev S9216x8x128 : Shape := ⟨3, ![9216, 8, 128]⟩
abbrev S9216x14336 : Shape := ⟨2, ![9216, 14336]⟩
abbrev S9216x112x128 : Shape := ⟨3, ![9216, 112, 128]⟩
abbrev S9216x1x128 : Shape := ⟨3, ![9216, 1, 128]⟩
abbrev S1x112x128 : Shape := ⟨3, ![1, 112, 128]⟩
abbrev S9216x96x64 : Shape := ⟨3, ![9216, 96, 64]⟩
abbrev S9216x1x64 : Shape := ⟨3, ![9216, 1, 64]⟩
abbrev S9216x96 : Shape := ⟨2, ![9216, 96]⟩
abbrev S9216x96x1 : Shape := ⟨3, ![9216, 96, 1]⟩
abbrev S9216x8x64 : Shape := ⟨3, ![9216, 8, 64]⟩
abbrev S9216x8 : Shape := ⟨2, ![9216, 8]⟩
abbrev S9216x8x1 : Shape := ⟨3, ![9216, 8, 1]⟩
abbrev S9216x16 : Shape := ⟨2, ![9216, 16]⟩

abbrev nBuf : Space → Nat
  | .hbm => 11
  | .vmem => 10
  | .smem => 0
  | _ => 0

abbrev bufTy : (tb : Table) → Fin (tcTables nBuf tb) → BufTy
  | .hbm, ⟨0, _⟩ => ⟨S9216x12288, .fp8e4m3⟩
  | .hbm, ⟨1, _⟩ => ⟨S12288x14336, .fp8e4m3⟩
  | .hbm, ⟨2, _⟩ => ⟨S14336, .f32⟩
  | .hbm, ⟨3, _⟩ => ⟨S9216x128, .f32⟩
  | .hbm, ⟨4, _⟩ => ⟨S9216x128, .f32⟩
  | .hbm, ⟨5, _⟩ => ⟨S9216x128, .f32⟩
  | .hbm, ⟨6, _⟩ => ⟨S1x14336, .f32⟩
  | .hbm, ⟨7, _⟩ => ⟨S9216x96x128, .fp8e4m3⟩
  | .hbm, ⟨8, _⟩ => ⟨S9216x8x128, .fp8e4m3⟩
  | .hbm, ⟨9, _⟩ => ⟨S9216x8x128, .fp8e4m3⟩
  | .hbm, ⟨10, _⟩ => ⟨S9216x128, .f32⟩
  | .local _ .vmem, ⟨0, _⟩ => ⟨S9216x12288, .fp8e4m3⟩
  | .local _ .vmem, ⟨1, _⟩ => ⟨S12288x14336, .fp8e4m3⟩
  | .local _ .vmem, ⟨2, _⟩ => ⟨S1x14336, .f32⟩
  | .local _ .vmem, ⟨3, _⟩ => ⟨S9216x128, .f32⟩
  | .local _ .vmem, ⟨4, _⟩ => ⟨S9216x128, .f32⟩
  | .local _ .vmem, ⟨5, _⟩ => ⟨S9216x128, .f32⟩
  | .local _ .vmem, ⟨6, _⟩ => ⟨S9216x96x128, .fp8e4m3⟩
  | .local _ .vmem, ⟨7, _⟩ => ⟨S9216x8x128, .fp8e4m3⟩
  | .local _ .vmem, ⟨8, _⟩ => ⟨S9216x8x128, .fp8e4m3⟩
  | .local _ .vmem, ⟨9, _⟩ => ⟨S9216x128, .f32⟩
  | _, _ => ⟨S9216x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S9216x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x14336 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x96x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9216x8x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9216x8x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S9216x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Quant.lean ====
abbrev S9216x12288 : Shape := ⟨2, ![9216, 12288]⟩
abbrev S12288 : Shape := ⟨1, ![12288]⟩
abbrev S9216 : Shape := ⟨1, ![9216]⟩
abbrev S64 : Shape := ⟨1, ![64]⟩
abbrev S_ : Shape := ⟨0, ![]⟩
abbrev S128 : Shape := ⟨1, ![128]⟩
abbrev S1x128 : Shape := ⟨2, ![1, 128]⟩
abbrev S1x12288 : Shape := ⟨2, ![1, 12288]⟩
abbrev S9216x1 : Shape := ⟨2, ![9216, 1]⟩
abbrev S9216x128 : Shape := ⟨2, ![9216, 128]⟩
abbrev S128x12288 : Shape := ⟨2, ![128, 12288]⟩
abbrev S128x1 : Shape := ⟨2, ![128, 1]⟩
abbrev S128x128 : Shape := ⟨2, ![128, 128]⟩
abbrev S32x128 : Shape := ⟨2, ![32, 128]⟩
abbrev S32 : Shape := ⟨1, ![32]⟩
abbrev S32x1 : Shape := ⟨2, ![32, 1]⟩

abbrev nBuf : Space → Nat
  | .hbm => 27
  | .vmem => 14
  | .smem => 0
  | _ => 0

abbrev bufTy : (tb : Table) → Fin (tcTables nBuf tb) → BufTy
  | .hbm, ⟨0, _⟩ => ⟨S9216x12288, .bf16⟩
  | .hbm, ⟨1, _⟩ => ⟨S12288, .f32⟩
  | .hbm, ⟨2, _⟩ => ⟨S9216, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S1x12288, .f32⟩
  | .hbm, ⟨22, _⟩ => ⟨S9216x1, .i32⟩
  | .hbm, ⟨23, _⟩ => ⟨S9216x12288, .fp8e4m3⟩
  | .hbm, ⟨24, _⟩ => ⟨S9216x128, .f32⟩
  | .hbm, ⟨25, _⟩ => ⟨S9216x128, .f32⟩
  | .hbm, ⟨26, _⟩ => ⟨S9216x128, .f32⟩
  | .local _ .vmem, ⟨0, _⟩ => ⟨S128x12288, .bf16⟩
  | .local _ .vmem, ⟨1, _⟩ => ⟨S128x12288, .bf16⟩
  | .local _ .vmem, ⟨2, _⟩ => ⟨S1x12288, .f32⟩
  | .local _ .vmem, ⟨3, _⟩ => ⟨S128x1, .i32⟩
  | .local _ .vmem, ⟨4, _⟩ => ⟨S128x1, .i32⟩
  | .local _ .vmem, ⟨5, _⟩ => ⟨S1x128, .f32⟩
  | .local _ .vmem, ⟨6, _⟩ => ⟨S128x12288, .fp8e4m3⟩
  | .local _ .vmem, ⟨7, _⟩ => ⟨S128x12288, .fp8e4m3⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S9216x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![72], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  v19
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v22 : Index := Scalar.indexCast v20
  let c0_9 : Index := 0#32
  ![v22.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v27 : Index := Scalar.indexCast v20
  let c128 : Index := 128#32
  ![v27.toNat, 128]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v32 : Index := Scalar.indexCast v20
  let c256 : Index := 256#32
  ![v32.toNat, 256]
def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v37 : Index := Scalar.indexCast v20
  let c384 : Index := 384#32
  ![v37.toNat, 384]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v42 : Index := Scalar.indexCast v20
  let c512 : Index := 512#32
  ![v42.toNat, 512]
def k0_off6 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v47 : Index := Scalar.indexCast v20
  let c640 : Index := 640#32
  ![v47.toNat, 640]
def k0_off7 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v52 : Index := Scalar.indexCast v20
  let c768 : Index := 768#32
  ![v52.toNat, 768]
def k0_off8 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v57 : Index := Scalar.indexCast v20
  let c896 : Index := 896#32
  ![v57.toNat, 896]
def k0_off9 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v62 : Index := Scalar.indexCast v20
  let c1024 : Index := 1024#32
  ![v62.toNat, 1024]
def k0_off10 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v67 : Index := Scalar.indexCast v20
  let c1152 : Index := 1152#32
  ![v67.toNat, 1152]
def k0_off11 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v72 : Index := Scalar.indexCast v20
  let c1280 : Index := 1280#32
  ![v72.toNat, 1280]
def k0_off12 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v77 : Index := Scalar.indexCast v20
  let c1408 : Index := 1408#32
  ![v77.toNat, 1408]
def k0_off13 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v82 : Index := Scalar.indexCast v20
  let c1536 : Index := 1536#32
  ![v82.toNat, 1536]
def k0_off14 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v87 : Index := Scalar.indexCast v20
  let c1664 : Index := 1664#32
  ![v87.toNat, 1664]
def k0_off15 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v92 : Index := Scalar.indexCast v20
  let c1792 : Index := 1792#32
  ![v92.toNat, 1792]
def k0_off16 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v97 : Index := Scalar.indexCast v20
  let c1920 : Index := 1920#32
  ![v97.toNat, 1920]
def k0_off17 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v102 : Index := Scalar.indexCast v20
  let c2048 : Index := 2048#32
  ![v102.toNat, 2048]
def k0_off18 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v107 : Index := Scalar.indexCast v20
  let c2176 : Index := 2176#32
  ![v107.toNat, 2176]
def k0_off19 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v112 : Index := Scalar.indexCast v20
  let c2304 : Index := 2304#32
  ![v112.toNat, 2304]
def k0_off20 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v117 : Index := Scalar.indexCast v20
  let c2432 : Index := 2432#32
  ![v117.toNat, 2432]
def k0_off21 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v122 : Index := Scalar.indexCast v20
  let c2560 : Index := 2560#32
  ![v122.toNat, 2560]
def k0_off22 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v127 : Index := Scalar.indexCast v20
  let c2688 : Index := 2688#32
  ![v127.toNat, 2688]
def k0_off23 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v132 : Index := Scalar.indexCast v20
  let c2816 : Index := 2816#32
  ![v132.toNat, 2816]
def k0_off24 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v137 : Index := Scalar.indexCast v20
  let c2944 : Index := 2944#32
  ![v137.toNat, 2944]
def k0_off25 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v142 : Index := Scalar.indexCast v20
  let c3072 : Index := 3072#32
  ![v142.toNat, 3072]
def k0_off26 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v147 : Index := Scalar.indexCast v20
  let c3200 : Index := 3200#32
  ![v147.toNat, 3200]
def k0_off27 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v152 : Index := Scalar.indexCast v20
  let c3328 : Index := 3328#32
  ![v152.toNat, 3328]
def k0_off28 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v157 : Index := Scalar.indexCast v20
  let c3456 : Index := 3456#32
  ![v157.toNat, 3456]
def k0_off29 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v162 : Index := Scalar.indexCast v20
  let c3584 : Index := 3584#32
  ![v162.toNat, 3584]
def k0_off30 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v167 : Index := Scalar.indexCast v20
  let c3712 : Index := 3712#32
  ![v167.toNat, 3712]
def k0_off31 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v172 : Index := Scalar.indexCast v20
  let c3840 : Index := 3840#32
  ![v172.toNat, 3840]
def k0_off32 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v177 : Index := Scalar.indexCast v20
  let c3968 : Index := 3968#32
  ![v177.toNat, 3968]
def k0_off33 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v182 : Index := Scalar.indexCast v20
  let c4096 : Index := 4096#32
  ![v182.toNat, 4096]
def k0_off34 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v187 : Index := Scalar.indexCast v20
  let c4224 : Index := 4224#32
  ![v187.toNat, 4224]
def k0_off35 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v192 : Index := Scalar.indexCast v20
  let c4352 : Index := 4352#32
  ![v192.toNat, 4352]
def k0_off36 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v197 : Index := Scalar.indexCast v20
  let c4480 : Index := 4480#32
  ![v197.toNat, 4480]
def k0_off37 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v202 : Index := Scalar.indexCast v20
  let c4608 : Index := 4608#32
  ![v202.toNat, 4608]
def k0_off38 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v207 : Index := Scalar.indexCast v20
  let c4736 : Index := 4736#32
  ![v207.toNat, 4736]
def k0_off39 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v212 : Index := Scalar.indexCast v20
  let c4864 : Index := 4864#32
  ![v212.toNat, 4864]
def k0_off40 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v217 : Index := Scalar.indexCast v20
  let c4992 : Index := 4992#32
  ![v217.toNat, 4992]
def k0_off41 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v222 : Index := Scalar.indexCast v20
  let c5120 : Index := 5120#32
  ![v222.toNat, 5120]
def k0_off42 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v227 : Index := Scalar.indexCast v20
  let c5248 : Index := 5248#32
  ![v227.toNat, 5248]
def k0_off43 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v232 : Index := Scalar.indexCast v20
  let c5376 : Index := 5376#32
  ![v232.toNat, 5376]
def k0_off44 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v237 : Index := Scalar.indexCast v20
  let c5504 : Index := 5504#32
  ![v237.toNat, 5504]
def k0_off45 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v242 : Index := Scalar.indexCast v20
  let c5632 : Index := 5632#32
  ![v242.toNat, 5632]
def k0_off46 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v247 : Index := Scalar.indexCast v20
  let c5760 : Index := 5760#32
  ![v247.toNat, 5760]
def k0_off47 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v252 : Index := Scalar.indexCast v20
  let c5888 : Index := 5888#32
  ![v252.toNat, 5888]
def k0_off48 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v257 : Index := Scalar.indexCast v20
  let c6016 : Index := 6016#32
  ![v257.toNat, 6016]
def k0_off49 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v262 : Index := Scalar.indexCast v20
  let c6144 : Index := 6144#32
  ![v262.toNat, 6144]
def k0_off50 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v267 : Index := Scalar.indexCast v20
  let c6272 : Index := 6272#32
  ![v267.toNat, 6272]
def k0_off51 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v272 : Index := Scalar.indexCast v20
  let c6400 : Index := 6400#32
  ![v272.toNat, 6400]
def k0_off52 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v277 : Index := Scalar.indexCast v20
  let c6528 : Index := 6528#32
  ![v277.toNat, 6528]
def k0_off53 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v282 : Index := Scalar.indexCast v20
  let c6656 : Index := 6656#32
  ![v282.toNat, 6656]
def k0_off54 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v287 : Index := Scalar.indexCast v20
  let c6784 : Index := 6784#32
  ![v287.toNat, 6784]
def k0_off55 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v292 : Index := Scalar.indexCast v20
  let c6912 : Index := 6912#32
  ![v292.toNat, 6912]
def k0_off56 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v297 : Index := Scalar.indexCast v20
  let c7040 : Index := 7040#32
  ![v297.toNat, 7040]
def k0_off57 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v302 : Index := Scalar.indexCast v20
  let c7168 : Index := 7168#32
  ![v302.toNat, 7168]
def k0_off58 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v307 : Index := Scalar.indexCast v20
  let c7296 : Index := 7296#32
  ![v307.toNat, 7296]
def k0_off59 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v312 : Index := Scalar.indexCast v20
  let c7424 : Index := 7424#32
  ![v312.toNat, 7424]
def k0_off60 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v317 : Index := Scalar.indexCast v20
  let c7552 : Index := 7552#32
  ![v317.toNat, 7552]
def k0_off61 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v322 : Index := Scalar.indexCast v20
  let c7680 : Index := 7680#32
  ![v322.toNat, 7680]
def k0_off62 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v327 : Index := Scalar.indexCast v20
  let c7808 : Index := 7808#32
  ![v327.toNat, 7808]
def k0_off63 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v332 : Index := Scalar.indexCast v20
  let c7936 : Index := 7936#32
  ![v332.toNat, 7936]
def k0_off64 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v337 : Index := Scalar.indexCast v20
  let c8064 : Index := 8064#32
  ![v337.toNat, 8064]
def k0_off65 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v342 : Index := Scalar.indexCast v20
  let c8192 : Index := 8192#32
  ![v342.toNat, 8192]
def k0_off66 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v347 : Index := Scalar.indexCast v20
  let c8320 : Index := 8320#32
  ![v347.toNat, 8320]
def k0_off67 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v352 : Index := Scalar.indexCast v20
  let c8448 : Index := 8448#32
  ![v352.toNat, 8448]
def k0_off68 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v357 : Index := Scalar.indexCast v20
  let c8576 : Index := 8576#32
  ![v357.toNat, 8576]
def k0_off69 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v362 : Index := Scalar.indexCast v20
  let c8704 : Index := 8704#32
  ![v362.toNat, 8704]
def k0_off70 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v367 : Index := Scalar.indexCast v20
  let c8832 : Index := 8832#32
  ![v367.toNat, 8832]
def k0_off71 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v372 : Index := Scalar.indexCast v20
  let c8960 : Index := 8960#32
  ![v372.toNat, 8960]
def k0_off72 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v377 : Index := Scalar.indexCast v20
  let c9088 : Index := 9088#32
  ![v377.toNat, 9088]
def k0_off73 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v382 : Index := Scalar.indexCast v20
  let c9216 : Index := 9216#32
  ![v382.toNat, 9216]
def k0_off74 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v387 : Index := Scalar.indexCast v20
  let c9344 : Index := 9344#32
  ![v387.toNat, 9344]
def k0_off75 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v392 : Index := Scalar.indexCast v20
  let c9472 : Index := 9472#32
  ![v392.toNat, 9472]
def k0_off76 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v397 : Index := Scalar.indexCast v20
  let c9600 : Index := 9600#32
  ![v397.toNat, 9600]
def k0_off77 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v402 : Index := Scalar.indexCast v20
  let c9728 : Index := 9728#32
  ![v402.toNat, 9728]
def k0_off78 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v407 : Index := Scalar.indexCast v20
  let c9856 : Index := 9856#32
  ![v407.toNat, 9856]
def k0_off79 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v412 : Index := Scalar.indexCast v20
  let c9984 : Index := 9984#32
  ![v412.toNat, 9984]
def k0_off80 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v417 : Index := Scalar.indexCast v20
  let c10112 : Index := 10112#32
  ![v417.toNat, 10112]
def k0_off81 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v422 : Index := Scalar.indexCast v20
  let c10240 : Index := 10240#32
  ![v422.toNat, 10240]
def k0_off82 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v427 : Index := Scalar.indexCast v20
  let c10368 : Index := 10368#32
  ![v427.toNat, 10368]
def k0_off83 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v432 : Index := Scalar.indexCast v20
  let c10496 : Index := 10496#32
  ![v432.toNat, 10496]
def k0_off84 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v437 : Index := Scalar.indexCast v20
  let c10624 : Index := 10624#32
  ![v437.toNat, 10624]
def k0_off85 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v442 : Index := Scalar.indexCast v20
  let c10752 : Index := 10752#32
  ![v442.toNat, 10752]
def k0_off86 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v447 : Index := Scalar.indexCast v20
  let c10880 : Index := 10880#32
  ![v447.toNat, 10880]
def k0_off87 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v452 : Index := Scalar.indexCast v20
  let c11008 : Index := 11008#32
  ![v452.toNat, 11008]
def k0_off88 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v457 : Index := Scalar.indexCast v20
  let c11136 : Index := 11136#32
  ![v457.toNat, 11136]
def k0_off89 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v462 : Index := Scalar.indexCast v20
  let c11264 : Index := 11264#32
  ![v462.toNat, 11264]
def k0_off90 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v467 : Index := Scalar.indexCast v20
  let c11392 : Index := 11392#32
  ![v467.toNat, 11392]
def k0_off91 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v472 : Index := Scalar.indexCast v20
  let c11520 : Index := 11520#32
  ![v472.toNat, 11520]
def k0_off92 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v477 : Index := Scalar.indexCast v20
  let c11648 : Index := 11648#32
  ![v477.toNat, 11648]
def k0_off93 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v482 : Index := Scalar.indexCast v20
  let c11776 : Index := 11776#32
  ![v482.toNat, 11776]
def k0_off94 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v487 : Index := Scalar.indexCast v20
  let c11904 : Index := 11904#32
  ![v487.toNat, 11904]
def k0_off95 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v492 : Index := Scalar.indexCast v20
  let c12032 : Index := 12032#32
  ![v492.toNat, 12032]
def k0_off96 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v497 : Index := Scalar.indexCast v20
  let c12160 : Index := 12160#32
  ![v497.toNat, 12160]
def k0_off97 (k0_t1 : Fin k0_t1_loop.trips) : Fin 2 → Nat :=
  let c0_i32 : BitVec 32 := 0#32
  let c1_i32 : BitVec 32 := 1#32
  let arg9 : BitVec 32 := Scf.iv c0_i32 c1_i32 k0_t1
  let c32_i32 : BitVec 32 := 32#32
  let v19 : BitVec 32 := Scalar.muli arg9 c32_i32
  let v20 : BitVec 32 := v19
  let v1536 : Index := Scalar.indexCast v20
  let c0_309 : Index := 0#32
  ![v1536.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x12288 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QuantReferenceIdeal.lean ====
abbrev S9216x12288 : Shape := ⟨2, ![9216, 12288]⟩
abbrev S12288 : Shape := ⟨1, ![12288]⟩
abbrev S9216 : Shape := ⟨1, ![9216]⟩
abbrev S64 : Shape := ⟨1, ![64]⟩
abbrev S_ : Shape := ⟨0, ![]⟩
abbrev S1x12288 : Shape := ⟨2, ![1, 12288]⟩
abbrev S9216x1 : Shape := ⟨2, ![9216, 1]⟩
abbrev S1x64 : Shape := ⟨2, ![1, 64]⟩
abbrev S9216x128 : Shape := ⟨2, ![9216, 128]⟩
abbrev S9216x64 : Shape := ⟨2, ![9216, 64]⟩

abbrev nBuf : Space → Nat
  | .hbm => 26
  | .vmem => 8
  | .smem => 0
  | _ => 0

abbrev bufTy : (tb : Table) → Fin (tcTables nBuf tb) → BufTy
  | .hbm, ⟨0, _⟩ => ⟨S9216x12288, .bf16⟩
  | .hbm, ⟨1, _⟩ => ⟨S12288, .f32⟩
  | .hbm, ⟨2, _⟩ => ⟨S9216, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S1x12288, .f32⟩
  | .hbm, ⟨20, _⟩ => ⟨S9216x1, .i32⟩
  | .hbm, ⟨21, _⟩ => ⟨S1x64, .f32⟩
  | .hbm, ⟨22, _⟩ => ⟨S9216x12288, .fp8e4m3⟩
  | .hbm, ⟨23, _⟩ => ⟨S9216x128, .f32⟩
  | .hbm, ⟨24, _⟩ => ⟨S9216x128, .f32⟩
  | .hbm, ⟨25, _⟩ => ⟨S9216x128, .f32⟩
  | .local _ .vmem, ⟨0, _⟩ => ⟨S9216x12288, .bf16⟩
  | .local _ .vmem, ⟨1, _⟩ => ⟨S1x12288, .f32⟩
  | .local _ .vmem, ⟨2, _⟩ => ⟨S9216x1, .i32⟩
  | .local _ .vmem, ⟨3, _⟩ => ⟨S1x64, .f32⟩
  | .local _ .vmem, ⟨4, _⟩ => ⟨S9216x12288, .fp8e4m3⟩
  | .local _ .vmem, ⟨5, _⟩ => ⟨S9216x128, .f32⟩
  | .local _ .vmem, ⟨6, _⟩ => ⟨S9216x128, .f32⟩
  | .local _ .vmem, ⟨7, _⟩ => ⟨S9216x128, .f32⟩
  | _, _ => ⟨S9216x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S9216x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9216x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Tile.lean ====
module

public import proofs.«01_k».proof.Proof.Gen.Kernel.Loops
public import proofs.«01_k».proof.Proof.Gen.Kernel.Frame
public import Idealize.ShloMosaic.Lib.Tactic
public import Idealize.ShloMosaic.Lib.Pointwise.Tactic
public import Idealize.ShloMosaic.Lib.WritesUnit

@[expose] public section

set_option maxRecDepth 16384

noncomputable section

namespace Cert.Proof.K

open Cert.Kernel Cert.Kernel.Gen
open Idealize.ShloMosaic
open Idealize.ShloMosaic.TcCoe Idealize.ShloMosaic.Tactic

variable {F : FTy → Type} [FloatOps F]

/-! ## What the body computes from 32 rows of one head -/

/-- One step of the search for the exponent's bits: bit `b` joins the bits `v` where the number is not below the float they then spell. -/
def expStep (b : BitVec 32) (t : FVec F S32x128 .f32) (v : IVec S32x128 32) : IVec S32x128 32 :=
  select (cmpf .olt t (bitcastToFloat .f32 (ori v (broadcast S32x128 b)))) v (ori v (broadcast S32x128 b))

/-- The exponent bits found by the eight steps, from the top bit down. -/
def expBits (t : FVec F S32x128 .f32) : IVec S32x128 32 :=
  expStep 8388608#32 t (expStep 16777216#32 t (expStep 33554432#32 t (expStep 67108864#32 t (expStep 134217728#32 t
    (expStep 268435456#32 t (expStep 536870912#32 t (expStep 1073741824#32 t (broadcast S32x128 0#32))))))))

/-- The exponent bits with the top ones for a number too large, and those of one half for zero and for a number too large. -/
def scaleBits (t : FVec F S32x128 .f32) : IVec S32x128 32 :=
  have v : IVec S32x128 32 := select (cmpf .olt t (broadcast S32x128 (Scalar.ofBits .f32 0x7E800000#32))) (expBits t) (broadcast S32x128 2139095040#32)
  select (ori (cmpf .oeq t (broadcast S32x128 (Scalar.ofBits .f32 0x00000000#32))) (cmpi .eq v (broadcast S32x128 2139095040#32)))
    (broadcast S32x128 1056964608#32) v

/-- Each row's largest magnitude over the largest code, in every lane. -/
def amax (y : FVec F S32x128 .f32) : FVec F S32x128 .f32 :=
  mulf (broadcastTo S32x128 (shapeCast S32x1 (shapeCast S32x1 (multiReduction .maximumf [1] S32 (absf y) 0xFF800000#32 reduces_S32x128_S32 (.inl rfl) rfl)
    shapeCasts_S32_S32x1) shapeCasts_S32x1_S32x1) broadcasts_S32x1_S32x128) (broadcast S32x128 (Scalar.ofBits .f32 0x3B124925#32))

/-- The rows' scales, in every lane. -/
def headScale (y : FVec F S32x128 .f32) : FVec F S32x128 .f32 :=
  bitcastToFloat .f32 (addi (scaleBits (amax y)) (broadcast S32x128 8388608#32))

/-- The rows' codes before they are narrowed. -/
def headCode (y : FVec F S32x128 .f32) : FVec F S32x128 .f32 :=
  minimumf (broadcast S32x128 (Scalar.ofBits .f32 0x43E00000#32)) (maximumf (broadcast S32x128 (Scalar.ofBits .f32 0xC3E00000#32))
    (mulf y (bitcastToFloat .f32 (subi (broadcast S32x128 2122317824#32) (scaleBits (amax y))))))

/-- The scaled products of 32 rows of one head. -/
def lin (acc xs : FVec F S32x128 .f32) (ws : FVec F S1x128 .f32) : FVec F S32x128 .f32 :=
  mulf (mulf acc xs) (broadcastTo S32x128 (shapeCast S1x128 ws shapeCasts_S1x128_S1x128) broadcasts_S1x128_S32x128)

/-- The rotation of 32 rows of one head. -/
def rot (y cos sin : FVec F S32x128 .f32) : FVec F S32x128 .f32 :=
  addf (mulf y cos) (mulf (dynamicRotate 1 64#32 none y rotates_S32x128_d1) sin)

/-! ## The blocks the body reads, cut into runs of 32 rows -/

/-- Row `a` of run `k`. -/
def rowIx (k : Fin 16) (a : Fin 32) : Fin 512 := ⟨32 * k.val + a.val, by omega⟩

/-- Run `k` of a block of 512 rows by 128 lanes. -/
def chunk {α : Type} (X : S512x128.Idx → α) (k : Fin 16) : S32x128.Idx → α := fun x => X (ix2 (rowIx k (x 0)) (x 1))

/-- Lane `l` of head `h` of a word of four heads. -/
def laneIx (h : Fin 4) (l : Fin 128) : Fin 512 := ⟨128 * h.val + l.val, by omega⟩

/-- Run `k` of head `h` of the accumulator. -/
def accChunk {α : Type} (A : S512x512.Idx → α) (k : Fin 16) (h : Fin 4) : S32x128.Idx → α := fun x => A (ix2 (rowIx k (x 0)) (laneIx h (x 1)))

/-- The weight scales of head `h`. -/
def wsChunk {α : Type} (W : S1x512.Idx → α) (h : Fin 4) : S1x128.Idx → α := fun x => W (ix2 0 (laneIx h (x 1)))

/-- What is quantised of run `k` of head `h` of a word of value heads. -/
def yV (A : S512x512.Idx → F .f32) (W : S1x512.Idx → F .f32) (X : S512x128.Idx → F .f32) (k : Fin 16) (h : Fin 4) : FVec F S32x128 .f32 :=
  lin (accChunk A k h) (chunk X k) (wsChunk W h)

/-- What is quantised of run `k` of head `h` of a word of query or key heads. -/
def yQ (A : S512x512.Idx → F .f32) (W : S1x512.Idx → F .f32) (X C S : S512x128.Idx → F .f32) (k : Fin 16) (h : Fin 4) : FVec F S32x128 .f32 :=
  rot (yV A W X k h) (chunk C k) (chunk S k)

/-- The run of a row. -/
def runOf (r : Fin 512) : Fin 16 := ⟨r.val / 32, by omega⟩
/-- The place of a row in its run. -/
def inRun (r : Fin 512) : Fin 32 := ⟨r.val % 32, by omega⟩

/-- The code of row `r`, head `h` of the word, lane `l`, where `y k h` is what is quantised. -/
def codeCell (y : Fin 16 → Fin 4 → FVec F S32x128 .f32) (r : Fin 512) (h : Fin 4) (l : Fin 128) : F .fp8e4m3 :=
  (truncf .fp8e4m3 (headCode (y (runOf r) h)) bitsLt_fp8e4m3_f32 : FVec F S32x128 .fp8e4m3) (ix2 (inRun r) l)

/-- The scale of row `r`, head `h` of the word, as lane `l` holds it. -/
def scaleCell (y : Fin 16 → Fin 4 → FVec F S32x128 .f32) (r : Fin 512) (h : Fin 4) (l : Fin 128) : F .f32 :=
  headScale (y (runOf r) h) (ix2 (inRun r) l)

/-- A block of codes with the first `n` runs of the heads of word `q` replaced by `cell`. -/
def updCodes {α : Type} {H : ℕ} (q n : ℕ) (cell : Fin 512 → Fin 4 → Fin 128 → α) (Y : (⟨3, ![512, H, 128]⟩ : Shape).Idx → α) :
    (⟨3, ![512, H, 128]⟩ : Shape).Idx → α := fun x =>
  if (x 0).val < 32 * n ∧ (x 1).val / 4 = q then cell (x 0) ⟨(x 1).val % 4, Nat.mod_lt _ (by decide)⟩ (x 2) else Y x

/-- A block of scales with the first `n` runs of the lanes of word `j` replaced by `cell`. -/
def updScales {α : Type} (j n : ℕ) (cell : Fin 512 → Fin 4 → Fin 128 → α) (Y : S512x128.Idx → α) : S512x128.Idx → α := fun x =>
  if (x 0).val < 32 * n ∧ (x 1).val / 4 = j then cell (x 0) ⟨(x 1).val % 4, Nat.mod_lt _ (by decide)⟩ (x 1) else Y x

theorem updCodes_zero {α : Type} {H : ℕ} (q : ℕ) (cell : Fin 512 → Fin 4 → Fin 128 → α) (Y : (⟨3, ![512, H, 128]⟩ : Shape).Idx → α) :
    updCodes q 0 cell Y = Y := funext fun x => if_neg (by omega)

theorem updScales_zero {α : Type} (j : ℕ) (cell : Fin 512 → Fin 4 → Fin 128 → α) (Y : S512x128.Idx → α) :
    updScales j 0 cell Y = Y := funext fun x => if_neg (by omega)

/-- One more run of codes written. -/
theorem read_writes_codes {H : ℕ} {e : EltTy} {Val : EltTy → Type} (v : View sig .tc .vmem (⟨3, ![512, H, 128]⟩ : Shape) e) (f : v.ty.Contents Val)
    {q : ℕ} {k : Fin 16} {cell : Fin 512 → Fin 4 → Fin 128 → Val e} {Y : (⟨3, ![512, H, 128]⟩ : Shape).Idx → Val e}
    (hf : v.read Val f = updCodes q k.val cell Y)
    {off : Fin 3 → ℕ} (inb : ∀ a : Fin 3, off a + S32x4x128.size a ≤ (⟨3, ![512, H, 128]⟩ : Shape).size a) (w : S32x4x128.Idx → Val e)
    (hoff : off = ![32 * k.val, 4 * q, 0]) (hw : ∀ a h l, w (ix3 a h l) = cell (rowIx k a) h l) :
    v.read Val (v.writes Val f [(⟨Rect.unit (s := ⟨3, ![512, H, 128]⟩) off S32x4x128.size inb, w⟩ : View.Piece Val _ e)])
      = updCodes q (k.val + 1) cell Y := by
  funext x
  by_cases hx : (32 * k.val ≤ (x 0).val ∧ (x 0).val < 32 * k.val + 32) ∧ (x 1).val / 4 = q
  · have h2 : (x 2).val < 128 := (x 2).isLt
    rw [View.read_writes_cons_unit_of_mem v f inb w [] x
      (ix3 ⟨(x 0).val - 32 * k.val, by omega⟩ ⟨(x 1).val % 4, Nat.mod_lt _ (by decide)⟩ ⟨(x 2).val, h2⟩) hoff (by
        intro a; fin_cases a
        · show (x 0).val = 32 * k.val + ((x 0).val - 32 * k.val); omega
        · show (x 1).val = 4 * q + (x 1).val % 4; omega
        · show (x 2).val = 0 + (x 2).val; omega)]
    rw [show ∀ a h l, w (ix3 a h l) = cell (rowIx k a) h l from hw]
    unfold updCodes
    rw [if_pos ⟨by omega, hx.2⟩]
    congr 1
    exact Fin.ext (by show 32 * k.val + ((x 0).val - 32 * k.val) = (x 0).val; omega)
  · have hne : ∃ a : Fin 3, (x a).val < (![32 * k.val, 4 * q, 0] : Fin 3 → ℕ) a ∨ (![32 * k.val, 4 * q, 0] : Fin 3 → ℕ) a + S32x4x128.size a ≤ (x a).val := by
      by_cases h0 : 32 * k.val ≤ (x 0).val ∧ (x 0).val < 32 * k.val + 32
      · refine ⟨1, ?_⟩
        show (x 1).val < 4 * q ∨ 4 * q + 4 ≤ (x 1).val
        have := fun h => hx ⟨h0, h⟩
        omega
      · refine ⟨0, ?_⟩
        show (x 0).val < 32 * k.val ∨ 32 * k.val + 32 ≤ (x 0).val
        omega
    obtain ⟨a, ha⟩ := hne
    rw [View.read_writes_cons_unit_of_not_mem v f inb w [] x hoff a ha, View.writes_nil, hf]
    unfold updCodes
    refine if_congr ?_ rfl rfl
    constructor
    · rintro ⟨h, h'⟩; exact ⟨by omega, h'⟩
    · rintro ⟨h, h'⟩; exact ⟨by by_contra hc; exact hx ⟨⟨by omega, by omega⟩, h'⟩, h'⟩

/-- One more run of scales written: the piece holds the new scales in the lanes of word `j` and what the block held elsewhere. -/
theorem read_writes_scales {e : EltTy} {Val : EltTy → Type} (v : View sig .tc .vmem S512x128 e) (f : v.ty.Contents Val)
    {j : ℕ} {k : Fin 16} {cell : Fin 512 → Fin 4 → Fin 128 → Val e} {Y : S512x128.Idx → Val e}
    (hf : v.read Val f = updScales j k.val cell Y)
    {off : Fin 2 → ℕ} (inb : ∀ a : Fin 2, off a + S32x128.size a ≤ S512x128.size a) (w : S32x128.Idx → Val e)
    (hoff : off = ![32 * k.val, 0])
    (hw : ∀ a l, w (ix2 a l) = if l.val / 4 = j then cell (rowIx k a) ⟨l.val % 4, Nat.mod_lt _ (by decide)⟩ l else v.read Val f (ix2 (rowIx k a) l)) :
    v.read Val (v.writes Val f [(⟨Rect.unit (s := S512x128) off S32x128.size inb, w⟩ : View.Piece Val _ e)])
      = updScales j (k.val + 1) cell Y := by
  funext x
  have e1 : (x 1).val < 128 := (x 1).isLt
  by_cases h0 : 32 * k.val ≤ (x 0).val ∧ (x 0).val < 32 * k.val + 32
  · rw [View.read_writes_cons_unit_of_mem v f inb w [] x
      (ix2 ⟨(x 0).val - 32 * k.val, by omega⟩ ⟨(x 1).val, e1⟩) hoff (by
        intro a; fin_cases a
        · show (x 0).val = 32 * k.val + ((x 0).val - 32 * k.val); omega
        · show (x 1).val = 0 + (x 1).val; omega)]
    have hr : rowIx k ⟨(x 0).val - 32 * k.val, by omega⟩ = x 0 := Fin.ext (by show 32 * k.val + ((x 0).val - 32 * k.val) = (x 0).val; omega)
    have hxx : (ix2 (x 0) (x 1) : S512x128.Idx) = x := ix2_eta x
    rw [show ∀ a l, w (ix2 a l) = _ from hw, hr]
    show (if (x 1).val / 4 = j then cell (x 0) ⟨(x 1).val % 4, _⟩ (x 1) else v.read Val f (ix2 (x 0) (x 1))) = _
    rw [hxx, hf]
    unfold updScales
    by_cases h1 : (x 1).val / 4 = j
    · rw [if_pos h1, if_pos ⟨by omega, h1⟩]
    · rw [if_neg h1, if_neg (fun h => h1 h.2), if_neg (fun h => h1 h.2)]
  · rw [View.read_writes_cons_unit_of_not_mem v f inb w [] x hoff 0 (by
        show (x 0).val < 32 * k.val ∨ 32 * k.val + 32 ≤ (x 0).val; omega), View.writes_nil, hf]
    unfold updScales
    refine if_congr ?_ rfl rfl
    constructor
    · rintro ⟨h, h'⟩; exact ⟨by omega, h'⟩
    · rintro ⟨h, h'⟩; exact ⟨by omega, h'⟩

end Cert.Proof.K

end
-- ==== Proof.Pack.lean ====
module

public import proofs.«01_k».proof.Proof.Gen.Kernel.Loops
public import proofs.«01_k».proof.Proof.Gen.Kernel.Frame
public import Idealize.ShloMosaic.Lib.Tactic
public import Idealize.ShloMosaic.Lib.Pointwise.Tactic
public import Idealize.ShloMosaic.Lib.WordCmp
public import Idealize.ShloMosaic.Lib.Pointwise.Reshape
public import Idealize.ShloMosaic.Lib.Pipeline.Value
public import proofs.«01_k».proof.Proof.Tile
public import Idealize.ShloMosaic.Lib.WritesUnit

@[expose] public section

set_option maxRecDepth 16384

noncomputable section

namespace Cert.Proof.K

open Cert.Kernel Cert.Kernel.Gen
open Idealize.ShloMosaic
open Idealize.ShloMosaic.TcCoe Idealize.ShloMosaic.Tactic

variable {F : FTy → Type} [FloatOps F]

open Idealize.ShloMosaic.WordCmp (cmpi_eq_ofNat select_at)
/-- A load through a unit rectangle reads the view at the rectangle's offset plus the place asked for. -/
theorem readAt_unit {s : Shape} {e : EltTy} {Val : EltTy → Type} (v : View sig .tc .vmem s e) (f : v.ty.Contents Val)
    {off off' size : Fin s.rank → ℕ} (inb : ∀ a, off a + size a ≤ s.size a) (hoff : off = off')
    (x : (⟨s.rank, size⟩ : Shape).Idx) (y : s.Idx) (hy : ∀ a, (y a).val = off' a + (x a).val) :
    v.readAt Val (Rect.unit off size inb).toLoadRect f x = v.read Val f y := by
  subst hoff
  rw [View.readAt_apply]
  congr 1
  funext a
  refine Fin.ext ?_
  show off a + 1 * (x a).val = (y a).val
  rw [hy a, Nat.one_mul]

theorem readAt_chunk {e : EltTy} {Val : EltTy → Type} (v : View sig .tc .vmem S512x128 e) (f : v.ty.Contents Val)
    {off : Fin 2 → ℕ} (inb : ∀ a : Fin 2, off a + S32x128.size a ≤ S512x128.size a) (k : Fin 16) (hoff : off = ![32 * k.val, 0]) :
    v.readAt Val (Rect.unit (s := S512x128) off S32x128.size inb).toLoadRect f = chunk (v.read Val f) k := by
  funext x
  refine readAt_unit v f inb hoff x (ix2 (rowIx k (x 0)) (x 1)) fun a => ?_
  fin_cases a
  · rfl
  · show (x 1).val = 0 + (x 1).val; omega

theorem readAt_acc {e : EltTy} {Val : EltTy → Type} (v : View sig .tc .vmem S512x512 e) (f : v.ty.Contents Val)
    {off : Fin 2 → ℕ} (inb : ∀ a : Fin 2, off a + S32x128.size a ≤ S512x512.size a) (k : Fin 16) (h : Fin 4) (hoff : off = ![32 * k.val, 128 * h.val]) :
    v.readAt Val (Rect.unit (s := S512x512) off S32x128.size inb).toLoadRect f = accChunk (v.read Val f) k h := by
  funext x
  refine readAt_unit v f inb hoff x (ix2 (rowIx k (x 0)) (laneIx h (x 1))) fun a => ?_
  fin_cases a <;> rfl

theorem readAt_ws {e : EltTy} {Val : EltTy → Type} (v : View sig .tc .vmem S1x512 e) (f : v.ty.Contents Val)
    {off : Fin 2 → ℕ} (inb : ∀ a : Fin 2, off a + S1x128.size a ≤ S1x512.size a) (h : Fin 4) (hoff : off = ![0, 128 * h.val]) :
    v.readAt Val (Rect.unit (s := S1x512) off S1x128.size inb).toLoadRect f = wsChunk (v.read Val f) h := by
  funext x
  refine readAt_unit v f inb hoff x (ix2 0 (laneIx h (x 1))) fun a => ?_
  fin_cases a
  · show 0 = 0 + (x 0).val
    have : (x 0).val < 1 := (x 0).isLt
    omega
  · rfl

/-! ## The four heads' scales merged into the rows of scales -/

/-- The rows of scales with lane `4·w+h` replaced by head `h`'s scales. -/
def scSel (w : BitVec 32) (s0 s1 s2 s3 old : FVec F S32x128 .f32) : FVec F S32x128 .f32 :=
  have v22 : IVec S32x128 32 := iota .tc S32x128 32 [1] iota_S32x128_d1_w32
  select (cmpi .eq v22 (broadcast S32x128 (Scalar.addi (Scalar.muli w 4#32) 3#32))) s3
    (select (cmpi .eq v22 (broadcast S32x128 (Scalar.addi (Scalar.muli w 4#32) 2#32))) s2
      (select (cmpi .eq v22 (broadcast S32x128 (Scalar.addi (Scalar.muli w 4#32) 1#32))) s1
        (select (cmpi .eq v22 (broadcast S32x128 (Scalar.addi (Scalar.muli w 4#32) 0#32))) s0 old)))

theorem lane_cond (j : ℕ) (hj : j < 28) (h : ℕ) (hh : h < 4) (a : Fin 32) (l : Fin 128) :
    cmpi .eq (iota .tc S32x128 32 [1] iota_S32x128_d1_w32) (broadcast S32x128 (Scalar.addi (Scalar.muli (BitVec.ofNat 32 j) 4#32) (BitVec.ofNat 32 h))) (ix2 a l)
      = if l.val = 4 * j + h then 1#1 else 0#1 := by
  have e : Scalar.addi (Scalar.muli (BitVec.ofNat 32 j) 4#32) (BitVec.ofNat 32 h) = BitVec.ofNat 32 (4 * j + h) := by
    apply BitVec.eq_of_toNat_eq
    show ((BitVec.ofNat 32 j * 4#32) + BitVec.ofNat 32 h).toNat = _
    simp only [BitVec.toNat_add, BitVec.toNat_mul, BitVec.toNat_ofNat]
    omega
  rw [e]
  have hi : iota .tc S32x128 32 [1] iota_S32x128_d1_w32 (ix2 a l) = BitVec.ofNat 32 l.val := by
    pointwise
  show IntOp.cmpi .eq (iota .tc S32x128 32 [1] iota_S32x128_d1_w32 (ix2 a l)) (BitVec.ofNat 32 (4 * j + h)) = _
  rw [hi, cmpi_eq_ofNat (by have := l.isLt; omega) (by omega)]
  by_cases h : l.val = 4 * j + h
  · rw [if_pos h, decide_eq_true h]; rfl
  · rw [if_neg h, decide_eq_false h]; rfl

theorem scSel_apply (j : ℕ) (hj : j < 28) (s : Fin 4 → FVec F S32x128 .f32) (old : FVec F S32x128 .f32) (a : Fin 32) (l : Fin 128) :
    scSel (BitVec.ofNat 32 j) (s 0) (s 1) (s 2) (s 3) old (ix2 a l)
      = if l.val / 4 = j then s ⟨l.val % 4, Nat.mod_lt _ (by decide)⟩ (ix2 a l) else old (ix2 a l) := by
  unfold scSel
  have c3 := lane_cond j hj 3 (by decide) a l
  have c2 := lane_cond j hj 2 (by decide) a l
  have c1 := lane_cond j hj 1 (by decide) a l
  have c0 := lane_cond j hj 0 (by decide) a l
  dsimp only
  rw [select_at, select_at, select_at, select_at, c3, c2, c1, c0]
  have sel : ∀ {α : Type} (p : Prop) [Decidable p] (x y : α), Scalar.select (if p then 1#1 else 0#1) x y = if p then x else y := by
    intro α p _ x y
    by_cases h : p
    · rw [if_pos h, if_pos h]; rfl
    · rw [if_neg h, if_neg h]; rfl
  rw [sel, sel, sel, sel]
  have key : ∀ h : Fin 4, l.val = 4 * j + h.val → (⟨l.val % 4, Nat.mod_lt _ (by decide)⟩ : Fin 4) = h := fun h hl => Fin.ext (by show l.val % 4 = h.val; omega)
  by_cases h3 : l.val = 4 * j + 3
  · rw [if_pos h3, if_pos (by omega), key 3 h3]
  rw [if_neg h3]
  by_cases h2 : l.val = 4 * j + 2
  · rw [if_pos h2, if_pos (by omega), key 2 h2]
  rw [if_neg h2]
  by_cases h1 : l.val = 4 * j + 1
  · rw [if_pos h1, if_pos (by omega), key 1 h1]
  rw [if_neg h1]
  by_cases h0 : l.val = 4 * j + 0
  · rw [if_pos h0, if_pos (by omega), key 0 h0]
  rw [if_neg h0, if_neg (by omega)]

/-! ## The four heads' codes interleaved row by row -/

/-- The four strided stores, the newest first: head `h`'s row `a` at row `4·a+h`. -/
def packPieces (w0 w1 w2 w3 : FVec F S32x128 .f32) : List (View.Piece (Elt F) S128x128 .f32) :=
  [⟨⟨(⟨![3, 0], S32x128.size, ![4, 1], inb_S128x128_S32x128_3_0_s_4_1⟩ : LoadRect S128x128), spos_4_1⟩, shapeCast S32x128 w3 shapeCasts_S32x128_S32x128⟩,
   ⟨⟨(⟨![2, 0], S32x128.size, ![4, 1], inb_S128x128_S32x128_2_0_s_4_1⟩ : LoadRect S128x128), spos_4_1⟩, shapeCast S32x128 w2 shapeCasts_S32x128_S32x128⟩,
   ⟨⟨(⟨![1, 0], S32x128.size, ![4, 1], inb_S128x128_S32x128_1_0_s_4_1⟩ : LoadRect S128x128), spos_4_1⟩, shapeCast S32x128 w1 shapeCasts_S32x128_S32x128⟩,
   ⟨⟨(⟨![0, 0], S32x128.size, ![4, 1], inb_S128x128_S32x128_0_0_s_4_1⟩ : LoadRect S128x128), spos_4_1⟩, shapeCast S32x128 w0 shapeCasts_S32x128_S32x128⟩]

/-- The rows read back whole, narrowed, as 32 rows of four heads. -/
def packed (v : View sig .tc .vmem S128x128 .f32) (f : v.ty.Contents (Elt F)) (w0 w1 w2 w3 : FVec F S32x128 .f32) : FVec F S32x4x128 .fp8e4m3 :=
  have x : FVec F S128x128 .f32 := v.readAt (Elt F) (Rect.unit (s := S128x128) ![0, 0] S128x128.size inb_S128x128_S128x128_0_0).toLoadRect (v.writes (Elt F) f (packPieces w0 w1 w2 w3))
  shapeCast S32x4x128 (truncf .fp8e4m3 x bitsLt_fp8e4m3_f32 : FVec F S128x128 .fp8e4m3) shapeCasts_S128x128_S32x4x128

theorem strided_hit {Val : EltTy → Type} {e : EltTy} (v : View sig .tc .vmem S128x128 e) (f : v.ty.Contents Val) {h : ℕ}
    (inb : ∀ a : Fin 2, S32x128.size a = 0 ∨ (![h, 0] : Fin 2 → ℕ) a + (![4, 1] : Fin 2 → ℕ) a * (S32x128.size a - 1) < S128x128.size a)
    (sp : ∀ a : Fin 2, 0 < (![4, 1] : Fin 2 → ℕ) a) (w : S32x128.Idx → Val e) (L : List (View.Piece Val S128x128 e))
    (a : Fin 32) (l : Fin 128) (r : Fin 128) (hr : r.val = h + 4 * a.val) :
    v.read Val (v.writes Val f ((⟨⟨(⟨![h, 0], S32x128.size, ![4, 1], inb⟩ : LoadRect S128x128), sp⟩, w⟩ : View.Piece Val S128x128 e) :: L)) (ix2 r l) = w (ix2 a l) := by
  have e : ((⟨(⟨![h, 0], S32x128.size, ![4, 1], inb⟩ : LoadRect S128x128), sp⟩ : Rect S128x128).emb (ix2 a l) : S128x128.Idx) = ix2 r l := by
    funext b
    refine Fin.ext ?_
    fin_cases b
    · show h + 4 * a.val = r.val; omega
    · show 0 + 1 * l.val = l.val; omega
  have := View.read_writes_cons_emb (Val := Val) v f (⟨(⟨![h, 0], S32x128.size, ![4, 1], inb⟩ : LoadRect S128x128), sp⟩ : Rect S128x128) w L (ix2 a l)
  rw [e] at this
  exact this

theorem strided_miss {Val : EltTy → Type} {e : EltTy} (v : View sig .tc .vmem S128x128 e) (f : v.ty.Contents Val) {h : ℕ}
    (inb : ∀ a : Fin 2, S32x128.size a = 0 ∨ (![h, 0] : Fin 2 → ℕ) a + (![4, 1] : Fin 2 → ℕ) a * (S32x128.size a - 1) < S128x128.size a)
    (sp : ∀ a : Fin 2, 0 < (![4, 1] : Fin 2 → ℕ) a) (w : S32x128.Idx → Val e) (L : List (View.Piece Val S128x128 e))
    (l : Fin 128) (r : Fin 128) (hr : r.val % 4 ≠ h % 4) :
    v.read Val (v.writes Val f ((⟨⟨(⟨![h, 0], S32x128.size, ![4, 1], inb⟩ : LoadRect S128x128), sp⟩, w⟩ : View.Piece Val S128x128 e) :: L)) (ix2 r l) = v.read Val (v.writes Val f L) (ix2 r l) := by
  rw [View.writes_cons]
  refine View.read_slice_write_of_not_mem _ _ _ _ fun hm => ?_
  obtain ⟨x, -, hx⟩ := Finset.mem_map.mp hm
  have h0 : h + 4 * (x 0).val = r.val := congrArg (fun z : S128x128.Idx => (z 0).val) hx
  omega

theorem packed_apply (v : View sig .tc .vmem S128x128 .f32) (f : v.ty.Contents (Elt F)) (w : Fin 4 → FVec F S32x128 .f32) (a : Fin 32) (h : Fin 4) (l : Fin 128) :
    packed v f (w 0) (w 1) (w 2) (w 3) (ix3 a h l) = (truncf .fp8e4m3 (w h) bitsLt_fp8e4m3_f32 : FVec F S32x128 .fp8e4m3) (ix2 a l) := by
  have hs : ∀ u : FVec F S32x128 .f32, shapeCast S32x128 u shapeCasts_S32x128_S32x128 = u := fun u => funext fun x => shapeCast_apply u _ x x rfl
  unfold packed
  dsimp only
  rw [shapeCast_apply _ _ (ix3 a h l) (ix2 ⟨4 * a.val + h.val, by omega⟩ l) (by
    rw [rowMajor_val2 _ 128 rfl, rowMajor_val3 _ 512 128 rfl rfl]
    show (4 * a.val + h.val) * 128 + l.val = a.val * 512 + h.val * 128 + l.val
    omega)]
  rw [truncf_apply, truncf_apply]
  congr 1
  rw [readAt_unit v _ _ rfl _ (ix2 (⟨4 * a.val + h.val, by omega⟩ : Fin 128) l) (by
    intro b; fin_cases b
    · show 4 * a.val + h.val = 0 + (4 * a.val + h.val); omega
    · show l.val = 0 + l.val; omega)]
  unfold packPieces
  rw [hs, hs, hs, hs]
  fin_cases h
  · rw [strided_miss _ _ _ _ _ _ _ _ (by show (4 * a.val + 0) % 4 ≠ 3 % 4; omega), strided_miss _ _ _ _ _ _ _ _ (by show (4 * a.val + 0) % 4 ≠ 2 % 4; omega),
      strided_miss _ _ _ _ _ _ _ _ (by show (4 * a.val + 0) % 4 ≠ 1 % 4; omega)]
    exact strided_hit _ _ _ _ _ _ a l _ (by show 4 * a.val + 0 = 0 + 4 * a.val; omega)
  · rw [strided_miss _ _ _ _ _ _ _ _ (by show (4 * a.val + 1) % 4 ≠ 3 % 4; omega), strided_miss _ _ _ _ _ _ _ _ (by show (4 * a.val + 1) % 4 ≠ 2 % 4; omega)]
    exact strided_hit _ _ _ _ _ _ a l _ (by show 4 * a.val + 1 = 1 + 4 * a.val; omega)
  · rw [strided_miss _ _ _ _ _ _ _ _ (by show (4 * a.val + 2) % 4 ≠ 3 % 4; omega)]
    exact strided_hit _ _ _ _ _ _ a l _ (by show 4 * a.val + 2 = 2 + 4 * a.val; omega)
  · exact strided_hit _ _ _ _ _ _ a l _ (by show 4 * a.val + 3 = 3 + 4 * a.val; omega)

end Cert.Proof.K

end
-- ==== Proof.Cols.lean ====
module

public import proofs.«01_k».proof.Proof.Gen.Kernel.Loops
public import proofs.«01_k».proof.Proof.Gen.Kernel.Frame
public import Idealize.ShloMosaic.Lib.Tactic
public import proofs.«01_k».proof.Proof.Pack

@[expose] public section

set_option maxRecDepth 16384

noncomputable section

namespace Cert.Proof.K

open Cert.Kernel Cert.Kernel.Gen
open Idealize.ShloMosaic
open Idealize.ShloMosaic.TcCoe Idealize.ShloMosaic.Tactic

variable {F : FTy → Type} [FloatOps F]

/-! ## Which loop runs at which column, and where it stores -/

/-- A grid point at column `j`. -/
def atCol (j : Fin 28) : grid0.Coords := fun a => match a with
  | ⟨0, _⟩ => (0 : Fin 18)
  | ⟨1, _⟩ => j

theorem cond1_col : ∀ j : Fin 28, k0_cond1 (atCol j) = 1#1 ↔ j.val < 24 := by decide +kernel
theorem cond2_col : ∀ j : Fin 28, k0_cond2 (atCol j) = 1#1 ↔ 24 ≤ j.val ∧ j.val < 26 := by decide +kernel
theorem cond3_col : ∀ j : Fin 28, k0_cond3 (atCol j) = 1#1 ↔ 26 ≤ j.val := by decide +kernel
theorem off12_col : ∀ (j : Fin 28) (k : Fin k0_t2_loop.trips), 24 ≤ j.val → k0_off12 (atCol j) k = ![32 * k.val, 4 * ((j.val - 24) % 2), 0] := by decide +kernel
theorem off18_col : ∀ (j : Fin 28) (k : Fin k0_t3_loop.trips), 26 ≤ j.val → k0_off18 (atCol j) k = ![32 * k.val, 4 * ((j.val - 26) % 2), 0] := by decide +kernel

/-- The query heads' loop runs in the first 24 columns, -/
theorem cond1_iff (i : grid0.Coords) : k0_cond1 i = 1#1 ↔ (i 1).val < 24 := cond1_col (i 1)
/-- the key heads' in the next two, -/
theorem cond2_iff (i : grid0.Coords) : k0_cond2 i = 1#1 ↔ 24 ≤ (i 1).val ∧ (i 1).val < 26 := cond2_col (i 1)
/-- the value heads' in the last two. -/
theorem cond3_iff (i : grid0.Coords) : k0_cond3 i = 1#1 ↔ 26 ≤ (i 1).val := cond3_col (i 1)

/-- The word of four heads that a column's codes go to, within the array they go to. -/
def word1 (i : grid0.Coords) : ℕ := (i 1).val % 8
def word2 (i : grid0.Coords) : ℕ := ((i 1).val - 24) % 2
def word3 (i : grid0.Coords) : ℕ := ((i 1).val - 26) % 2

theorem off1_word (i : grid0.Coords) (h : k0_cond1 i = 1#1) (k : Fin k0_t1_loop.trips) : k0_off6 i k = ![32 * k.val, 4 * word1 i, 0] := k0_off6_eq i k
theorem off2_word (i : grid0.Coords) (h : k0_cond2 i = 1#1) (k : Fin k0_t2_loop.trips) : k0_off12 i k = ![32 * k.val, 4 * word2 i, 0] :=
  off12_col (i 1) k ((cond2_iff i).mp h).1
theorem off3_word (i : grid0.Coords) (h : k0_cond3 i = 1#1) (k : Fin k0_t3_loop.trips) : k0_off18 i k = ![32 * k.val, 4 * word3 i, 0] :=
  off18_col (i 1) k ((cond3_iff i).mp h)

theorem trips1 : k0_t1_loop.trips = 16 := by decide +kernel
theorem trips2 : k0_t2_loop.trips = 16 := by decide +kernel
theorem trips3 : k0_t3_loop.trips = 16 := by decide +kernel

theorem runOf_rowIx (k : Fin 16) (a : Fin 32) : runOf (rowIx k a) = k := Fin.ext (by show (32 * k.val + a.val) / 32 = k.val; omega)
theorem inRun_rowIx (k : Fin 16) (a : Fin 32) : inRun (rowIx k a) = a := Fin.ext (by show (32 * k.val + a.val) % 32 = a.val; omega)

end Cert.Proof.K

end
-- ==== Proof.Held.lean ====
module

public import proofs.«01_k».proof.Proof.Gen.Kernel.Loops
public import proofs.«01_k».proof.Proof.Gen.Kernel.Frame
public import Idealize.ShloMosaic.Lib.Tactic
public import proofs.«01_k».proof.Proof.Cols

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev 𝒱₀ : Variants := Variants.none

/-- A whole memref held at the contents `f`. -/
abbrev at_ (c : Dev nD) {s : Shape} {e : EltTy} (M : Memref sig .tc .vmem s e) (f : Buf (Elt F) (M.view.loc (c : Thread nD τ))) : sProp 𝕄 :=
  M.view.loc (c : Thread nD τ) ↦[M.view.set]{fullShare} f

end Cert.Proof.K

end
-- ==== Proof.T1.lean ====
module

public import proofs.«01_k».proof.Proof.Gen.Kernel.Loops
public import proofs.«01_k».proof.Proof.Gen.Kernel.Frame
public import Idealize.ShloMosaic.Lib.Tactic
public import proofs.«01_k».proof.Proof.Held

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S512x12288 .fp8e4m3) (harg2 : arg2.IsWhole) (arg3 : Memref sig .tc .vmem S12288x512 .fp8e4m3) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x32x128 .fp8e4m3) (harg8 : arg8.IsWhole) (arg9 : Memref sig .tc .vmem S512x8x128 .fp8e4m3) (harg9 : arg9.IsWhole) (arg10 : Memref sig .tc .vmem S512x8x128 .fp8e4m3) (harg10 : arg10.IsWhole) (arg11 : Memref sig .tc .vmem S512x128 .f32) (harg11 : arg11.IsWhole) (arg12 : Memref sig .tc .vmem S512x512 .f32) (harg12 : arg12.IsWhole) (arg13 : Memref sig .tc .vmem S128x128 .f32) (harg13 : arg13.IsWhole) (arg1 : BitVec 32)

/-- One trip of loop 1 from any contents: it runs and leaves the lists of stores named in it. -/
@[irreducible] def trip1 (k0_h1 : k0_cond1 i = 1#1) (k : Fin k0_t1_loop.trips)
    (X4 : Buf (Elt F) (arg4.view.loc (c : Thread nD τ))) (X5 : Buf (Elt F) (arg5.view.loc (c : Thread nD τ)))
 (X6 : Buf (Elt F) (arg6.view.loc (c : Thread nD τ))) (X7 : Buf (Elt F) (arg7.view.loc (c : Thread nD τ)))
    (X12 : Buf (Elt F) (arg12.view.loc (c : Thread nD τ))) (f8 : Buf (Elt F) (arg8.view.loc (c : Thread nD τ)))
    (f11 : Buf (Elt F) (arg11.view.loc (c : Thread nD τ))) (f13 : Buf (Elt F) (arg13.view.loc (c : Thread nD τ))) :
    Σ' (L8 : List (View.Piece (Elt F) S512x32x128 .fp8e4m3)) (L11 : List (View.Piece (Elt F) S512x128 .f32)),
      { L13 : List (View.Piece (Elt F) S128x128 .f32) //
      (iprop(at_ c arg4 X4 ∗ at_ c arg5 X5 ∗ at_ c arg6 X6 ∗ at_ c arg7 X7 ∗ at_ c arg12 X12 ∗ at_ c arg8 f8 ∗ at_ c arg11 f11 ∗ at_ c arg13 f13) : sProp 𝕄)
      ⊢ wp frame (wpE (defs₀ (F := F)) 𝒱₀ (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg1 k0_h1 k PUnit.unit)
        (fun _ => iprop(at_ c arg4 X4 ∗ at_ c arg5 X5 ∗ at_ c arg6 X6 ∗ at_ c arg7 X7 ∗ at_ c arg12 X12 ∗ at_ c arg8 (arg8.view.writes (Elt F) f8 L8)
          ∗ at_ c arg11 (arg11.view.writes (Elt F) f11 L11) ∗ at_ c arg13 (arg13.view.writes (Elt F) f13 L13))) } := by
  refine ⟨?_, ?_, ?_, ?run⟩
  case run =>
    unfold k0_t1_body
    iintro ⟨H4, H5, H6, H7, H12, H8, H11, H13⟩
    sl_exec
    sl_step
    sl_close

/-- What head `h` of the word quantises in trip `k`, over the loads made. -/
def y1 (k0_h1 : k0_cond1 i = 1#1) (k : Fin k0_t1_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))
    (X12 : Buf (Elt F) (arg12.view.loc (c : Thread nD τ))) : Fin 4 → FVec F S32x128 .f32 := ![
  rot (lin (arg12.view.readAt (Elt F) (Rect.unit (s := S512x512) (k0_off2 k) S32x128.size (k0_off2_inb i k k0_h1)).toLoadRect X12) (arg5.view.readAt (Elt F) (Rect.unit (s := S512x128) (k0_off1 k) S32x128.size (k0_off1_inb i k k0_h1)).toLoadRect X5) (arg4.view.readAt (Elt F) (Rect.unit (s := S1x512) ![0, 0] S1x128.size inb_S1x512_S1x128_0_0).toLoadRect X4)) (arg6.view.readAt (Elt F) (Rect.unit (s := S512x128) (k0_off1 k) S32x128.size (k0_off1_inb i k k0_h1)).toLoadRect X6) (arg7.view.readAt (Elt F) (Rect.unit (s := S512x128) (k0_off1 k) S32x128.size (k0_off1_inb i k k0_h1)).toLoadRect X7),
  rot (lin (arg12.view.readAt (Elt F) (Rect.unit (s := S512x512) (k0_off3 k) S32x128.size (k0_off3_inb i k k0_h1)).toLoadRect X12) (arg5.view.readAt (Elt F) (Rect.unit (s := S512x128) (k0_off1 k) S32x128.size (k0_off1_inb i k k0_h1)).toLoadRect X5) (arg4.view.readAt (Elt F) (Rect.unit (s := S1x512) ![0, 128] S1x128.size inb_S1x512_S1x128_0_128).toLoadRect X4)) (arg6.view.readAt (Elt F) (Rect.unit (s := S512x128) (k0_off1 k) S32x128.size (k0_off1_inb i k k0_h1)).toLoadRect X6) (arg7.view.readAt (Elt F) (Rect.unit (s := S512x128) (k0_off1 k) S32x128.size (k0_off1_inb i k k0_h1)).toLoadRect X7),
  rot (lin (arg12.view.readAt (Elt F) (Rect.unit (s := S512x512) (k0_off4 k) S32x128.size (k0_off4_inb i k k0_h1)).toLoadRect X12) (arg5.view.readAt (Elt F) (Rect.unit (s := S512x128) (k0_off1 k) S32x128.size (k0_off1_inb i k k0_h1)).toLoadRect X5) (arg4.view.readAt (Elt F) (Rect.unit (s := S1x512) ![0, 256] S1x128.size inb_S1x512_S1x128_0_256).toLoadRect X4)) (arg6.view.readAt (Elt F) (Rect.unit (s := S512x128) (k0_off1 k) S32x128.size (k0_off1_inb i k k0_h1)).toLoadRect X6) (arg7.view.readAt (Elt F) (Rect.unit (s := S512x128) (k0_off1 k) S32x128.size (k0_off1_inb i k k0_h1)).toLoadRect X7),
  rot (lin (arg12.view.readAt (Elt F) (Rect.unit (s := S512x512) (k0_off5 k) S32x128.size (k0_off5_inb i k k0_h1)).toLoadRect X12) (arg5.view.readAt (Elt F) (Rect.unit (s := S512x128) (k0_off1 k) S32x128.size (k0_off1_inb i k k0_h1)).toLoadRect X5) (arg4.view.readAt (Elt F) (Rect.unit (s := S1x512) ![0, 384] S1x128.size inb_S1x512_S1x128_0_384).toLoadRect X4)) (arg6.view.readAt (Elt F) (Rect.unit (s := S512x128) (k0_off1 k) S32x128.size (k0_off1_inb i k k0_h1)).toLoadRect X6) (arg7.view.readAt (Elt F) (Rect.unit (s := S512x128) (k0_off1 k) S32x128.size (k0_off1_inb i k k0_h1)).toLoadRect X7)]

theorem trip1_codes (k0_h1 : k0_cond1 i = 1#1) (k : Fin k0_t1_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))
    (X12 : Buf (Elt F) (arg12.view.loc (c : Thread nD τ))) (f8 : Buf (Elt F) (arg8.view.loc (c : Thread nD τ)))
    (f11 : Buf (Elt F) (arg11.view.loc (c : Thread nD τ))) (f13 : Buf (Elt F) (arg13.view.loc (c : Thread nD τ))) :
    (trip1 c i arg2 harg2 arg3 harg3 arg4 harg4 arg5 harg5 arg6 harg6 arg7 harg7 arg8 harg8 arg9 harg9 arg10 harg10 arg11 harg11 arg12 harg12 arg13 harg13 arg1 k0_h1 k X4 X5 X6 X7 X12 f8 f11 f13).1 = [⟨Rect.unit (s := S512x32x128) (k0_off6 i k) S32x4x128.size (k0_off6_inb i k k0_h1),
      packed arg13.view f13 (headCode (y1 c i arg4 arg5 arg6 arg7 arg12 k0_h1 k X4 X5 X6 X7 X12 0)) (headCode (y1 c i arg4 arg5 arg6 arg7 arg12 k0_h1 k X4 X5 X6 X7 X12 1)) (headCode (y1 c i arg4 arg5 arg6 arg7 arg12 k0_h1 k X4 X5 X6 X7 X12 2)) (headCode (y1 c i arg4 arg5 arg6 arg7 arg12 k0_h1 k X4 X5 X6 X7 X12 3))⟩] := by
  unfold trip1; rfl

theorem trip1_scales (k0_h1 : k0_cond1 i = 1#1) (k : Fin k0_t1_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))
    (X12 : Buf (Elt F) (arg12.view.loc (c : Thread nD τ))) (f8 : Buf (Elt F) (arg8.view.loc (c : Thread nD τ)))
    (f11 : Buf (Elt F) (arg11.view.loc (c : Thread nD τ))) (f13 : Buf (Elt F) (arg13.view.loc (c : Thread nD τ))) :
    (trip1 c i arg2 harg2 arg3 harg3 arg4 harg4 arg5 harg5 arg6 harg6 arg7 harg7 arg8 harg8 arg9 harg9 arg10 harg10 arg11 harg11 arg12 harg12 arg13 harg13 arg1 k0_h1 k X4 X5 X6 X7 X12 f8 f11 f13).2.1 = [⟨Rect.unit (s := S512x128) (k0_off1 k) S32x128.size (k0_off1_inb i k k0_h1),
      scSel arg1 (headScale (y1 c i arg4 arg5 arg6 arg7 arg12 k0_h1 k X4 X5 X6 X7 X12 0)) (headScale (y1 c i arg4 arg5 arg6 arg7 arg12 k0_h1 k X4 X5 X6 X7 X12 1)) (headScale (y1 c i arg4 arg5 arg6 arg7 arg12 k0_h1 k X4 X5 X6 X7 X12 2)) (headScale (y1 c i arg4 arg5 arg6 arg7 arg12 k0_h1 k X4 X5 X6 X7 X12 3))
        (shapeCast S32x128 (arg11.view.readAt (Elt F) (Rect.unit (s := S512x128) (k0_off1 k) S32x128.size (k0_off1_inb i k k0_h1)).toLoadRect f11) shapeCasts_S32x128_S32x128)⟩] := by
  unfold trip1; rfl

theorem y1_eq (k0_h1 : k0_cond1 i = 1#1) (k : Fin k0_t1_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (h : Fin 4) :
    y1 c i arg4 arg5 arg6 arg7 arg12 k0_h1 k X4 X5 X6 X7 X12 h = (yQ (arg12.view.read (Elt F) X12) (arg4.view.read (Elt F) X4) (arg5.view.read (Elt F) X5) (arg6.view.read (Elt F) X6) (arg7.view.read (Elt F) X7)) (⟨k.val, lt_of_lt_of_eq k.isLt trips1⟩ : Fin 16) h := by
  fin_cases h
  · have e := congr (congr (congrArg rot (congr (congr (congrArg lin (readAt_acc arg12.view X12 (k0_off2_inb i k k0_h1) (⟨k.val, lt_of_lt_of_eq k.isLt trips1⟩ : Fin 16) 0 (k0_off2_eq k))) (readAt_chunk arg5.view X5 (k0_off1_inb i k k0_h1) (⟨k.val, lt_of_lt_of_eq k.isLt trips1⟩ : Fin 16) (k0_off1_eq k))) (readAt_ws arg4.view X4 inb_S1x512_S1x128_0_0 0 rfl))) (readAt_chunk arg6.view X6 (k0_off1_inb i k k0_h1) (⟨k.val, lt_of_lt_of_eq k.isLt trips1⟩ : Fin 16) (k0_off1_eq k))) (readAt_chunk arg7.view X7 (k0_off1_inb i k k0_h1) (⟨k.val, lt_of_lt_of_eq k.isLt trips1⟩ : Fin 16) (k0_off1_eq k))
    exact e
  · have e := congr (congr (congrArg rot (congr (congr (congrArg lin (readAt_acc arg12.view X12 (k0_off3_inb i k k0_h1) (⟨k.val, lt_of_lt_of_eq k.isLt trips1⟩ : Fin 16) 1 (k0_off3_eq k))) (readAt_chunk arg5.view X5 (k0_off1_inb i k k0_h1) (⟨k.val, lt_of_lt_of_eq k.isLt trips1⟩ : Fin 16) (k0_off1_eq k))) (readAt_ws arg4.view X4 inb_S1x512_S1x128_0_128 1 rfl))) (readAt_chunk arg6.view X6 (k0_off1_inb i k k0_h1) (⟨k.val, lt_of_lt_of_eq k.isLt trips1⟩ : Fin 16) (k0_off1_eq k))) (readAt_chunk arg7.view X7 (k0_off1_inb i k k0_h1) (⟨k.val, lt_of_lt_of_eq k.isLt trips1⟩ : Fin 16) (k0_off1_eq k))
    exact e
  · have e := congr (congr (congrArg rot (congr (congr (congrArg lin (readAt_acc arg12.view X12 (k0_off4_inb i k k0_h1) (⟨k.val, lt_of_lt_of_eq k.isLt trips1⟩ : Fin 16) 2 (k0_off4_eq k))) (readAt_chunk arg5.view X5 (k0_off1_inb i k k0_h1) (⟨k.val, lt_of_lt_of_eq k.isLt trips1⟩ : Fin 16) (k0_off1_eq k))) (readAt_ws arg4.view X4 inb_S1x512_S1x128_0_256 2 rfl))) (readAt_chunk arg6.view X6 (k0_off1_inb i k k0_h1) (⟨k.val, lt_of_lt_of_eq k.isLt trips1⟩ : Fin 16) (k0_off1_eq k))) (readAt_chunk arg7.view X7 (k0_off1_inb i k k0_h1) (⟨k.val, lt_of_lt_of_eq k.isLt trips1⟩ : Fin 16) (k0_off1_eq k))
    exact e
  · have e := congr (congr (congrArg rot (congr (congr (congrArg lin (readAt_acc arg12.view X12 (k0_off5_inb i k k0_h1) (⟨k.val, lt_of_lt_of_eq k.isLt trips1⟩ : Fin 16) 3 (k0_off5_eq k))) (readAt_chunk arg5.view X5 (k0_off1_inb i k k0_h1) (⟨k.val, lt_of_lt_of_eq k.isLt trips1⟩ : Fin 16) (k0_off1_eq k))) (readAt_ws arg4.view X4 inb_S1x512_S1x128_0_384 3 rfl))) (readAt_chunk arg6.view X6 (k0_off1_inb i k k0_h1) (⟨k.val, lt_of_lt_of_eq k.isLt trips1⟩ : Fin 16) (k0_off1_eq k))) (readAt_chunk arg7.view X7 (k0_off1_inb i k k0_h1) (⟨k.val, lt_of_lt_of_eq k.isLt trips1⟩ : Fin 16) (k0_off1_eq k))
    exact e

/-- A trip's store of codes extends the runs written by one. -/
theorem trip1_read (k0_h1 : k0_cond1 i = 1#1) (k : Fin k0_t1_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (f8 : Buf (Elt F) (arg8.view.loc (c : Thread nD τ)))
    (f11 : Buf (Elt F) (arg11.view.loc (c : Thread nD τ))) (f13 : Buf (Elt F) (arg13.view.loc (c : Thread nD τ)))
    (Y : S512x32x128.Idx → F .fp8e4m3)
    (hf : arg8.view.read (Elt F) f8 = updCodes (word1 i) k.val (codeCell (yQ (arg12.view.read (Elt F) X12) (arg4.view.read (Elt F) X4) (arg5.view.read (Elt F) X5) (arg6.view.read (Elt F) X6) (arg7.view.read (Elt F) X7))) Y) :
    arg8.view.read (Elt F) (arg8.view.writes (Elt F) f8 (trip1 c i arg2 harg2 arg3 harg3 arg4 harg4 arg5 harg5 arg6 harg6 arg7 harg7 arg8 harg8 arg9 harg9 arg10 harg10 arg11 harg11 arg12 harg12 arg13 harg13 arg1 k0_h1 k X4 X5 X6 X7 X12 f8 f11 f13).1) = updCodes (word1 i) (k.val + 1) (codeCell (yQ (arg12.view.read (Elt F) X12) (arg4.view.read (Elt F) X4) (arg5.view.read (Elt F) X5) (arg6.view.read (Elt F) X6) (arg7.view.read (Elt F) X7))) Y := by
  rw [trip1_codes]
  refine read_writes_codes (k := (⟨k.val, lt_of_lt_of_eq k.isLt trips1⟩ : Fin 16)) arg8.view f8 hf _ _ (off1_word i k0_h1 k) fun a h l => ?_
  refine (packed_apply arg13.view f13 (fun h => headCode (y1 c i arg4 arg5 arg6 arg7 arg12 k0_h1 k X4 X5 X6 X7 X12 h)) a h l).trans ?_
  unfold codeCell
  rw [runOf_rowIx, inRun_rowIx, y1_eq]

/-- A trip's store of scales extends the runs written by one. -/
theorem trip1_read11 (k0_h1 : k0_cond1 i = 1#1) (hc : arg1 = BitVec.ofNat 32 (i 1).val) (k : Fin k0_t1_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (f8 : Buf (Elt F) (arg8.view.loc (c : Thread nD τ)))
    (f11 : Buf (Elt F) (arg11.view.loc (c : Thread nD τ))) (f13 : Buf (Elt F) (arg13.view.loc (c : Thread nD τ)))
    (Y : S512x128.Idx → F .f32)
    (hf : arg11.view.read (Elt F) f11 = updScales (i 1).val k.val (scaleCell (yQ (arg12.view.read (Elt F) X12) (arg4.view.read (Elt F) X4) (arg5.view.read (Elt F) X5) (arg6.view.read (Elt F) X6) (arg7.view.read (Elt F) X7))) Y) :
    arg11.view.read (Elt F) (arg11.view.writes (Elt F) f11 (trip1 c i arg2 harg2 arg3 harg3 arg4 harg4 arg5 harg5 arg6 harg6 arg7 harg7 arg8 harg8 arg9 harg9 arg10 harg10 arg11 harg11 arg12 harg12 arg13 harg13 arg1 k0_h1 k X4 X5 X6 X7 X12 f8 f11 f13).2.1) = updScales (i 1).val (k.val + 1) (scaleCell (yQ (arg12.view.read (Elt F) X12) (arg4.view.read (Elt F) X4) (arg5.view.read (Elt F) X5) (arg6.view.read (Elt F) X6) (arg7.view.read (Elt F) X7))) Y := by
  rw [trip1_scales]
  refine read_writes_scales (k := (⟨k.val, lt_of_lt_of_eq k.isLt trips1⟩ : Fin 16)) arg11.view f11 hf _ _ (k0_off1_eq k) fun a l => ?_
  subst hc
  refine (scSel_apply (i 1).val (i 1).isLt (fun h => headScale (y1 c i arg4 arg5 arg6 arg7 arg12 k0_h1 k X4 X5 X6 X7 X12 h)) _ a l).trans ?_
  refine if_congr Iff.rfl ?_ ?_
  · unfold scaleCell
    rw [runOf_rowIx, inRun_rowIx, y1_eq]
  · rw [shapeCast_apply _ _ (ix2 a l) (ix2 a l) rfl, readAt_chunk arg11.view f11 _ (⟨k.val, lt_of_lt_of_eq k.isLt trips1⟩ : Fin 16) (k0_off1_eq k)]
    rfl

/-- The loop writes the word's codes and its lanes of scales, and keeps all else. -/
theorem loop1 (k0_h1 : k0_cond1 i = 1#1) (hc : arg1 = BitVec.ofNat 32 (i 1).val) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (f8 : Buf (Elt F) (arg8.view.loc (c : Thread nD τ)))
    (f11 : Buf (Elt F) (arg11.view.loc (c : Thread nD τ))) (f13 : Buf (Elt F) (arg13.view.loc (c : Thread nD τ))) :
    (iprop(at_ c arg4 X4 ∗ at_ c arg5 X5 ∗ at_ c arg6 X6 ∗ at_ c arg7 X7 ∗ at_ c arg12 X12 ∗ at_ c arg8 f8 ∗ at_ c arg11 f11 ∗ at_ c arg13 f13) : sProp 𝕄)
    ⊢ wp frame (wpE (defs₀ (F := F)) 𝒱₀ (c : Thread nD τ) none) Set.univ
        (Scf.Loop.for k0_t1_loop (k0_t1_ok i k0_h1) ⟨⟩ (k0_t1_body (F := F) i arg2 harg2 arg3 harg3 arg4 harg4 arg5 harg5 arg6 harg6 arg7 harg7 arg8 harg8 arg9 harg9 arg10 harg10 arg11 harg11 arg12 harg12 arg13 harg13 arg1 k0_h1))
        (fun _ => iprop(∃ g8 g11 g13, ⌜arg8.view.read (Elt F) g8 = updCodes (word1 i) 16 (codeCell (yQ (arg12.view.read (Elt F) X12) (arg4.view.read (Elt F) X4) (arg5.view.read (Elt F) X5) (arg6.view.read (Elt F) X6) (arg7.view.read (Elt F) X7))) (arg8.view.read (Elt F) f8)⌝
    ∗ ⌜arg11.view.read (Elt F) g11 = updScales (i 1).val 16 (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg8 g8 ∗ at_ c arg11 g11 ∗ at_ c arg13 g13)) := by
  have hbody : ∀ (k : Fin k0_t1_loop.trips) (acc : PUnit),
      (iprop(∃ g8 g11 g13, ⌜arg8.view.read (Elt F) g8 = updCodes (word1 i) k.val (codeCell (yQ (arg12.view.read (Elt F) X12) (arg4.view.read (Elt F) X4) (arg5.view.read (Elt F) X5) (arg6.view.read (Elt F) X6) (arg7.view.read (Elt F) X7))) (arg8.view.read (Elt F) f8)⌝
    ∗ ⌜arg11.view.read (Elt F) g11 = updScales (i 1).val k.val (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg8 g8 ∗ at_ c arg11 g11 ∗ at_ c arg13 g13) : sProp 𝕄)
      ⊢ wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg1 k0_h1 k acc)
        (fun _ => iprop(∃ g8 g11 g13, ⌜arg8.view.read (Elt F) g8 = updCodes (word1 i) (k.val + 1) (codeCell (yQ (arg12.view.read (Elt F) X12) (arg4.view.read (Elt F) X4) (arg5.view.read (Elt F) X5) (arg6.view.read (Elt F) X6) (arg7.view.read (Elt F) X7))) (arg8.view.read (Elt F) f8)⌝
    ∗ ⌜arg11.view.read (Elt F) g11 = updScales (i 1).val (k.val + 1) (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg8 g8 ∗ at_ c arg11 g11 ∗ at_ c arg13 g13)) := by
    intro k acc
    iintro ⟨%g8, %g11, %g13, %e8, %e11, H4, H5, H6, H7, H12, H8, H11, H13⟩
    iapply (wp_wand_r frame (wpE (defs₀ (F := F)) 𝒱₀ (c : Thread nD τ) none) Set.univ)
    isplitl [H4 H5 H6 H7 H12 H8 H11 H13]
    · iapply (trip1 c i arg2 harg2 arg3 harg3 arg4 harg4 arg5 harg5 arg6 harg6 arg7 harg7 arg8 harg8 arg9 harg9 arg10 harg10 arg11 harg11 arg12 harg12 arg13 harg13 arg1 k0_h1 k X4 X5 X6 X7 X12 g8 g11 g13).2.2.2
      sl_close
    · iintro %_ ⟨H4, H5, H6, H7, H12, H8, H11, H13⟩
      iexists _, _, _
      isplitr
      · ipureintro; exact trip1_read c i arg2 harg2 arg3 harg3 arg4 harg4 arg5 harg5 arg6 harg6 arg7 harg7 arg8 harg8 arg9 harg9 arg10 harg10 arg11 harg11 arg12 harg12 arg13 harg13 arg1 k0_h1 k X4 X5 X6 X7 X12 g8 g11 g13 _ e8
      isplitr
      · ipureintro; exact trip1_read11 c i arg2 harg2 arg3 harg3 arg4 harg4 arg5 harg5 arg6 harg6 arg7 harg7 arg8 harg8 arg9 harg9 arg10 harg10 arg11 harg11 arg12 harg12 arg13 harg13 arg1 k0_h1 hc k X4 X5 X6 X7 X12 g8 g11 g13 _ e11
      sl_close
  have h := Scf.wp_for frame (wpE (defs₀ (F := F)) 𝒱₀ (c : Thread nD τ) none) Set.univ k0_t1_loop.lb k0_t1_loop.ub k0_t1_loop.st (k0_t1_ok i k0_h1) (⟨⟩ : PUnit)
    (k0_t1_body (F := F) i arg2 harg2 arg3 harg3 arg4 harg4 arg5 harg5 arg6 harg6 arg7 harg7 arg8 harg8 arg9 harg9 arg10 harg10 arg11 harg11 arg12 harg12 arg13 harg13 arg1 k0_h1)
    (fun k _ => (iprop(∃ g8 g11 g13, ⌜arg8.view.read (Elt F) g8 = updCodes (word1 i) k (codeCell (yQ (arg12.view.read (Elt F) X12) (arg4.view.read (Elt F) X4) (arg5.view.read (Elt F) X5) (arg6.view.read (Elt F) X6) (arg7.view.read (Elt F) X7))) (arg8.view.read (Elt F) f8)⌝
    ∗ ⌜arg11.view.read (Elt F) g11 = updScales (i 1).val k (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg8 g8 ∗ at_ c arg11 g11 ∗ at_ c arg13 g13) : sProp 𝕄)) hbody
    (Q := fun _ => iprop(∃ g8 g11 g13, ⌜arg8.view.read (Elt F) g8 = updCodes (word1 i) 16 (codeCell (yQ (arg12.view.read (Elt F) X12) (arg4.view.read (Elt F) X4) (arg5.view.read (Elt F) X5) (arg6.view.read (Elt F) X6) (arg7.view.read (Elt F) X7))) (arg8.view.read (Elt F) f8)⌝
    ∗ ⌜arg11.view.read (Elt F) g11 = updScales (i 1).val 16 (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg8 g8 ∗ at_ c arg11 g11 ∗ at_ c arg13 g13))
  refine .trans ?_ h
  iintro ⟨H4, H5, H6, H7, H12, H8, H11, H13⟩
  isplitl
  · iexists f8, f11, f13
    isplitr
    · ipureintro; rw [updCodes_zero]
    isplitr
    · ipureintro; rw [updScales_zero]
    sl_close
  · iintro %acc H
    rw [show Scf.trips k0_t1_loop.lb k0_t1_loop.ub k0_t1_loop.st = 16 from trips1]
    iexact H

end Cert.Proof.K

end
-- ==== Proof.T2.lean ====
module

public import proofs.«01_k».proof.Proof.Gen.Kernel.Loops
public import proofs.«01_k».proof.Proof.Gen.Kernel.Frame
public import Idealize.ShloMosaic.Lib.Tactic
public import proofs.«01_k».proof.Proof.Held

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S512x12288 .fp8e4m3) (harg2 : arg2.IsWhole) (arg3 : Memref sig .tc .vmem S12288x512 .fp8e4m3) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x32x128 .fp8e4m3) (harg8 : arg8.IsWhole) (arg9 : Memref sig .tc .vmem S512x8x128 .fp8e4m3) (harg9 : arg9.IsWhole) (arg10 : Memref sig .tc .vmem S512x8x128 .fp8e4m3) (harg10 : arg10.IsWhole) (arg11 : Memref sig .tc .vmem S512x128 .f32) (harg11 : arg11.IsWhole) (arg12 : Memref sig .tc .vmem S512x512 .f32) (harg12 : arg12.IsWhole) (arg13 : Memref sig .tc .vmem S128x128 .f32) (harg13 : arg13.IsWhole) (arg1 : BitVec 32)

/-- One trip of loop 2 from any contents: it runs and leaves the lists of stores named in it. -/
@[irreducible] def trip2 (k0_h2 : k0_cond2 i = 1#1) (k : Fin k0_t2_loop.trips)
    (X4 : Buf (Elt F) (arg4.view.loc (c : Thread nD τ))) (X5 : Buf (Elt F) (arg5.view.loc (c : Thread nD τ)))
 (X6 : Buf (Elt F) (arg6.view.loc (c : Thread nD τ))) (X7 : Buf (Elt F) (arg7.view.loc (c : Thread nD τ)))
    (X12 : Buf (Elt F) (arg12.view.loc (c : Thread nD τ))) (f9 : Buf (Elt F) (arg9.view.loc (c : Thread nD τ)))
    (f11 : Buf (Elt F) (arg11.view.loc (c : Thread nD τ))) (f13 : Buf (Elt F) (arg13.view.loc (c : Thread nD τ))) :
    Σ' (L9 : List (View.Piece (Elt F) S512x8x128 .fp8e4m3)) (L11 : List (View.Piece (Elt F) S512x128 .f32)),
      { L13 : List (View.Piece (Elt F) S128x128 .f32) //
      (iprop(at_ c arg4 X4 ∗ at_ c arg5 X5 ∗ at_ c arg6 X6 ∗ at_ c arg7 X7 ∗ at_ c arg12 X12 ∗ at_ c arg9 f9 ∗ at_ c arg11 f11 ∗ at_ c arg13 f13) : sProp 𝕄)
      ⊢ wp frame (wpE (defs₀ (F := F)) 𝒱₀ (c : Thread nD τ) none) Set.univ
        (k0_t2_body (F := F) i arg2 harg2 arg3 harg3 arg4 harg4 arg5 harg5 arg6 harg6 arg7 harg7 arg8 harg8 arg9 harg9 arg10 harg10 arg11 harg11 arg12 harg12 arg13 harg13 arg1 k0_h2 k PUnit.unit)
        (fun _ => iprop(at_ c arg4 X4 ∗ at_ c arg5 X5 ∗ at_ c arg6 X6 ∗ at_ c arg7 X7 ∗ at_ c arg12 X12 ∗ at_ c arg9 (arg9.view.writes (Elt F) f9 L9)
          ∗ at_ c arg11 (arg11.view.writes (Elt F) f11 L11) ∗ at_ c arg13 (arg13.view.writes (Elt F) f13 L13))) } := by
  refine ⟨?_, ?_, ?_, ?run⟩
  case run =>
    unfold k0_t2_body
    iintro ⟨H4, H5, H6, H7, H12, H9, H11, H13⟩
    sl_exec
    sl_step
    sl_close

/-- What head `h` of the word quantises in trip `k`, over the loads made. -/
def y2 (k0_h2 : k0_cond2 i = 1#1) (k : Fin k0_t2_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))
    (X12 : Buf (Elt F) (arg12.view.loc (c : Thread nD τ))) : Fin 4 → FVec F S32x128 .f32 := ![
  rot (lin (arg12.view.readAt (Elt F) (Rect.unit (s := S512x512) (k0_off8 k) S32x128.size (k0_off8_inb i k k0_h2)).toLoadRect X12) (arg5.view.readAt (Elt F) (Rect.unit (s := S512x128) (k0_off7 k) S32x128.size (k0_off7_inb i k k0_h2)).toLoadRect X5) (arg4.view.readAt (Elt F) (Rect.unit (s := S1x512) ![0, 0] S1x128.size inb_S1x512_S1x128_0_0).toLoadRect X4)) (arg6.view.readAt (Elt F) (Rect.unit (s := S512x128) (k0_off7 k) S32x128.size (k0_off7_inb i k k0_h2)).toLoadRect X6) (arg7.view.readAt (Elt F) (Rect.unit (s := S512x128) (k0_off7 k) S32x128.size (k0_off7_inb i k k0_h2)).toLoadRect X7),
  rot (lin (arg12.view.readAt (Elt F) (Rect.unit (s := S512x512) (k0_off9 k) S32x128.size (k0_off9_inb i k k0_h2)).toLoadRect X12) (arg5.view.readAt (Elt F) (Rect.unit (s := S512x128) (k0_off7 k) S32x128.size (k0_off7_inb i k k0_h2)).toLoadRect X5) (arg4.view.readAt (Elt F) (Rect.unit (s := S1x512) ![0, 128] S1x128.size inb_S1x512_S1x128_0_128).toLoadRect X4)) (arg6.view.readAt (Elt F) (Rect.unit (s := S512x128) (k0_off7 k) S32x128.size (k0_off7_inb i k k0_h2)).toLoadRect X6) (arg7.view.readAt (Elt F) (Rect.unit (s := S512x128) (k0_off7 k) S32x128.size (k0_off7_inb i k k0_h2)).toLoadRect X7),
  rot (lin (arg12.view.readAt (Elt F) (Rect.unit (s := S512x512) (k0_off10 k) S32x128.size (k0_off10_inb i k k0_h2)).toLoadRect X12) (arg5.view.readAt (Elt F) (Rect.unit (s := S512x128) (k0_off7 k) S32x128.size (k0_off7_inb i k k0_h2)).toLoadRect X5) (arg4.view.readAt (Elt F) (Rect.unit (s := S1x512) ![0, 256] S1x128.size inb_S1x512_S1x128_0_256).toLoadRect X4)) (arg6.view.readAt (Elt F) (Rect.unit (s := S512x128) (k0_off7 k) S32x128.size (k0_off7_inb i k k0_h2)).toLoadRect X6) (arg7.view.readAt (Elt F) (Rect.unit (s := S512x128) (k0_off7 k) S32x128.size (k0_off7_inb i k k0_h2)).toLoadRect X7),
  rot (lin (arg12.view.readAt (Elt F) (Rect.unit (s := S512x512) (k0_off11 k) S32x128.size (k0_off11_inb i k k0_h2)).toLoadRect X12) (arg5.view.readAt (Elt F) (Rect.unit (s := S512x128) (k0_off7 k) S32x128.size (k0_off7_inb i k k0_h2)).toLoadRect X5) (arg4.view.readAt (Elt F) (Rect.unit (s := S1x512) ![0, 384] S1x128.size inb_S1x512_S1x128_0_384).toLoadRect X4)) (arg6.view.readAt (Elt F) (Rect.unit (s := S512x128) (k0_off7 k) S32x128.size (k0_off7_inb i k k0_h2)).toLoadRect X6) (arg7.view.readAt (Elt F) (Rect.unit (s := S512x128) (k0_off7 k) S32x128.size (k0_off7_inb i k k0_h2)).toLoadRect X7)]

theorem trip2_codes (k0_h2 : k0_cond2 i = 1#1) (k : Fin k0_t2_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))
    (X12 : Buf (Elt F) (arg12.view.loc (c : Thread nD τ))) (f9 : Buf (Elt F) (arg9.view.loc (c : Thread nD τ)))
    (f11 : Buf (Elt F) (arg11.view.loc (c : Thread nD τ))) (f13 : Buf (Elt F) (arg13.view.loc (c : Thread nD τ))) :
    (trip2 c i arg2 harg2 arg3 harg3 arg4 harg4 arg5 harg5 arg6 harg6 arg7 harg7 arg8 harg8 arg9 harg9 arg10 harg10 arg11 harg11 arg12 harg12 arg13 harg13 arg1 k0_h2 k X4 X5 X6 X7 X12 f9 f11 f13).1 = [⟨Rect.unit (s := S512x8x128) (k0_off12 i k) S32x4x128.size (k0_off12_inb i k k0_h2),
      packed arg13.view f13 (headCode (y2 c i arg4 arg5 arg6 arg7 arg12 k0_h2 k X4 X5 X6 X7 X12 0)) (headCode (y2 c i arg4 arg5 arg6 arg7 arg12 k0_h2 k X4 X5 X6 X7 X12 1)) (headCode (y2 c i arg4 arg5 arg6 arg7 arg12 k0_h2 k X4 X5 X6 X7 X12 2)) (headCode (y2 c i arg4 arg5 arg6 arg7 arg12 k0_h2 k X4 X5 X6 X7 X12 3))⟩] := by
  unfold trip2; rfl

theorem trip2_scales (k0_h2 : k0_cond2 i = 1#1) (k : Fin k0_t2_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))
    (X12 : Buf (Elt F) (arg12.view.loc (c : Thread nD τ))) (f9 : Buf (Elt F) (arg9.view.loc (c : Thread nD τ)))
    (f11 : Buf (Elt F) (arg11.view.loc (c : Thread nD τ))) (f13 : Buf (Elt F) (arg13.view.loc (c : Thread nD τ))) :
    (trip2 c i arg2 harg2 arg3 harg3 arg4 harg4 arg5 harg5 arg6 harg6 arg7 harg7 arg8 harg8 arg9 harg9 arg10 harg10 arg11 harg11 arg12 harg12 arg13 harg13 arg1 k0_h2 k X4 X5 X6 X7 X12 f9 f11 f13).2.1 = [⟨Rect.unit (s := S512x128) (k0_off7 k) S32x128.size (k0_off7_inb i k k0_h2),
      scSel arg1 (headScale (y2 c i arg4 arg5 arg6 arg7 arg12 k0_h2 k X4 X5 X6 X7 X12 0)) (headScale (y2 c i arg4 arg5 arg6 arg7 arg12 k0_h2 k X4 X5 X6 X7 X12 1)) (headScale (y2 c i arg4 arg5 arg6 arg7 arg12 k0_h2 k X4 X5 X6 X7 X12 2)) (headScale (y2 c i arg4 arg5 arg6 arg7 arg12 k0_h2 k X4 X5 X6 X7 X12 3))
        (shapeCast S32x128 (arg11.view.readAt (Elt F) (Rect.unit (s := S512x128) (k0_off7 k) S32x128.size (k0_off7_inb i k k0_h2)).toLoadRect f11) shapeCasts_S32x128_S32x128)⟩] := by
  unfold trip2; rfl

theorem y2_eq (k0_h2 : k0_cond2 i = 1#1) (k : Fin k0_t2_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (h : Fin 4) :
    y2 c i arg4 arg5 arg6 arg7 arg12 k0_h2 k X4 X5 X6 X7 X12 h = (yQ (arg12.view.read (Elt F) X12) (arg4.view.read (Elt F) X4) (arg5.view.read (Elt F) X5) (arg6.view.read (Elt F) X6) (arg7.view.read (Elt F) X7)) (⟨k.val, lt_of_lt_of_eq k.isLt trips2⟩ : Fin 16) h := by
  fin_cases h
  · have e := congr (congr (congrArg rot (congr (congr (congrArg lin (readAt_acc arg12.view X12 (k0_off8_inb i k k0_h2) (⟨k.val, lt_of_lt_of_eq k.isLt trips2⟩ : Fin 16) 0 (k0_off8_eq k))) (readAt_chunk arg5.view X5 (k0_off7_inb i k k0_h2) (⟨k.val, lt_of_lt_of_eq k.isLt trips2⟩ : Fin 16) (k0_off7_eq k))) (readAt_ws arg4.view X4 inb_S1x512_S1x128_0_0 0 rfl))) (readAt_chunk arg6.view X6 (k0_off7_inb i k k0_h2) (⟨k.val, lt_of_lt_of_eq k.isLt trips2⟩ : Fin 16) (k0_off7_eq k))) (readAt_chunk arg7.view X7 (k0_off7_inb i k k0_h2) (⟨k.val, lt_of_lt_of_eq k.isLt trips2⟩ : Fin 16) (k0_off7_eq k))
    exact e
  · have e := congr (congr (congrArg rot (congr (congr (congrArg lin (readAt_acc arg12.view X12 (k0_off9_inb i k k0_h2) (⟨k.val, lt_of_lt_of_eq k.isLt trips2⟩ : Fin 16) 1 (k0_off9_eq k))) (readAt_chunk arg5.view X5 (k0_off7_inb i k k0_h2) (⟨k.val, lt_of_lt_of_eq k.isLt trips2⟩ : Fin 16) (k0_off7_eq k))) (readAt_ws arg4.view X4 inb_S1x512_S1x128_0_128 1 rfl))) (readAt_chunk arg6.view X6 (k0_off7_inb i k k0_h2) (⟨k.val, lt_of_lt_of_eq k.isLt trips2⟩ : Fin 16) (k0_off7_eq k))) (readAt_chunk arg7.view X7 (k0_off7_inb i k k0_h2) (⟨k.val, lt_of_lt_of_eq k.isLt trips2⟩ : Fin 16) (k0_off7_eq k))
    exact e
  · have e := congr (congr (congrArg rot (congr (congr (congrArg lin (readAt_acc arg12.view X12 (k0_off10_inb i k k0_h2) (⟨k.val, lt_of_lt_of_eq k.isLt trips2⟩ : Fin 16) 2 (k0_off10_eq k))) (readAt_chunk arg5.view X5 (k0_off7_inb i k k0_h2) (⟨k.val, lt_of_lt_of_eq k.isLt trips2⟩ : Fin 16) (k0_off7_eq k))) (readAt_ws arg4.view X4 inb_S1x512_S1x128_0_256 2 rfl))) (readAt_chunk arg6.view X6 (k0_off7_inb i k k0_h2) (⟨k.val, lt_of_lt_of_eq k.isLt trips2⟩ : Fin 16) (k0_off7_eq k))) (readAt_chunk arg7.view X7 (k0_off7_inb i k k0_h2) (⟨k.val, lt_of_lt_of_eq k.isLt trips2⟩ : Fin 16) (k0_off7_eq k))
    exact e
  · have e := congr (congr (congrArg rot (congr (congr (congrArg lin (readAt_acc arg12.view X12 (k0_off11_inb i k k0_h2) (⟨k.val, lt_of_lt_of_eq k.isLt trips2⟩ : Fin 16) 3 (k0_off11_eq k))) (readAt_chunk arg5.view X5 (k0_off7_inb i k k0_h2) (⟨k.val, lt_of_lt_of_eq k.isLt trips2⟩ : Fin 16) (k0_off7_eq k))) (readAt_ws arg4.view X4 inb_S1x512_S1x128_0_384 3 rfl))) (readAt_chunk arg6.view X6 (k0_off7_inb i k k0_h2) (⟨k.val, lt_of_lt_of_eq k.isLt trips2⟩ : Fin 16) (k0_off7_eq k))) (readAt_chunk arg7.view X7 (k0_off7_inb i k k0_h2) (⟨k.val, lt_of_lt_of_eq k.isLt trips2⟩ : Fin 16) (k0_off7_eq k))
    exact e

/-- A trip's store of codes extends the runs written by one. -/
theorem trip2_read (k0_h2 : k0_cond2 i = 1#1) (k : Fin k0_t2_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (f9 : Buf (Elt F) (arg9.view.loc (c : Thread nD τ)))
    (f11 : Buf (Elt F) (arg11.view.loc (c : Thread nD τ))) (f13 : Buf (Elt F) (arg13.view.loc (c : Thread nD τ)))
    (Y : S512x8x128.Idx → F .fp8e4m3)
    (hf : arg9.view.read (Elt F) f9 = updCodes (word2 i) k.val (codeCell (yQ (arg12.view.read (Elt F) X12) (arg4.view.read (Elt F) X4) (arg5.view.read (Elt F) X5) (arg6.view.read (Elt F) X6) (arg7.view.read (Elt F) X7))) Y) :
    arg9.view.read (Elt F) (arg9.view.writes (Elt F) f9 (trip2 c i arg2 harg2 arg3 harg3 arg4 harg4 arg5 harg5 arg6 harg6 arg7 harg7 arg8 harg8 arg9 harg9 arg10 harg10 arg11 harg11 arg12 harg12 arg13 harg13 arg1 k0_h2 k X4 X5 X6 X7 X12 f9 f11 f13).1) = updCodes (word2 i) (k.val + 1) (codeCell (yQ (arg12.view.read (Elt F) X12) (arg4.view.read (Elt F) X4) (arg5.view.read (Elt F) X5) (arg6.view.read (Elt F) X6) (arg7.view.read (Elt F) X7))) Y := by
  rw [trip2_codes]
  refine read_writes_codes (k := (⟨k.val, lt_of_lt_of_eq k.isLt trips2⟩ : Fin 16)) arg9.view f9 hf _ _ (off2_word i k0_h2 k) fun a h l => ?_
  refine (packed_apply arg13.view f13 (fun h => headCode (y2 c i arg4 arg5 arg6 arg7 arg12 k0_h2 k X4 X5 X6 X7 X12 h)) a h l).trans ?_
  unfold codeCell
  rw [runOf_rowIx, inRun_rowIx, y2_eq]

/-- A trip's store of scales extends the runs written by one. -/
theorem trip2_read11 (k0_h2 : k0_cond2 i = 1#1) (hc : arg1 = BitVec.ofNat 32 (i 1).val) (k : Fin k0_t2_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (f9 : Buf (Elt F) (arg9.view.loc (c : Thread nD τ)))
    (f11 : Buf (Elt F) (arg11.view.loc (c : Thread nD τ))) (f13 : Buf (Elt F) (arg13.view.loc (c : Thread nD τ)))
    (Y : S512x128.Idx → F .f32)
    (hf : arg11.view.read (Elt F) f11 = updScales (i 1).val k.val (scaleCell (yQ (arg12.view.read (Elt F) X12) (arg4.view.read (Elt F) X4) (arg5.view.read (Elt F) X5) (arg6.view.read (Elt F) X6) (arg7.view.read (Elt F) X7))) Y) :
    arg11.view.read (Elt F) (arg11.view.writes (Elt F) f11 (trip2 c i arg2 harg2 arg3 harg3 arg4 harg4 arg5 harg5 arg6 harg6 arg7 harg7 arg8 harg8 arg9 harg9 arg10 harg10 arg11 harg11 arg12 harg12 arg13 harg13 arg1 k0_h2 k X4 X5 X6 X7 X12 f9 f11 f13).2.1) = updScales (i 1).val (k.val + 1) (scaleCell (yQ (arg12.view.read (Elt F) X12) (arg4.view.read (Elt F) X4) (arg5.view.read (Elt F) X5) (arg6.view.read (Elt F) X6) (arg7.view.read (Elt F) X7))) Y := by
  rw [trip2_scales]
  refine read_writes_scales (k := (⟨k.val, lt_of_lt_of_eq k.isLt trips2⟩ : Fin 16)) arg11.view f11 hf _ _ (k0_off7_eq k) fun a l => ?_
  subst hc
  refine (scSel_apply (i 1).val (i 1).isLt (fun h => headScale (y2 c i arg4 arg5 arg6 arg7 arg12 k0_h2 k X4 X5 X6 X7 X12 h)) _ a l).trans ?_
  refine if_congr Iff.rfl ?_ ?_
  · unfold scaleCell
    rw [runOf_rowIx, inRun_rowIx, y2_eq]
  · rw [shapeCast_apply _ _ (ix2 a l) (ix2 a l) rfl, readAt_chunk arg11.view f11 _ (⟨k.val, lt_of_lt_of_eq k.isLt trips2⟩ : Fin 16) (k0_off7_eq k)]
    rfl

/-- The loop writes the word's codes and its lanes of scales, and keeps all else. -/
theorem loop2 (k0_h2 : k0_cond2 i = 1#1) (hc : arg1 = BitVec.ofNat 32 (i 1).val) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (f9 : Buf (Elt F) (arg9.view.loc (c : Thread nD τ)))
    (f11 : Buf (Elt F) (arg11.view.loc (c : Thread nD τ))) (f13 : Buf (Elt F) (arg13.view.loc (c : Thread nD τ))) :
    (iprop(at_ c arg4 X4 ∗ at_ c arg5 X5 ∗ at_ c arg6 X6 ∗ at_ c arg7 X7 ∗ at_ c arg12 X12 ∗ at_ c arg9 f9 ∗ at_ c arg11 f11 ∗ at_ c arg13 f13) : sProp 𝕄)
    ⊢ wp frame (wpE (defs₀ (F := F)) 𝒱₀ (c : Thread nD τ) none) Set.univ
        (Scf.Loop.for k0_t2_loop (k0_t2_ok i k0_h2) ⟨⟩ (k0_t2_body (F := F) i arg2 harg2 arg3 harg3 arg4 harg4 arg5 harg5 arg6 harg6 arg7 harg7 arg8 harg8 arg9 harg9 arg10 harg10 arg11 harg11 arg12 harg12 arg13 harg13 arg1 k0_h2))
        (fun _ => iprop(∃ g9 g11 g13, ⌜arg9.view.read (Elt F) g9 = updCodes (word2 i) 16 (codeCell (yQ (arg12.view.read (Elt F) X12) (arg4.view.read (Elt F) X4) (arg5.view.read (Elt F) X5) (arg6.view.read (Elt F) X6) (arg7.view.read (Elt F) X7))) (arg9.view.read (Elt F) f9)⌝
    ∗ ⌜arg11.view.read (Elt F) g11 = updScales (i 1).val 16 (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg9 g9 ∗ at_ c arg11 g11 ∗ at_ c arg13 g13)) := by
  have hbody : ∀ (k : Fin k0_t2_loop.trips) (acc : PUnit),
      (iprop(∃ g9 g11 g13, ⌜arg9.view.read (Elt F) g9 = updCodes (word2 i) k.val (codeCell (yQ (arg12.view.read (Elt F) X12) (arg4.view.read (Elt F) X4) (arg5.view.read (Elt F) X5) (arg6.view.read (Elt F) X6) (arg7.view.read (Elt F) X7))) (arg9.view.read (Elt F) f9)⌝
    ∗ ⌜arg11.view.read (Elt F) g11 = updScales (i 1).val k.val (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg9 g9 ∗ at_ c arg11 g11 ∗ at_ c arg13 g13) : sProp 𝕄)
      ⊢ wp frame (wpE (defs₀ (F := F)) 𝒱₀ (c : Thread nD τ) none) Set.univ (k0_t2_body (F := F) i arg2 harg2 arg3 harg3 arg4 harg4 arg5 harg5 arg6 harg6 arg7 harg7 arg8 harg8 arg9 harg9 arg10 harg10 arg11 harg11 arg12 harg12 arg13 harg13 arg1 k0_h2 k acc)
        (fun _ => iprop(∃ g9 g11 g13, ⌜arg9.view.read (Elt F) g9 = updCodes (word2 i) (k.val + 1) (codeCell (yQ (arg12.view.read (Elt F) X12) (arg4.view.read (Elt F) X4) (arg5.view.read (Elt F) X5) (arg6.view.read (Elt F) X6) (arg7.view.read (Elt F) X7))) (arg9.view.read (Elt F) f9)⌝
    ∗ ⌜arg11.view.read (Elt F) g11 = updScales (i 1).val (k.val + 1) (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg9 g9 ∗ at_ c arg11 g11 ∗ at_ c arg13 g13)) := by
    intro k acc
    iintro ⟨%g9, %g11, %g13, %e9, %e11, H4, H5, H6, H7, H12, H9, H11, H13⟩
    iapply (wp_wand_r frame (wpE (defs₀ (F := F)) 𝒱₀ (c : Thread nD τ) none) Set.univ)
    isplitl [H4 H5 H6 H7 H12 H9 H11 H13]
    · iapply (trip2 c i arg2 harg2 arg3 harg3 arg4 harg4 arg5 harg5 arg6 harg6 arg7 harg7 arg8 harg8 arg9 harg9 arg10 harg10 arg11 harg11 arg12 harg12 arg13 harg13 arg1 k0_h2 k X4 X5 X6 X7 X12 g9 g11 g13).2.2.2
      sl_close
    · iintro %_ ⟨H4, H5, H6, H7, H12, H9, H11, H13⟩
      iexists _, _, _
      isplitr
      · ipureintro; exact trip2_read c i arg2 harg2 arg3 harg3 arg4 harg4 arg5 harg5 arg6 harg6 arg7 harg7 arg8 harg8 arg9 harg9 arg10 harg10 arg11 harg11 arg12 harg12 arg13 harg13 arg1 k0_h2 k X4 X5 X6 X7 X12 g9 g11 g13 _ e9
      isplitr
      · ipureintro; exact trip2_read11 c i arg2 harg2 arg3 harg3 arg4 harg4 arg5 harg5 arg6 harg6 arg7 harg7 arg8 harg8 arg9 harg9 arg10 harg10 arg11 harg11 arg12 harg12 arg13 harg13 arg1 k0_h2 hc k X4 X5 X6 X7 X12 g9 g11 g13 _ e11
      sl_close
  have h := Scf.wp_for frame (wpE (defs₀ (F := F)) 𝒱₀ (c : Thread nD τ) none) Set.univ k0_t2_loop.lb k0_t2_loop.ub k0_t2_loop.st (k0_t2_ok i k0_h2) (⟨⟩ : PUnit)
    (k0_t2_body (F := F) i arg2 harg2 arg3 harg3 arg4 harg4 arg5 harg5 arg6 harg6 arg7 harg7 arg8 harg8 arg9 harg9 arg10 harg10 arg11 harg11 arg12 harg12 arg13 harg13 arg1 k0_h2)
    (fun k _ => (iprop(∃ g9 g11 g13, ⌜arg9.view.read (Elt F) g9 = updCodes (word2 i) k (codeCell (yQ (arg12.view.read (Elt F) X12) (arg4.view.read (Elt F) X4) (arg5.view.read (Elt F) X5) (arg6.view.read (Elt F) X6) (arg7.view.read (Elt F) X7))) (arg9.view.read (Elt F) f9)⌝
    ∗ ⌜arg11.view.read (Elt F) g11 = updScales (i 1).val k (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg9 g9 ∗ at_ c arg11 g11 ∗ at_ c arg13 g13) : sProp 𝕄)) hbody
    (Q := fun _ => iprop(∃ g9 g11 g13, ⌜arg9.view.read (Elt F) g9 = updCodes (word2 i) 16 (codeCell (yQ (arg12.view.read (Elt F) X12) (arg4.view.read (Elt F) X4) (arg5.view.read (Elt F) X5) (arg6.view.read (Elt F) X6) (arg7.view.read (Elt F) X7))) (arg9.view.read (Elt F) f9)⌝
    ∗ ⌜arg11.view.read (Elt F) g11 = updScales (i 1).val 16 (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg9 g9 ∗ at_ c arg11 g11 ∗ at_ c arg13 g13))
  refine .trans ?_ h
  iintro ⟨H4, H5, H6, H7, H12, H9, H11, H13⟩
  isplitl
  · iexists f9, f11, f13
    isplitr
    · ipureintro; rw [updCodes_zero]
    isplitr
    · ipureintro; rw [updScales_zero]
    sl_close
  · iintro %acc H
    rw [show Scf.trips k0_t2_loop.lb k0_t2_loop.ub k0_t2_loop.st = 16 from trips2]
    iexact H

end Cert.Proof.K

end
-- ==== Proof.T3.lean ====
module

public import proofs.«01_k».proof.Proof.Gen.Kernel.Loops
public import proofs.«01_k».proof.Proof.Gen.Kernel.Frame
public import Idealize.ShloMosaic.Lib.Tactic
public import proofs.«01_k».proof.Proof.Held

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S512x12288 .fp8e4m3) (harg2 : arg2.IsWhole) (arg3 : Memref sig .tc .vmem S12288x512 .fp8e4m3) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x32x128 .fp8e4m3) (harg8 : arg8.IsWhole) (arg9 : Memref sig .tc .vmem S512x8x128 .fp8e4m3) (harg9 : arg9.IsWhole) (arg10 : Memref sig .tc .vmem S512x8x128 .fp8e4m3) (harg10 : arg10.IsWhole) (arg11 : Memref sig .tc .vmem S512x128 .f32) (harg11 : arg11.IsWhole) (arg12 : Memref sig .tc .vmem S512x512 .f32) (harg12 : arg12.IsWhole) (arg13 : Memref sig .tc .vmem S128x128 .f32) (harg13 : arg13.IsWhole) (arg1 : BitVec 32)

/-- One trip of loop 3 from any contents: it runs and leaves the lists of stores named in it. -/
@[irreducible] def trip3 (k0_h3 : k0_cond3 i = 1#1) (k : Fin k0_t3_loop.trips)
    (X4 : Buf (Elt F) (arg4.view.loc (c : Thread nD τ))) (X5 : Buf (Elt F) (arg5.view.loc (c : Thread nD τ)))
    (X12 : Buf (Elt F) (arg12.view.loc (c : Thread nD τ))) (f10 : Buf (Elt F) (arg10.view.loc (c : Thread nD τ)))
    (f11 : Buf (Elt F) (arg11.view.loc (c : Thread nD τ))) (f13 : Buf (Elt F) (arg13.view.loc (c : Thread nD τ))) :
    Σ' (L10 : List (View.Piece (Elt F) S512x8x128 .fp8e4m3)) (L11 : List (View.Piece (Elt F) S512x128 .f32)),
      { L13 : List (View.Piece (Elt F) S128x128 .f32) //
      (iprop(at_ c arg4 X4 ∗ at_ c arg5 X5 ∗ at_ c arg12 X12 ∗ at_ c arg10 f10 ∗ at_ c arg11 f11 ∗ at_ c arg13 f13) : sProp 𝕄)
      ⊢ wp frame (wpE (defs₀ (F := F)) 𝒱₀ (c : Thread nD τ) none) Set.univ
        (k0_t3_body (F := F) i arg2 harg2 arg3 harg3 arg4 harg4 arg5 harg5 arg6 harg6 arg7 harg7 arg8 harg8 arg9 harg9 arg10 harg10 arg11 harg11 arg12 harg12 arg13 harg13 arg1 k0_h3 k PUnit.unit)
        (fun _ => iprop(at_ c arg4 X4 ∗ at_ c arg5 X5 ∗ at_ c arg12 X12 ∗ at_ c arg10 (arg10.view.writes (Elt F) f10 L10)
          ∗ at_ c arg11 (arg11.view.writes (Elt F) f11 L11) ∗ at_ c arg13 (arg13.view.writes (Elt F) f13 L13))) } := by
  refine ⟨?_, ?_, ?_, ?run⟩
  case run =>
    unfold k0_t3_body
    iintro ⟨H4, H5, H12, H10, H11, H13⟩
    sl_exec
    sl_step
    sl_close

/-- What head `h` of the word quantises in trip `k`, over the loads made. -/
def y3 (k0_h3 : k0_cond3 i = 1#1) (k : Fin k0_t3_loop.trips) (X4 : Buf (Elt F) (arg4.view.loc (c : Thread nD τ))) (X5 : Buf (Elt F) (arg5.view.loc (c : Thread nD τ)))
    (X12 : Buf (Elt F) (arg12.view.loc (c : Thread nD τ))) : Fin 4 → FVec F S32x128 .f32 := ![
  lin (arg12.view.readAt (Elt F) (Rect.unit (s := S512x512) (k0_off14 k) S32x128.size (k0_off14_inb i k k0_h3)).toLoadRect X12) (arg5.view.readAt (Elt F) (Rect.unit (s := S512x128) (k0_off13 k) S32x128.size (k0_off13_inb i k k0_h3)).toLoadRect X5) (arg4.view.readAt (Elt F) (Rect.unit (s := S1x512) ![0, 0] S1x128.size inb_S1x512_S1x128_0_0).toLoadRect X4),
  lin (arg12.view.readAt (Elt F) (Rect.unit (s := S512x512) (k0_off15 k) S32x128.size (k0_off15_inb i k k0_h3)).toLoadRect X12) (arg5.view.readAt (Elt F) (Rect.unit (s := S512x128) (k0_off13 k) S32x128.size (k0_off13_inb i k k0_h3)).toLoadRect X5) (arg4.view.readAt (Elt F) (Rect.unit (s := S1x512) ![0, 128] S1x128.size inb_S1x512_S1x128_0_128).toLoadRect X4),
  lin (arg12.view.readAt (Elt F) (Rect.unit (s := S512x512) (k0_off16 k) S32x128.size (k0_off16_inb i k k0_h3)).toLoadRect X12) (arg5.view.readAt (Elt F) (Rect.unit (s := S512x128) (k0_off13 k) S32x128.size (k0_off13_inb i k k0_h3)).toLoadRect X5) (arg4.view.readAt (Elt F) (Rect.unit (s := S1x512) ![0, 256] S1x128.size inb_S1x512_S1x128_0_256).toLoadRect X4),
  lin (arg12.view.readAt (Elt F) (Rect.unit (s := S512x512) (k0_off17 k) S32x128.size (k0_off17_inb i k k0_h3)).toLoadRect X12) (arg5.view.readAt (Elt F) (Rect.unit (s := S512x128) (k0_off13 k) S32x128.size (k0_off13_inb i k k0_h3)).toLoadRect X5) (arg4.view.readAt (Elt F) (Rect.unit (s := S1x512) ![0, 384] S1x128.size inb_S1x512_S1x128_0_384).toLoadRect X4)]

theorem trip3_codes (k0_h3 : k0_cond3 i = 1#1) (k : Fin k0_t3_loop.trips) (X4 : Buf (Elt F) (arg4.view.loc (c : Thread nD τ))) (X5 : Buf (Elt F) (arg5.view.loc (c : Thread nD τ)))
    (X12 : Buf (Elt F) (arg12.view.loc (c : Thread nD τ))) (f10 : Buf (Elt F) (arg10.view.loc (c : Thread nD τ)))
    (f11 : Buf (Elt F) (arg11.view.loc (c : Thread nD τ))) (f13 : Buf (Elt F) (arg13.view.loc (c : Thread nD τ))) :
    (trip3 c i arg2 harg2 arg3 harg3 arg4 harg4 arg5 harg5 arg6 harg6 arg7 harg7 arg8 harg8 arg9 harg9 arg10 harg10 arg11 harg11 arg12 harg12 arg13 harg13 arg1 k0_h3 k X4 X5 X12 f10 f11 f13).1 = [⟨Rect.unit (s := S512x8x128) (k0_off18 i k) S32x4x128.size (k0_off18_inb i k k0_h3),
      packed arg13.view f13 (headCode (y3 c i arg4 arg5 arg12 k0_h3 k X4 X5 X12 0)) (headCode (y3 c i arg4 arg5 arg12 k0_h3 k X4 X5 X12 1)) (headCode (y3 c i arg4 arg5 arg12 k0_h3 k X4 X5 X12 2)) (headCode (y3 c i arg4 arg5 arg12 k0_h3 k X4 X5 X12 3))⟩] := by
  unfold trip3; rfl

theorem trip3_scales (k0_h3 : k0_cond3 i = 1#1) (k : Fin k0_t3_loop.trips) (X4 : Buf (Elt F) (arg4.view.loc (c : Thread nD τ))) (X5 : Buf (Elt F) (arg5.view.loc (c : Thread nD τ)))
    (X12 : Buf (Elt F) (arg12.view.loc (c : Thread nD τ))) (f10 : Buf (Elt F) (arg10.view.loc (c : Thread nD τ)))
    (f11 : Buf (Elt F) (arg11.view.loc (c : Thread nD τ))) (f13 : Buf (Elt F) (arg13.view.loc (c : Thread nD τ))) :
    (trip3 c i arg2 harg2 arg3 harg3 arg4 harg4 arg5 harg5 arg6 harg6 arg7 harg7 arg8 harg8 arg9 harg9 arg10 harg10 arg11 harg11 arg12 harg12 arg13 harg13 arg1 k0_h3 k X4 X5 X12 f10 f11 f13).2.1 = [⟨Rect.unit (s := S512x128) (k0_off13 k) S32x128.size (k0_off13_inb i k k0_h3),
      scSel arg1 (headScale (y3 c i arg4 arg5 arg12 k0_h3 k X4 X5 X12 0)) (headScale (y3 c i arg4 arg5 arg12 k0_h3 k X4 X5 X12 1)) (headScale (y3 c i arg4 arg5 arg12 k0_h3 k X4 X5 X12 2)) (headScale (y3 c i arg4 arg5 arg12 k0_h3 k X4 X5 X12 3))
        (shapeCast S32x128 (arg11.view.readAt (Elt F) (Rect.unit (s := S512x128) (k0_off13 k) S32x128.size (k0_off13_inb i k k0_h3)).toLoadRect f11) shapeCasts_S32x128_S32x128)⟩] := by
  unfold trip3; rfl

theorem y3_eq (k0_h3 : k0_cond3 i = 1#1) (k : Fin k0_t3_loop.trips) (X4 : Buf (Elt F) (arg4.view.loc (c : Thread nD τ))) (X5 : Buf (Elt F) (arg5.view.loc (c : Thread nD τ))) (X12 : Buf (Elt F) (arg12.view.loc (c : Thread nD τ))) (h : Fin 4) :
    y3 c i arg4 arg5 arg12 k0_h3 k X4 X5 X12 h = (yV (arg12.view.read (Elt F) X12) (arg4.view.read (Elt F) X4) (arg5.view.read (Elt F) X5)) (⟨k.val, lt_of_lt_of_eq k.isLt trips3⟩ : Fin 16) h := by
  fin_cases h
  · have e := (congr (congr (congrArg lin (readAt_acc arg12.view X12 (k0_off14_inb i k k0_h3) (⟨k.val, lt_of_lt_of_eq k.isLt trips3⟩ : Fin 16) 0 (k0_off14_eq k))) (readAt_chunk arg5.view X5 (k0_off13_inb i k k0_h3) (⟨k.val, lt_of_lt_of_eq k.isLt trips3⟩ : Fin 16) (k0_off13_eq k))) (readAt_ws arg4.view X4 inb_S1x512_S1x128_0_0 0 rfl))
    exact e
  · have e := (congr (congr (congrArg lin (readAt_acc arg12.view X12 (k0_off15_inb i k k0_h3) (⟨k.val, lt_of_lt_of_eq k.isLt trips3⟩ : Fin 16) 1 (k0_off15_eq k))) (readAt_chunk arg5.view X5 (k0_off13_inb i k k0_h3) (⟨k.val, lt_of_lt_of_eq k.isLt trips3⟩ : Fin 16) (k0_off13_eq k))) (readAt_ws arg4.view X4 inb_S1x512_S1x128_0_128 1 rfl))
    exact e
  · have e := (congr (congr (congrArg lin (readAt_acc arg12.view X12 (k0_off16_inb i k k0_h3) (⟨k.val, lt_of_lt_of_eq k.isLt trips3⟩ : Fin 16) 2 (k0_off16_eq k))) (readAt_chunk arg5.view X5 (k0_off13_inb i k k0_h3) (⟨k.val, lt_of_lt_of_eq k.isLt trips3⟩ : Fin 16) (k0_off13_eq k))) (readAt_ws arg4.view X4 inb_S1x512_S1x128_0_256 2 rfl))
    exact e
  · have e := (congr (congr (congrArg lin (readAt_acc arg12.view X12 (k0_off17_inb i k k0_h3) (⟨k.val, lt_of_lt_of_eq k.isLt trips3⟩ : Fin 16) 3 (k0_off17_eq k))) (readAt_chunk arg5.view X5 (k0_off13_inb i k k0_h3) (⟨k.val, lt_of_lt_of_eq k.isLt trips3⟩ : Fin 16) (k0_off13_eq k))) (readAt_ws arg4.view X4 inb_S1x512_S1x128_0_384 3 rfl))
    exact e

/-- A trip's store of codes extends the runs written by one. -/
theorem trip3_read (k0_h3 : k0_cond3 i = 1#1) (k : Fin k0_t3_loop.trips) (X4 : Buf (Elt F) (arg4.view.loc (c : Thread nD τ))) (X5 : Buf (Elt F) (arg5.view.loc (c : Thread nD τ))) (X12 : Buf (Elt F) (arg12.view.loc (c : Thread nD τ))) (f10 : Buf (Elt F) (arg10.view.loc (c : Thread nD τ)))
    (f11 : Buf (Elt F) (arg11.view.loc (c : Thread nD τ))) (f13 : Buf (Elt F) (arg13.view.loc (c : Thread nD τ)))
    (Y : S512x8x128.Idx → F .fp8e4m3)
    (hf : arg10.view.read (Elt F) f10 = updCodes (word3 i) k.val (codeCell (yV (arg12.view.read (Elt F) X12) (arg4.view.read (Elt F) X4) (arg5.view.read (Elt F) X5))) Y) :
    arg10.view.read (Elt F) (arg10.view.writes (Elt F) f10 (trip3 c i arg2 harg2 arg3 harg3 arg4 harg4 arg5 harg5 arg6 harg6 arg7 harg7 arg8 harg8 arg9 harg9 arg10 harg10 arg11 harg11 arg12 harg12 arg13 harg13 arg1 k0_h3 k X4 X5 X12 f10 f11 f13).1) = updCodes (word3 i) (k.val + 1) (codeCell (yV (arg12.view.read (Elt F) X12) (arg4.view.read (Elt F) X4) (arg5.view.read (Elt F) X5))) Y := by
  rw [trip3_codes]
  refine read_writes_codes (k := (⟨k.val, lt_of_lt_of_eq k.isLt trips3⟩ : Fin 16)) arg10.view f10 hf _ _ (off3_word i k0_h3 k) fun a h l => ?_
  refine (packed_apply arg13.view f13 (fun h => headCode (y3 c i arg4 arg5 arg12 k0_h3 k X4 X5 X12 h)) a h l).trans ?_
  unfold codeCell
  rw [runOf_rowIx, inRun_rowIx, y3_eq]

/-- A trip's store of scales extends the runs written by one. -/
theorem trip3_read11 (k0_h3 : k0_cond3 i = 1#1) (hc : arg1 = BitVec.ofNat 32 (i 1).val) (k : Fin k0_t3_loop.trips) (X4 : Buf (Elt F) (arg4.view.loc (c : Thread nD τ))) (X5 : Buf (Elt F) (arg5.view.loc (c : Thread nD τ))) (X12 : Buf (Elt F) (arg12.view.loc (c : Thread nD τ))) (f10 : Buf (Elt F) (arg10.view.loc (c : Thread nD τ)))
    (f11 : Buf (Elt F) (arg11.view.loc (c : Thread nD τ))) (f13 : Buf (Elt F) (arg13.view.loc (c : Thread nD τ)))
    (Y : S512x128.Idx → F .f32)
    (hf : arg11.view.read (Elt F) f11 = updScales (i 1).val k.val (scaleCell (yV (arg12.view.read (Elt F) X12) (arg4.view.read (Elt F) X4) (arg5.view.read (Elt F) X5))) Y) :
    arg11.view.read (Elt F) (arg11.view.writes (Elt F) f11 (trip3 c i arg2 harg2 arg3 harg3 arg4 harg4 arg5 harg5 arg6 harg6 arg7 harg7 arg8 harg8 arg9 harg9 arg10 harg10 arg11 harg11 arg12 harg12 arg13 harg13 arg1 k0_h3 k X4 X5 X12 f10 f11 f13).2.1) = updScales (i 1).val (k.val + 1) (scaleCell (yV (arg12.view.read (Elt F) X12) (arg4.view.read (Elt F) X4) (arg5.view.read (Elt F) X5))) Y := by
  rw [trip3_scales]
  refine read_writes_scales (k := (⟨k.val, lt_of_lt_of_eq k.isLt trips3⟩ : Fin 16)) arg11.view f11 hf _ _ (k0_off13_eq k) fun a l => ?_
  subst hc
  refine (scSel_apply (i 1).val (i 1).isLt (fun h => headScale (y3 c i arg4 arg5 arg12 k0_h3 k X4 X5 X12 h)) _ a l).trans ?_
  refine if_congr Iff.rfl ?_ ?_
  · unfold scaleCell
    rw [runOf_rowIx, inRun_rowIx, y3_eq]
  · rw [shapeCast_apply _ _ (ix2 a l) (ix2 a l) rfl, readAt_chunk arg11.view f11 _ (⟨k.val, lt_of_lt_of_eq k.isLt trips3⟩ : Fin 16) (k0_off13_eq k)]
    rfl

/-- The loop writes the word's codes and its lanes of scales, and keeps all else. -/
theorem loop3 (k0_h3 : k0_cond3 i = 1#1) (hc : arg1 = BitVec.ofNat 32 (i 1).val) (X4 : Buf (Elt F) (arg4.view.loc (c : Thread nD τ))) (X5 : Buf (Elt F) (arg5.view.loc (c : Thread nD τ))) (X12 : Buf (Elt F) (arg12.view.loc (c : Thread nD τ))) (f10 : Buf (Elt F) (arg10.view.loc (c : Thread nD τ)))
    (f11 : Buf (Elt F) (arg11.view.loc (c : Thread nD τ))) (f13 : Buf (Elt F) (arg13.view.loc (c : Thread nD τ))) :
    (iprop(at_ c arg4 X4 ∗ at_ c arg5 X5 ∗ at_ c arg12 X12 ∗ at_ c arg10 f10 ∗ at_ c arg11 f11 ∗ at_ c arg13 f13) : sProp 𝕄)
    ⊢ wp frame (wpE (defs₀ (F := F)) 𝒱₀ (c : Thread nD τ) none) Set.univ
        (Scf.Loop.for k0_t3_loop (k0_t3_ok i k0_h3) ⟨⟩ (k0_t3_body (F := F) i arg2 harg2 arg3 harg3 arg4 harg4 arg5 harg5 arg6 harg6 arg7 harg7 arg8 harg8 arg9 harg9 arg10 harg10 arg11 harg11 arg12 harg12 arg13 harg13 arg1 k0_h3))
        (fun _ => iprop(∃ g10 g11 g13, ⌜arg10.view.read (Elt F) g10 = updCodes (word3 i) 16 (codeCell (yV (arg12.view.read (Elt F) X12) (arg4.view.read (Elt F) X4) (arg5.view.read (Elt F) X5))) (arg10.view.read (Elt F) f10)⌝
    ∗ ⌜arg11.view.read (Elt F) g11 = updScales (i 1).val 16 (scaleCell (yV (arg12.view.read (Elt F) X12) (arg4.view.read (Elt F) X4) (arg5.view.read (Elt F) X5))) (arg11.view.read (Elt F) f11)⌝
    ∗ at_ c arg4 X4 ∗ at_ c arg5 X5 ∗ at_ c arg12 X12 ∗ at_ c arg10 g10 ∗ at_ c arg11 g11 ∗ at_ c arg13 g13)) := by
  have hbody : ∀ (k : Fin k0_t3_loop.trips) (acc : PUnit),
      (iprop(∃ g10 g11 g13, ⌜arg10.view.read (Elt F) g10 = updCodes (word3 i) k.val (codeCell (yV (arg12.view.read (Elt F) X12) (arg4.view.read (Elt F) X4) (arg5.view.read (Elt F) X5))) (arg10.view.read (Elt F) f10)⌝
    ∗ ⌜arg11.view.read (Elt F) g11 = updScales (i 1).val k.val (scaleCell (yV (arg12.view.read (Elt F) X12) (arg4.view.read (Elt F) X4) (arg5.view.read (Elt F) X5))) (arg11.view.read (Elt F) f11)⌝
    ∗ at_ c arg4 X4 ∗ at_ c arg5 X5 ∗ at_ c arg12 X12 ∗ at_ c arg10 g10 ∗ at_ c arg11 g11 ∗ at_ c arg13 g13) : sProp 𝕄)
      ⊢ wp frame (wpE (defs₀ (F := F)) 𝒱₀ (c : Thread nD τ) none) Set.univ (k0_t3_body (F := F) i arg2 harg2 arg3 harg3 arg4 harg4 arg5 harg5 arg6 harg6 arg7 harg7 arg8 harg8 arg9 harg9 arg10 harg10 arg11 harg11 arg12 harg12 arg13 harg13 arg1 k0_h3 k acc)
        (fun _ => iprop(∃ g10 g11 g13, ⌜arg10.view.read (Elt F) g10 = updCodes (word3 i) (k.val + 1) (codeCell (yV (arg12.view.read (Elt F) X12) (arg4.view.read (Elt F) X4) (arg5.view.read (Elt F) X5))) (arg10.view.read (Elt F) f10)⌝
    ∗ ⌜arg11.view.read (Elt F) g11 = updScales (i 1).val (k.val + 1) (scaleCell (yV (arg12.view.read (Elt F) X12) (arg4.view.read (Elt F) X4) (arg5.view.read (Elt F) X5))) (arg11.view.read (Elt F) f11)⌝
    ∗ at_ c arg4 X4 ∗ at_ c arg5 X5 ∗ at_ c arg12 X12 ∗ at_ c arg10 g10 ∗ at_ c arg11 g11 ∗ at_ c arg13 g13)) := by
    intro k acc
    iintro ⟨%g10, %g11, %g13, %e10, %e11, H4, H5, H12, H10, H11, H13⟩
    iapply (wp_wand_r frame (wpE (defs₀ (F := F)) 𝒱₀ (c : Thread nD τ) none) Set.univ)
    isplitl [H4 H5 H12 H10 H11 H13]
    · iapply (trip3 c i arg2 harg2 arg3 harg3 arg4 harg4 arg5 harg5 arg6 harg6 arg7 harg7 arg8 harg8 arg9 harg9 arg10 harg10 arg11 harg11 arg12 harg12 arg13 harg13 arg1 k0_h3 k X4 X5 X12 g10 g11 g13).2.2.2
      sl_close
    · iintro %_ ⟨H4, H5, H12, H10, H11, H13⟩
      iexists _, _, _
      isplitr
      · ipureintro; exact trip3_read c i arg2 harg2 arg3 harg3 arg4 harg4 arg5 harg5 arg6 harg6 arg7 harg7 arg8 harg8 arg9 harg9 arg10 harg10 arg11 harg11 arg12 harg12 arg13 harg13 arg1 k0_h3 k X4 X5 X12 g10 g11 g13 _ e10
      isplitr
      · ipureintro; exact trip3_read11 c i arg2 harg2 arg3 harg3 arg4 harg4 arg5 harg5 arg6 harg6 arg7 harg7 arg8 harg8 arg9 harg9 arg10 harg10 arg11 harg11 arg12 harg12 arg13 harg13 arg1 k0_h3 hc k X4 X5 X12 g10 g11 g13 _ e11
      sl_close
  have h := Scf.wp_for frame (wpE (defs₀ (F := F)) 𝒱₀ (c : Thread nD τ) none) Set.univ k0_t3_loop.lb k0_t3_loop.ub k0_t3_loop.st (k0_t3_ok i k0_h3) (⟨⟩ : PUnit)
    (k0_t3_body (F := F) i arg2 harg2 arg3 harg3 arg4 harg4 arg5 harg5 arg6 harg6 arg7 harg7 arg8 harg8 arg9 harg9 arg10 harg10 arg11 harg11 arg12 harg12 arg13 harg13 arg1 k0_h3)
    (fun k _ => (iprop(∃ g10 g11 g13, ⌜arg10.view.read (Elt F) g10 = updCodes (word3 i) k (codeCell (yV (arg12.view.read (Elt F) X12) (arg4.view.read (Elt F) X4) (arg5.view.read (Elt F) X5))) (arg10.view.read (Elt F) f10)⌝
    ∗ ⌜arg11.view.read (Elt F) g11 = updScales (i 1).val k (scaleCell (yV (arg12.view.read (Elt F) X12) (arg4.view.read (Elt F) X4) (arg5.view.read (Elt F) X5))) (arg11.view.read (Elt F) f11)⌝
    ∗ at_ c arg4 X4 ∗ at_ c arg5 X5 ∗ at_ c arg12 X12 ∗ at_ c arg10 g10 ∗ at_ c arg11 g11 ∗ at_ c arg13 g13) : sProp 𝕄)) hbody
    (Q := fun _ => iprop(∃ g10 g11 g13, ⌜arg10.view.read (Elt F) g10 = updCodes (word3 i) 16 (codeCell (yV (arg12.view.read (Elt F) X12) (arg4.view.read (Elt F) X4) (arg5.view.read (Elt F) X5))) (arg10.view.read (Elt F) f10)⌝
    ∗ ⌜arg11.view.read (Elt F) g11 = updScales (i 1).val 16 (scaleCell (yV (arg12.view.read (Elt F) X12) (arg4.view.read (Elt F) X4) (arg5.view.read (Elt F) X5))) (arg11.view.read (Elt F) f11)⌝
    ∗ at_ c arg4 X4 ∗ at_ c arg5 X5 ∗ at_ c arg12 X12 ∗ at_ c arg10 g10 ∗ at_ c arg11 g11 ∗ at_ c arg13 g13))
  refine .trans ?_ h
  iintro ⟨H4, H5, H12, H10, H11, H13⟩
  isplitl
  · iexists f10, f11, f13
    isplitr
    · ipureintro; rw [updCodes_zero]
    isplitr
    · ipureintro; rw [updScales_zero]
    sl_close
  · iintro %acc H
    rw [show Scf.trips k0_t3_loop.lb k0_t3_loop.ub k0_t3_loop.st = 16 from trips3]
    iexact H

end Cert.Proof.K

end
-- ==== Proof.Body.lean ====
module

public import proofs.«01_k».proof.Proof.Gen.Kernel.Loops
public import proofs.«01_k».proof.Proof.Gen.Kernel.Frame
public import Idealize.ShloMosaic.Lib.Tactic
public import proofs.«01_k».proof.Proof.T1
public import proofs.«01_k».proof.Proof.T2
public import proofs.«01_k».proof.Proof.T3

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What a grid point writes, over the blocks it reads -/

section Steps
variable (i : grid0.Coords) (x : S512x12288.Idx → F .fp8e4m3) (w : S12288x512.Idx → F .fp8e4m3) (W : S1x512.Idx → F .f32) (X C S : S512x128.Idx → F .f32)

/-- The block of query codes after the point. -/
def step8 (Y : S512x32x128.Idx → F .fp8e4m3) : S512x32x128.Idx → F .fp8e4m3 :=
  if (i 1).val < 24 then updCodes (word1 i) 16 (codeCell (yQ (k0_pay1 x w) W X C S)) Y else Y
/-- The block of key codes after the point. -/
def step9 (Y : S512x8x128.Idx → F .fp8e4m3) : S512x8x128.Idx → F .fp8e4m3 :=
  if 24 ≤ (i 1).val ∧ (i 1).val < 26 then updCodes (word2 i) 16 (codeCell (yQ (k0_pay1 x w) W X C S)) Y else Y
/-- The block of value codes after the point. -/
def step10 (Y : S512x8x128.Idx → F .fp8e4m3) : S512x8x128.Idx → F .fp8e4m3 :=
  if 26 ≤ (i 1).val then updCodes (word3 i) 16 (codeCell (yV (k0_pay1 x w) W X)) Y else Y
/-- The block of scales after the point. -/
def step11 (Y : S512x128.Idx → F .f32) : S512x128.Idx → F .f32 :=
  if (i 1).val < 26 then updScales (i 1).val 16 (scaleCell (yQ (k0_pay1 x w) W X C S)) Y
  else updScales (i 1).val 16 (scaleCell (yV (k0_pay1 x w) W X)) Y
end Steps

theorem readAt_full {s : Shape} {e : EltTy} {Val : EltTy → Type} (v : View sig .tc .vmem s e) (f : v.ty.Contents Val)
    {off : Fin s.rank → ℕ} (inb : ∀ a, off a + s.size a ≤ s.size a) : v.readAt Val (Rect.unit off s.size inb).toLoadRect f = v.read Val f :=
  funext fun x => readAt_unit v f inb rfl x x fun a => by have := inb a; omega

theorem read_writes_full {s : Shape} {e : EltTy} {Val : EltTy → Type} (v : View sig .tc .vmem s e) (f : v.ty.Contents Val)
    {off : Fin s.rank → ℕ} (inb : ∀ a, off a + s.size a ≤ s.size a) (w : s.Idx → Val e) :
    v.read Val (v.writes Val f [(⟨Rect.unit off s.size inb, w⟩ : View.Piece Val s e)]) = w :=
  funext fun x => View.read_writes_cons_unit_of_mem v f inb w [] x x rfl fun a => by have := inb a; omega

variable (c : Dev nD) (i : grid0.Coords) (arg2 : Memref sig .tc .vmem S512x12288 .fp8e4m3) (harg2 : arg2.IsWhole) (arg3 : Memref sig .tc .vmem S12288x512 .fp8e4m3) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x32x128 .fp8e4m3) (harg8 : arg8.IsWhole) (arg9 : Memref sig .tc .vmem S512x8x128 .fp8e4m3) (harg9 : arg9.IsWhole) (arg10 : Memref sig .tc .vmem S512x8x128 .fp8e4m3) (harg10 : arg10.IsWhole) (arg11 : Memref sig .tc .vmem S512x128 .f32) (harg11 : arg11.IsWhole) (arg12 : Memref sig .tc .vmem S512x512 .f32) (harg12 : arg12.IsWhole) (arg13 : Memref sig .tc .vmem S128x128 .f32) (harg13 : arg13.IsWhole)

/-- A grid point of the query columns. -/
theorem body1 (hj : (i 1).val < 24) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    (iprop(at_ c arg2 X2 ∗ at_ c arg3 X3 ∗ at_ c arg4 X4 ∗ at_ c arg5 X5 ∗ at_ c arg6 X6 ∗ at_ c arg7 X7 ∗ at_ c arg8 f8 ∗ at_ c arg9 f9 ∗ at_ c arg10 f10 ∗ at_ c arg11 f11 ∗ at_ c arg12 f12 ∗ at_ c arg13 f13) : sProp 𝕄)
    ⊢ wp frame (wpE (defs₀ (F := F)) 𝒱₀ (c : Thread nD τ) none) Set.univ (cc0_qkv_proj (F := F) i arg2 harg2 arg3 harg3 arg4 harg4 arg5 harg5 arg6 harg6 arg7 harg7 arg8 harg8 arg9 harg9 arg10 harg10 arg11 harg11 arg12 harg12 arg13 harg13)
      (fun _ => iprop(∃ g8 g9 g10 g11 g12 g13, ⌜(arg8.view.read (Elt F) g8) = step8 i (arg2.view.read (Elt F) X2) (arg3.view.read (Elt F) X3) (arg4.view.read (Elt F) X4) (arg5.view.read (Elt F) X5) (arg6.view.read (Elt F) X6) (arg7.view.read (Elt F) X7) (arg8.view.read (Elt F) f8)⌝ ∗ ⌜(arg9.view.read (Elt F) g9) = step9 i (arg2.view.read (Elt F) X2) (arg3.view.read (Elt F) X3) (arg4.view.read (Elt F) X4) (arg5.view.read (Elt F) X5) (arg6.view.read (Elt F) X6) (arg7.view.read (Elt F) X7) (arg9.view.read (Elt F) f9)⌝ ∗ ⌜(arg10.view.read (Elt F) g10) = step10 i (arg2.view.read (Elt F) X2) (arg3.view.read (Elt F) X3) (arg4.view.read (Elt F) X4) (arg5.view.read (Elt F) X5) (arg10.view.read (Elt F) f10)⌝ ∗ ⌜(arg11.view.read (Elt F) g11) = step11 i (arg2.view.read (Elt F) X2) (arg3.view.read (Elt F) X3) (arg4.view.read (Elt F) X4) (arg5.view.read (Elt F) X5) (arg6.view.read (Elt F) X6) (arg7.view.read (Elt F) X7) (arg11.view.read (Elt F) f11)⌝ ∗ at_ c arg2 X2 ∗ at_ c arg3 X3 ∗ at_ c arg4 X4 ∗ at_ c arg5 X5 ∗ at_ c arg6 X6 ∗ at_ c arg7 X7 ∗ at_ c arg8 g8 ∗ at_ c arg9 g9 ∗ at_ c arg10 g10 ∗ at_ c arg11 g11 ∗ at_ c arg12 g12 ∗ at_ c arg13 g13)) := by
  have h1 := (cond1_iff i).mpr hj; have h2 : ¬k0_cond2 i = 1#1 := fun h => by have := (cond2_iff i).mp h; omega
  have h3 : ¬k0_cond3 i = 1#1 := fun h => by have := (cond3_iff i).mp h; omega
  simp only [cc0_qkv_proj_eq_skeleton]
  unfold cc0_qkv_proj_skel
  iintro ⟨H2, H3, H4, H5, H6, H7, H8, H9, H10, H11, H12, H13⟩
  sl_exec
  rw [wp_bind]
  iapply (wp_wand_r frame (wpE (defs₀ (F := F)) 𝒱₀ (c : Thread nD τ) none) Set.univ)
  isplitl [H4 H5 H6 H7 H12 H8 H11 H13]
  · iapply (loop1 c i arg2 harg2 arg3 harg3 arg4 harg4 arg5 harg5 arg6 harg6 arg7 harg7 arg8 harg8 arg9 harg9 arg10 harg10 arg11 harg11 arg12 harg12 arg13 harg13 (BitVec.ofNat 32 (i 1).val) h1 rfl X4 X5 X6 X7 _ f8 f11 f13)
    sl_close
  · iintro %_ ⟨%g8, %g11, %g13, %e8, %e11, H4, H5, H6, H7, H12, H8, H11, H13⟩
    have eA : arg12.view.read (Elt F) (arg12.view.writes (Elt F) arg12.view.junk (body1.sl.H12_1 c arg2 arg3 X2 X3)) = k0_pay1 (arg2.view.read (Elt F) X2) (arg3.view.read (Elt F) X3) := by
      refine (read_writes_full arg12.view _ inb_S512x512_S512x512_0_0 _).trans ?_
      exact congr (congrArg k0_pay1 (readAt_full arg2.view X2 inb_S512x12288_S512x12288_0_0)) (readAt_full arg3.view X3 inb_S12288x512_S12288x512_0_0)
    rw [eA] at e8 e11
    sl_exec
    sl_step
    iexists g8, f9, f10, g11, _, _
    isplitr
    · ipureintro; unfold step8; rw [if_pos hj]; exact e8
    isplitr
    · ipureintro; unfold step9; rw [if_neg (by omega)]
    isplitr
    · ipureintro; unfold step10; rw [if_neg (by omega)]
    isplitr
    · ipureintro; unfold step11; rw [if_pos (by omega)]; exact e11
    sl_close

/-- A grid point of the key columns. -/
theorem body2 (hj : 24 ≤ (i 1).val) (hj2 : (i 1).val < 26) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    (iprop(at_ c arg2 X2 ∗ at_ c arg3 X3 ∗ at_ c arg4 X4 ∗ at_ c arg5 X5 ∗ at_ c arg6 X6 ∗ at_ c arg7 X7 ∗ at_ c arg8 f8 ∗ at_ c arg9 f9 ∗ at_ c arg10 f10 ∗ at_ c arg11 f11 ∗ at_ c arg12 f12 ∗ at_ c arg13 f13) : sProp 𝕄)
    ⊢ wp frame (wpE (defs₀ (F := F)) 𝒱₀ (c : Thread nD τ) none) Set.univ (cc0_qkv_proj (F := F) i arg2 harg2 arg3 harg3 arg4 harg4 arg5 harg5 arg6 harg6 arg7 harg7 arg8 harg8 arg9 harg9 arg10 harg10 arg11 harg11 arg12 harg12 arg13 harg13)
      (fun _ => iprop(∃ g8 g9 g10 g11 g12 g13, ⌜(arg8.view.read (Elt F) g8) = step8 i (arg2.view.read (Elt F) X2) (arg3.view.read (Elt F) X3) (arg4.view.read (Elt F) X4) (arg5.view.read (Elt F) X5) (arg6.view.read (Elt F) X6) (arg7.view.read (Elt F) X7) (arg8.view.read (Elt F) f8)⌝ ∗ ⌜(arg9.view.read (Elt F) g9) = step9 i (arg2.view.read (Elt F) X2) (arg3.view.read (Elt F) X3) (arg4.view.read (Elt F) X4) (arg5.view.read (Elt F) X5) (arg6.view.read (Elt F) X6) (arg7.view.read (Elt F) X7) (arg9.view.read (Elt F) f9)⌝ ∗ ⌜(arg10.view.read (Elt F) g10) = step10 i (arg2.view.read (Elt F) X2) (arg3.view.read (Elt F) X3) (arg4.view.read (Elt F) X4) (arg5.view.read (Elt F) X5) (arg10.view.read (Elt F) f10)⌝ ∗ ⌜(arg11.view.read (Elt F) g11) = step11 i (arg2.view.read (Elt F) X2) (arg3.view.read (Elt F) X3) (arg4.view.read (Elt F) X4) (arg5.view.read (Elt F) X5) (arg6.view.read (Elt F) X6) (arg7.view.read (Elt F) X7) (arg11.view.read (Elt F) f11)⌝ ∗ at_ c arg2 X2 ∗ at_ c arg3 X3 ∗ at_ c arg4 X4 ∗ at_ c arg5 X5 ∗ at_ c arg6 X6 ∗ at_ c arg7 X7 ∗ at_ c arg8 g8 ∗ at_ c arg9 g9 ∗ at_ c arg10 g10 ∗ at_ c arg11 g11 ∗ at_ c arg12 g12 ∗ at_ c arg13 g13)) := by
  have h2 := (cond2_iff i).mpr ⟨hj, hj2⟩; have h1 : ¬k0_cond1 i = 1#1 := fun h => by have := (cond1_iff i).mp h; omega
  have h3 : ¬k0_cond3 i = 1#1 := fun h => by have := (cond3_iff i).mp h; omega
  simp only [cc0_qkv_proj_eq_skeleton]
  unfold cc0_qkv_proj_skel
  iintro ⟨H2, H3, H4, H5, H6, H7, H8, H9, H10, H11, H12, H13⟩
  sl_exec
  rw [wp_bind]
  iapply (wp_wand_r frame (wpE (defs₀ (F := F)) 𝒱₀ (c : Thread nD τ) none) Set.univ)
  isplitl [H4 H5 H6 H7 H12 H9 H11 H13]
  · iapply (loop2 c i arg2 harg2 arg3 harg3 arg4 harg4 arg5 harg5 arg6 harg6 arg7 harg7 arg8 harg8 arg9 harg9 arg10 harg10 arg11 harg11 arg12 harg12 arg13 harg13 (BitVec.ofNat 32 (i 1).val) h2 rfl X4 X5 X6 X7 _ f9 f11 f13)
    sl_close
  · iintro %_ ⟨%g9, %g11, %g13, %e9, %e11, H4, H5, H6, H7, H12, H9, H11, H13⟩
    have eA : arg12.view.read (Elt F) (arg12.view.writes (Elt F) arg12.view.junk (body2.sl.H12_1 c arg2 arg3 X2 X3)) = k0_pay1 (arg2.view.read (Elt F) X2) (arg3.view.read (Elt F) X3) := by
      refine (read_writes_full arg12.view _ inb_S512x512_S512x512_0_0 _).trans ?_
      exact congr (congrArg k0_pay1 (readAt_full arg2.view X2 inb_S512x12288_S512x12288_0_0)) (readAt_full arg3.view X3 inb_S12288x512_S12288x512_0_0)
    rw [eA] at e9 e11
    sl_exec
    sl_step
    iexists f8, g9, f10, g11, _, _
    isplitr
    · ipureintro; unfold step8; rw [if_neg (by omega)]
    isplitr
    · ipureintro; unfold step9; rw [if_pos ⟨hj, hj2⟩]; exact e9
    isplitr
    · ipureintro; unfold step10; rw [if_neg (by omega)]
    isplitr
    · ipureintro; unfold step11; rw [if_pos (by omega)]; exact e11
    sl_close

/-- A grid point of the value columns. -/
theorem body3 (hj2 : 26 ≤ (i 1).val) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    (iprop(at_ c arg2 X2 ∗ at_ c arg3 X3 ∗ at_ c arg4 X4 ∗ at_ c arg5 X5 ∗ at_ c arg6 X6 ∗ at_ c arg7 X7 ∗ at_ c arg8 f8 ∗ at_ c arg9 f9 ∗ at_ c arg10 f10 ∗ at_ c arg11 f11 ∗ at_ c arg12 f12 ∗ at_ c arg13 f13) : sProp 𝕄)
    ⊢ wp frame (wpE (defs₀ (F := F)) 𝒱₀ (c : Thread nD τ) none) Set.univ (cc0_qkv_proj (F := F) i arg2 harg2 arg3 harg3 arg4 harg4 arg5 harg5 arg6 harg6 arg7 harg7 arg8 harg8 arg9 harg9 arg10 harg10 arg11 harg11 arg12 harg12 arg13 harg13)
      (fun _ => iprop(∃ g8 g9 g10 g11 g12 g13, ⌜(arg8.view.read (Elt F) g8) = step8 i (arg2.view.read (Elt F) X2) (arg3.view.read (Elt F) X3) (arg4.view.read (Elt F) X4) (arg5.view.read (Elt F) X5) (arg6.view.read (Elt F) X6) (arg7.view.read (Elt F) X7) (arg8.view.read (Elt F) f8)⌝ ∗ ⌜(arg9.view.read (Elt F) g9) = step9 i (arg2.view.read (Elt F) X2) (arg3.view.read (Elt F) X3) (arg4.view.read (Elt F) X4) (arg5.view.read (Elt F) X5) (arg6.view.read (Elt F) X6) (arg7.view.read (Elt F) X7) (arg9.view.read (Elt F) f9)⌝ ∗ ⌜(arg10.view.read (Elt F) g10) = step10 i (arg2.view.read (Elt F) X2) (arg3.view.read (Elt F) X3) (arg4.view.read (Elt F) X4) (arg5.view.read (Elt F) X5) (arg10.view.read (Elt F) f10)⌝ ∗ ⌜(arg11.view.read (Elt F) g11) = step11 i (arg2.view.read (Elt F) X2) (arg3.view.read (Elt F) X3) (arg4.view.read (Elt F) X4) (arg5.view.read (Elt F) X5) (arg6.view.read (Elt F) X6) (arg7.view.read (Elt F) X7) (arg11.view.read (Elt F) f11)⌝ ∗ at_ c arg2 X2 ∗ at_ c arg3 X3 ∗ at_ c arg4 X4 ∗ at_ c arg5 X5 ∗ at_ c arg6 X6 ∗ at_ c arg7 X7 ∗ at_ c arg8 g8 ∗ at_ c arg9 g9 ∗ at_ c arg10 g10 ∗ at_ c arg11 g11 ∗ at_ c arg12 g12 ∗ at_ c arg13 g13)) := by
  have h3 := (cond3_iff i).mpr hj2; have h1 : ¬k0_cond1 i = 1#1 := fun h => by have := (cond1_iff i).mp h; omega
  have h2 : ¬k0_cond2 i = 1#1 := fun h => by have := (cond2_iff i).mp h; omega
  simp only [cc0_qkv_proj_eq_skeleton]
  unfold cc0_qkv_proj_skel
  iintro ⟨H2, H3, H4, H5, H6, H7, H8, H9, H10, H11, H12, H13⟩
  sl_exec
  rw [wp_bind]
  iapply (wp_wand_r frame (wpE (defs₀ (F := F)) 𝒱₀ (c : Thread nD τ) none) Set.univ)
  isplitl [H4 H5 H12 H10 H11 H13]
  · iapply (loop3 c i arg2 harg2 arg3 harg3 arg4 harg4 arg5 harg5 arg6 harg6 arg7 harg7 arg8 harg8 arg9 harg9 arg10 harg10 arg11 harg11 arg12 harg12 arg13 harg13 (BitVec.ofNat 32 (i 1).val) h3 rfl X4 X5 _ f10 f11 f13)
    sl_close
  · iintro %_ ⟨%g10, %g11, %g13, %e10, %e11, H4, H5, H12, H10, H11, H13⟩
    have eA : arg12.view.read (Elt F) (arg12.view.writes (Elt F) arg12.view.junk (body3.sl.H12_1 c arg2 arg3 X2 X3)) = k0_pay1 (arg2.view.read (Elt F) X2) (arg3.view.read (Elt F) X3) := by
      refine (read_writes_full arg12.view _ inb_S512x512_S512x512_0_0 _).trans ?_
      exact congr (congrArg k0_pay1 (readAt_full arg2.view X2 inb_S512x12288_S512x12288_0_0)) (readAt_full arg3.view X3 inb_S12288x512_S12288x512_0_0)
    rw [eA] at e10 e11
    sl_exec
    sl_step
    iexists f8, f9, g10, g11, _, _
    isplitr
    · ipureintro; unfold step8; rw [if_neg (by omega)]
    isplitr
    · ipureintro; unfold step9; rw [if_neg (by omega)]
    isplitr
    · ipureintro; unfold step10; rw [if_pos hj2]; exact e10
    isplitr
    · ipureintro; unfold step11; rw [if_neg (by omega)]; exact e11
    sl_close

/-- A grid point's body, over whatever its buffers hold. -/
theorem body_step (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    (iprop(at_ c arg2 X2 ∗ at_ c arg3 X3 ∗ at_ c arg4 X4 ∗ at_ c arg5 X5 ∗ at_ c arg6 X6 ∗ at_ c arg7 X7 ∗ at_ c arg8 f8 ∗ at_ c arg9 f9 ∗ at_ c arg10 f10 ∗ at_ c arg11 f11 ∗ at_ c arg12 f12 ∗ at_ c arg13 f13) : sProp 𝕄)
    ⊢ wp frame (wpE (defs₀ (F := F)) 𝒱₀ (c : Thread nD τ) none) Set.univ (cc0_qkv_proj (F := F) i arg2 harg2 arg3 harg3 arg4 harg4 arg5 harg5 arg6 harg6 arg7 harg7 arg8 harg8 arg9 harg9 arg10 harg10 arg11 harg11 arg12 harg12 arg13 harg13)
      (fun _ => iprop(∃ g8 g9 g10 g11 g12 g13, ⌜(arg8.view.read (Elt F) g8) = step8 i (arg2.view.read (Elt F) X2) (arg3.view.read (Elt F) X3) (arg4.view.read (Elt F) X4) (arg5.view.read (Elt F) X5) (arg6.view.read (Elt F) X6) (arg7.view.read (Elt F) X7) (arg8.view.read (Elt F) f8)⌝ ∗ ⌜(arg9.view.read (Elt F) g9) = step9 i (arg2.view.read (Elt F) X2) (arg3.view.read (Elt F) X3) (arg4.view.read (Elt F) X4) (arg5.view.read (Elt F) X5) (arg6.view.read (Elt F) X6) (arg7.view.read (Elt F) X7) (arg9.view.read (Elt F) f9)⌝ ∗ ⌜(arg10.view.read (Elt F) g10) = step10 i (arg2.view.read (Elt F) X2) (arg3.view.read (Elt F) X3) (arg4.view.read (Elt F) X4) (arg5.view.read (Elt F) X5) (arg10.view.read (Elt F) f10)⌝ ∗ ⌜(arg11.view.read (Elt F) g11) = step11 i (arg2.view.read (Elt F) X2) (arg3.view.read (Elt F) X3) (arg4.view.read (Elt F) X4) (arg5.view.read (Elt F) X5) (arg6.view.read (Elt F) X6) (arg7.view.read (Elt F) X7) (arg11.view.read (Elt F) f11)⌝ ∗ at_ c arg2 X2 ∗ at_ c arg3 X3 ∗ at_ c arg4 X4 ∗ at_ c arg5 X5 ∗ at_ c arg6 X6 ∗ at_ c arg7 X7 ∗ at_ c arg8 g8 ∗ at_ c arg9 g9 ∗ at_ c arg10 g10 ∗ at_ c arg11 g11 ∗ at_ c arg12 g12 ∗ at_ c arg13 g13)) := by
  rcases Nat.lt_or_ge (i 1).val 24 with hj | hj
  · exact body1 c i arg2 harg2 arg3 harg3 arg4 harg4 arg5 harg5 arg6 harg6 arg7 harg7 arg8 harg8 arg9 harg9 arg10 harg10 arg11 harg11 arg12 harg12 arg13 harg13 hj X2 X3 X4 X5 X6 X7 f8 f9 f10 f11 f12 f13
  rcases Nat.lt_or_ge (i 1).val 26 with hj2 | hj2
  · exact body2 c i arg2 harg2 arg3 harg3 arg4 harg4 arg5 harg5 arg6 harg6 arg7 harg7 arg8 harg8 arg9 harg9 arg10 harg10 arg11 harg11 arg12 harg12 arg13 harg13 hj hj2 X2 X3 X4 X5 X6 X7 f8 f9 f10 f11 f12 f13
  · exact body3 c i arg2 harg2 arg3 harg3 arg4 harg4 arg5 harg5 arg6 harg6 arg7 harg7 arg8 harg8 arg9 harg9 arg10 harg10 arg11 harg11 arg12 harg12 arg13 harg13 hj2 X2 X3 X4 X5 X6 X7 f8 f9 f10 f11 f12 f13

end Cert.Proof.K

end
-- ==== Proof.Cells.lean ====
module

public import Idealize.ShloMosaic.Lib.Pipeline.DatRel
public import Idealize.ShloMosaic.Lib.Pipeline.Kit
public import proofs.«01_k».proof.Proof.Body

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

/-! ## The grid's points -/

/-- A point's column of the grid. -/
theorem col_val (t : Fin cfg0.N) : (grid0.coords t 1).val = t.val % 28 := by
  have h := Pipeline.Grid.coords_val (G := grid0) t 1 (S := 1) (B := 28) (by decide) rfl
  rw [h, Nat.div_one]

/-- A point's row of the grid. -/
theorem row_val (t : Fin cfg0.N) : (grid0.coords t 0).val = t.val / 28 := by
  have h := Pipeline.Grid.coords_val (G := grid0) t 0 (S := 28) (B := 18) (by decide) rfl
  have ht : t.val < 504 := Nat.lt_of_lt_of_eq t.isLt N_0
  rw [h]; omega

/-- The point of `t`'s row of the grid at column `j`. -/
def pt (t : Fin cfg0.N) (j : ℕ) : Fin cfg0.N :=
  ⟨28 * (t.val / 28) + j % 28, by have ht : t.val < 504 := Nat.lt_of_lt_of_eq t.isLt N_0; have hN : cfg0.N = 504 := N_0; omega⟩

theorem pt_self (t : Fin cfg0.N) {j : ℕ} (h : j = t.val % 28) : pt t j = t := by
  apply Fin.ext; show 28 * (t.val / 28) + j % 28 = t.val; omega

theorem pt_congr {t u : Fin cfg0.N} (h : t.val / 28 = u.val / 28) (j : ℕ) : pt t j = pt u j := by
  apply Fin.ext; show 28 * (t.val / 28) + j % 28 = 28 * (u.val / 28) + j % 28; rw [h]

/-- The block of query codes is written back at the last of each run of columns that share it. -/
theorem flush0_6 : ∀ t : Fin cfg0.N, (cfg0.win 6).flush t = true ↔ (t.val % 28 = 7 ∨ t.val % 28 = 15 ∨ t.val % 28 = 27) :=
  (by decide +kernel : ∀ t : Fin grid0.N, win0_6.flush t = true ↔ (t.val % 28 = 7 ∨ t.val % 28 = 15 ∨ t.val % 28 = 27))

/-! ## The cells of the results -/

section Cells
variable (m : (ℓ : Loc nD τ sig) → Buf (Elt F) ℓ) (c : Dev nD)

/-- The rotated rows of the point's four heads, run by run. -/
def qAt (t : Fin cfg0.N) : Fin 16 → Fin 4 → FVec F S32x128 .f32 :=
  yQ (k0_pay1 (iblk m c 0 t) (iblk m c 1 t)) (iblk m c 2 t) (iblk m c 3 t) (iblk m c 4 t) (iblk m c 5 t)
/-- The rows of the point's four heads without rotation, run by run. -/
def vAt (t : Fin cfg0.N) : Fin 16 → Fin 4 → FVec F S32x128 .f32 :=
  yV (k0_pay1 (iblk m c 0 t) (iblk m c 1 t)) (iblk m c 2 t) (iblk m c 3 t)

/-- The first column that writes into the block of query codes that `t` holds. -/
def base6 (t : ℕ) : ℕ := 8 * min (t % 28 / 8) 2

/-- The block of query codes, complete. -/
def fin6 (t : Fin cfg0.N) : S512x32x128.Idx → F .fp8e4m3 := fun x =>
  codeCell (qAt m c (pt t (base6 t.val + (x 1).val / 4))) (x 0) ⟨(x 1).val % 4, by omega⟩ (x 2)
/-- The block of key codes, complete. -/
def fin7 (t : Fin cfg0.N) : S512x8x128.Idx → F .fp8e4m3 := fun x =>
  codeCell (qAt m c (pt t (24 + (x 1).val / 4))) (x 0) ⟨(x 1).val % 4, by omega⟩ (x 2)
/-- The block of value codes, complete. -/
def fin8 (t : Fin cfg0.N) : S512x8x128.Idx → F .fp8e4m3 := fun x =>
  codeCell (vAt m c (pt t (26 + (x 1).val / 4))) (x 0) ⟨(x 1).val % 4, by omega⟩ (x 2)
/-- The block of scales, complete (of the lanes from 112 on nothing is meant). -/
def fin9 (t : Fin cfg0.N) : S512x128.Idx → F .f32 := fun x =>
  if (x 1).val / 4 < 26 then scaleCell (qAt m c (pt t ((x 1).val / 4))) (x 0) ⟨(x 1).val % 4, by omega⟩ (x 1)
  else scaleCell (vAt m c (pt t ((x 1).val / 4))) (x 0) ⟨(x 1).val % 4, by omega⟩ (x 1)

/-- The query codes written by the columns up to `t`'s are the complete block's. -/
def ok6 (t : Fin cfg0.N) (X : S512x32x128.Idx → F .fp8e4m3) : Prop :=
  ∀ x : S512x32x128.Idx, base6 t.val + (x 1).val / 4 ≤ t.val % 28 → X x = fin6 m c t x
/-- The key codes written by the columns up to `t`'s are the complete block's. -/
def ok7 (t : Fin cfg0.N) (X : S512x8x128.Idx → F .fp8e4m3) : Prop :=
  ∀ x : S512x8x128.Idx, 24 + (x 1).val / 4 ≤ t.val % 28 → X x = fin7 m c t x
/-- The value codes written by the columns up to `t`'s are the complete block's. -/
def ok8 (t : Fin cfg0.N) (X : S512x8x128.Idx → F .fp8e4m3) : Prop :=
  ∀ x : S512x8x128.Idx, 26 + (x 1).val / 4 ≤ t.val % 28 → X x = fin8 m c t x
/-- The scales written by the columns up to `t`'s are the complete block's. -/
def ok9 (t : Fin cfg0.N) (X : S512x128.Idx → F .f32) : Prop :=
  ∀ x : S512x128.Idx, (x 1).val / 4 ≤ t.val % 28 → X x = fin9 m c t x

/-- The point before `t`. -/
def prev (t : Fin cfg0.N) : Fin cfg0.N := ⟨t.val - 1, Nat.lt_of_le_of_lt (Nat.sub_le _ _) t.isLt⟩

theorem base6_prev (t : Fin cfg0.N) (h : ¬(t.val % 28 = 0 ∨ t.val % 28 = 8 ∨ t.val % 28 = 16)) : base6 (prev t).val = base6 t.val := by
  unfold base6; show 8 * min ((t.val - 1) % 28 / 8) 2 = _; omega

theorem pt_prev (t : Fin cfg0.N) (h : t.val % 28 ≠ 0) (j : ℕ) : pt (prev t) j = pt t j :=
  pt_congr (show (t.val - 1) / 28 = t.val / 28 by omega) j

theorem ok6_step (t : Fin cfg0.N) (Y : S512x32x128.Idx → F .fp8e4m3)
    (hY : ¬(t.val % 28 = 0 ∨ t.val % 28 = 8 ∨ t.val % 28 = 16) → ok6 m c (prev t) Y) :
    ok6 m c t (step8 (grid0.coords t) (iblk m c 0 t) (iblk m c 1 t) (iblk m c 2 t) (iblk m c 3 t) (iblk m c 4 t) (iblk m c 5 t) Y) := by
  intro x hx
  have h1 : (x 1).val < 32 := (x 1).isLt
  have h0 : (x 0).val < 512 := (x 0).isLt
  have hb : base6 t.val = 8 * min (t.val % 28 / 8) 2 := rfl
  have hold : ¬(base6 t.val + (x 1).val / 4 = t.val % 28) → Y x = fin6 m c t x := fun hne => by
    have hn : ¬(t.val % 28 = 0 ∨ t.val % 28 = 8 ∨ t.val % 28 = 16) := by omega
    have e := hY hn x (by rw [base6_prev t hn]; show _ ≤ (t.val - 1) % 28; omega)
    rw [e]; unfold fin6; rw [base6_prev t hn, pt_prev t (by omega)]
  unfold step8
  split
  · next hj =>
    rw [col_val] at hj
    unfold updCodes word1; rw [col_val]
    split
    · next hq =>
      unfold fin6; rw [pt_self t (j := base6 t.val + (x 1).val / 4) (by omega)]; rfl
    · next hq => exact hold (by omega)
  · next hj => rw [col_val] at hj; exact hold (by omega)

theorem ok7_step (t : Fin cfg0.N) (Y : S512x8x128.Idx → F .fp8e4m3) (hY : t.val % 28 ≠ 0 → ok7 m c (prev t) Y) :
    ok7 m c t (step9 (grid0.coords t) (iblk m c 0 t) (iblk m c 1 t) (iblk m c 2 t) (iblk m c 3 t) (iblk m c 4 t) (iblk m c 5 t) Y) := by
  intro x hx
  have h1 : (x 1).val < 8 := (x 1).isLt
  have h0 : (x 0).val < 512 := (x 0).isLt
  have hold : ¬(24 + (x 1).val / 4 = t.val % 28) → Y x = fin7 m c t x := fun hne => by
    have e := hY (by omega) x (by show _ ≤ (t.val - 1) % 28; omega)
    rw [e]; unfold fin7; rw [pt_prev t (by omega)]
  unfold step9
  split
  · next hj =>
    rw [col_val] at hj
    unfold updCodes word2; rw [col_val]
    split
    · next hq =>
      unfold fin7; rw [pt_self t (j := 24 + (x 1).val / 4) (by omega)]; rfl
    · next hq => exact hold (by omega)
  · next hj => rw [col_val] at hj; exact hold (by omega)

theorem ok8_step (t : Fin cfg0.N) (Y : S512x8x128.Idx → F .fp8e4m3) (hY : t.val % 28 ≠ 0 → ok8 m c (prev t) Y) :
    ok8 m c t (step10 (grid0.coords t) (iblk m c 0 t) (iblk m c 1 t) (iblk m c 2 t) (iblk m c 3 t) Y) := by
  intro x hx
  have h1 : (x 1).val < 8 := (x 1).isLt
  have h0 : (x 0).val < 512 := (x 0).isLt
  have hold : ¬(26 + (x 1).val / 4 = t.val % 28) → Y x = fin8 m c t x := fun hne => by
    have e := hY (by omega) x (by show _ ≤ (t.val - 1) % 28; omega)
    rw [e]; unfold fin8; rw [pt_prev t (by omega)]
  unfold step10
  split
  · next hj =>
    rw [col_val] at hj
    unfold updCodes word3; rw [col_val]
    split
    · next hq =>
      unfold fin8; rw [pt_self t (j := 26 + (x 1).val / 4) (by omega)]; rfl
    · next hq => exact hold (by omega)
  · next hj => rw [col_val] at hj; exact hold (by omega)

theorem ok9_step (t : Fin cfg0.N) (Y : S512x128.Idx → F .f32) (hY : t.val % 28 ≠ 0 → ok9 m c (prev t) Y) :
    ok9 m c t (step11 (grid0.coords t) (iblk m c 0 t) (iblk m c 1 t) (iblk m c 2 t) (iblk m c 3 t) (iblk m c 4 t) (iblk m c 5 t) Y) := by
  intro x hx
  have h1 : (x 1).val < 128 := (x 1).isLt
  have h0 : (x 0).val < 512 := (x 0).isLt
  have hold : ¬((x 1).val / 4 = t.val % 28) → Y x = fin9 m c t x := fun hne => by
    have e := hY (by omega) x (by show _ ≤ (t.val - 1) % 28; omega)
    rw [e]; unfold fin9; rw [pt_prev t (by omega)]
  unfold step11
  rw [col_val]
  split
  · next hj =>
    unfold updScales
    split
    · next hq =>
      unfold fin9; rw [pt_self t (j := (x 1).val / 4) (by omega), if_pos (by omega)]; rfl
    · next hq => exact hold (by omega)
  · next hj =>
    unfold updScales
    split
    · next hq =>
      unfold fin9; rw [pt_self t (j := (x 1).val / 4) (by omega), if_neg (by omega)]; rfl
    · next hq => exact hold (by omega)

end Cells

end Cert.Proof.K

end
-- ==== Proof.Rel.lean ====
module

public import Idealize.ShloMosaic.Lib.Pipeline.DatRel
public import Idealize.ShloMosaic.Lib.Pipeline.Kit
public import proofs.«01_k».proof.Proof.Cells
public import Idealize.ShloMosaic.Lib.Pipeline.ArrRel
public import Idealize.ShloMosaic.Lib.Pipeline.Frame
public import Idealize.ShloMosaic.Lib.Pipeline.FrameBody

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ (UR sig nD τ) ℕ

section Owns
variable (c : Dev nD) (i : grid0.Coords) (arg2 : Memref sig .tc .vmem S512x12288 .fp8e4m3) (harg2 : arg2.IsWhole) (arg3 : Memref sig .tc .vmem S12288x512 .fp8e4m3) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x32x128 .fp8e4m3) (harg8 : arg8.IsWhole) (arg9 : Memref sig .tc .vmem S512x8x128 .fp8e4m3) (harg9 : arg9.IsWhole) (arg10 : Memref sig .tc .vmem S512x8x128 .fp8e4m3) (harg10 : arg10.IsWhole) (arg11 : Memref sig .tc .vmem S512x128 .f32) (harg11 : arg11.IsWhole) (arg12 : Memref sig .tc .vmem S512x512 .f32) (harg12 : arg12.IsWhole) (arg13 : Memref sig .tc .vmem S128x128 .f32) (harg13 : arg13.IsWhole)
/-- A grid point's triple over what the memrefs hold: the inputs are left, each output's block takes the point's step. -/
theorem body_owns (x : S512x12288.Idx → F .fp8e4m3) (w : S12288x512.Idx → F .fp8e4m3) (W : S1x512.Idx → F .f32) (X : S512x128.Idx → F .f32) (C : S512x128.Idx → F .f32) (S : S512x128.Idx → F .f32) (Y8 : S512x32x128.Idx → F .fp8e4m3) (Y9 Y10 : S512x8x128.Idx → F .fp8e4m3) (Y11 : S512x128.Idx → F .f32) :
    (iprop(owns (c : Thread nD τ) arg2 fullShare x ∗ owns (c : Thread nD τ) arg3 fullShare w ∗ owns (c : Thread nD τ) arg4 fullShare W ∗ owns (c : Thread nD τ) arg5 fullShare X ∗ owns (c : Thread nD τ) arg6 fullShare C ∗ owns (c : Thread nD τ) arg7 fullShare S ∗ owns (c : Thread nD τ) arg8 fullShare Y8 ∗ owns (c : Thread nD τ) arg9 fullShare Y9 ∗ owns (c : Thread nD τ) arg10 fullShare Y10 ∗ owns (c : Thread nD τ) arg11 fullShare Y11 ∗ (∃ f, at_ c arg12 f) ∗ (∃ f, at_ c arg13 f)) : sProp 𝕄)
    ⊢ wp frame (wpE (defs₀ (F := F)) 𝒱₀ (c : Thread nD τ) none) Set.univ (cc0_qkv_proj (F := F) i arg2 harg2 arg3 harg3 arg4 harg4 arg5 harg5 arg6 harg6 arg7 harg7 arg8 harg8 arg9 harg9 arg10 harg10 arg11 harg11 arg12 harg12 arg13 harg13)
      (fun _ => iprop(owns (c : Thread nD τ) arg2 fullShare x ∗ owns (c : Thread nD τ) arg3 fullShare w ∗ owns (c : Thread nD τ) arg4 fullShare W ∗ owns (c : Thread nD τ) arg5 fullShare X ∗ owns (c : Thread nD τ) arg6 fullShare C ∗ owns (c : Thread nD τ) arg7 fullShare S ∗ owns (c : Thread nD τ) arg8 fullShare (step8 i x w W X C S Y8) ∗ owns (c : Thread nD τ) arg9 fullShare (step9 i x w W X C S Y9) ∗ owns (c : Thread nD τ) arg10 fullShare (step10 i x w W X Y10) ∗ owns (c : Thread nD τ) arg11 fullShare (step11 i x w W X C S Y11) ∗ (∃ f, at_ c arg12 f) ∗ (∃ f, at_ c arg13 f))) := by
  unfold owns
  iintro ⟨⟨%X2, %e2, H2⟩, ⟨%X3, %e3, H3⟩, ⟨%X4, %e4, H4⟩, ⟨%X5, %e5, H5⟩, ⟨%X6, %e6, H6⟩, ⟨%X7, %e7, H7⟩, ⟨%f8, %e8, H8⟩, ⟨%f9, %e9, H9⟩, ⟨%f10, %e10, H10⟩, ⟨%f11, %e11, H11⟩, ⟨%f12, H12⟩, ⟨%f13, H13⟩⟩
  subst e2
  subst e3
  subst e4
  subst e5
  subst e6
  subst e7
  subst e8
  subst e9
  subst e10
  subst e11
  iapply (wp_wand_r frame (wpE (defs₀ (F := F)) 𝒱₀ (c : Thread nD τ) none) Set.univ)
  isplitl [H2 H3 H4 H5 H6 H7 H8 H9 H10 H11 H12 H13]
  · iapply (body_step c i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f11 f12 f13)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %u ⟨%g8, %g9, %g10, %g11, %g12, %g13, %r8, %r9, %r10, %r11, H2, H3, H4, H5, H6, H7, H8, H9, H10, H11, H12, H13⟩
  isplitl [H2]
  · iexists X2
    isplitr [H2]
    · ipureintro; rfl
    iexact H2
  isplitl [H3]
  · iexists X3
    isplitr [H3]
    · ipureintro; rfl
    iexact H3
  isplitl [H4]
  · iexists X4
    isplitr [H4]
    · ipureintro; rfl
    iexact H4
  isplitl [H5]
  · iexists X5
    isplitr [H5]
    · ipureintro; rfl
    iexact H5
  isplitl [H6]
  · iexists X6
    isplitr [H6]
    · ipureintro; rfl
    iexact H6
  isplitl [H7]
  · iexists X7
    isplitr [H7]
    · ipureintro; rfl
    iexact H7
  isplitl [H8]
  · iexists g8
    isplitr [H8]
    · ipureintro; exact r8
    iexact H8
  isplitl [H9]
  · iexists g9
    isplitr [H9]
    · ipureintro; exact r9
    iexact H9
  isplitl [H10]
  · iexists g10
    isplitr [H10]
    · ipureintro; exact r10
    iexact H10
  isplitl [H11]
  · iexists g11
    isplitr [H11]
    · ipureintro; exact r11
    iexact H11
  isplitl [H12]; · iexists g12; iexact H12
  iexists g13; iexact H13

end Owns

/-- The accumulator held whole is its memref held. -/
theorem at_scratch0 (c : Dev nD) (f : Buf (Elt F) ((c : Thread nD τ).loc cc0_scratch0)) :
    (at_ c (Memref.whole cc0_scratch0) f : sProp 𝕄) = (((c : Thread nD τ).loc cc0_scratch0) ↦{fullShare} f) := by
  unfold at_; rw [show (Memref.whole cc0_scratch0).view.set = Finset.univ from View.set_whole _]
/-- The packing buffer held whole is its memref held. -/
theorem at_scratch1 (c : Dev nD) (f : Buf (Elt F) ((c : Thread nD τ).loc cc0_scratch1)) :
    (at_ c (Memref.whole cc0_scratch1) f : sProp 𝕄) = (((c : Thread nD τ).loc cc0_scratch1) ↦{fullShare} f) := by
  unfold at_; rw [show (Memref.whole cc0_scratch1).view.set = Finset.univ from View.set_whole _]

/-! ## The proof data -/

section Data
variable (m : (ℓ : Loc nD τ sig) → Buf (Elt F) ℓ) (ρ : Dev nD → PrngReg)

/-- The proof data of the pipeline on core `c`: the arrays as the region finds them, each input's buffer left at its block,
    each output's block complete. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fin6 m c t
    | ⟨7, _⟩ => fin7 m c t
    | ⟨8, _⟩ => fin8 m c t
    | ⟨9, _⟩ => fin9 m c t
  Φ _ := Pipeline.ΦA spec0 c
  q _ := fullShare
  owed _ := 0

/-- The windows of which only part is stated at each point: the four outputs. -/
def part : Fin 10 → Bool := ![false, false, false, false, false, false, true, true, true, true]

/-- What is stated of an output's block after a point: what has been written so far. -/
def said (c : Dev nD) (w : Fin cfg0.W) (t : Fin cfg0.N) : ((cfg0.win w).block.Idx → Elt F (cfg0.win w).elt) → Prop := match w with
    | ⟨0, _⟩ => fun _ => True
    | ⟨1, _⟩ => fun _ => True
    | ⟨2, _⟩ => fun _ => True
    | ⟨3, _⟩ => fun _ => True
    | ⟨4, _⟩ => fun _ => True
    | ⟨5, _⟩ => fun _ => True
    | ⟨6, _⟩ => ok6 m c t
    | ⟨7, _⟩ => ok7 m c t
    | ⟨8, _⟩ => ok8 m c t
    | ⟨9, _⟩ => ok9 m c t

/-- The relational data. -/
abbrev rdat (c : Dev nD) : RDat τ (Elt F) Unit ℕ (UR sig nD τ) ℕ cfg0 c := (dats m 0 c).toRRel part (said m c)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem said_6 (c : Dev nD) (t : Fin cfg0.N) : said m c 6 t = ok6 m c t := by dsimp only [said]
theorem said_7 (c : Dev nD) (t : Fin cfg0.N) : said m c 7 t = ok7 m c t := by dsimp only [said]
theorem said_8 (c : Dev nD) (t : Fin cfg0.N) : said m c 8 t = ok8 m c t := by dsimp only [said]
theorem said_9 (c : Dev nD) (t : Fin cfg0.N) : said m c 9 t = ok9 m c t := by dsimp only [said]

/-! ## What a point finds in an output's block -/

theorem finds_6 (c : Dev nD) (t : Fin cfg0.N) (Y : S512x32x128.Idx → F .fp8e4m3) (h : (rdat m c).Finds 6 t Y)
    (ht : ¬(t.val % 28 = 0 ∨ t.val % 28 = 8 ∨ t.val % 28 = 16)) : ok6 m c (prev t) Y := by
  have hlt : t.val < 504 := Nat.lt_of_lt_of_eq t.isLt N_0
  rcases ((rdat m c).finds_of_pos (w := 6) (t := t) rfl (by omega) Y).mp h with hf | hl
  · have := (flush0_6 (prev t)).mp hf
    rw [show (prev t).val = t.val - 1 from rfl] at this; omega
  · have := (dats m 0 c).toRRel_leaves (fgt := part) (Rl := said m c) (w := 6) rfl hl
    rw [said_6] at this; exact this
theorem finds_7 (c : Dev nD) (t : Fin cfg0.N) (Y : S512x8x128.Idx → F .fp8e4m3) (h : (rdat m c).Finds 7 t Y)
    (ht : t.val % 28 ≠ 0) : ok7 m c (prev t) Y := by
  have hlt : t.val < 504 := Nat.lt_of_lt_of_eq t.isLt N_0
  rcases ((rdat m c).finds_of_pos (w := 7) (t := t) rfl (by omega) Y).mp h with hf | hl
  · have := (flush0_7 (prev t)).mp hf
    rw [show (prev t).val = t.val - 1 from rfl] at this; omega
  · have := (dats m 0 c).toRRel_leaves (fgt := part) (Rl := said m c) (w := 7) rfl hl
    rw [said_7] at this; exact this
theorem finds_8 (c : Dev nD) (t : Fin cfg0.N) (Y : S512x8x128.Idx → F .fp8e4m3) (h : (rdat m c).Finds 8 t Y)
    (ht : t.val % 28 ≠ 0) : ok8 m c (prev t) Y := by
  have hlt : t.val < 504 := Nat.lt_of_lt_of_eq t.isLt N_0
  rcases ((rdat m c).finds_of_pos (w := 8) (t := t) rfl (by omega) Y).mp h with hf | hl
  · have := (flush0_8 (prev t)).mp hf
    rw [show (prev t).val = t.val - 1 from rfl] at this; omega
  · have := (dats m 0 c).toRRel_leaves (fgt := part) (Rl := said m c) (w := 8) rfl hl
    rw [said_8] at this; exact this
theorem finds_9 (c : Dev nD) (t : Fin cfg0.N) (Y : S512x128.Idx → F .f32) (h : (rdat m c).Finds 9 t Y)
    (ht : t.val % 28 ≠ 0) : ok9 m c (prev t) Y := by
  have hlt : t.val < 504 := Nat.lt_of_lt_of_eq t.isLt N_0
  rcases ((rdat m c).finds_of_pos (w := 9) (t := t) rfl (by omega) Y).mp h with hf | hl
  · have := (flush0_9 (prev t)).mp hf
    rw [show (prev t).val = t.val - 1 from rfl] at this; omega
  · have := (dats m 0 c).toRRel_leaves (fgt := part) (Rl := said m c) (w := 9) rfl hl
    rw [said_9] at this; exact this

/-- What the body is called with at a point, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y))

/-- and what it returns. -/
def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜said m c 6 t X⌝ ∗ owns (c : Thread nD τ) (st0_6 t) fullShare X)
    ∗ (∃ X, ⌜said m c 7 t X⌝ ∗ owns (c : Thread nD τ) (st0_7 t) fullShare X)
    ∗ (∃ X, ⌜said m c 8 t X⌝ ∗ owns (c : Thread nD τ) (st0_8 t) fullShare X)
    ∗ (∃ X, ⌜said m c 9 t X⌝ ∗ owns (c : Thread nD τ) (st0_9 t) fullShare X))

/-- The body at any point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, said_6, said_7, said_8, said_9,
    show (dats m 0 c).Φ t.castSucc = iprop(Pipeline.scopedRest spec0 c ∗ ∃ r, prngReg c r) from rfl, scopedRest0_eq]
  simp only [← at_scratch0, ← at_scratch1]
  iintro ⟨⟨⟨Hs0, Hs1⟩, Hp⟩, Ho, ⟨%d0, H0⟩, ⟨%d1, H1⟩, ⟨%d2, H2⟩, ⟨%d3, H3⟩, ⟨%d4, H4⟩, ⟨%d5, H5⟩, ⟨%Y6, %h6, H6⟩, ⟨%Y7, %h7, H7⟩, ⟨%Y8, %h8, H8⟩, ⟨%Y9, %h9, H9⟩⟩
  iapply (wp_wand_r frame (wpE (defs₀ (F := F)) 𝒱₀ (c : Thread nD τ) none) Set.univ)
  isplitl [H0 H1 H2 H3 H4 H5 H6 H7 H8 H9 Hs0 Hs1]
  · iapply (body_owns c _ _ _ _ _ _ _ _ _ _ _ _ _ _ _ _ _ _ _ _ _ _ _ _ _  (iblk m c 0 t) (iblk m c 1 t) (iblk m c 2 t) (iblk m c 3 t) (iblk m c 4 t) (iblk m c 5 t) Y6 Y7 Y8 Y9)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hs0]; · iexact Hs0
    iexact Hs1
  iintro %u ⟨H0, H1, H2, H3, H4, H5, H6, H7, H8, H9, Hs0, Hs1⟩
  isplitl [Hs0 Hs1 Hp]
  · isplitl [Hs0 Hs1]
    · isplitl [Hs0]; · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _
    isplitr [H6]
    · ipureintro; exact ok6_step m c t Y6 (finds_6 m c t Y6 h6)
    iexact H6
  isplitl [H7]
  · iexists _
    isplitr [H7]
    · ipureintro; exact ok7_step m c t Y7 (finds_7 m c t Y7 h7)
    iexact H7
  isplitl [H8]
  · iexists _
    isplitr [H8]
    · ipureintro; exact ok8_step m c t Y8 (finds_8 m c t Y8 h8)
    iexact H8
  iexists _
  isplitr [H9]
  · ipureintro; exact ok9_step m c t Y9 (finds_9 m c t Y9 h9)
  iexact H9

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation of the relational data, at every point. -/
theorem body_obligation (c : Dev nD) : BodyObligationRel (dats (F := F) m 0 c) (defs₀ (F := F)) 𝒱₀ () Set.univ part (said m c) := fun t => by
  rw [bigSep_W0, bigSep_W0, defs₀_row]
  exact triple_restated (sound_body m c t) rfl .rfl fun _ => .rfl

/-! ## The run -/

set_option backward.isDefEq.respectTransparency.types false in
set_option maxHeartbeats 800000 in
/-- The run of the whole program: every array ends as the relational data allow, every counter at zero. -/
theorem run_main : θ_run defs (onTc (τ := τ) (main (F := F))) (s₀ m ρ) (fun r => RDat.FramePost cfg0 (rdat m) (V m) r ∧ r.2.sem = fun _ => 0) :=
  RDat.θ_run_frame (Q' := _) cfgs (0 : Fin 1) launch0 defs₀ 𝒱₀ (rdat m) m ρ main
    (hbody := fun c => (body_obligation m c).toRRel) (hshare := fun c w => (dats m 0 c).share_full (fun _ => rfl) w)
    (howed := fun _ _ => rfl) (V := V m) (hmain := hmain m 𝒱₀) (hA := A_eq m) (hΦ := fun _ _ => rfl) (hQ' := fun _ h => h)

end Data

end Cert.Proof.K

end
-- ==== Proof.Final.lean ====
module

public import Idealize.ShloMosaic.Lib.Pipeline.DatRel
public import Idealize.ShloMosaic.Lib.Pipeline.Kit
public import proofs.«01_k».proof.Proof.Rel
public import Idealize.ShloMosaic.Lib.Pipeline.Value
public import Idealize.ShloMosaic.Lib.Pipeline.ValueKit.Geometry
public import Idealize.ShloMosaic.Lib.Pipeline.ArrRel
public import Idealize.ShloMosaic.Lib.Pipeline.Frame
public import Idealize.ShloMosaic.Lib.Pipeline.FrameBody

@[expose] public section

set_option maxRecDepth 16384

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ (UR sig nD τ) ℕ

section Final
variable (m : (ℓ : Loc nD τ sig) → Buf (Elt F) ℓ) (ρ : Dev nD → PrngReg)

/-! ## The argument arrays -/

theorem args_of {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans ((A_eq m c 0).trans (V_main_arg0 m c)),
   (h.arr_in c 1 rfl).trans ((A_eq m c 1).trans (V_main_arg1 m c)),
   ((h c).2 main_arg2 (Pipeline.mem_restRefs_of main_arg2 (by decide) (by decide))).trans (V_main_arg2 m c),
   (h.arr_in c 3 rfl).trans ((A_eq m c 3).trans (V_main_arg3 m c)),
   (h.arr_in c 4 rfl).trans ((A_eq m c 4).trans (V_main_arg4 m c)),
   (h.arr_in c 5 rfl).trans ((A_eq m c 5).trans (V_main_arg5 m c))⟩

/-- The program runs, its argument arrays end unchanged and every counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_of m h.1, h.2⟩) (run_main m ρ)

/-! ## The results -/

/-- The grid's point at row `i` and column `j`. -/
def pij (i j : ℕ) (hi : i < 18) (hj : j < 28) : Fin cfg0.N := ⟨28 * i + j, by have hN : cfg0.N = 504 := N_0; omega⟩

theorem pt_eq_pij {t : Fin cfg0.N} {i j : ℕ} (hi : i < 18) (hj : j < 28) (h : t.val / 28 = i) : pt t j = pij i j hi hj := by
  apply Fin.ext; show 28 * (t.val / 28) + j % 28 = 28 * i + j; omega

/-- Result 1 at an index: the code of query head `x 1` of row `x 0` at lane `x 2`. -/
def res0 (c : Dev nD) (x : S9216x96x128.Idx) : F .fp8e4m3 :=
  codeCell (qAt m c (pij ((x 0).val / 512) ((x 1).val / 4) (by have := (x 0).isLt; have : (x 0).val < 9216 := this; omega) (by have := (x 1).isLt; have : (x 1).val < 96 := this; omega)))
    ⟨(x 0).val % 512, by omega⟩ ⟨(x 1).val % 4, by omega⟩ (x 2)
/-- Result 2 at an index: the code of key head `x 1`. -/
def res1 (c : Dev nD) (x : S9216x8x128.Idx) : F .fp8e4m3 :=
  codeCell (qAt m c (pij ((x 0).val / 512) (24 + (x 1).val / 4) (by have := (x 0).isLt; have : (x 0).val < 9216 := this; omega) (by have := (x 1).isLt; have : (x 1).val < 8 := this; omega)))
    ⟨(x 0).val % 512, by omega⟩ ⟨(x 1).val % 4, by omega⟩ (x 2)
/-- Result 3 at an index: the code of value head `x 1`. -/
def res2 (c : Dev nD) (x : S9216x8x128.Idx) : F .fp8e4m3 :=
  codeCell (vAt m c (pij ((x 0).val / 512) (26 + (x 1).val / 4) (by have := (x 0).isLt; have : (x 0).val < 9216 := this; omega) (by have := (x 1).isLt; have : (x 1).val < 8 := this; omega)))
    ⟨(x 0).val % 512, by omega⟩ ⟨(x 1).val % 4, by omega⟩ (x 2)
/-- Result 4 at an index of a lane that is written: the scale of head `x 1` of row `x 0`. -/
def res3 (c : Dev nD) (x : S9216x128.Idx) (hx : (x 1).val < 112) : F .f32 :=
  if (x 1).val / 4 < 26 then
    scaleCell (qAt m c (pij ((x 0).val / 512) ((x 1).val / 4) (by have := (x 0).isLt; have : (x 0).val < 9216 := this; omega) (by omega)))
      ⟨(x 0).val % 512, by omega⟩ ⟨(x 1).val % 4, by omega⟩ (x 1)
  else
    scaleCell (vAt m c (pij ((x 0).val / 512) ((x 1).val / 4) (by have := (x 0).isLt; have : (x 0).val < 9216 := this; omega) (by omega)))
      ⟨(x 0).val % 512, by omega⟩ ⟨(x 1).val % 4, by omega⟩ (x 1)

theorem index6 : ∀ t : Fin cfg0.N, win0_6.index t = ![t.val / 28, min (t.val % 28 / 8) 2, 0] :=
  (by decide +kernel : ∀ t : Fin grid0.N, _)
theorem index7 : ∀ t : Fin cfg0.N, win0_7.index t = ![t.val / 28, 0, 0] :=
  (by decide +kernel : ∀ t : Fin grid0.N, _)
theorem index8 : ∀ t : Fin cfg0.N, win0_8.index t = ![t.val / 28, 0, 0] :=
  (by decide +kernel : ∀ t : Fin grid0.N, _)
theorem index9 : ∀ t : Fin cfg0.N, win0_9.index t = ![t.val / 28, 0] :=
  (by decide +kernel : ∀ t : Fin grid0.N, _)

section At
variable {c : Dev nD} {after : (w' : Fin cfg0.W) → Fin cfg0.N → (cfg0.win w').block.Idx → Elt F (cfg0.win w').elt}
  (hL : ∀ (w : Fin cfg0.W) (u : Fin cfg0.N), (cfg0.win w).flush u = true → (rdat m c).Leaves w u (after w u))
include hL

omit hL in
theorem fin6_at (t : Fin cfg0.N) (y : S512x32x128.Idx) (i : S9216x96x128.Idx) (e0 : (i 0).val = t.val / 28 * 512 + (y 0).val) (e1 : (i 1).val = min (t.val % 28 / 8) 2 * 32 + (y 1).val) (e2 : (i 2).val = 0 * 128 + (y 2).val) : fin6 m c t y = res0 m c i := by
  have h0 : (y 0).val < 512 := (y 0).isLt
  have h1 : (y 1).val < 32 := (y 1).isLt
  have hi1 : (i 1).val < 96 := (i 1).isLt
  have hi0 : (i 0).val < 9216 := (i 0).isLt
  have hb : base6 t.val = 8 * min (t.val % 28 / 8) 2 := rfl
  unfold fin6 res0
  rw [pt_eq_pij (t := t) (j := base6 t.val + (y 1).val / 4) (i := t.val / 28) (by omega) (by omega) rfl]
  have ep : pij ((i 0).val / 512) ((i 1).val / 4) (by omega) (by omega) = pij (t.val / 28) (base6 t.val + (y 1).val / 4) (by omega) (by omega) :=
    Fin.ext (by show 28 * _ + _ = 28 * _ + _; omega)
  have e0' : (⟨(i 0).val % 512, by omega⟩ : Fin 512) = y 0 := Fin.ext (by show (i 0).val % 512 = (y 0).val; omega)
  have e1' : (⟨(i 1).val % 4, by omega⟩ : Fin 4) = ⟨(y 1).val % 4, by omega⟩ := Fin.ext (by show (i 1).val % 4 = (y 1).val % 4; omega)
  have e2' : (i 2 : Fin 128) = y 2 := Fin.ext (by omega)
  rw [ep, e0', e1', e2']

theorem arr_6 (i : S9216x96x128.Idx) : ((rdat m c).withAfter after).arrAt 6 cfg0.N i = res0 m c i := by
  refine (((rdat m c).withAfter after).arrAt_forall_of_covers 6 (fun i v => v = res0 m c i) (by decide +kernel) (fun t hf y => ?_) i)
  have hs := (dats m 0 c).toRRel_leaves (fgt := part) (Rl := said m c) (w := 6) rfl (hL 6 t hf)
  rw [said_6] at hs
  have hft := (flush0_6 t).mp hf
  blk_simp
  exact (hs y (by have h1 : (y 1).val < 32 := (y 1).isLt; have hb : base6 t.val = 8 * min (t.val % 28 / 8) 2 := rfl; omega)).trans (fin6_at m t y _ (by blk_simp [index6]) (by blk_simp [index6]) (by blk_simp [index6]))

omit hL in
theorem fin7_at (t : Fin cfg0.N) (y : S512x8x128.Idx) (i : S9216x8x128.Idx) (e0 : (i 0).val = t.val / 28 * 512 + (y 0).val) (e1 : (i 1).val = 0 * 8 + (y 1).val) (e2 : (i 2).val = 0 * 128 + (y 2).val) : fin7 m c t y = res1 m c i := by
  have h0 : (y 0).val < 512 := (y 0).isLt
  have h1 : (y 1).val < 8 := (y 1).isLt
  have hi1 : (i 1).val < 8 := (i 1).isLt
  have hi0 : (i 0).val < 9216 := (i 0).isLt
  have hb : base6 t.val = 8 * min (t.val % 28 / 8) 2 := rfl
  unfold fin7 res1
  rw [pt_eq_pij (t := t) (j := 24 + (y 1).val / 4) (i := t.val / 28) (by omega) (by omega) rfl]
  have ep : pij ((i 0).val / 512) (24 + (i 1).val / 4) (by omega) (by omega) = pij (t.val / 28) (24 + (y 1).val / 4) (by omega) (by omega) :=
    Fin.ext (by show 28 * _ + _ = 28 * _ + _; omega)
  have e0' : (⟨(i 0).val % 512, by omega⟩ : Fin 512) = y 0 := Fin.ext (by show (i 0).val % 512 = (y 0).val; omega)
  have e1' : (⟨(i 1).val % 4, by omega⟩ : Fin 4) = ⟨(y 1).val % 4, by omega⟩ := Fin.ext (by show (i 1).val % 4 = (y 1).val % 4; omega)
  have e2' : (i 2 : Fin 128) = y 2 := Fin.ext (by omega)
  rw [ep, e0', e1', e2']

theorem arr_7 (i : S9216x8x128.Idx) : ((rdat m c).withAfter after).arrAt 7 cfg0.N i = res1 m c i := by
  refine (((rdat m c).withAfter after).arrAt_forall_of_covers 7 (fun i v => v = res1 m c i) (by decide +kernel) (fun t hf y => ?_) i)
  have hs := (dats m 0 c).toRRel_leaves (fgt := part) (Rl := said m c) (w := 7) rfl (hL 7 t hf)
  rw [said_7] at hs
  have hft := (flush0_7 t).mp hf
  blk_simp
  exact (hs y (by have h1 : (y 1).val < 8 := (y 1).isLt; omega)).trans (fin7_at m t y _ (by blk_simp [index7]) (by blk_simp [index7]) (by blk_simp [index7]))

omit hL in
theorem fin8_at (t : Fin cfg0.N) (y : S512x8x128.Idx) (i : S9216x8x128.Idx) (e0 : (i 0).val = t.val / 28 * 512 + (y 0).val) (e1 : (i 1).val = 0 * 8 + (y 1).val) (e2 : (i 2).val = 0 * 128 + (y 2).val) : fin8 m c t y = res2 m c i := by
  have h0 : (y 0).val < 512 := (y 0).isLt
  have h1 : (y 1).val < 8 := (y 1).isLt
  have hi1 : (i 1).val < 8 := (i 1).isLt
  have hi0 : (i 0).val < 9216 := (i 0).isLt
  have hb : base6 t.val = 8 * min (t.val % 28 / 8) 2 := rfl
  unfold fin8 res2
  rw [pt_eq_pij (t := t) (j := 26 + (y 1).val / 4) (i := t.val / 28) (by omega) (by omega) rfl]
  have ep : pij ((i 0).val / 512) (26 + (i 1).val / 4) (by omega) (by omega) = pij (t.val / 28) (26 + (y 1).val / 4) (by omega) (by omega) :=
    Fin.ext (by show 28 * _ + _ = 28 * _ + _; omega)
  have e0' : (⟨(i 0).val % 512, by omega⟩ : Fin 512) = y 0 := Fin.ext (by show (i 0).val % 512 = (y 0).val; omega)
  have e1' : (⟨(i 1).val % 4, by omega⟩ : Fin 4) = ⟨(y 1).val % 4, by omega⟩ := Fin.ext (by show (i 1).val % 4 = (y 1).val % 4; omega)
  have e2' : (i 2 : Fin 128) = y 2 := Fin.ext (by omega)
  rw [ep, e0', e1', e2']

theorem arr_8 (i : S9216x8x128.Idx) : ((rdat m c).withAfter after).arrAt 8 cfg0.N i = res2 m c i := by
  refine (((rdat m c).withAfter after).arrAt_forall_of_covers 8 (fun i v => v = res2 m c i) (by decide +kernel) (fun t hf y => ?_) i)
  have hs := (dats m 0 c).toRRel_leaves (fgt := part) (Rl := said m c) (w := 8) rfl (hL 8 t hf)
  rw [said_8] at hs
  have hft := (flush0_8 t).mp hf
  blk_simp
  exact (hs y (by have h1 : (y 1).val < 8 := (y 1).isLt; omega)).trans (fin8_at m t y _ (by blk_simp [index8]) (by blk_simp [index8]) (by blk_simp [index8]))

omit hL in
theorem fin9_at (t : Fin cfg0.N) (y : S512x128.Idx) (i : S9216x128.Idx) (e0 : (i 0).val = t.val / 28 * 512 + (y 0).val) (e1 : (i 1).val = 0 * 128 + (y 1).val) (hx : (i 1).val < 112) : fin9 m c t y = res3 m c i hx := by
  have h0 : (y 0).val < 512 := (y 0).isLt
  have h1 : (y 1).val < 128 := (y 1).isLt
  have hi0 : (i 0).val < 9216 := (i 0).isLt
  unfold fin9 res3
  rw [pt_eq_pij (t := t) (j := (y 1).val / 4) (i := t.val / 28) (by omega) (by omega) rfl]
  have ep : pij ((i 0).val / 512) ((i 1).val / 4) (by omega) (by omega) = pij (t.val / 28) ((y 1).val / 4) (by omega) (by omega) :=
    Fin.ext (by show 28 * _ + _ = 28 * _ + _; omega)
  have e0' : (⟨(i 0).val % 512, by omega⟩ : Fin 512) = y 0 := Fin.ext (by show (i 0).val % 512 = (y 0).val; omega)
  have e1' : (⟨(i 1).val % 4, by omega⟩ : Fin 4) = ⟨(y 1).val % 4, by omega⟩ := Fin.ext (by show (i 1).val % 4 = (y 1).val % 4; omega)
  have e2' : (i 1 : Fin 128) = y 1 := Fin.ext (by omega)
  rw [ep, e0', e1', e2']

theorem arr_9 (i : S9216x128.Idx) (hx : (i 1).val < 112) : ((rdat m c).withAfter after).arrAt 9 cfg0.N i = res3 m c i hx := by
  refine (((rdat m c).withAfter after).arrAt_forall_of_covers 9 (fun i v => ∀ hx : (i 1).val < 112, v = res3 m c i hx) (by decide +kernel) (fun t hf y => ?_) i) hx
  have hs := (dats m 0 c).toRRel_leaves (fgt := part) (Rl := said m c) (w := 9) rfl (hL 9 t hf)
  rw [said_9] at hs
  have hft := (flush0_9 t).mp hf
  blk_simp
  intro hx
  exact (hs y (by have hx' := hx; blk_simp [index9] at hx'; omega)).trans (fin9_at m t y _ (by blk_simp [index9]) (by blk_simp [index9]) (by blk_simp; exact hx))

end At

/-- The program runs, and every core ends with the four results at their cells, the scales in the lanes that are written,
    and the argument arrays unchanged. -/
theorem run_cells : θ_run defs (onTc (τ := τ) (main (F := F))) ⟨m, fun _ => 0, ρ⟩ (fun r => ∀ c : Dev nD,
      (∀ i : S9216x96x128.Idx, r.2.mem ((c.tc : Thread nD τ).loc main_v1_0) i = res0 m c i)
      ∧ (∀ i : S9216x8x128.Idx, r.2.mem ((c.tc : Thread nD τ).loc main_v1_1) i = res1 m c i)
      ∧ (∀ i : S9216x8x128.Idx, r.2.mem ((c.tc : Thread nD τ).loc main_v1_2) i = res2 m c i)
      ∧ (∀ (i : S9216x128.Idx) (hx : (i 1).val < 112), r.2.mem ((c.tc : Thread nD τ).loc main_v1_3) i = res3 m c i hx)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨after, hL, hA⟩ := h.1.exists_exact c
    exact ⟨fun i => (congrFun (hA 6) i).trans (arr_6 m hL i), fun i => (congrFun (hA 7) i).trans (arr_7 m hL i),
      fun i => (congrFun (hA 8) i).trans (arr_8 m hL i), fun i hx => (congrFun (hA 9) i).trans (arr_9 m hL i hx), args_of m h.1 c⟩)
    (run_main m ρ)

end Final

end Cert.Proof.K

end
-- ==== Proof.Ideal.Tile.lean ====
module

public import proofs.«01_k».proof.Proof.Gen.KernelIdeal.Loops
public import proofs.«01_k».proof.Proof.Gen.KernelIdeal.Frame
public import Idealize.ShloMosaic.Lib.Tactic
public import Idealize.ShloMosaic.Lib.Pointwise.Tactic
public import Idealize.ShloMosaic.Lib.WritesUnit

@[expose] public section

set_option maxRecDepth 16384

noncomputable section

namespace Cert.Proof.KI

open Cert.KernelIdeal Cert.KernelIdeal.Gen
open Idealize.ShloMosaic
open Idealize.ShloMosaic.TcCoe Idealize.ShloMosaic.Tactic

variable {F : FTy → Type} [FloatOps F]

/-! ## What the body computes from 32 rows of one head -/

/-- One step of the search for the exponent's bits: bit `b` joins the bits `v` where the number is not below the float they then spell. -/
def expStep (b : BitVec 32) (t : FVec F S32x128 .f32) (v : IVec S32x128 32) : IVec S32x128 32 :=
  select (cmpf .olt t (bitcastToFloat .f32 (ori v (broadcast S32x128 b)))) v (ori v (broadcast S32x128 b))

/-- The exponent bits found by the eight steps, from the top bit down. -/
def expBits (t : FVec F S32x128 .f32) : IVec S32x128 32 :=
  expStep 8388608#32 t (expStep 16777216#32 t (expStep 33554432#32 t (expStep 67108864#32 t (expStep 134217728#32 t
    (expStep 268435456#32 t (expStep 536870912#32 t (expStep 1073741824#32 t (broadcast S32x128 0#32))))))))

/-- The exponent bits with the top ones for a number too large, and those of one half for zero and for a number too large. -/
def scaleBits (t : FVec F S32x128 .f32) : IVec S32x128 32 :=
  have v : IVec S32x128 32 := select (cmpf .olt t (broadcast S32x128 (Scalar.ofBits .f32 0x7E800000#32))) (expBits t) (broadcast S32x128 2139095040#32)
  select (ori (cmpf .oeq t (broadcast S32x128 (Scalar.ofBits .f32 0x00000000#32))) (cmpi .eq v (broadcast S32x128 2139095040#32)))
    (broadcast S32x128 1056964608#32) v

/-- Each row's largest magnitude over the largest code, in every lane. -/
def amax (y : FVec F S32x128 .f32) : FVec F S32x128 .f32 :=
  mulf (broadcastTo S32x128 (shapeCast S32x1 (shapeCast S32x1 (multiReduction .maximumf [1] S32 (absf y) 0xFF800000#32 reduces_S32x128_S32 (.inl rfl) rfl)
    shapeCasts_S32_S32x1) shapeCasts_S32x1_S32x1) broadcasts_S32x1_S32x128) (broadcast S32x128 (Scalar.ofBits .f32 0x3B124925#32))

/-- The rows' scales, in every lane. -/
def headScale (y : FVec F S32x128 .f32) : FVec F S32x128 .f32 :=
  bitcastToFloat .f32 (addi (scaleBits (amax y)) (broadcast S32x128 8388608#32))

/-- The rows' codes before they are narrowed. -/
def headCode (y : FVec F S32x128 .f32) : FVec F S32x128 .f32 :=
  minimumf (broadcast S32x128 (Scalar.ofBits .f32 0x43E00000#32)) (maximumf (broadcast S32x128 (Scalar.ofBits .f32 0xC3E00000#32))
    (mulf y (bitcastToFloat .f32 (subi (broadcast S32x128 2122317824#32) (scaleBits (amax y))))))

/-- The scaled products of 32 rows of one head. -/
def lin (acc xs : FVec F S32x128 .f32) (ws : FVec F S1x128 .f32) : FVec F S32x128 .f32 :=
  mulf (mulf acc xs) (broadcastTo S32x128 (shapeCast S1x128 ws shapeCasts_S1x128_S1x128) broadcasts_S1x128_S32x128)

/-- The rotation of 32 rows of one head. -/
def rot (y cos sin : FVec F S32x128 .f32) : FVec F S32x128 .f32 :=
  addf (mulf y cos) (mulf (dynamicRotate 1 64#32 none y rotates_S32x128_d1) sin)

/-! ## The blocks the body reads, cut into runs of 32 rows -/

/-- Row `a` of run `k`. -/
def rowIx (k : Fin 16) (a : Fin 32) : Fin 512 := ⟨32 * k.val + a.val, by omega⟩

/-- Run `k` of a block of 512 rows by 128 lanes. -/
def chunk {α : Type} (X : S512x128.Idx → α) (k : Fin 16) : S32x128.Idx → α := fun x => X (ix2 (rowIx k (x 0)) (x 1))

/-- Lane `l` of head `h` of a word of four heads. -/
def laneIx (h : Fin 4) (l : Fin 128) : Fin 512 := ⟨128 * h.val + l.val, by omega⟩

/-- Run `k` of head `h` of the accumulator. -/
def accChunk {α : Type} (A : S512x512.Idx → α) (k : Fin 16) (h : Fin 4) : S32x128.Idx → α := fun x => A (ix2 (rowIx k (x 0)) (laneIx h (x 1)))

/-- The weight scales of head `h`. -/
def wsChunk {α : Type} (W : S1x512.Idx → α) (h : Fin 4) : S1x128.Idx → α := fun x => W (ix2 0 (laneIx h (x 1)))

/-- What is quantised of run `k` of head `h` of a word of value heads. -/
def yV (A : S512x512.Idx → F .f32) (W : S1x512.Idx → F .f32) (X : S512x128.Idx → F .f32) (k : Fin 16) (h : Fin 4) : FVec F S32x128 .f32 :=
  lin (accChunk A k h) (chunk X k) (wsChunk W h)

/-- What is quantised of run `k` of head `h` of a word of query or key heads. -/
def yQ (A : S512x512.Idx → F .f32) (W : S1x512.Idx → F .f32) (X C S : S512x128.Idx → F .f32) (k : Fin 16) (h : Fin 4) : FVec F S32x128 .f32 :=
  rot (yV A W X k h) (chunk C k) (chunk S k)

/-- The run of a row. -/
def runOf (r : Fin 512) : Fin 16 := ⟨r.val / 32, by omega⟩
/-- The place of a row in its run. -/
def inRun (r : Fin 512) : Fin 32 := ⟨r.val % 32, by omega⟩

/-- The code of row `r`, head `h` of the word, lane `l`, where `y k h` is what is quantised. -/
def codeCell (y : Fin 16 → Fin 4 → FVec F S32x128 .f32) (r : Fin 512) (h : Fin 4) (l : Fin 128) : F .fp8e4m3 :=
  (truncf .fp8e4m3 (headCode (y (runOf r) h)) bitsLt_fp8e4m3_f32 : FVec F S32x128 .fp8e4m3) (ix2 (inRun r) l)

/-- The scale of row `r`, head `h` of the word, as lane `l` holds it. -/
def scaleCell (y : Fin 16 → Fin 4 → FVec F S32x128 .f32) (r : Fin 512) (h : Fin 4) (l : Fin 128) : F .f32 :=
  headScale (y (runOf r) h) (ix2 (inRun r) l)

/-- A block of codes with the first `n` runs of the heads of word `q` replaced by `cell`. -/
def updCodes {α : Type} {H : ℕ} (q n : ℕ) (cell : Fin 512 → Fin 4 → Fin 128 → α) (Y : (⟨3, ![512, H, 128]⟩ : Shape).Idx → α) :
    (⟨3, ![512, H, 128]⟩ : Shape).Idx → α := fun x =>
  if (x 0).val < 32 * n ∧ (x 1).val / 4 = q then cell (x 0) ⟨(x 1).val % 4, Nat.mod_lt _ (by decide)⟩ (x 2) else Y x

/-- A block of scales with the first `n` runs of the lanes of word `j` replaced by `cell`. -/
def updScales {α : Type} (j n : ℕ) (cell : Fin 512 → Fin 4 → Fin 128 → α) (Y : S512x128.Idx → α) : S512x128.Idx → α := fun x =>
  if (x 0).val < 32 * n ∧ (x 1).val / 4 = j then cell (x 0) ⟨(x 1).val % 4, Nat.mod_lt _ (by decide)⟩ (x 1) else Y x

theorem updCodes_zero {α : Type} {H : ℕ} (q : ℕ) (cell : Fin 512 → Fin 4 → Fin 128 → α) (Y : (⟨3, ![512, H, 128]⟩ : Shape).Idx → α) :
    updCodes q 0 cell Y = Y := funext fun x => if_neg (by omega)

theorem updScales_zero {α : Type} (j : ℕ) (cell : Fin 512 → Fin 4 → Fin 128 → α) (Y : S512x128.Idx → α) :
    updScales j 0 cell Y = Y := funext fun x => if_neg (by omega)

/-- One more run of codes written. -/
theorem read_writes_codes {H : ℕ} {e : EltTy} {Val : EltTy → Type} (v : View sig .tc .vmem (⟨3, ![512, H, 128]⟩ : Shape) e) (f : v.ty.Contents Val)
    {q : ℕ} {k : Fin 16} {cell : Fin 512 → Fin 4 → Fin 128 → Val e} {Y : (⟨3, ![512, H, 128]⟩ : Shape).Idx → Val e}
    (hf : v.read Val f = updCodes q k.val cell Y)
    {off : Fin 3 → ℕ} (inb : ∀ a : Fin 3, off a + S32x4x128.size a ≤ (⟨3, ![512, H, 128]⟩ : Shape).size a) (w : S32x4x128.Idx → Val e)
    (hoff : off = ![32 * k.val, 4 * q, 0]) (hw : ∀ a h l, w (ix3 a h l) = cell (rowIx k a) h l) :
    v.read Val (v.writes Val f [(⟨Rect.unit (s := ⟨3, ![512, H, 128]⟩) off S32x4x128.size inb, w⟩ : View.Piece Val _ e)])
      = updCodes q (k.val + 1) cell Y := by
  funext x
  by_cases hx : (32 * k.val ≤ (x 0).val ∧ (x 0).val < 32 * k.val + 32) ∧ (x 1).val / 4 = q
  · have h2 : (x 2).val < 128 := (x 2).isLt
    rw [View.read_writes_cons_unit_of_mem v f inb w [] x
      (ix3 ⟨(x 0).val - 32 * k.val, by omega⟩ ⟨(x 1).val % 4, Nat.mod_lt _ (by decide)⟩ ⟨(x 2).val, h2⟩) hoff (by
        intro a; fin_cases a
        · show (x 0).val = 32 * k.val + ((x 0).val - 32 * k.val); omega
        · show (x 1).val = 4 * q + (x 1).val % 4; omega
        · show (x 2).val = 0 + (x 2).val; omega)]
    rw [show ∀ a h l, w (ix3 a h l) = cell (rowIx k a) h l from hw]
    unfold updCodes
    rw [if_pos ⟨by omega, hx.2⟩]
    congr 1
    exact Fin.ext (by show 32 * k.val + ((x 0).val - 32 * k.val) = (x 0).val; omega)
  · have hne : ∃ a : Fin 3, (x a).val < (![32 * k.val, 4 * q, 0] : Fin 3 → ℕ) a ∨ (![32 * k.val, 4 * q, 0] : Fin 3 → ℕ) a + S32x4x128.size a ≤ (x a).val := by
      by_cases h0 : 32 * k.val ≤ (x 0).val ∧ (x 0).val < 32 * k.val + 32
      · refine ⟨1, ?_⟩
        show (x 1).val < 4 * q ∨ 4 * q + 4 ≤ (x 1).val
        have := fun h => hx ⟨h0, h⟩
        omega
      · refine ⟨0, ?_⟩
        show (x 0).val < 32 * k.val ∨ 32 * k.val + 32 ≤ (x 0).val
        omega
    obtain ⟨a, ha⟩ := hne
    rw [View.read_writes_cons_unit_of_not_mem v f inb w [] x hoff a ha, View.writes_nil, hf]
    unfold updCodes
    refine if_congr ?_ rfl rfl
    constructor
    · rintro ⟨h, h'⟩; exact ⟨by omega, h'⟩
    · rintro ⟨h, h'⟩; exact ⟨by by_contra hc; exact hx ⟨⟨by omega, by omega⟩, h'⟩, h'⟩

/-- One more run of scales written: the piece holds the new scales in the lanes of word `j` and what the block held elsewhere. -/
theorem read_writes_scales {e : EltTy} {Val : EltTy → Type} (v : View sig .tc .vmem S512x128 e) (f : v.ty.Contents Val)
    {j : ℕ} {k : Fin 16} {cell : Fin 512 → Fin 4 → Fin 128 → Val e} {Y : S512x128.Idx → Val e}
    (hf : v.read Val f = updScales j k.val cell Y)
    {off : Fin 2 → ℕ} (inb : ∀ a : Fin 2, off a + S32x128.size a ≤ S512x128.size a) (w : S32x128.Idx → Val e)
    (hoff : off = ![32 * k.val, 0])
    (hw : ∀ a l, w (ix2 a l) = if l.val / 4 = j then cell (rowIx k a) ⟨l.val % 4, Nat.mod_lt _ (by decide)⟩ l else v.read Val f (ix2 (rowIx k a) l)) :
    v.read Val (v.writes Val f [(⟨Rect.unit (s := S512x128) off S32x128.size inb, w⟩ : View.Piece Val _ e)])
      = updScales j (k.val + 1) cell Y := by
  funext x
  have e1 : (x 1).val < 128 := (x 1).isLt
  by_cases h0 : 32 * k.val ≤ (x 0).val ∧ (x 0).val < 32 * k.val + 32
  · rw [View.read_writes_cons_unit_of_mem v f inb w [] x
      (ix2 ⟨(x 0).val - 32 * k.val, by omega⟩ ⟨(x 1).val, e1⟩) hoff (by
        intro a; fin_cases a
        · show (x 0).val = 32 * k.val + ((x 0).val - 32 * k.val); omega
        · show (x 1).val = 0 + (x 1).val; omega)]
    have hr : rowIx k ⟨(x 0).val - 32 * k.val, by omega⟩ = x 0 := Fin.ext (by show 32 * k.val + ((x 0).val - 32 * k.val) = (x 0).val; omega)
    have hxx : (ix2 (x 0) (x 1) : S512x128.Idx) = x := ix2_eta x
    rw [show ∀ a l, w (ix2 a l) = _ from hw, hr]
    show (if (x 1).val / 4 = j then cell (x 0) ⟨(x 1).val % 4, _⟩ (x 1) else v.read Val f (ix2 (x 0) (x 1))) = _
    rw [hxx, hf]
    unfold updScales
    by_cases h1 : (x 1).val / 4 = j
    · rw [if_pos h1, if_pos ⟨by omega, h1⟩]
    · rw [if_neg h1, if_neg (fun h => h1 h.2), if_neg (fun h => h1 h.2)]
  · rw [View.read_writes_cons_unit_of_not_mem v f inb w [] x hoff 0 (by
        show (x 0).val < 32 * k.val ∨ 32 * k.val + 32 ≤ (x 0).val; omega), View.writes_nil, hf]
    unfold updScales
    refine if_congr ?_ rfl rfl
    constructor
    · rintro ⟨h, h'⟩; exact ⟨by omega, h'⟩
    · rintro ⟨h, h'⟩; exact ⟨by omega, h'⟩

end Cert.Proof.KI

end
-- ==== Proof.Ideal.Pack.lean ====
module

public import proofs.«01_k».proof.Proof.Gen.KernelIdeal.Loops
public import proofs.«01_k».proof.Proof.Gen.KernelIdeal.Frame
public import Idealize.ShloMosaic.Lib.Tactic
public import Idealize.ShloMosaic.Lib.Pointwise.Tactic
public import Idealize.ShloMosaic.Lib.WordCmp
public import Idealize.ShloMosaic.Lib.Pointwise.Reshape
public import Idealize.ShloMosaic.Lib.Pipeline.Value
public import proofs.«01_k».proof.Proof.Ideal.Tile
public import Idealize.ShloMosaic.Lib.WritesUnit

@[expose] public section

set_option maxRecDepth 16384

noncomputable section

namespace Cert.Proof.KI

open Cert.KernelIdeal Cert.KernelIdeal.Gen
open Idealize.ShloMosaic
open Idealize.ShloMosaic.TcCoe Idealize.ShloMosaic.Tactic

variable {F : FTy → Type} [FloatOps F]

open Idealize.ShloMosaic.WordCmp (cmpi_eq_ofNat select_at)
/-- A load through a unit rectangle reads the view at the rectangle's offset plus the place asked for. -/
theorem readAt_unit {s : Shape} {e : EltTy} {Val : EltTy → Type} (v : View sig .tc .vmem s e) (f : v.ty.Contents Val)
    {off off' size : Fin s.rank → ℕ} (inb : ∀ a, off a + size a ≤ s.size a) (hoff : off = off')
    (x : (⟨s.rank, size⟩ : Shape).Idx) (y : s.Idx) (hy : ∀ a, (y a).val = off' a + (x a).val) :
    v.readAt Val (Rect.unit off size inb).toLoadRect f x = v.read Val f y := by
  subst hoff
  rw [View.readAt_apply]
  congr 1
  funext a
  refine Fin.ext ?_
  show off a + 1 * (x a).val = (y a).val
  rw [hy a, Nat.one_mul]

theorem readAt_chunk {e : EltTy} {Val : EltTy → Type} (v : View sig .tc .vmem S512x128 e) (f : v.ty.Contents Val)
    {off : Fin 2 → ℕ} (inb : ∀ a : Fin 2, off a + S32x128.size a ≤ S512x128.size a) (k : Fin 16) (hoff : off = ![32 * k.val, 0]) :
    v.readAt Val (Rect.unit (s := S512x128) off S32x128.size inb).toLoadRect f = chunk (v.read Val f) k := by
  funext x
  refine readAt_unit v f inb hoff x (ix2 (rowIx k (x 0)) (x 1)) fun a => ?_
  fin_cases a
  · rfl
  · show (x 1).val = 0 + (x 1).val; omega

theorem readAt_acc {e : EltTy} {Val : EltTy → Type} (v : View sig .tc .vmem S512x512 e) (f : v.ty.Contents Val)
    {off : Fin 2 → ℕ} (inb : ∀ a : Fin 2, off a + S32x128.size a ≤ S512x512.size a) (k : Fin 16) (h : Fin 4) (hoff : off = ![32 * k.val, 128 * h.val]) :
    v.readAt Val (Rect.unit (s := S512x512) off S32x128.size inb).toLoadRect f = accChunk (v.read Val f) k h := by
  funext x
  refine readAt_unit v f inb hoff x (ix2 (rowIx k (x 0)) (laneIx h (x 1))) fun a => ?_
  fin_cases a <;> rfl

theorem readAt_ws {e : EltTy} {Val : EltTy → Type} (v : View sig .tc .vmem S1x512 e) (f : v.ty.Contents Val)
    {off : Fin 2 → ℕ} (inb : ∀ a : Fin 2, off a + S1x128.size a ≤ S1x512.size a) (h : Fin 4) (hoff : off = ![0, 128 * h.val]) :
    v.readAt Val (Rect.unit (s := S1x512) off S1x128.size inb).toLoadRect f = wsChunk (v.read Val f) h := by
  funext x
  refine readAt_unit v f inb hoff x (ix2 0 (laneIx h (x 1))) fun a => ?_
  fin_cases a
  · show 0 = 0 + (x 0).val
    have : (x 0).val < 1 := (x 0).isLt
    omega
  · rfl

/-! ## The four heads' scales merged into the rows of scales -/

/-- The rows of scales with lane `4·w+h` replaced by head `h`'s scales. -/
def scSel (w : BitVec 32) (s0 s1 s2 s3 old : FVec F S32x128 .f32) : FVec F S32x128 .f32 :=
  have v22 : IVec S32x128 32 := iota .tc S32x128 32 [1] iota_S32x128_d1_w32
  select (cmpi .eq v22 (broadcast S32x128 (Scalar.addi (Scalar.muli w 4#32) 3#32))) s3
    (select (cmpi .eq v22 (broadcast S32x128 (Scalar.addi (Scalar.muli w 4#32) 2#32))) s2
      (select (cmpi .eq v22 (broadcast S32x128 (Scalar.addi (Scalar.muli w 4#32) 1#32))) s1
        (select (cmpi .eq v22 (broadcast S32x128 (Scalar.addi (Scalar.muli w 4#32) 0#32))) s0 old)))

theorem lane_cond (j : ℕ) (hj : j < 28) (h : ℕ) (hh : h < 4) (a : Fin 32) (l : Fin 128) :
    cmpi .eq (iota .tc S32x128 32 [1] iota_S32x128_d1_w32) (broadcast S32x128 (Scalar.addi (Scalar.muli (BitVec.ofNat 32 j) 4#32) (BitVec.ofNat 32 h))) (ix2 a l)
      = if l.val = 4 * j + h then 1#1 else 0#1 := by
  have e : Scalar.addi (Scalar.muli (BitVec.ofNat 32 j) 4#32) (BitVec.ofNat 32 h) = BitVec.ofNat 32 (4 * j + h) := by
    apply BitVec.eq_of_toNat_eq
    show ((BitVec.ofNat 32 j * 4#32) + BitVec.ofNat 32 h).toNat = _
    simp only [BitVec.toNat_add, BitVec.toNat_mul, BitVec.toNat_ofNat]
    omega
  rw [e]
  have hi : iota .tc S32x128 32 [1] iota_S32x128_d1_w32 (ix2 a l) = BitVec.ofNat 32 l.val := by
    pointwise
  show IntOp.cmpi .eq (iota .tc S32x128 32 [1] iota_S32x128_d1_w32 (ix2 a l)) (BitVec.ofNat 32 (4 * j + h)) = _
  rw [hi, cmpi_eq_ofNat (by have := l.isLt; omega) (by omega)]
  by_cases h : l.val = 4 * j + h
  · rw [if_pos h, decide_eq_true h]; rfl
  · rw [if_neg h, decide_eq_false h]; rfl

theorem scSel_apply (j : ℕ) (hj : j < 28) (s : Fin 4 → FVec F S32x128 .f32) (old : FVec F S32x128 .f32) (a : Fin 32) (l : Fin 128) :
    scSel (BitVec.ofNat 32 j) (s 0) (s 1) (s 2) (s 3) old (ix2 a l)
      = if l.val / 4 = j then s ⟨l.val % 4, Nat.mod_lt _ (by decide)⟩ (ix2 a l) else old (ix2 a l) := by
  unfold scSel
  have c3 := lane_cond j hj 3 (by decide) a l
  have c2 := lane_cond j hj 2 (by decide) a l
  have c1 := lane_cond j hj 1 (by decide) a l
  have c0 := lane_cond j hj 0 (by decide) a l
  dsimp only
  rw [select_at, select_at, select_at, select_at, c3, c2, c1, c0]
  have sel : ∀ {α : Type} (p : Prop) [Decidable p] (x y : α), Scalar.select (if p then 1#1 else 0#1) x y = if p then x else y := by
    intro α p _ x y
    by_cases h : p
    · rw [if_pos h, if_pos h]; rfl
    · rw [if_neg h, if_neg h]; rfl
  rw [sel, sel, sel, sel]
  have key : ∀ h : Fin 4, l.val = 4 * j + h.val → (⟨l.val % 4, Nat.mod_lt _ (by decide)⟩ : Fin 4) = h := fun h hl => Fin.ext (by show l.val % 4 = h.val; omega)
  by_cases h3 : l.val = 4 * j + 3
  · rw [if_pos h3, if_pos (by omega), key 3 h3]
  rw [if_neg h3]
  by_cases h2 : l.val = 4 * j + 2
  · rw [if_pos h2, if_pos (by omega), key 2 h2]
  rw [if_neg h2]
  by_cases h1 : l.val = 4 * j + 1
  · rw [if_pos h1, if_pos (by omega), key 1 h1]
  rw [if_neg h1]
  by_cases h0 : l.val = 4 * j + 0
  · rw [if_pos h0, if_pos (by omega), key 0 h0]
  rw [if_neg h0, if_neg (by omega)]

/-! ## The four heads' codes interleaved row by row -/

/-- The four strided stores, the newest first: head `h`'s row `a` at row `4·a+h`. -/
def packPieces (w0 w1 w2 w3 : FVec F S32x128 .f32) : List (View.Piece (Elt F) S128x128 .f32) :=
  [⟨⟨(⟨![3, 0], S32x128.size, ![4, 1], inb_S128x128_S32x128_3_0_s_4_1⟩ : LoadRect S128x128), spos_4_1⟩, shapeCast S32x128 w3 shapeCasts_S32x128_S32x128⟩,
   ⟨⟨(⟨![2, 0], S32x128.size, ![4, 1], inb_S128x128_S32x128_2_0_s_4_1⟩ : LoadRect S128x128), spos_4_1⟩, shapeCast S32x128 w2 shapeCasts_S32x128_S32x128⟩,
   ⟨⟨(⟨![1, 0], S32x128.size, ![4, 1], inb_S128x128_S32x128_1_0_s_4_1⟩ : LoadRect S128x128), spos_4_1⟩, shapeCast S32x128 w1 shapeCasts_S32x128_S32x128⟩,
   ⟨⟨(⟨![0, 0], S32x128.size, ![4, 1], inb_S128x128_S32x128_0_0_s_4_1⟩ : LoadRect S128x128), spos_4_1⟩, shapeCast S32x128 w0 shapeCasts_S32x128_S32x128⟩]

/-- The rows read back whole, narrowed, as 32 rows of four heads. -/
def packed (v : View sig .tc .vmem S128x128 .f32) (f : v.ty.Contents (Elt F)) (w0 w1 w2 w3 : FVec F S32x128 .f32) : FVec F S32x4x128 .fp8e4m3 :=
  have x : FVec F S128x128 .f32 := v.readAt (Elt F) (Rect.unit (s := S128x128) ![0, 0] S128x128.size inb_S128x128_S128x128_0_0).toLoadRect (v.writes (Elt F) f (packPieces w0 w1 w2 w3))
  shapeCast S32x4x128 (truncf .fp8e4m3 x bitsLt_fp8e4m3_f32 : FVec F S128x128 .fp8e4m3) shapeCasts_S128x128_S32x4x128

theorem strided_hit {Val : EltTy → Type} {e : EltTy} (v : View sig .tc .vmem S128x128 e) (f : v.ty.Contents Val) {h : ℕ}
    (inb : ∀ a : Fin 2, S32x128.size a = 0 ∨ (![h, 0] : Fin 2 → ℕ) a + (![4, 1] : Fin 2 → ℕ) a * (S32x128.size a - 1) < S128x128.size a)
    (sp : ∀ a : Fin 2, 0 < (![4, 1] : Fin 2 → ℕ) a) (w : S32x128.Idx → Val e) (L : List (View.Piece Val S128x128 e))
    (a : Fin 32) (l : Fin 128) (r : Fin 128) (hr : r.val = h + 4 * a.val) :
    v.read Val (v.writes Val f ((⟨⟨(⟨![h, 0], S32x128.size, ![4, 1], inb⟩ : LoadRect S128x128), sp⟩, w⟩ : View.Piece Val S128x128 e) :: L)) (ix2 r l) = w (ix2 a l) := by
  have e : ((⟨(⟨![h, 0], S32x128.size, ![4, 1], inb⟩ : LoadRect S128x128), sp⟩ : Rect S128x128).emb (ix2 a l) : S128x128.Idx) = ix2 r l := by
    funext b
    refine Fin.ext ?_
    fin_cases b
    · show h + 4 * a.val = r.val; omega
    · show 0 + 1 * l.val = l.val; omega
  have := View.read_writes_cons_emb (Val := Val) v f (⟨(⟨![h, 0], S32x128.size, ![4, 1], inb⟩ : LoadRect S128x128), sp⟩ : Rect S128x128) w L (ix2 a l)
  rw [e] at this
  exact this

theorem strided_miss {Val : EltTy → Type} {e : EltTy} (v : View sig .tc .vmem S128x128 e) (f : v.ty.Contents Val) {h : ℕ}
    (inb : ∀ a : Fin 2, S32x128.size a = 0 ∨ (![h, 0] : Fin 2 → ℕ) a + (![4, 1] : Fin 2 → ℕ) a * (S32x128.size a - 1) < S128x128.size a)
    (sp : ∀ a : Fin 2, 0 < (![4, 1] : Fin 2 → ℕ) a) (w : S32x128.Idx → Val e) (L : List (View.Piece Val S128x128 e))
    (l : Fin 128) (r : Fin 128) (hr : r.val % 4 ≠ h % 4) :
    v.read Val (v.writes Val f ((⟨⟨(⟨![h, 0], S32x128.size, ![4, 1], inb⟩ : LoadRect S128x128), sp⟩, w⟩ : View.Piece Val S128x128 e) :: L)) (ix2 r l) = v.read Val (v.writes Val f L) (ix2 r l) := by
  rw [View.writes_cons]
  refine View.read_slice_write_of_not_mem _ _ _ _ fun hm => ?_
  obtain ⟨x, -, hx⟩ := Finset.mem_map.mp hm
  have h0 : h + 4 * (x 0).val = r.val := congrArg (fun z : S128x128.Idx => (z 0).val) hx
  omega

theorem packed_apply (v : View sig .tc .vmem S128x128 .f32) (f : v.ty.Contents (Elt F)) (w : Fin 4 → FVec F S32x128 .f32) (a : Fin 32) (h : Fin 4) (l : Fin 128) :
    packed v f (w 0) (w 1) (w 2) (w 3) (ix3 a h l) = (truncf .fp8e4m3 (w h) bitsLt_fp8e4m3_f32 : FVec F S32x128 .fp8e4m3) (ix2 a l) := by
  have hs : ∀ u : FVec F S32x128 .f32, shapeCast S32x128 u shapeCasts_S32x128_S32x128 = u := fun u => funext fun x => shapeCast_apply u _ x x rfl
  unfold packed
  dsimp only
  rw [shapeCast_apply _ _ (ix3 a h l) (ix2 ⟨4 * a.val + h.val, by omega⟩ l) (by
    rw [rowMajor_val2 _ 128 rfl, rowMajor_val3 _ 512 128 rfl rfl]
    show (4 * a.val + h.val) * 128 + l.val = a.val * 512 + h.val * 128 + l.val
    omega)]
  rw [truncf_apply, truncf_apply]
  congr 1
  rw [readAt_unit v _ _ rfl _ (ix2 (⟨4 * a.val + h.val, by omega⟩ : Fin 128) l) (by
    intro b; fin_cases b
    · show 4 * a.val + h.val = 0 + (4 * a.val + h.val); omega
    · show l.val = 0 + l.val; omega)]
  unfold packPieces
  rw [hs, hs, hs, hs]
  fin_cases h
  · rw [strided_miss _ _ _ _ _ _ _ _ (by show (4 * a.val + 0) % 4 ≠ 3 % 4; omega), strided_miss _ _ _ _ _ _ _ _ (by show (4 * a.val + 0) % 4 ≠ 2 % 4; omega),
      strided_miss _ _ _ _ _ _ _ _ (by show (4 * a.val + 0) % 4 ≠ 1 % 4; omega)]
    exact strided_hit _ _ _ _ _ _ a l _ (by show 4 * a.val + 0 = 0 + 4 * a.val; omega)
  · rw [strided_miss _ _ _ _ _ _ _ _ (by show (4 * a.val + 1) % 4 ≠ 3 % 4; omega), strided_miss _ _ _ _ _ _ _ _ (by show (4 * a.val + 1) % 4 ≠ 2 % 4; omega)]
    exact strided_hit _ _ _ _ _ _ a l _ (by show 4 * a.val + 1 = 1 + 4 * a.val; omega)
  · rw [strided_miss _ _ _ _ _ _ _ _ (by show (4 * a.val + 2) % 4 ≠ 3 % 4; omega)]
    exact strided_hit _ _ _ _ _ _ a l _ (by show 4 * a.val + 2 = 2 + 4 * a.val; omega)
  · exact strided_hit _ _ _ _ _ _ a l _ (by show 4 * a.val + 3 = 3 + 4 * a.val; omega)

end Cert.Proof.KI

end
-- ==== Proof.Ideal.Cols.lean ====
module

public import proofs.«01_k».proof.Proof.Gen.KernelIdeal.Loops
public import proofs.«01_k».proof.Proof.Gen.KernelIdeal.Frame
public import Idealize.ShloMosaic.Lib.Tactic
public import proofs.«01_k».proof.Proof.Ideal.Pack

@[expose] public section

set_option maxRecDepth 16384

noncomputable section

namespace Cert.Proof.KI

open Cert.KernelIdeal Cert.KernelIdeal.Gen
open Idealize.ShloMosaic
open Idealize.ShloMosaic.TcCoe Idealize.ShloMosaic.Tactic

variable {F : FTy → Type} [FloatOps F]

/-! ## Which loop runs at which column, and where it stores -/

/-- A grid point at column `j`. -/
def atCol (j : Fin 28) : grid0.Coords := fun a => match a with
  | ⟨0, _⟩ => (0 : Fin 18)
  | ⟨1, _⟩ => j

theorem cond1_col : ∀ j : Fin 28, k0_cond1 (atCol j) = 1#1 ↔ j.val < 24 := by decide +kernel
theorem cond2_col : ∀ j : Fin 28, k0_cond2 (atCol j) = 1#1 ↔ 24 ≤ j.val ∧ j.val < 26 := by decide +kernel
theorem cond3_col : ∀ j : Fin 28, k0_cond3 (atCol j) = 1#1 ↔ 26 ≤ j.val := by decide +kernel
theorem off12_col : ∀ (j : Fin 28) (k : Fin k0_t2_loop.trips), 24 ≤ j.val → k0_off12 (atCol j) k = ![32 * k.val, 4 * ((j.val - 24) % 2), 0] := by decide +kernel
theorem off18_col : ∀ (j : Fin 28) (k : Fin k0_t3_loop.trips), 26 ≤ j.val → k0_off18 (atCol j) k = ![32 * k.val, 4 * ((j.val - 26) % 2), 0] := by decide +kernel

/-- The query heads' loop runs in the first 24 columns, -/
theorem cond1_iff (i : grid0.Coords) : k0_cond1 i = 1#1 ↔ (i 1).val < 24 := cond1_col (i 1)
/-- the key heads' in the next two, -/
theorem cond2_iff (i : grid0.Coords) : k0_cond2 i = 1#1 ↔ 24 ≤ (i 1).val ∧ (i 1).val < 26 := cond2_col (i 1)
/-- the value heads' in the last two. -/
theorem cond3_iff (i : grid0.Coords) : k0_cond3 i = 1#1 ↔ 26 ≤ (i 1).val := cond3_col (i 1)

/-- The word of four heads that a column's codes go to, within the array they go to. -/
def word1 (i : grid0.Coords) : ℕ := (i 1).val % 8
def word2 (i : grid0.Coords) : ℕ := ((i 1).val - 24) % 2
def word3 (i : grid0.Coords) : ℕ := ((i 1).val - 26) % 2

theorem off1_word (i : grid0.Coords) (h : k0_cond1 i = 1#1) (k : Fin k0_t1_loop.trips) : k0_off6 i k = ![32 * k.val, 4 * word1 i, 0] := k0_off6_eq i k
theorem off2_word (i : grid0.Coords) (h : k0_cond2 i = 1#1) (k : Fin k0_t2_loop.trips) : k0_off12 i k = ![32 * k.val, 4 * word2 i, 0] :=
  off12_col (i 1) k ((cond2_iff i).mp h).1
theorem off3_word (i : grid0.Coords) (h : k0_cond3 i = 1#1) (k : Fin k0_t3_loop.trips) : k0_off18 i k = ![32 * k.val, 4 * word3 i, 0] :=
  off18_col (i 1) k ((cond3_iff i).mp h)

theorem trips1 : k0_t1_loop.trips = 16 := by decide +kernel
theorem trips2 : k0_t2_loop.trips = 16 := by decide +kernel
theorem trips3 : k0_t3_loop.trips = 16 := by decide +kernel

theorem runOf_rowIx (k : Fin 16) (a : Fin 32) : runOf (rowIx k a) = k := Fin.ext (by show (32 * k.val + a.val) / 32 = k.val; omega)
theorem inRun_rowIx (k : Fin 16) (a : Fin 32) : inRun (rowIx k a) = a := Fin.ext (by show (32 * k.val + a.val) % 32 = a.val; omega)

end Cert.Proof.KI

end
-- ==== Proof.Ideal.Held.lean ====
module

public import proofs.«01_k».proof.Proof.Gen.KernelIdeal.Loops
public import proofs.«01_k».proof.Proof.Gen.KernelIdeal.Frame
public import Idealize.ShloMosaic.Lib.Tactic
public import proofs.«01_k».proof.Proof.Ideal.Cols

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev 𝒱₀ : Variants := Variants.none

/-- A whole memref held at the contents `f`. -/
abbrev at_ (c : Dev nD) {s : Shape} {e : EltTy} (M : Memref sig .tc .vmem s e) (f : Buf (Elt F) (M.view.loc (c : Thread nD τ))) : sProp 𝕄 :=
  M.view.loc (c : Thread nD τ) ↦[M.view.set]{fullShare} f

end Cert.Proof.KI

end
-- ==== Proof.Ideal.T1.lean ====
module

public import proofs.«01_k».proof.Proof.Gen.KernelIdeal.Loops
public import proofs.«01_k».proof.Proof.Gen.KernelIdeal.Frame
public import Idealize.ShloMosaic.Lib.Tactic
public import proofs.«01_k».proof.Proof.Ideal.Held

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S512x12288 .fp8e4m3) (harg2 : arg2.IsWhole) (arg3 : Memref sig .tc .vmem S12288x512 .fp8e4m3) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x32x128 .fp8e4m3) (harg8 : arg8.IsWhole) (arg9 : Memref sig .tc .vmem S512x8x128 .fp8e4m3) (harg9 : arg9.IsWhole) (arg10 : Memref sig .tc .vmem S512x8x128 .fp8e4m3) (harg10 : arg10.IsWhole) (arg11 : Memref sig .tc .vmem S512x128 .f32) (harg11 : arg11.IsWhole) (arg12 : Memref sig .tc .vmem S512x512 .f32) (harg12 : arg12.IsWhole) (arg13 : Memref sig .tc .vmem S128x128 .f32) (harg13 : arg13.IsWhole) (arg1 : BitVec 32)

/-- One trip of loop 1 from any contents: it runs and leaves the lists of stores named in it. -/
@[irreducible] def trip1 (k0_h1 : k0_cond1 i = 1#1) (k : Fin k0_t1_loop.trips)
    (X4 : Buf (Elt F) (arg4.view.loc (c : Thread nD τ))) (X5 : Buf (Elt F) (arg5.view.loc (c : Thread nD τ)))
 (X6 : Buf (Elt F) (arg6.view.loc (c : Thread nD τ))) (X7 : Buf (Elt F) (arg7.view.loc (c : Thread nD τ)))
    (X12 : Buf (Elt F) (arg12.view.loc (c : Thread nD τ))) (f8 : Buf (Elt F) (arg8.view.loc (c : Thread nD τ)))
    (f11 : Buf (Elt F) (arg11.view.loc (c : Thread nD τ))) (f13 : Buf (Elt F) (arg13.view.loc (c : Thread nD τ))) :
    Σ' (L8 : List (View.Piece (Elt F) S512x32x128 .fp8e4m3)) (L11 : List (View.Piece (Elt F) S512x128 .f32)),
      { L13 : List (View.Piece (Elt F) S128x128 .f32) //
      (iprop(at_ c arg4 X4 ∗ at_ c arg5 X5 ∗ at_ c arg6 X6 ∗ at_ c arg7 X7 ∗ at_ c arg12 X12 ∗ at_ c arg8 f8 ∗ at_ c arg11 f11 ∗ at_ c arg13 f13) : sProp 𝕄)
      ⊢ wp frame (wpE (defs₀ (F := F)) 𝒱₀ (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg1 k0_h1 k PUnit.unit)
        (fun _ => iprop(at_ c arg4 X4 ∗ at_ c arg5 X5 ∗ at_ c arg6 X6 ∗ at_ c arg7 X7 ∗ at_ c arg12 X12 ∗ at_ c arg8 (arg8.view.writes (Elt F) f8 L8)
          ∗ at_ c arg11 (arg11.view.writes (Elt F) f11 L11) ∗ at_ c arg13 (arg13.view.writes (Elt F) f13 L13))) } := by
  refine ⟨?_, ?_, ?_, ?run⟩
  case run =>
    unfold k0_t1_body
    iintro ⟨H4, H5, H6, H7, H12, H8, H11, H13⟩
    sl_exec
    sl_step
    sl_close

/-- What head `h` of the word quantises in trip `k`, over the loads made. -/
def y1 (k0_h1 : k0_cond1 i = 1#1) (k : Fin k0_t1_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))
    (X12 : Buf (Elt F) (arg12.view.loc (c : Thread nD τ))) : Fin 4 → FVec F S32x128 .f32 := ![
  rot (lin (arg12.view.readAt (Elt F) (Rect.unit (s := S512x512) (k0_off2 k) S32x128.size (k0_off2_inb i k k0_h1)).toLoadRect X12) (arg5.view.readAt (Elt F) (Rect.unit (s := S512x128) (k0_off1 k) S32x128.size (k0_off1_inb i k k0_h1)).toLoadRect X5) (arg4.view.readAt (Elt F) (Rect.unit (s := S1x512) ![0, 0] S1x128.size inb_S1x512_S1x128_0_0).toLoadRect X4)) (arg6.view.readAt (Elt F) (Rect.unit (s := S512x128) (k0_off1 k) S32x128.size (k0_off1_inb i k k0_h1)).toLoadRect X6) (arg7.view.readAt (Elt F) (Rect.unit (s := S512x128) (k0_off1 k) S32x128.size (k0_off1_inb i k k0_h1)).toLoadRect X7),
  rot (lin (arg12.view.readAt (Elt F) (Rect.unit (s := S512x512) (k0_off3 k) S32x128.size (k0_off3_inb i k k0_h1)).toLoadRect X12) (arg5.view.readAt (Elt F) (Rect.unit (s := S512x128) (k0_off1 k) S32x128.size (k0_off1_inb i k k0_h1)).toLoadRect X5) (arg4.view.readAt (Elt F) (Rect.unit (s := S1x512) ![0, 128] S1x128.size inb_S1x512_S1x128_0_128).toLoadRect X4)) (arg6.view.readAt (Elt F) (Rect.unit (s := S512x128) (k0_off1 k) S32x128.size (k0_off1_inb i k k0_h1)).toLoadRect X6) (arg7.view.readAt (Elt F) (Rect.unit (s := S512x128) (k0_off1 k) S32x128.size (k0_off1_inb i k k0_h1)).toLoadRect X7),
  rot (lin (arg12.view.readAt (Elt F) (Rect.unit (s := S512x512) (k0_off4 k) S32x128.size (k0_off4_inb i k k0_h1)).toLoadRect X12) (arg5.view.readAt (Elt F) (Rect.unit (s := S512x128) (k0_off1 k) S32x128.size (k0_off1_inb i k k0_h1)).toLoadRect X5) (arg4.view.readAt (Elt F) (Rect.unit (s := S1x512) ![0, 256] S1x128.size inb_S1x512_S1x128_0_256).toLoadRect X4)) (arg6.view.readAt (Elt F) (Rect.unit (s := S512x128) (k0_off1 k) S32x128.size (k0_off1_inb i k k0_h1)).toLoadRect X6) (arg7.view.readAt (Elt F) (Rect.unit (s := S512x128) (k0_off1 k) S32x128.size (k0_off1_inb i k k0_h1)).toLoadRect X7),
  rot (lin (arg12.view.readAt (Elt F) (Rect.unit (s := S512x512) (k0_off5 k) S32x128.size (k0_off5_inb i k k0_h1)).toLoadRect X12) (arg5.view.readAt (Elt F) (Rect.unit (s := S512x128) (k0_off1 k) S32x128.size (k0_off1_inb i k k0_h1)).toLoadRect X5) (arg4.view.readAt (Elt F) (Rect.unit (s := S1x512) ![0, 384] S1x128.size inb_S1x512_S1x128_0_384).toLoadRect X4)) (arg6.view.readAt (Elt F) (Rect.unit (s := S512x128) (k0_off1 k) S32x128.size (k0_off1_inb i k k0_h1)).toLoadRect X6) (arg7.view.readAt (Elt F) (Rect.unit (s := S512x128) (k0_off1 k) S32x128.size (k0_off1_inb i k k0_h1)).toLoadRect X7)]

theorem trip1_codes (k0_h1 : k0_cond1 i = 1#1) (k : Fin k0_t1_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))
    (X12 : Buf (Elt F) (arg12.view.loc (c : Thread nD τ))) (f8 : Buf (Elt F) (arg8.view.loc (c : Thread nD τ)))
    (f11 : Buf (Elt F) (arg11.view.loc (c : Thread nD τ))) (f13 : Buf (Elt F) (arg13.view.loc (c : Thread nD τ))) :
    (trip1 c i arg2 harg2 arg3 harg3 arg4 harg4 arg5 harg5 arg6 harg6 arg7 harg7 arg8 harg8 arg9 harg9 arg10 harg10 arg11 harg11 arg12 harg12 arg13 harg13 arg1 k0_h1 k X4 X5 X6 X7 X12 f8 f11 f13).1 = [⟨Rect.unit (s := S512x32x128) (k0_off6 i k) S32x4x128.size (k0_off6_inb i k k0_h1),
      packed arg13.view f13 (headCode (y1 c i arg4 arg5 arg6 arg7 arg12 k0_h1 k X4 X5 X6 X7 X12 0)) (headCode (y1 c i arg4 arg5 arg6 arg7 arg12 k0_h1 k X4 X5 X6 X7 X12 1)) (headCode (y1 c i arg4 arg5 arg6 arg7 arg12 k0_h1 k X4 X5 X6 X7 X12 2)) (headCode (y1 c i arg4 arg5 arg6 arg7 arg12 k0_h1 k X4 X5 X6 X7 X12 3))⟩] := by
  unfold trip1; rfl

theorem trip1_scales (k0_h1 : k0_cond1 i = 1#1) (k : Fin k0_t1_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))
    (X12 : Buf (Elt F) (arg12.view.loc (c : Thread nD τ))) (f8 : Buf (Elt F) (arg8.view.loc (c : Thread nD τ)))
    (f11 : Buf (Elt F) (arg11.view.loc (c : Thread nD τ))) (f13 : Buf (Elt F) (arg13.view.loc (c : Thread nD τ))) :
    (trip1 c i arg2 harg2 arg3 harg3 arg4 harg4 arg5 harg5 arg6 harg6 arg7 harg7 arg8 harg8 arg9 harg9 arg10 harg10 arg11 harg11 arg12 harg12 arg13 harg13 arg1 k0_h1 k X4 X5 X6 X7 X12 f8 f11 f13).2.1 = [⟨Rect.unit (s := S512x128) (k0_off1 k) S32x128.size (k0_off1_inb i k k0_h1),
      scSel arg1 (headScale (y1 c i arg4 arg5 arg6 arg7 arg12 k0_h1 k X4 X5 X6 X7 X12 0)) (headScale (y1 c i arg4 arg5 arg6 arg7 arg12 k0_h1 k X4 X5 X6 X7 X12 1)) (headScale (y1 c i arg4 arg5 arg6 arg7 arg12 k0_h1 k X4 X5 X6 X7 X12 2)) (headScale (y1 c i arg4 arg5 arg6 arg7 arg12 k0_h1 k X4 X5 X6 X7 X12 3))
        (shapeCast S32x128 (arg11.view.readAt (Elt F) (Rect.unit (s := S512x128) (k0_off1 k) S32x128.size (k0_off1_inb i k k0_h1)).toLoadRect f11) shapeCasts_S32x128_S32x128)⟩] := by
  unfold trip1; rfl

theorem y1_eq (k0_h1 : k0_cond1 i = 1#1) (k : Fin k0_t1_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (h : Fin 4) :
    y1 c i arg4 arg5 arg6 arg7 arg12 k0_h1 k X4 X5 X6 X7 X12 h = (yQ (arg12.view.read (Elt F) X12) (arg4.view.read (Elt F) X4) (arg5.view.read (Elt F) X5) (arg6.view.read (Elt F) X6) (arg7.view.read (Elt F) X7)) (⟨k.val, lt_of_lt_of_eq k.isLt trips1⟩ : Fin 16) h := by
  fin_cases h
  · have e := congr (congr (congrArg rot (congr (congr (congrArg lin (readAt_acc arg12.view X12 (k0_off2_inb i k k0_h1) (⟨k.val, lt_of_lt_of_eq k.isLt trips1⟩ : Fin 16) 0 (k0_off2_eq k))) (readAt_chunk arg5.view X5 (k0_off1_inb i k k0_h1) (⟨k.val, lt_of_lt_of_eq k.isLt trips1⟩ : Fin 16) (k0_off1_eq k))) (readAt_ws arg4.view X4 inb_S1x512_S1x128_0_0 0 rfl))) (readAt_chunk arg6.view X6 (k0_off1_inb i k k0_h1) (⟨k.val, lt_of_lt_of_eq k.isLt trips1⟩ : Fin 16) (k0_off1_eq k))) (readAt_chunk arg7.view X7 (k0_off1_inb i k k0_h1) (⟨k.val, lt_of_lt_of_eq k.isLt trips1⟩ : Fin 16) (k0_off1_eq k))
    exact e
  · have e := congr (congr (congrArg rot (congr (congr (congrArg lin (readAt_acc arg12.view X12 (k0_off3_inb i k k0_h1) (⟨k.val, lt_of_lt_of_eq k.isLt trips1⟩ : Fin 16) 1 (k0_off3_eq k))) (readAt_chunk arg5.view X5 (k0_off1_inb i k k0_h1) (⟨k.val, lt_of_lt_of_eq k.isLt trips1⟩ : Fin 16) (k0_off1_eq k))) (readAt_ws arg4.view X4 inb_S1x512_S1x128_0_128 1 rfl))) (readAt_chunk arg6.view X6 (k0_off1_inb i k k0_h1) (⟨k.val, lt_of_lt_of_eq k.isLt trips1⟩ : Fin 16) (k0_off1_eq k))) (readAt_chunk arg7.view X7 (k0_off1_inb i k k0_h1) (⟨k.val, lt_of_lt_of_eq k.isLt trips1⟩ : Fin 16) (k0_off1_eq k))
    exact e
  · have e := congr (congr (congrArg rot (congr (congr (congrArg lin (readAt_acc arg12.view X12 (k0_off4_inb i k k0_h1) (⟨k.val, lt_of_lt_of_eq k.isLt trips1⟩ : Fin 16) 2 (k0_off4_eq k))) (readAt_chunk arg5.view X5 (k0_off1_inb i k k0_h1) (⟨k.val, lt_of_lt_of_eq k.isLt trips1⟩ : Fin 16) (k0_off1_eq k))) (readAt_ws arg4.view X4 inb_S1x512_S1x128_0_256 2 rfl))) (readAt_chunk arg6.view X6 (k0_off1_inb i k k0_h1) (⟨k.val, lt_of_lt_of_eq k.isLt trips1⟩ : Fin 16) (k0_off1_eq k))) (readAt_chunk arg7.view X7 (k0_off1_inb i k k0_h1) (⟨k.val, lt_of_lt_of_eq k.isLt trips1⟩ : Fin 16) (k0_off1_eq k))
    exact e
  · have e := congr (congr (congrArg rot (congr (congr (congrArg lin (readAt_acc arg12.view X12 (k0_off5_inb i k k0_h1) (⟨k.val, lt_of_lt_of_eq k.isLt trips1⟩ : Fin 16) 3 (k0_off5_eq k))) (readAt_chunk arg5.view X5 (k0_off1_inb i k k0_h1) (⟨k.val, lt_of_lt_of_eq k.isLt trips1⟩ : Fin 16) (k0_off1_eq k))) (readAt_ws arg4.view X4 inb_S1x512_S1x128_0_384 3 rfl))) (readAt_chunk arg6.view X6 (k0_off1_inb i k k0_h1) (⟨k.val, lt_of_lt_of_eq k.isLt trips1⟩ : Fin 16) (k0_off1_eq k))) (readAt_chunk arg7.view X7 (k0_off1_inb i k k0_h1) (⟨k.val, lt_of_lt_of_eq k.isLt trips1⟩ : Fin 16) (k0_off1_eq k))
    exact e

/-- A trip's store of codes extends the runs written by one. -/
theorem trip1_read (k0_h1 : k0_cond1 i = 1#1) (k : Fin k0_t1_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (f8 : Buf (Elt F) (arg8.view.loc (c : Thread nD τ)))
    (f11 : Buf (Elt F) (arg11.view.loc (c : Thread nD τ))) (f13 : Buf (Elt F) (arg13.view.loc (c : Thread nD τ)))
    (Y : S512x32x128.Idx → F .fp8e4m3)
    (hf : arg8.view.read (Elt F) f8 = updCodes (word1 i) k.val (codeCell (yQ (arg12.view.read (Elt F) X12) (arg4.view.read (Elt F) X4) (arg5.view.read (Elt F) X5) (arg6.view.read (Elt F) X6) (arg7.view.read (Elt F) X7))) Y) :
    arg8.view.read (Elt F) (arg8.view.writes (Elt F) f8 (trip1 c i arg2 harg2 arg3 harg3 arg4 harg4 arg5 harg5 arg6 harg6 arg7 harg7 arg8 harg8 arg9 harg9 arg10 harg10 arg11 harg11 arg12 harg12 arg13 harg13 arg1 k0_h1 k X4 X5 X6 X7 X12 f8 f11 f13).1) = updCodes (word1 i) (k.val + 1) (codeCell (yQ (arg12.view.read (Elt F) X12) (arg4.view.read (Elt F) X4) (arg5.view.read (Elt F) X5) (arg6.view.read (Elt F) X6) (arg7.view.read (Elt F) X7))) Y := by
  rw [trip1_codes]
  refine read_writes_codes (k := (⟨k.val, lt_of_lt_of_eq k.isLt trips1⟩ : Fin 16)) arg8.view f8 hf _ _ (off1_word i k0_h1 k) fun a h l => ?_
  refine (packed_apply arg13.view f13 (fun h => headCode (y1 c i arg4 arg5 arg6 arg7 arg12 k0_h1 k X4 X5 X6 X7 X12 h)) a h l).trans ?_
  unfold codeCell
  rw [runOf_rowIx, inRun_rowIx, y1_eq]

/-- A trip's store of scales extends the runs written by one. -/
theorem trip1_read11 (k0_h1 : k0_cond1 i = 1#1) (hc : arg1 = BitVec.ofNat 32 (i 1).val) (k : Fin k0_t1_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (f8 : Buf (Elt F) (arg8.view.loc (c : Thread nD τ)))
    (f11 : Buf (Elt F) (arg11.view.loc (c : Thread nD τ))) (f13 : Buf (Elt F) (arg13.view.loc (c : Thread nD τ)))
    (Y : S512x128.Idx → F .f32)
    (hf : arg11.view.read (Elt F) f11 = updScales (i 1).val k.val (scaleCell (yQ (arg12.view.read (Elt F) X12) (arg4.view.read (Elt F) X4) (arg5.view.read (Elt F) X5) (arg6.view.read (Elt F) X6) (arg7.view.read (Elt F) X7))) Y) :
    arg11.view.read (Elt F) (arg11.view.writes (Elt F) f11 (trip1 c i arg2 harg2 arg3 harg3 arg4 harg4 arg5 harg5 arg6 harg6 arg7 harg7 arg8 harg8 arg9 harg9 arg10 harg10 arg11 harg11 arg12 harg12 arg13 harg13 arg1 k0_h1 k X4 X5 X6 X7 X12 f8 f11 f13).2.1) = updScales (i 1).val (k.val + 1) (scaleCell (yQ (arg12.view.read (Elt F) X12) (arg4.view.read (Elt F) X4) (arg5.view.read (Elt F) X5) (arg6.view.read (Elt F) X6) (arg7.view.read (Elt F) X7))) Y := by
  rw [trip1_scales]
  refine read_writes_scales (k := (⟨k.val, lt_of_lt_of_eq k.isLt trips1⟩ : Fin 16)) arg11.view f11 hf _ _ (k0_off1_eq k) fun a l => ?_
  subst hc
  refine (scSel_apply (i 1).val (i 1).isLt (fun h => headScale (y1 c i arg4 arg5 arg6 arg7 arg12 k0_h1 k X4 X5 X6 X7 X12 h)) _ a l).trans ?_
  refine if_congr Iff.rfl ?_ ?_
  · unfold scaleCell
    rw [runOf_rowIx, inRun_rowIx, y1_eq]
  · rw [shapeCast_apply _ _ (ix2 a l) (ix2 a l) rfl, readAt_chunk arg11.view f11 _ (⟨k.val, lt_of_lt_of_eq k.isLt trips1⟩ : Fin 16) (k0_off1_eq k)]
    rfl

/-- The loop writes the word's codes and its lanes of scales, and keeps all else. -/
theorem loop1 (k0_h1 : k0_cond1 i = 1#1) (hc : arg1 = BitVec.ofNat 32 (i 1).val) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (f8 : Buf (Elt F) (arg8.view.loc (c : Thread nD τ)))
    (f11 : Buf (Elt F) (arg11.view.loc (c : Thread nD τ))) (f13 : Buf (Elt F) (arg13.view.loc (c : Thread nD τ))) :
    (iprop(at_ c arg4 X4 ∗ at_ c arg5 X5 ∗ at_ c arg6 X6 ∗ at_ c arg7 X7 ∗ at_ c arg12 X12 ∗ at_ c arg8 f8 ∗ at_ c arg11 f11 ∗ at_ c arg13 f13) : sProp 𝕄)
    ⊢ wp frame (wpE (defs₀ (F := F)) 𝒱₀ (c : Thread nD τ) none) Set.univ
        (Scf.Loop.for k0_t1_loop (k0_t1_ok i k0_h1) ⟨⟩ (k0_t1_body (F := F) i arg2 harg2 arg3 harg3 arg4 harg4 arg5 harg5 arg6 harg6 arg7 harg7 arg8 harg8 arg9 harg9 arg10 harg10 arg11 harg11 arg12 harg12 arg13 harg13 arg1 k0_h1))
        (fun _ => iprop(∃ g8 g11 g13, ⌜arg8.view.read (Elt F) g8 = updCodes (word1 i) 16 (codeCell (yQ (arg12.view.read (Elt F) X12) (arg4.view.read (Elt F) X4) (arg5.view.read (Elt F) X5) (arg6.view.read (Elt F) X6) (arg7.view.read (Elt F) X7))) (arg8.view.read (Elt F) f8)⌝
    ∗ ⌜arg11.view.read (Elt F) g11 = updScales (i 1).val 16 (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg8 g8 ∗ at_ c arg11 g11 ∗ at_ c arg13 g13)) := by
  have hbody : ∀ (k : Fin k0_t1_loop.trips) (acc : PUnit),
      (iprop(∃ g8 g11 g13, ⌜arg8.view.read (Elt F) g8 = updCodes (word1 i) k.val (codeCell (yQ (arg12.view.read (Elt F) X12) (arg4.view.read (Elt F) X4) (arg5.view.read (Elt F) X5) (arg6.view.read (Elt F) X6) (arg7.view.read (Elt F) X7))) (arg8.view.read (Elt F) f8)⌝
    ∗ ⌜arg11.view.read (Elt F) g11 = updScales (i 1).val k.val (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg8 g8 ∗ at_ c arg11 g11 ∗ at_ c arg13 g13) : sProp 𝕄)
      ⊢ wp frame (wpE (defs₀ (F := F)) 𝒱₀ (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg1 k0_h1 k acc)
        (fun _ => iprop(∃ g8 g11 g13, ⌜arg8.view.read (Elt F) g8 = updCodes (word1 i) (k.val + 1) (codeCell (yQ (arg12.view.read (Elt F) X12) (arg4.view.read (Elt F) X4) (arg5.view.read (Elt F) X5) (arg6.view.read (Elt F) X6) (arg7.view.read (Elt F) X7))) (arg8.view.read (Elt F) f8)⌝
    ∗ ⌜arg11.view.read (Elt F) g11 = updScales (i 1).val (k.val + 1) (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg8 g8 ∗ at_ c arg11 g11 ∗ at_ c arg13 g13)) := by
    intro k acc
    iintro ⟨%g8, %g11, %g13, %e8, %e11, H4, H5, H6, H7, H12, H8, H11, H13⟩
    iapply (wp_wand_r frame (wpE (defs₀ (F := F)) 𝒱₀ (c : Thread nD τ) none) Set.univ)
    isplitl [H4 H5 H6 H7 H12 H8 H11 H13]
    · iapply (trip1 c i arg2 harg2 arg3 harg3 arg4 harg4 arg5 harg5 arg6 harg6 arg7 harg7 arg8 harg8 arg9 harg9 arg10 harg10 arg11 harg11 arg12 harg12 arg13 harg13 arg1 k0_h1 k X4 X5 X6 X7 X12 g8 g11 g13).2.2.2
      sl_close
    · iintro %_ ⟨H4, H5, H6, H7, H12, H8, H11, H13⟩
      iexists _, _, _
      isplitr
      · ipureintro; exact trip1_read c i arg2 harg2 arg3 harg3 arg4 harg4 arg5 harg5 arg6 harg6 arg7 harg7 arg8 harg8 arg9 harg9 arg10 harg10 arg11 harg11 arg12 harg12 arg13 harg13 arg1 k0_h1 k X4 X5 X6 X7 X12 g8 g11 g13 _ e8
      isplitr
      · ipureintro; exact trip1_read11 c i arg2 harg2 arg3 harg3 arg4 harg4 arg5 harg5 arg6 harg6 arg7 harg7 arg8 harg8 arg9 harg9 arg10 harg10 arg11 harg11 arg12 harg12 arg13 harg13 arg1 k0_h1 hc k X4 X5 X6 X7 X12 g8 g11 g13 _ e11
      sl_close
  have h := Scf.wp_for frame (wpE (defs₀ (F := F)) 𝒱₀ (c : Thread nD τ) none) Set.univ k0_t1_loop.lb k0_t1_loop.ub k0_t1_loop.st (k0_t1_ok i k0_h1) (⟨⟩ : PUnit)
    (k0_t1_body (F := F) i arg2 harg2 arg3 harg3 arg4 harg4 arg5 harg5 arg6 harg6 arg7 harg7 arg8 harg8 arg9 harg9 arg10 harg10 arg11 harg11 arg12 harg12 arg13 harg13 arg1 k0_h1)
    (fun k _ => (iprop(∃ g8 g11 g13, ⌜arg8.view.read (Elt F) g8 = updCodes (word1 i) k (codeCell (yQ (arg12.view.read (Elt F) X12) (arg4.view.read (Elt F) X4) (arg5.view.read (Elt F) X5) (arg6.view.read (Elt F) X6) (arg7.view.read (Elt F) X7))) (arg8.view.read (Elt F) f8)⌝
    ∗ ⌜arg11.view.read (Elt F) g11 = updScales (i 1).val k (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg8 g8 ∗ at_ c arg11 g11 ∗ at_ c arg13 g13) : sProp 𝕄)) hbody
    (Q := fun _ => iprop(∃ g8 g11 g13, ⌜arg8.view.read (Elt F) g8 = updCodes (word1 i) 16 (codeCell (yQ (arg12.view.read (Elt F) X12) (arg4.view.read (Elt F) X4) (arg5.view.read (Elt F) X5) (arg6.view.read (Elt F) X6) (arg7.view.read (Elt F) X7))) (arg8.view.read (Elt F) f8)⌝
    ∗ ⌜arg11.view.read (Elt F) g11 = updScales (i 1).val 16 (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg8 g8 ∗ at_ c arg11 g11 ∗ at_ c arg13 g13))
  refine .trans ?_ h
  iintro ⟨H4, H5, H6, H7, H12, H8, H11, H13⟩
  isplitl
  · iexists f8, f11, f13
    isplitr
    · ipureintro; rw [updCodes_zero]
    isplitr
    · ipureintro; rw [updScales_zero]
    sl_close
  · iintro %acc H
    rw [show Scf.trips k0_t1_loop.lb k0_t1_loop.ub k0_t1_loop.st = 16 from trips1]
    iexact H

end Cert.Proof.KI

end
-- ==== Proof.Ideal.T2.lean ====
module

public import proofs.«01_k».proof.Proof.Gen.KernelIdeal.Loops
public import proofs.«01_k».proof.Proof.Gen.KernelIdeal.Frame
public import Idealize.ShloMosaic.Lib.Tactic
public import proofs.«01_k».proof.Proof.Ideal.Held

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S512x12288 .fp8e4m3) (harg2 : arg2.IsWhole) (arg3 : Memref sig .tc .vmem S12288x512 .fp8e4m3) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x32x128 .fp8e4m3) (harg8 : arg8.IsWhole) (arg9 : Memref sig .tc .vmem S512x8x128 .fp8e4m3) (harg9 : arg9.IsWhole) (arg10 : Memref sig .tc .vmem S512x8x128 .fp8e4m3) (harg10 : arg10.IsWhole) (arg11 : Memref sig .tc .vmem S512x128 .f32) (harg11 : arg11.IsWhole) (arg12 : Memref sig .tc .vmem S512x512 .f32) (harg12 : arg12.IsWhole) (arg13 : Memref sig .tc .vmem S128x128 .f32) (harg13 : arg13.IsWhole) (arg1 : BitVec 32)

/-- One trip of loop 2 from any contents: it runs and leaves the lists of stores named in it. -/
@[irreducible] def trip2 (k0_h2 : k0_cond2 i = 1#1) (k : Fin k0_t2_loop.trips)
    (X4 : Buf (Elt F) (arg4.view.loc (c : Thread nD τ))) (X5 : Buf (Elt F) (arg5.view.loc (c : Thread nD τ)))
 (X6 : Buf (Elt F) (arg6.view.loc (c : Thread nD τ))) (X7 : Buf (Elt F) (arg7.view.loc (c : Thread nD τ)))
    (X12 : Buf (Elt F) (arg12.view.loc (c : Thread nD τ))) (f9 : Buf (Elt F) (arg9.view.loc (c : Thread nD τ)))
    (f11 : Buf (Elt F) (arg11.view.loc (c : Thread nD τ))) (f13 : Buf (Elt F) (arg13.view.loc (c : Thread nD τ))) :
    Σ' (L9 : List (View.Piece (Elt F) S512x8x128 .fp8e4m3)) (L11 : List (View.Piece (Elt F) S512x128 .f32)),
      { L13 : List (View.Piece (Elt F) S128x128 .f32) //
      (iprop(at_ c arg4 X4 ∗ at_ c arg5 X5 ∗ at_ c arg6 X6 ∗ at_ c arg7 X7 ∗ at_ c arg12 X12 ∗ at_ c arg9 f9 ∗ at_ c arg11 f11 ∗ at_ c arg13 f13) : sProp 𝕄)
      ⊢ wp frame (wpE (defs₀ (F := F)) 𝒱₀ (c : Thread nD τ) none) Set.univ
        (k0_t2_body (F := F) i arg2 harg2 arg3 harg3 arg4 harg4 arg5 harg5 arg6 harg6 arg7 harg7 arg8 harg8 arg9 harg9 arg10 harg10 arg11 harg11 arg12 harg12 arg13 harg13 arg1 k0_h2 k PUnit.unit)
        (fun _ => iprop(at_ c arg4 X4 ∗ at_ c arg5 X5 ∗ at_ c arg6 X6 ∗ at_ c arg7 X7 ∗ at_ c arg12 X12 ∗ at_ c arg9 (arg9.view.writes (Elt F) f9 L9)
          ∗ at_ c arg11 (arg11.view.writes (Elt F) f11 L11) ∗ at_ c arg13 (arg13.view.writes (Elt F) f13 L13))) } := by
  refine ⟨?_, ?_, ?_, ?run⟩
  case run =>
    unfold k0_t2_body
    iintro ⟨H4, H5, H6, H7, H12, H9, H11, H13⟩
    sl_exec
    sl_step
    sl_close

/-- What head `h` of the word quantises in trip `k`, over the loads made. -/
def y2 (k0_h2 : k0_cond2 i = 1#1) (k : Fin k0_t2_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))
    (X12 : Buf (Elt F) (arg12.view.loc (c : Thread nD τ))) : Fin 4 → FVec F S32x128 .f32 := ![
  rot (lin (arg12.view.readAt (Elt F) (Rect.unit (s := S512x512) (k0_off8 k) S32x128.size (k0_off8_inb i k k0_h2)).toLoadRect X12) (arg5.view.readAt (Elt F) (Rect.unit (s := S512x128) (k0_off7 k) S32x128.size (k0_off7_inb i k k0_h2)).toLoadRect X5) (arg4.view.readAt (Elt F) (Rect.unit (s := S1x512) ![0, 0] S1x128.size inb_S1x512_S1x128_0_0).toLoadRect X4)) (arg6.view.readAt (Elt F) (Rect.unit (s := S512x128) (k0_off7 k) S32x128.size (k0_off7_inb i k k0_h2)).toLoadRect X6) (arg7.view.readAt (Elt F) (Rect.unit (s := S512x128) (k0_off7 k) S32x128.size (k0_off7_inb i k k0_h2)).toLoadRect X7),
  rot (lin (arg12.view.readAt (Elt F) (Rect.unit (s := S512x512) (k0_off9 k) S32x128.size (k0_off9_inb i k k0_h2)).toLoadRect X12) (arg5.view.readAt (Elt F) (Rect.unit (s := S512x128) (k0_off7 k) S32x128.size (k0_off7_inb i k k0_h2)).toLoadRect X5) (arg4.view.readAt (Elt F) (Rect.unit (s := S1x512) ![0, 128] S1x128.size inb_S1x512_S1x128_0_128).toLoadRect X4)) (arg6.view.readAt (Elt F) (Rect.unit (s := S512x128) (k0_off7 k) S32x128.size (k0_off7_inb i k k0_h2)).toLoadRect X6) (arg7.view.readAt (Elt F) (Rect.unit (s := S512x128) (k0_off7 k) S32x128.size (k0_off7_inb i k k0_h2)).toLoadRect X7),
  rot (lin (arg12.view.readAt (Elt F) (Rect.unit (s := S512x512) (k0_off10 k) S32x128.size (k0_off10_inb i k k0_h2)).toLoadRect X12) (arg5.view.readAt (Elt F) (Rect.unit (s := S512x128) (k0_off7 k) S32x128.size (k0_off7_inb i k k0_h2)).toLoadRect X5) (arg4.view.readAt (Elt F) (Rect.unit (s := S1x512) ![0, 256] S1x128.size inb_S1x512_S1x128_0_256).toLoadRect X4)) (arg6.view.readAt (Elt F) (Rect.unit (s := S512x128) (k0_off7 k) S32x128.size (k0_off7_inb i k k0_h2)).toLoadRect X6) (arg7.view.readAt (Elt F) (Rect.unit (s := S512x128) (k0_off7 k) S32x128.size (k0_off7_inb i k k0_h2)).toLoadRect X7),
  rot (lin (arg12.view.readAt (Elt F) (Rect.unit (s := S512x512) (k0_off11 k) S32x128.size (k0_off11_inb i k k0_h2)).toLoadRect X12) (arg5.view.readAt (Elt F) (Rect.unit (s := S512x128) (k0_off7 k) S32x128.size (k0_off7_inb i k k0_h2)).toLoadRect X5) (arg4.view.readAt (Elt F) (Rect.unit (s := S1x512) ![0, 384] S1x128.size inb_S1x512_S1x128_0_384).toLoadRect X4)) (arg6.view.readAt (Elt F) (Rect.unit (s := S512x128) (k0_off7 k) S32x128.size (k0_off7_inb i k k0_h2)).toLoadRect X6) (arg7.view.readAt (Elt F) (Rect.unit (s := S512x128) (k0_off7 k) S32x128.size (k0_off7_inb i k k0_h2)).toLoadRect X7)]

theorem trip2_codes (k0_h2 : k0_cond2 i = 1#1) (k : Fin k0_t2_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))
    (X12 : Buf (Elt F) (arg12.view.loc (c : Thread nD τ))) (f9 : Buf (Elt F) (arg9.view.loc (c : Thread nD τ)))
    (f11 : Buf (Elt F) (arg11.view.loc (c : Thread nD τ))) (f13 : Buf (Elt F) (arg13.view.loc (c : Thread nD τ))) :
    (trip2 c i arg2 harg2 arg3 harg3 arg4 harg4 arg5 harg5 arg6 harg6 arg7 harg7 arg8 harg8 arg9 harg9 arg10 harg10 arg11 harg11 arg12 harg12 arg13 harg13 arg1 k0_h2 k X4 X5 X6 X7 X12 f9 f11 f13).1 = [⟨Rect.unit (s := S512x8x128) (k0_off12 i k) S32x4x128.size (k0_off12_inb i k k0_h2),
      packed arg13.view f13 (headCode (y2 c i arg4 arg5 arg6 arg7 arg12 k0_h2 k X4 X5 X6 X7 X12 0)) (headCode (y2 c i arg4 arg5 arg6 arg7 arg12 k0_h2 k X4 X5 X6 X7 X12 1)) (headCode (y2 c i arg4 arg5 arg6 arg7 arg12 k0_h2 k X4 X5 X6 X7 X12 2)) (headCode (y2 c i arg4 arg5 arg6 arg7 arg12 k0_h2 k X4 X5 X6 X7 X12 3))⟩] := by
  unfold trip2; rfl

theorem trip2_scales (k0_h2 : k0_cond2 i = 1#1) (k : Fin k0_t2_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))
    (X12 : Buf (Elt F) (arg12.view.loc (c : Thread nD τ))) (f9 : Buf (Elt F) (arg9.view.loc (c : Thread nD τ)))
    (f11 : Buf (Elt F) (arg11.view.loc (c : Thread nD τ))) (f13 : Buf (Elt F) (arg13.view.loc (c : Thread nD τ))) :
    (trip2 c i arg2 harg2 arg3 harg3 arg4 harg4 arg5 harg5 arg6 harg6 arg7 harg7 arg8 harg8 arg9 harg9 arg10 harg10 arg11 harg11 arg12 harg12 arg13 harg13 arg1 k0_h2 k X4 X5 X6 X7 X12 f9 f11 f13).2.1 = [⟨Rect.unit (s := S512x128) (k0_off7 k) S32x128.size (k0_off7_inb i k k0_h2),
      scSel arg1 (headScale (y2 c i arg4 arg5 arg6 arg7 arg12 k0_h2 k X4 X5 X6 X7 X12 0)) (headScale (y2 c i arg4 arg5 arg6 arg7 arg12 k0_h2 k X4 X5 X6 X7 X12 1)) (headScale (y2 c i arg4 arg5 arg6 arg7 arg12 k0_h2 k X4 X5 X6 X7 X12 2)) (headScale (y2 c i arg4 arg5 arg6 arg7 arg12 k0_h2 k X4 X5 X6 X7 X12 3))
        (shapeCast S32x128 (arg11.view.readAt (Elt F) (Rect.unit (s := S512x128) (k0_off7 k) S32x128.size (k0_off7_inb i k k0_h2)).toLoadRect f11) shapeCasts_S32x128_S32x128)⟩] := by
  unfold trip2; rfl

theorem y2_eq (k0_h2 : k0_cond2 i = 1#1) (k : Fin k0_t2_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (h : Fin 4) :
    y2 c i arg4 arg5 arg6 arg7 arg12 k0_h2 k X4 X5 X6 X7 X12 h = (yQ (arg12.view.read (Elt F) X12) (arg4.view.read (Elt F) X4) (arg5.view.read (Elt F) X5) (arg6.view.read (Elt F) X6) (arg7.view.read (Elt F) X7)) (⟨k.val, lt_of_lt_of_eq k.isLt trips2⟩ : Fin 16) h := by
  fin_cases h
  · have e := congr (congr (congrArg rot (congr (congr (congrArg lin (readAt_acc arg12.view X12 (k0_off8_inb i k k0_h2) (⟨k.val, lt_of_lt_of_eq k.isLt trips2⟩ : Fin 16) 0 (k0_off8_eq k))) (readAt_chunk arg5.view X5 (k0_off7_inb i k k0_h2) (⟨k.val, lt_of_lt_of_eq k.isLt trips2⟩ : Fin 16) (k0_off7_eq k))) (readAt_ws arg4.view X4 inb_S1x512_S1x128_0_0 0 rfl))) (readAt_chunk arg6.view X6 (k0_off7_inb i k k0_h2) (⟨k.val, lt_of_lt_of_eq k.isLt trips2⟩ : Fin 16) (k0_off7_eq k))) (readAt_chunk arg7.view X7 (k0_off7_inb i k k0_h2) (⟨k.val, lt_of_lt_of_eq k.isLt trips2⟩ : Fin 16) (k0_off7_eq k))
    exact e
  · have e := congr (congr (congrArg rot (congr (congr (congrArg lin (readAt_acc arg12.view X12 (k0_off9_inb i k k0_h2) (⟨k.val, lt_of_lt_of_eq k.isLt trips2⟩ : Fin 16) 1 (k0_off9_eq k))) (readAt_chunk arg5.view X5 (k0_off7_inb i k k0_h2) (⟨k.val, lt_of_lt_of_eq k.isLt trips2⟩ : Fin 16) (k0_off7_eq k))) (readAt_ws arg4.view X4 inb_S1x512_S1x128_0_128 1 rfl))) (readAt_chunk arg6.view X6 (k0_off7_inb i k k0_h2) (⟨k.val, lt_of_lt_of_eq k.isLt trips2⟩ : Fin 16) (k0_off7_eq k))) (readAt_chunk arg7.view X7 (k0_off7_inb i k k0_h2) (⟨k.val, lt_of_lt_of_eq k.isLt trips2⟩ : Fin 16) (k0_off7_eq k))
    exact e
  · have e := congr (congr (congrArg rot (congr (congr (congrArg lin (readAt_acc arg12.view X12 (k0_off10_inb i k k0_h2) (⟨k.val, lt_of_lt_of_eq k.isLt trips2⟩ : Fin 16) 2 (k0_off10_eq k))) (readAt_chunk arg5.view X5 (k0_off7_inb i k k0_h2) (⟨k.val, lt_of_lt_of_eq k.isLt trips2⟩ : Fin 16) (k0_off7_eq k))) (readAt_ws arg4.view X4 inb_S1x512_S1x128_0_256 2 rfl))) (readAt_chunk arg6.view X6 (k0_off7_inb i k k0_h2) (⟨k.val, lt_of_lt_of_eq k.isLt trips2⟩ : Fin 16) (k0_off7_eq k))) (readAt_chunk arg7.view X7 (k0_off7_inb i k k0_h2) (⟨k.val, lt_of_lt_of_eq k.isLt trips2⟩ : Fin 16) (k0_off7_eq k))
    exact e
  · have e := congr (congr (congrArg rot (congr (congr (congrArg lin (readAt_acc arg12.view X12 (k0_off11_inb i k k0_h2) (⟨k.val, lt_of_lt_of_eq k.isLt trips2⟩ : Fin 16) 3 (k0_off11_eq k))) (readAt_chunk arg5.view X5 (k0_off7_inb i k k0_h2) (⟨k.val, lt_of_lt_of_eq k.isLt trips2⟩ : Fin 16) (k0_off7_eq k))) (readAt_ws arg4.view X4 inb_S1x512_S1x128_0_384 3 rfl))) (readAt_chunk arg6.view X6 (k0_off7_inb i k k0_h2) (⟨k.val, lt_of_lt_of_eq k.isLt trips2⟩ : Fin 16) (k0_off7_eq k))) (readAt_chunk arg7.view X7 (k0_off7_inb i k k0_h2) (⟨k.val, lt_of_lt_of_eq k.isLt trips2⟩ : Fin 16) (k0_off7_eq k))
    exact e

/-- A trip's store of codes extends the runs written by one. -/
theorem trip2_read (k0_h2 : k0_cond2 i = 1#1) (k : Fin k0_t2_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (f9 : Buf (Elt F) (arg9.view.loc (c : Thread nD τ)))
    (f11 : Buf (Elt F) (arg11.view.loc (c : Thread nD τ))) (f13 : Buf (Elt F) (arg13.view.loc (c : Thread nD τ)))
    (Y : S512x8x128.Idx → F .fp8e4m3)
    (hf : arg9.view.read (Elt F) f9 = updCodes (word2 i) k.val (codeCell (yQ (arg12.view.read (Elt F) X12) (arg4.view.read (Elt F) X4) (arg5.view.read (Elt F) X5) (arg6.view.read (Elt F) X6) (arg7.view.read (Elt F) X7))) Y) :
    arg9.view.read (Elt F) (arg9.view.writes (Elt F) f9 (trip2 c i arg2 harg2 arg3 harg3 arg4 harg4 arg5 harg5 arg6 harg6 arg7 harg7 arg8 harg8 arg9 harg9 arg10 harg10 arg11 harg11 arg12 harg12 arg13 harg13 arg1 k0_h2 k X4 X5 X6 X7 X12 f9 f11 f13).1) = updCodes (word2 i) (k.val + 1) (codeCell (yQ (arg12.view.read (Elt F) X12) (arg4.view.read (Elt F) X4) (arg5.view.read (Elt F) X5) (arg6.view.read (Elt F) X6) (arg7.view.read (Elt F) X7))) Y := by
  rw [trip2_codes]
  refine read_writes_codes (k := (⟨k.val, lt_of_lt_of_eq k.isLt trips2⟩ : Fin 16)) arg9.view f9 hf _ _ (off2_word i k0_h2 k) fun a h l => ?_
  refine (packed_apply arg13.view f13 (fun h => headCode (y2 c i arg4 arg5 arg6 arg7 arg12 k0_h2 k X4 X5 X6 X7 X12 h)) a h l).trans ?_
  unfold codeCell
  rw [runOf_rowIx, inRun_rowIx, y2_eq]

/-- A trip's store of scales extends the runs written by one. -/
theorem trip2_read11 (k0_h2 : k0_cond2 i = 1#1) (hc : arg1 = BitVec.ofNat 32 (i 1).val) (k : Fin k0_t2_loop.trips) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (f9 : Buf (Elt F) (arg9.view.loc (c : Thread nD τ)))
    (f11 : Buf (Elt F) (arg11.view.loc (c : Thread nD τ))) (f13 : Buf (Elt F) (arg13.view.loc (c : Thread nD τ)))
    (Y : S512x128.Idx → F .f32)
    (hf : arg11.view.read (Elt F) f11 = updScales (i 1).val k.val (scaleCell (yQ (arg12.view.read (Elt F) X12) (arg4.view.read (Elt F) X4) (arg5.view.read (Elt F) X5) (arg6.view.read (Elt F) X6) (arg7.view.read (Elt F) X7))) Y) :
    arg11.view.read (Elt F) (arg11.view.writes (Elt F) f11 (trip2 c i arg2 harg2 arg3 harg3 arg4 harg4 arg5 harg5 arg6 harg6 arg7 harg7 arg8 harg8 arg9 harg9 arg10 harg10 arg11 harg11 arg12 harg12 arg13 harg13 arg1 k0_h2 k X4 X5 X6 X7 X12 f9 f11 f13).2.1) = updScales (i 1).val (k.val + 1) (scaleCell (yQ (arg12.view.read (Elt F) X12) (arg4.view.read (Elt F) X4) (arg5.view.read (Elt F) X5) (arg6.view.read (Elt F) X6) (arg7.view.read (Elt F) X7))) Y := by
  rw [trip2_scales]
  refine read_writes_scales (k := (⟨k.val, lt_of_lt_of_eq k.isLt trips2⟩ : Fin 16)) arg11.view f11 hf _ _ (k0_off7_eq k) fun a l => ?_
  subst hc
  refine (scSel_apply (i 1).val (i 1).isLt (fun h => headScale (y2 c i arg4 arg5 arg6 arg7 arg12 k0_h2 k X4 X5 X6 X7 X12 h)) _ a l).trans ?_
  refine if_congr Iff.rfl ?_ ?_
  · unfold scaleCell
    rw [runOf_rowIx, inRun_rowIx, y2_eq]
  · rw [shapeCast_apply _ _ (ix2 a l) (ix2 a l) rfl, readAt_chunk arg11.view f11 _ (⟨k.val, lt_of_lt_of_eq k.isLt trips2⟩ : Fin 16) (k0_off7_eq k)]
    rfl

/-- The loop writes the word's codes and its lanes of scales, and keeps all else. -/
theorem loop2 (k0_h2 : k0_cond2 i = 1#1) (hc : arg1 = BitVec.ofNat 32 (i 1).val) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X12 : Buf (Elt F) (arg12.view.loc (c : Thread nD τ))) (f9 : Buf (Elt F) (arg9.view.loc (c : Thread nD τ)))
    (f11 : Buf (Elt F) (arg11.view.loc (c : Thread nD τ))) (f13 : Buf (Elt F) (arg13.view.loc (c : Thread nD τ))) :
    (iprop(at_ c arg4 X4 ∗ at_ c arg5 X5 ∗ at_ c arg6 X6 ∗ at_ c arg7 X7 ∗ at_ c arg12 X12 ∗ at_ c arg9 f9 ∗ at_ c arg11 f11 ∗ at_ c arg13 f13) : sProp 𝕄)
    ⊢ wp frame (wpE (defs₀ (F := F)) 𝒱₀ (c : Thread nD τ) none) Set.univ
        (Scf.Loop.for k0_t2_loop (k0_t2_ok i k0_h2) ⟨⟩ (k0_t2_body (F := F) i arg2 harg2 arg3 harg3 arg4 harg4 arg5 harg5 arg6 harg6 arg7 harg7 arg8 harg8 arg9 harg9 arg10 harg10 arg11 harg11 arg12 harg12 arg13 harg13 arg1 k0_h2))
        (fun _ => iprop(∃ g9 g11 g13, ⌜arg9.view.read (Elt F) g9 = updCodes (word2 i) 16 (codeCell (yQ (arg12.view.read (Elt F) X12) (arg4.view.read (Elt F) X4) (arg5.view.read (Elt F) X5) (arg6.view.read (Elt F) X6) (arg7.view.read (Elt F) X7))) (arg9.view.read (Elt F) f9)⌝
    ∗ ⌜arg11.view.read (Elt F) g11 = updScales (i 1).val 16 (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg9 g9 ∗ at_ c arg11 g11 ∗ at_ c arg13 g13)) := by
  have hbody : ∀ (k : Fin k0_t2_loop.trips) (acc : PUnit),
      (iprop(∃ g9 g11 g13, ⌜arg9.view.read (Elt F) g9 = updCodes (word2 i) k.val (codeCell (yQ (arg12.view.read (Elt F) X12) (arg4.view.read (Elt F) X4) (arg5.view.read (Elt F) X5) (arg6.view.read (Elt F) X6) (arg7.view.read (Elt F) X7))) (arg9.view.read (Elt F) f9)⌝
    ∗ ⌜arg11.view.read (Elt F) g11 = updScales (i 1).val k.val (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg9 g9 ∗ at_ c arg11 g11 ∗ at_ c arg13 g13) : sProp 𝕄)
      ⊢ wp frame (wpE (defs₀ (F := F)) 𝒱₀ (c : Thread nD τ) none) Set.univ (k0_t2_body (F := F) i arg2 harg2 arg3 harg3 arg4 harg4 arg5 harg5 arg6 harg6 arg7 harg7 arg8 harg8 arg9 harg9 arg10 harg10 arg11 harg11 arg12 harg12 arg13 harg13 arg1 k0_h2 k acc)
        (fun _ => iprop(∃ g9 g11 g13, ⌜arg9.view.read (Elt F) g9 = updCodes (word2 i) (k.val + 1) (codeCell (yQ (arg12.view.read (Elt F) X12) (arg4.view.read (Elt F) X4) (arg5.view.read (Elt F) X5) (arg6.view.read (Elt F) X6) (arg7.view.read (Elt F) X7))) (arg9.view.read (Elt F) f9)⌝
    ∗ ⌜arg11.view.read (Elt F) g11 = updScales (i 1).val (k.val + 1) (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg9 g9 ∗ at_ c arg11 g11 ∗ at_ c arg13 g13)) := by
    intro k acc
    iintro ⟨%g9, %g11, %g13, %e9, %e11, H4, H5, H6, H7, H12, H9, H11, H13⟩
    iapply (wp_wand_r frame (wpE (defs₀ (F := F)) 𝒱₀ (c : Thread nD τ) none) Set.univ)
    isplitl [H4 H5 H6 H7 H12 H9 H11 H13]
    · iapply (trip2 c i arg2 harg2 arg3 harg3 arg4 harg4 arg5 harg5 arg6 harg6 arg7 harg7 arg8 harg8 arg9 harg9 arg10 harg10 arg11 harg11 arg12 harg12 arg13 harg13 arg1 k0_h2 k X4 X5 X6 X7 X12 g9 g11 g13).2.2.2
      sl_close
    · iintro %_ ⟨H4, H5, H6, H7, H12, H9, H11, H13⟩
      iexists _, _, _
      isplitr
      · ipureintro; exact trip2_read c i arg2 harg2 arg3 harg3 arg4 harg4 arg5 harg5 arg6 harg6 arg7 harg7 arg8 harg8 arg9 harg9 arg10 harg10 arg11 harg11 arg12 harg12 arg13 harg13 arg1 k0_h2 k X4 X5 X6 X7 X12 g9 g11 g13 _ e9
      isplitr
      · ipureintro; exact trip2_read11 c i arg2 harg2 arg3 harg3 arg4 harg4 arg5 harg5 arg6 harg6 arg7 harg7 arg8 harg8 arg9 harg9 arg10 harg10 arg11 harg11 arg12 harg12 arg13 harg13 arg1 k0_h2 hc k X4 X5 X6 X7 X12 g9 g11 g13 _ e11
      sl_close
  have h := Scf.wp_for frame (wpE (defs₀ (F := F)) 𝒱₀ (c : Thread nD τ) none) Set.univ k0_t2_loop.lb k0_t2_loop.ub k0_t2_loop.st (k0_t2_ok i k0_h2) (⟨⟩ : PUnit)
    (k0_t2_body (F := F) i arg2 harg2 arg3 harg3 arg4 harg4 arg5 harg5 arg6 harg6 arg7 harg7 arg8 harg8 arg9 harg9 arg10 harg10 arg11 harg11 arg12 harg12 arg13 harg13 arg1 k0_h2)
    (fun k _ => (iprop(∃ g9 g11 g13, ⌜arg9.view.read (Elt F) g9 = updCodes (word2 i) k (codeCell (yQ (arg12.view.read (Elt F) X12) (arg4.view.read (Elt F) X4) (arg5.view.read (Elt F) X5) (arg6.view.read (Elt F) X6) (arg7.view.read (Elt F) X7))) (arg9.view.read (Elt F) f9)⌝
    ∗ ⌜arg11.view.read (Elt F) g11 = updScales (i 1).val k (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg9 g9 ∗ at_ c arg11 g11 ∗ at_ c arg13 g13) : sProp 𝕄)) hbody
    (Q := fun _ => iprop(∃ g9 g11 g13, ⌜arg9.view.read (Elt F) g9 = updCodes (word2 i) 16 (codeCell (yQ (arg12.view.read (Elt F) X12) (arg4.view.read (Elt F) X4) (arg5.view.read (Elt F) X5) (arg6.view.read (Elt F) X6) (arg7.view.read (Elt F) X7))) (arg9.view.read (Elt F) f9)⌝
    ∗ ⌜arg11.view.read (Elt F) g11 = updScales (i 1).val 16 (scaleCell (yQ (arg12.view.read (Elt F) X12) (arg4.view.read (Elt F) X4) (arg5.view.read (Elt F) X5) (arg6.view.read (Elt F) X6) (arg7.view.read (Elt F) X7))) (arg11.view.read (Elt F) f11)⌝
    ∗ at_ c arg4 X4 ∗ at_ c arg5 X5 ∗ at_ c arg6 X6 ∗ at_ c arg7 X7 ∗ at_ c arg12 X12 ∗ at_ c arg9 g9 ∗ at_ c arg11 g11 ∗ at_ c arg13 g13))
  refine .trans ?_ h
  iintro ⟨H4, H5, H6, H7, H12, H9, H11, H13⟩
  isplitl
  · iexists f9, f11, f13
    isplitr
    · ipureintro; rw [updCodes_zero]
    isplitr
    · ipureintro; rw [updScales_zero]
    sl_close
  · iintro %acc H
    rw [show Scf.trips k0_t2_loop.lb k0_t2_loop.ub k0_t2_loop.st = 16 from trips2]
    iexact H

end Cert.Proof.KI

end
-- ==== Proof.Ideal.T3.lean ====
module

public import proofs.«01_k».proof.Proof.Gen.KernelIdeal.Loops
public import proofs.«01_k».proof.Proof.Gen.KernelIdeal.Frame
public import Idealize.ShloMosaic.Lib.Tactic
public import proofs.«01_k».proof.Proof.Ideal.Held

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S512x12288 .fp8e4m3) (harg2 : arg2.IsWhole) (arg3 : Memref sig .tc .vmem S12288x512 .fp8e4m3) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x32x128 .fp8e4m3) (harg8 : arg8.IsWhole) (arg9 : Memref sig .tc .vmem S512x8x128 .fp8e4m3) (harg9 : arg9.IsWhole) (arg10 : Memref sig .tc .vmem S512x8x128 .fp8e4m3) (harg10 : arg10.IsWhole) (arg11 : Memref sig .tc .vmem S512x128 .f32) (harg11 : arg11.IsWhole) (arg12 : Memref sig .tc .vmem S512x512 .f32) (harg12 : arg12.IsWhole) (arg13 : Memref sig .tc .vmem S128x128 .f32) (harg13 : arg13.IsWhole) (arg1 : BitVec 32)

/-- One trip of loop 3 from any contents: it runs and leaves the lists of stores named in it. -/
@[irreducible] def trip3 (k0_h3 : k0_cond3 i = 1#1) (k : Fin k0_t3_loop.trips)
    (X4 : Buf (Elt F) (arg4.view.loc (c : Thread nD τ))) (X5 : Buf (Elt F) (arg5.view.loc (c : Thread nD τ)))
    (X12 : Buf (Elt F) (arg12.view.loc (c : Thread nD τ))) (f10 : Buf (Elt F) (arg10.view.loc (c : Thread nD τ)))
    (f11 : Buf (Elt F) (arg11.view.loc (c : Thread nD τ))) (f13 : Buf (Elt F) (arg13.view.loc (c : Thread nD τ))) :
    Σ' (L10 : List (View.Piece (Elt F) S512x8x128 .fp8e4m3)) (L11 : List (View.Piece (Elt F) S512x128 .f32)),
      { L13 : List (View.Piece (Elt F) S128x128 .f32) //
      (iprop(at_ c arg4 X4 ∗ at_ c arg5 X5 ∗ at_ c arg12 X12 ∗ at_ c arg10 f10 ∗ at_ c arg11 f11 ∗ at_ c arg13 f13) : sProp 𝕄)
      ⊢ wp frame (wpE (defs₀ (F := F)) 𝒱₀ (c : Thread nD τ) none) Set.univ
        (k0_t3_body (F := F) i arg2 harg2 arg3 harg3 arg4 harg4 arg5 harg5 arg6 harg6 arg7 harg7 arg8 harg8 arg9 harg9 arg10 harg10 arg11 harg11 arg12 harg12 arg13 harg13 arg1 k0_h3 k PUnit.unit)
        (fun _ => iprop(at_ c arg4 X4 ∗ at_ c arg5 X5 ∗ at_ c arg12 X12 ∗ at_ c arg10 (arg10.view.writes (Elt F) f10 L10)
          ∗ at_ c arg11 (arg11.view.writes (Elt F) f11 L11) ∗ at_ c arg13 (arg13.view.writes (Elt F) f13 L13))) } := by
  refine ⟨?_, ?_, ?_, ?run⟩
  case run =>
    unfold k0_t3_body
    iintro ⟨H4, H5, H12, H10, H11, H13⟩
    sl_exec
    sl_step
    sl_close

/-- What head `h` of the word quantises in trip `k`, over the loads made. -/
def y3 (k0_h3 : k0_cond3 i = 1#1) (k : Fin k0_t3_loop.trips) (X4 : Buf (Elt F) (arg4.view.loc (c : Thread nD τ))) (X5 : Buf (Elt F) (arg5.view.loc (c : Thread nD τ)))
    (X12 : Buf (Elt F) (arg12.view.loc (c : Thread nD τ))) : Fin 4 → FVec F S32x128 .f32 := ![
  lin (arg12.view.readAt (Elt F) (Rect.unit (s := S512x512) (k0_off14 k) S32x128.size (k0_off14_inb i k k0_h3)).toLoadRect X12) (arg5.view.readAt (Elt F) (Rect.unit (s := S512x128) (k0_off13 k) S32x128.size (k0_off13_inb i k k0_h3)).toLoadRect X5) (arg4.view.readAt (Elt F) (Rect.unit (s := S1x512) ![0, 0] S1x128.size inb_S1x512_S1x128_0_0).toLoadRect X4),
  lin (arg12.view.readAt (Elt F) (Rect.unit (s := S512x512) (k0_off15 k) S32x128.size (k0_off15_inb i k k0_h3)).toLoadRect X12) (arg5.view.readAt (Elt F) (Rect.unit (s := S512x128) (k0_off13 k) S32x128.size (k0_off13_inb i k k0_h3)).toLoadRect X5) (arg4.view.readAt (Elt F) (Rect.unit (s := S1x512) ![0, 128] S1x128.size inb_S1x512_S1x128_0_128).toLoadRect X4),
  lin (arg12.view.readAt (Elt F) (Rect.unit (s := S512x512) (k0_off16 k) S32x128.size (k0_off16_inb i k k0_h3)).toLoadRect X12) (arg5.view.readAt (Elt F) (Rect.unit (s := S512x128) (k0_off13 k) S32x128.size (k0_off13_inb i k k0_h3)).toLoadRect X5) (arg4.view.readAt (Elt F) (Rect.unit (s := S1x512) ![0, 256] S1x128.size inb_S1x512_S1x128_0_256).toLoadRect X4),
  lin (arg12.view.readAt (Elt F) (Rect.unit (s := S512x512) (k0_off17 k) S32x128.size (k0_off17_inb i k k0_h3)).toLoadRect X12) (arg5.view.readAt (Elt F) (Rect.unit (s := S512x128) (k0_off13 k) S32x128.size (k0_off13_inb i k k0_h3)).toLoadRect X5) (arg4.view.readAt (Elt F) (Rect.unit (s := S1x512) ![0, 384] S1x128.size inb_S1x512_S1x128_0_384).toLoadRect X4)]

theorem trip3_codes (k0_h3 : k0_cond3 i = 1#1) (k : Fin k0_t3_loop.trips) (X4 : Buf (Elt F) (arg4.view.loc (c : Thread nD τ))) (X5 : Buf (Elt F) (arg5.view.loc (c : Thread nD τ)))
    (X12 : Buf (Elt F) (arg12.view.loc (c : Thread nD τ))) (f10 : Buf (Elt F) (arg10.view.loc (c : Thread nD τ)))
    (f11 : Buf (Elt F) (arg11.view.loc (c : Thread nD τ))) (f13 : Buf (Elt F) (arg13.view.loc (c : Thread nD τ))) :
    (trip3 c i arg2 harg2 arg3 harg3 arg4 harg4 arg5 harg5 arg6 harg6 arg7 harg7 arg8 harg8 arg9 harg9 arg10 harg10 arg11 harg11 arg12 harg12 arg13 harg13 arg1 k0_h3 k X4 X5 X12 f10 f11 f13).1 = [⟨Rect.unit (s := S512x8x128) (k0_off18 i k) S32x4x128.size (k0_off18_inb i k k0_h3),
      packed arg13.view f13 (headCode (y3 c i arg4 arg5 arg12 k0_h3 k X4 X5 X12 0)) (headCode (y3 c i arg4 arg5 arg12 k0_h3 k X4 X5 X12 1)) (headCode (y3 c i arg4 arg5 arg12 k0_h3 k X4 X5 X12 2)) (headCode (y3 c i arg4 arg5 arg12 k0_h3 k X4 X5 X12 3))⟩] := by
  unfold trip3; rfl

theorem trip3_scales (k0_h3 : k0_cond3 i = 1#1) (k : Fin k0_t3_loop.trips) (X4 : Buf (Elt F) (arg4.view.loc (c : Thread nD τ))) (X5 : Buf (Elt F) (arg5.view.loc (c : Thread nD τ)))
    (X12 : Buf (Elt F) (arg12.view.loc (c : Thread nD τ))) (f10 : Buf (Elt F) (arg10.view.loc (c : Thread nD τ)))
    (f11 : Buf (Elt F) (arg11.view.loc (c : Thread nD τ))) (f13 : Buf (Elt F) (arg13.view.loc (c : Thread nD τ))) :
    (trip3 c i arg2 harg2 arg3 harg3 arg4 harg4 arg5 harg5 arg6 harg6 arg7 harg7 arg8 harg8 arg9 harg9 arg10 harg10 arg11 harg11 arg12 harg12 arg13 harg13 arg1 k0_h3 k X4 X5 X12 f10 f11 f13).2.1 = [⟨Rect.unit (s := S512x128) (k0_off13 k) S32x128.size (k0_off13_inb i k k0_h3),
      scSel arg1 (headScale (y3 c i arg4 arg5 arg12 k0_h3 k X4 X5 X12 0)) (headScale (y3 c i arg4 arg5 arg12 k0_h3 k X4 X5 X12 1)) (headScale (y3 c i arg4 arg5 arg12 k0_h3 k X4 X5 X12 2)) (headScale (y3 c i arg4 arg5 arg12 k0_h3 k X4 X5 X12 3))
        (shapeCast S32x128 (arg11.view.readAt (Elt F) (Rect.unit (s := S512x128) (k0_off13 k) S32x128.size (k0_off13_inb i k k0_h3)).toLoadRect f11) shapeCasts_S32x128_S32x128)⟩] := by
  unfold trip3; rfl

theorem y3_eq (k0_h3 : k0_cond3 i = 1#1) (k : Fin k0_t3_loop.trips) (X4 : Buf (Elt F) (arg4.view.loc (c : Thread nD τ))) (X5 : Buf (Elt F) (arg5.view.loc (c : Thread nD τ))) (X12 : Buf (Elt F) (arg12.view.loc (c : Thread nD τ))) (h : Fin 4) :
    y3 c i arg4 arg5 arg12 k0_h3 k X4 X5 X12 h = (yV (arg12.view.read (Elt F) X12) (arg4.view.read (Elt F) X4) (arg5.view.read (Elt F) X5)) (⟨k.val, lt_of_lt_of_eq k.isLt trips3⟩ : Fin 16) h := by
  fin_cases h
  · have e := (congr (congr (congrArg lin (readAt_acc arg12.view X12 (k0_off14_inb i k k0_h3) (⟨k.val, lt_of_lt_of_eq k.isLt trips3⟩ : Fin 16) 0 (k0_off14_eq k))) (readAt_chunk arg5.view X5 (k0_off13_inb i k k0_h3) (⟨k.val, lt_of_lt_of_eq k.isLt trips3⟩ : Fin 16) (k0_off13_eq k))) (readAt_ws arg4.view X4 inb_S1x512_S1x128_0_0 0 rfl))
    exact e
  · have e := (congr (congr (congrArg lin (readAt_acc arg12.view X12 (k0_off15_inb i k k0_h3) (⟨k.val, lt_of_lt_of_eq k.isLt trips3⟩ : Fin 16) 1 (k0_off15_eq k))) (readAt_chunk arg5.view X5 (k0_off13_inb i k k0_h3) (⟨k.val, lt_of_lt_of_eq k.isLt trips3⟩ : Fin 16) (k0_off13_eq k))) (readAt_ws arg4.view X4 inb_S1x512_S1x128_0_128 1 rfl))
    exact e
  · have e := (congr (congr (congrArg lin (readAt_acc arg12.view X12 (k0_off16_inb i k k0_h3) (⟨k.val, lt_of_lt_of_eq k.isLt trips3⟩ : Fin 16) 2 (k0_off16_eq k))) (readAt_chunk arg5.view X5 (k0_off13_inb i k k0_h3) (⟨k.val, lt_of_lt_of_eq k.isLt trips3⟩ : Fin 16) (k0_off13_eq k))) (readAt_ws arg4.view X4 inb_S1x512_S1x128_0_256 2 rfl))
    exact e
  · have e := (congr (congr (congrArg lin (readAt_acc arg12.view X12 (k0_off17_inb i k k0_h3) (⟨k.val, lt_of_lt_of_eq k.isLt trips3⟩ : Fin 16) 3 (k0_off17_eq k))) (readAt_chunk arg5.view X5 (k0_off13_inb i k k0_h3) (⟨k.val, lt_of_lt_of_eq k.isLt trips3⟩ : Fin 16) (k0_off13_eq k))) (readAt_ws arg4.view X4 inb_S1x512_S1x128_0_384 3 rfl))
    exact e

/-- A trip's store of codes extends the runs written by one. -/
theorem trip3_read (k0_h3 : k0_cond3 i = 1#1) (k : Fin k0_t3_loop.trips) (X4 : Buf (Elt F) (arg4.view.loc (c : Thread nD τ))) (X5 : Buf (Elt F) (arg5.view.loc (c : Thread nD τ))) (X12 : Buf (Elt F) (arg12.view.loc (c : Thread nD τ))) (f10 : Buf (Elt F) (arg10.view.loc (c : Thread nD τ)))
    (f11 : Buf (Elt F) (arg11.view.loc (c : Thread nD τ))) (f13 : Buf (Elt F) (arg13.view.loc (c : Thread nD τ)))
    (Y : S512x8x128.Idx → F .fp8e4m3)
    (hf : arg10.view.read (Elt F) f10 = updCodes (word3 i) k.val (codeCell (yV (arg12.view.read (Elt F) X12) (arg4.view.read (Elt F) X4) (arg5.view.read (Elt F) X5))) Y) :
    arg10.view.read (Elt F) (arg10.view.writes (Elt F) f10 (trip3 c i arg2 harg2 arg3 harg3 arg4 harg4 arg5 harg5 arg6 harg6 arg7 harg7 arg8 harg8 arg9 harg9 arg10 harg10 arg11 harg11 arg12 harg12 arg13 harg13 arg1 k0_h3 k X4 X5 X12 f10 f11 f13).1) = updCodes (word3 i) (k.val + 1) (codeCell (yV (arg12.view.read (Elt F) X12) (arg4.view.read (Elt F) X4) (arg5.view.read (Elt F) X5))) Y := by
  rw [trip3_codes]
  refine read_writes_codes (k := (⟨k.val, lt_of_lt_of_eq k.isLt trips3⟩ : Fin 16)) arg10.view f10 hf _ _ (off3_word i k0_h3 k) fun a h l => ?_
  refine (packed_apply arg13.view f13 (fun h => headCode (y3 c i arg4 arg5 arg12 k0_h3 k X4 X5 X12 h)) a h l).trans ?_
  unfold codeCell
  rw [runOf_rowIx, inRun_rowIx, y3_eq]

/-- A trip's store of scales extends the runs written by one. -/
theorem trip3_read11 (k0_h3 : k0_cond3 i = 1#1) (hc : arg1 = BitVec.ofNat 32 (i 1).val) (k : Fin k0_t3_loop.trips) (X4 : Buf (Elt F) (arg4.view.loc (c : Thread nD τ))) (X5 : Buf (Elt F) (arg5.view.loc (c : Thread nD τ))) (X12 : Buf (Elt F) (arg12.view.loc (c : Thread nD τ))) (f10 : Buf (Elt F) (arg10.view.loc (c : Thread nD τ)))
    (f11 : Buf (Elt F) (arg11.view.loc (c : Thread nD τ))) (f13 : Buf (Elt F) (arg13.view.loc (c : Thread nD τ)))
    (Y : S512x128.Idx → F .f32)
    (hf : arg11.view.read (Elt F) f11 = updScales (i 1).val k.val (scaleCell (yV (arg12.view.read (Elt F) X12) (arg4.view.read (Elt F) X4) (arg5.view.read (Elt F) X5))) Y) :
    arg11.view.read (Elt F) (arg11.view.writes (Elt F) f11 (trip3 c i arg2 harg2 arg3 harg3 arg4 harg4 arg5 harg5 arg6 harg6 arg7 harg7 arg8 harg8 arg9 harg9 arg10 harg10 arg11 harg11 arg12 harg12 arg13 harg13 arg1 k0_h3 k X4 X5 X12 f10 f11 f13).2.1) = updScales (i 1).val (k.val + 1) (scaleCell (yV (arg12.view.read (Elt F) X12) (arg4.view.read (Elt F) X4) (arg5.view.read (Elt F) X5))) Y := by
  rw [trip3_scales]
  refine read_writes_scales (k := (⟨k.val, lt_of_lt_of_eq k.isLt trips3⟩ : Fin 16)) arg11.view f11 hf _ _ (k0_off13_eq k) fun a l => ?_
  subst hc
  refine (scSel_apply (i 1).val (i 1).isLt (fun h => headScale (y3 c i arg4 arg5 arg12 k0_h3 k X4 X5 X12 h)) _ a l).trans ?_
  refine if_congr Iff.rfl ?_ ?_
  · unfold scaleCell
    rw [runOf_rowIx, inRun_rowIx, y3_eq]
  · rw [shapeCast_apply _ _ (ix2 a l) (ix2 a l) rfl, readAt_chunk arg11.view f11 _ (⟨k.val, lt_of_lt_of_eq k.isLt trips3⟩ : Fin 16) (k0_off13_eq k)]
    rfl

/-- The loop writes the word's codes and its lanes of scales, and keeps all else. -/
theorem loop3 (k0_h3 : k0_cond3 i = 1#1) (hc : arg1 = BitVec.ofNat 32 (i 1).val) (X4 : Buf (Elt F) (arg4.view.loc (c : Thread nD τ))) (X5 : Buf (Elt F) (arg5.view.loc (c : Thread nD τ))) (X12 : Buf (Elt F) (arg12.view.loc (c : Thread nD τ))) (f10 : Buf (Elt F) (arg10.view.loc (c : Thread nD τ)))
    (f11 : Buf (Elt F) (arg11.view.loc (c : Thread nD τ))) (f13 : Buf (Elt F) (arg13.view.loc (c : Thread nD τ))) :
    (iprop(at_ c arg4 X4 ∗ at_ c arg5 X5 ∗ at_ c arg12 X12 ∗ at_ c arg10 f10 ∗ at_ c arg11 f11 ∗ at_ c arg13 f13) : sProp 𝕄)
    ⊢ wp frame (wpE (defs₀ (F := F)) 𝒱₀ (c : Thread nD τ) none) Set.univ
        (Scf.Loop.for k0_t3_loop (k0_t3_ok i k0_h3) ⟨⟩ (k0_t3_body (F := F) i arg2 harg2 arg3 harg3 arg4 harg4 arg5 harg5 arg6 harg6 arg7 harg7 arg8 harg8 arg9 harg9 arg10 harg10 arg11 harg11 arg12 harg12 arg13 harg13 arg1 k0_h3))
        (fun _ => iprop(∃ g10 g11 g13, ⌜arg10.view.read (Elt F) g10 = updCodes (word3 i) 16 (codeCell (yV (arg12.view.read (Elt F) X12) (arg4.view.read (Elt F) X4) (arg5.view.read (Elt F) X5))) (arg10.view.read (Elt F) f10)⌝
    ∗ ⌜arg11.view.read (Elt F) g11 = updScales (i 1).val 16 (scaleCell (yV (arg12.view.read (Elt F) X12) (arg4.view.read (Elt F) X4) (arg5.view.read (Elt F) X5))) (arg11.view.read (Elt F) f11)⌝
    ∗ at_ c arg4 X4 ∗ at_ c arg5 X5 ∗ at_ c arg12 X12 ∗ at_ c arg10 g10 ∗ at_ c arg11 g11 ∗ at_ c arg13 g13)) := by
  have hbody : ∀ (k : Fin k0_t3_loop.trips) (acc : PUnit),
      (iprop(∃ g10 g11 g13, ⌜arg10.view.read (Elt F) g10 = updCodes (word3 i) k.val (codeCell (yV (arg12.view.read (Elt F) X12) (arg4.view.read (Elt F) X4) (arg5.view.read (Elt F) X5))) (arg10.view.read (Elt F) f10)⌝
    ∗ ⌜arg11.view.read (Elt F) g11 = updScales (i 1).val k.val (scaleCell (yV (arg12.view.read (Elt F) X12) (arg4.view.read (Elt F) X4) (arg5.view.read (Elt F) X5))) (arg11.view.read (Elt F) f11)⌝
    ∗ at_ c arg4 X4 ∗ at_ c arg5 X5 ∗ at_ c arg12 X12 ∗ at_ c arg10 g10 ∗ at_ c arg11 g11 ∗ at_ c arg13 g13) : sProp 𝕄)
      ⊢ wp frame (wpE (defs₀ (F := F)) 𝒱₀ (c : Thread nD τ) none) Set.univ (k0_t3_body (F := F) i arg2 harg2 arg3 harg3 arg4 harg4 arg5 harg5 arg6 harg6 arg7 harg7 arg8 harg8 arg9 harg9 arg10 harg10 arg11 harg11 arg12 harg12 arg13 harg13 arg1 k0_h3 k acc)
        (fun _ => iprop(∃ g10 g11 g13, ⌜arg10.view.read (Elt F) g10 = updCodes (word3 i) (k.val + 1) (codeCell (yV (arg12.view.read (Elt F) X12) (arg4.view.read (Elt F) X4) (arg5.view.read (Elt F) X5))) (arg10.view.read (Elt F) f10)⌝
    ∗ ⌜arg11.view.read (Elt F) g11 = updScales (i 1).val (k.val + 1) (scaleCell (yV (arg12.view.read (Elt F) X12) (arg4.view.read (Elt F) X4) (arg5.view.read (Elt F) X5))) (arg11.view.read (Elt F) f11)⌝
    ∗ at_ c arg4 X4 ∗ at_ c arg5 X5 ∗ at_ c arg12 X12 ∗ at_ c arg10 g10 ∗ at_ c arg11 g11 ∗ at_ c arg13 g13)) := by
    intro k acc
    iintro ⟨%g10, %g11, %g13, %e10, %e11, H4, H5, H12, H10, H11, H13⟩
    iapply (wp_wand_r frame (wpE (defs₀ (F := F)) 𝒱₀ (c : Thread nD τ) none) Set.univ)
    isplitl [H4 H5 H12 H10 H11 H13]
    · iapply (trip3 c i arg2 harg2 arg3 harg3 arg4 harg4 arg5 harg5 arg6 harg6 arg7 harg7 arg8 harg8 arg9 harg9 arg10 harg10 arg11 harg11 arg12 harg12 arg13 harg13 arg1 k0_h3 k X4 X5 X12 g10 g11 g13).2.2.2
      sl_close
    · iintro %_ ⟨H4, H5, H12, H10, H11, H13⟩
      iexists _, _, _
      isplitr
      · ipureintro; exact trip3_read c i arg2 harg2 arg3 harg3 arg4 harg4 arg5 harg5 arg6 harg6 arg7 harg7 arg8 harg8 arg9 harg9 arg10 harg10 arg11 harg11 arg12 harg12 arg13 harg13 arg1 k0_h3 k X4 X5 X12 g10 g11 g13 _ e10
      isplitr
      · ipureintro; exact trip3_read11 c i arg2 harg2 arg3 harg3 arg4 harg4 arg5 harg5 arg6 harg6 arg7 harg7 arg8 harg8 arg9 harg9 arg10 harg10 arg11 harg11 arg12 harg12 arg13 harg13 arg1 k0_h3 hc k X4 X5 X12 g10 g11 g13 _ e11
      sl_close
  have h := Scf.wp_for frame (wpE (defs₀ (F := F)) 𝒱₀ (c : Thread nD τ) none) Set.univ k0_t3_loop.lb k0_t3_loop.ub k0_t3_loop.st (k0_t3_ok i k0_h3) (⟨⟩ : PUnit)
    (k0_t3_body (F := F) i arg2 harg2 arg3 harg3 arg4 harg4 arg5 harg5 arg6 harg6 arg7 harg7 arg8 harg8 arg9 harg9 arg10 harg10 arg11 harg11 arg12 harg12 arg13 harg13 arg1 k0_h3)
    (fun k _ => (iprop(∃ g10 g11 g13, ⌜arg10.view.read (Elt F) g10 = updCodes (word3 i) k (codeCell (yV (arg12.view.read (Elt F) X12) (arg4.view.read (Elt F) X4) (arg5.view.read (Elt F) X5))) (arg10.view.read (Elt F) f10)⌝
    ∗ ⌜arg11.view.read (Elt F) g11 = updScales (i 1).val k (scaleCell (yV (arg12.view.read (Elt F) X12) (arg4.view.read (Elt F) X4) (arg5.view.read (Elt F) X5))) (arg11.view.read (Elt F) f11)⌝
    ∗ at_ c arg4 X4 ∗ at_ c arg5 X5 ∗ at_ c arg12 X12 ∗ at_ c arg10 g10 ∗ at_ c arg11 g11 ∗ at_ c arg13 g13) : sProp 𝕄)) hbody
    (Q := fun _ => iprop(∃ g10 g11 g13, ⌜arg10.view.read (Elt F) g10 = updCodes (word3 i) 16 (codeCell (yV (arg12.view.read (Elt F) X12) (arg4.view.read (Elt F) X4) (arg5.view.read (Elt F) X5))) (arg10.view.read (Elt F) f10)⌝
    ∗ ⌜arg11.view.read (Elt F) g11 = updScales (i 1).val 16 (scaleCell (yV (arg12.view.read (Elt F) X12) (arg4.view.read (Elt F) X4) (arg5.view.read (Elt F) X5))) (arg11.view.read (Elt F) f11)⌝
    ∗ at_ c arg4 X4 ∗ at_ c arg5 X5 ∗ at_ c arg12 X12 ∗ at_ c arg10 g10 ∗ at_ c arg11 g11 ∗ at_ c arg13 g13))
  refine .trans ?_ h
  iintro ⟨H4, H5, H12, H10, H11, H13⟩
  isplitl
  · iexists f10, f11, f13
    isplitr
    · ipureintro; rw [updCodes_zero]
    isplitr
    · ipureintro; rw [updScales_zero]
    sl_close
  · iintro %acc H
    rw [show Scf.trips k0_t3_loop.lb k0_t3_loop.ub k0_t3_loop.st = 16 from trips3]
    iexact H

end Cert.Proof.KI

end
-- ==== Proof.Ideal.Body.lean ====
module

public import proofs.«01_k».proof.Proof.Gen.KernelIdeal.Loops
public import proofs.«01_k».proof.Proof.Gen.KernelIdeal.Frame
public import Idealize.ShloMosaic.Lib.Tactic
public import proofs.«01_k».proof.Proof.Ideal.T1
public import proofs.«01_k».proof.Proof.Ideal.T2
public import proofs.«01_k».proof.Proof.Ideal.T3

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What a grid point writes, over the blocks it reads -/

section Steps
variable (i : grid0.Coords) (x : S512x12288.Idx → F .fp8e4m3) (w : S12288x512.Idx → F .fp8e4m3) (W : S1x512.Idx → F .f32) (X C S : S512x128.Idx → F .f32)

/-- The block of query codes after the point. -/
def step8 (Y : S512x32x128.Idx → F .fp8e4m3) : S512x32x128.Idx → F .fp8e4m3 :=
  if (i 1).val < 24 then updCodes (word1 i) 16 (codeCell (yQ (k0_pay1 x w) W X C S)) Y else Y
/-- The block of key codes after the point. -/
def step9 (Y : S512x8x128.Idx → F .fp8e4m3) : S512x8x128.Idx → F .fp8e4m3 :=
  if 24 ≤ (i 1).val ∧ (i 1).val < 26 then updCodes (word2 i) 16 (codeCell (yQ (k0_pay1 x w) W X C S)) Y else Y
/-- The block of value codes after the point. -/
def step10 (Y : S512x8x128.Idx → F .fp8e4m3) : S512x8x128.Idx → F .fp8e4m3 :=
  if 26 ≤ (i 1).val then updCodes (word3 i) 16 (codeCell (yV (k0_pay1 x w) W X)) Y else Y
/-- The block of scales after the point. -/
def step11 (Y : S512x128.Idx → F .f32) : S512x128.Idx → F .f32 :=
  if (i 1).val < 26 then updScales (i 1).val 16 (scaleCell (yQ (k0_pay1 x w) W X C S)) Y
  else updScales (i 1).val 16 (scaleCell (yV (k0_pay1 x w) W X)) Y
end Steps

theorem readAt_full {s : Shape} {e : EltTy} {Val : EltTy → Type} (v : View sig .tc .vmem s e) (f : v.ty.Contents Val)
    {off : Fin s.rank → ℕ} (inb : ∀ a, off a + s.size a ≤ s.size a) : v.readAt Val (Rect.unit off s.size inb).toLoadRect f = v.read Val f :=
  funext fun x => readAt_unit v f inb rfl x x fun a => by have := inb a; omega

theorem read_writes_full {s : Shape} {e : EltTy} {Val : EltTy → Type} (v : View sig .tc .vmem s e) (f : v.ty.Contents Val)
    {off : Fin s.rank → ℕ} (inb : ∀ a, off a + s.size a ≤ s.size a) (w : s.Idx → Val e) :
    v.read Val (v.writes Val f [(⟨Rect.unit off s.size inb, w⟩ : View.Piece Val s e)]) = w :=
  funext fun x => View.read_writes_cons_unit_of_mem v f inb w [] x x rfl fun a => by have := inb a; omega

variable (c : Dev nD) (i : grid0.Coords) (arg2 : Memref sig .tc .vmem S512x12288 .fp8e4m3) (harg2 : arg2.IsWhole) (arg3 : Memref sig .tc .vmem S12288x512 .fp8e4m3) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x32x128 .fp8e4m3) (harg8 : arg8.IsWhole) (arg9 : Memref sig .tc .vmem S512x8x128 .fp8e4m3) (harg9 : arg9.IsWhole) (arg10 : Memref sig .tc .vmem S512x8x128 .fp8e4m3) (harg10 : arg10.IsWhole) (arg11 : Memref sig .tc .vmem S512x128 .f32) (harg11 : arg11.IsWhole) (arg12 : Memref sig .tc .vmem S512x512 .f32) (harg12 : arg12.IsWhole) (arg13 : Memref sig .tc .vmem S128x128 .f32) (harg13 : arg13.IsWhole)

/-- A grid point of the query columns. -/
theorem body1 (hj : (i 1).val < 24) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    (iprop(at_ c arg2 X2 ∗ at_ c arg3 X3 ∗ at_ c arg4 X4 ∗ at_ c arg5 X5 ∗ at_ c arg6 X6 ∗ at_ c arg7 X7 ∗ at_ c arg8 f8 ∗ at_ c arg9 f9 ∗ at_ c arg10 f10 ∗ at_ c arg11 f11 ∗ at_ c arg12 f12 ∗ at_ c arg13 f13) : sProp 𝕄)
    ⊢ wp frame (wpE (defs₀ (F := F)) 𝒱₀ (c : Thread nD τ) none) Set.univ (cc0_qkv_proj (F := F) i arg2 harg2 arg3 harg3 arg4 harg4 arg5 harg5 arg6 harg6 arg7 harg7 arg8 harg8 arg9 harg9 arg10 harg10 arg11 harg11 arg12 harg12 arg13 harg13)
      (fun _ => iprop(∃ g8 g9 g10 g11 g12 g13, ⌜(arg8.view.read (Elt F) g8) = step8 i (arg2.view.read (Elt F) X2) (arg3.view.read (Elt F) X3) (arg4.view.read (Elt F) X4) (arg5.view.read (Elt F) X5) (arg6.view.read (Elt F) X6) (arg7.view.read (Elt F) X7) (arg8.view.read (Elt F) f8)⌝ ∗ ⌜(arg9.view.read (Elt F) g9) = step9 i (arg2.view.read (Elt F) X2) (arg3.view.read (Elt F) X3) (arg4.view.read (Elt F) X4) (arg5.view.read (Elt F) X5) (arg6.view.read (Elt F) X6) (arg7.view.read (Elt F) X7) (arg9.view.read (Elt F) f9)⌝ ∗ ⌜(arg10.view.read (Elt F) g10) = step10 i (arg2.view.read (Elt F) X2) (arg3.view.read (Elt F) X3) (arg4.view.read (Elt F) X4) (arg5.view.read (Elt F) X5) (arg10.view.read (Elt F) f10)⌝ ∗ ⌜(arg11.view.read (Elt F) g11) = step11 i (arg2.view.read (Elt F) X2) (arg3.view.read (Elt F) X3) (arg4.view.read (Elt F) X4) (arg5.view.read (Elt F) X5) (arg6.view.read (Elt F) X6) (arg7.view.read (Elt F) X7) (arg11.view.read (Elt F) f11)⌝ ∗ at_ c arg2 X2 ∗ at_ c arg3 X3 ∗ at_ c arg4 X4 ∗ at_ c arg5 X5 ∗ at_ c arg6 X6 ∗ at_ c arg7 X7 ∗ at_ c arg8 g8 ∗ at_ c arg9 g9 ∗ at_ c arg10 g10 ∗ at_ c arg11 g11 ∗ at_ c arg12 g12 ∗ at_ c arg13 g13)) := by
  have h1 := (cond1_iff i).mpr hj; have h2 : ¬k0_cond2 i = 1#1 := fun h => by have := (cond2_iff i).mp h; omega
  have h3 : ¬k0_cond3 i = 1#1 := fun h => by have := (cond3_iff i).mp h; omega
  simp only [cc0_qkv_proj_eq_skeleton]
  unfold cc0_qkv_proj_skel
  iintro ⟨H2, H3, H4, H5, H6, H7, H8, H9, H10, H11, H12, H13⟩
  sl_exec
  rw [wp_bind]
  iapply (wp_wand_r frame (wpE (defs₀ (F := F)) 𝒱₀ (c : Thread nD τ) none) Set.univ)
  isplitl [H4 H5 H6 H7 H12 H8 H11 H13]
  · iapply (loop1 c i arg2 harg2 arg3 harg3 arg4 harg4 arg5 harg5 arg6 harg6 arg7 harg7 arg8 harg8 arg9 harg9 arg10 harg10 arg11 harg11 arg12 harg12 arg13 harg13 (BitVec.ofNat 32 (i 1).val) h1 rfl X4 X5 X6 X7 _ f8 f11 f13)
    sl_close
  · iintro %_ ⟨%g8, %g11, %g13, %e8, %e11, H4, H5, H6, H7, H12, H8, H11, H13⟩
    have eA : arg12.view.read (Elt F) (arg12.view.writes (Elt F) arg12.view.junk (body1.sl.H12_1 c arg2 arg3 X2 X3)) = k0_pay1 (arg2.view.read (Elt F) X2) (arg3.view.read (Elt F) X3) := by
      refine (read_writes_full arg12.view _ inb_S512x512_S512x512_0_0 _).trans ?_
      exact congr (congrArg k0_pay1 (readAt_full arg2.view X2 inb_S512x12288_S512x12288_0_0)) (readAt_full arg3.view X3 inb_S12288x512_S12288x512_0_0)
    rw [eA] at e8 e11
    sl_exec
    sl_step
    iexists g8, f9, f10, g11, _, _
    isplitr
    · ipureintro; unfold step8; rw [if_pos hj]; exact e8
    isplitr
    · ipureintro; unfold step9; rw [if_neg (by omega)]
    isplitr
    · ipureintro; unfold step10; rw [if_neg (by omega)]
    isplitr
    · ipureintro; unfold step11; rw [if_pos (by omega)]; exact e11
    sl_close

/-- A grid point of the key columns. -/
theorem body2 (hj : 24 ≤ (i 1).val) (hj2 : (i 1).val < 26) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    (iprop(at_ c arg2 X2 ∗ at_ c arg3 X3 ∗ at_ c arg4 X4 ∗ at_ c arg5 X5 ∗ at_ c arg6 X6 ∗ at_ c arg7 X7 ∗ at_ c arg8 f8 ∗ at_ c arg9 f9 ∗ at_ c arg10 f10 ∗ at_ c arg11 f11 ∗ at_ c arg12 f12 ∗ at_ c arg13 f13) : sProp 𝕄)
    ⊢ wp frame (wpE (defs₀ (F := F)) 𝒱₀ (c : Thread nD τ) none) Set.univ (cc0_qkv_proj (F := F) i arg2 harg2 arg3 harg3 arg4 harg4 arg5 harg5 arg6 harg6 arg7 harg7 arg8 harg8 arg9 harg9 arg10 harg10 arg11 harg11 arg12 harg12 arg13 harg13)
      (fun _ => iprop(∃ g8 g9 g10 g11 g12 g13, ⌜(arg8.view.read (Elt F) g8) = step8 i (arg2.view.read (Elt F) X2) (arg3.view.read (Elt F) X3) (arg4.view.read (Elt F) X4) (arg5.view.read (Elt F) X5) (arg6.view.read (Elt F) X6) (arg7.view.read (Elt F) X7) (arg8.view.read (Elt F) f8)⌝ ∗ ⌜(arg9.view.read (Elt F) g9) = step9 i (arg2.view.read (Elt F) X2) (arg3.view.read (Elt F) X3) (arg4.view.read (Elt F) X4) (arg5.view.read (Elt F) X5) (arg6.view.read (Elt F) X6) (arg7.view.read (Elt F) X7) (arg9.view.read (Elt F) f9)⌝ ∗ ⌜(arg10.view.read (Elt F) g10) = step10 i (arg2.view.read (Elt F) X2) (arg3.view.read (Elt F) X3) (arg4.view.read (Elt F) X4) (arg5.view.read (Elt F) X5) (arg10.view.read (Elt F) f10)⌝ ∗ ⌜(arg11.view.read (Elt F) g11) = step11 i (arg2.view.read (Elt F) X2) (arg3.view.read (Elt F) X3) (arg4.view.read (Elt F) X4) (arg5.view.read (Elt F) X5) (arg6.view.read (Elt F) X6) (arg7.view.read (Elt F) X7) (arg11.view.read (Elt F) f11)⌝ ∗ at_ c arg2 X2 ∗ at_ c arg3 X3 ∗ at_ c arg4 X4 ∗ at_ c arg5 X5 ∗ at_ c arg6 X6 ∗ at_ c arg7 X7 ∗ at_ c arg8 g8 ∗ at_ c arg9 g9 ∗ at_ c arg10 g10 ∗ at_ c arg11 g11 ∗ at_ c arg12 g12 ∗ at_ c arg13 g13)) := by
  have h2 := (cond2_iff i).mpr ⟨hj, hj2⟩; have h1 : ¬k0_cond1 i = 1#1 := fun h => by have := (cond1_iff i).mp h; omega
  have h3 : ¬k0_cond3 i = 1#1 := fun h => by have := (cond3_iff i).mp h; omega
  simp only [cc0_qkv_proj_eq_skeleton]
  unfold cc0_qkv_proj_skel
  iintro ⟨H2, H3, H4, H5, H6, H7, H8, H9, H10, H11, H12, H13⟩
  sl_exec
  rw [wp_bind]
  iapply (wp_wand_r frame (wpE (defs₀ (F := F)) 𝒱₀ (c : Thread nD τ) none) Set.univ)
  isplitl [H4 H5 H6 H7 H12 H9 H11 H13]
  · iapply (loop2 c i arg2 harg2 arg3 harg3 arg4 harg4 arg5 harg5 arg6 harg6 arg7 harg7 arg8 harg8 arg9 harg9 arg10 harg10 arg11 harg11 arg12 harg12 arg13 harg13 (BitVec.ofNat 32 (i 1).val) h2 rfl X4 X5 X6 X7 _ f9 f11 f13)
    sl_close
  · iintro %_ ⟨%g9, %g11, %g13, %e9, %e11, H4, H5, H6, H7, H12, H9, H11, H13⟩
    have eA : arg12.view.read (Elt F) (arg12.view.writes (Elt F) arg12.view.junk (body2.sl.H12_1 c arg2 arg3 X2 X3)) = k0_pay1 (arg2.view.read (Elt F) X2) (arg3.view.read (Elt F) X3) := by
      refine (read_writes_full arg12.view _ inb_S512x512_S512x512_0_0 _).trans ?_
      exact congr (congrArg k0_pay1 (readAt_full arg2.view X2 inb_S512x12288_S512x12288_0_0)) (readAt_full arg3.view X3 inb_S12288x512_S12288x512_0_0)
    rw [eA] at e9 e11
    sl_exec
    sl_step
    iexists f8, g9, f10, g11, _, _
    isplitr
    · ipureintro; unfold step8; rw [if_neg (by omega)]
    isplitr
    · ipureintro; unfold step9; rw [if_pos ⟨hj, hj2⟩]; exact e9
    isplitr
    · ipureintro; unfold step10; rw [if_neg (by omega)]
    isplitr
    · ipureintro; unfold step11; rw [if_pos (by omega)]; exact e11
    sl_close

/-- A grid point of the value columns. -/
theorem body3 (hj2 : 26 ≤ (i 1).val) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    (iprop(at_ c arg2 X2 ∗ at_ c arg3 X3 ∗ at_ c arg4 X4 ∗ at_ c arg5 X5 ∗ at_ c arg6 X6 ∗ at_ c arg7 X7 ∗ at_ c arg8 f8 ∗ at_ c arg9 f9 ∗ at_ c arg10 f10 ∗ at_ c arg11 f11 ∗ at_ c arg12 f12 ∗ at_ c arg13 f13) : sProp 𝕄)
    ⊢ wp frame (wpE (defs₀ (F := F)) 𝒱₀ (c : Thread nD τ) none) Set.univ (cc0_qkv_proj (F := F) i arg2 harg2 arg3 harg3 arg4 harg4 arg5 harg5 arg6 harg6 arg7 harg7 arg8 harg8 arg9 harg9 arg10 harg10 arg11 harg11 arg12 harg12 arg13 harg13)
      (fun _ => iprop(∃ g8 g9 g10 g11 g12 g13, ⌜(arg8.view.read (Elt F) g8) = step8 i (arg2.view.read (Elt F) X2) (arg3.view.read (Elt F) X3) (arg4.view.read (Elt F) X4) (arg5.view.read (Elt F) X5) (arg6.view.read (Elt F) X6) (arg7.view.read (Elt F) X7) (arg8.view.read (Elt F) f8)⌝ ∗ ⌜(arg9.view.read (Elt F) g9) = step9 i (arg2.view.read (Elt F) X2) (arg3.view.read (Elt F) X3) (arg4.view.read (Elt F) X4) (arg5.view.read (Elt F) X5) (arg6.view.read (Elt F) X6) (arg7.view.read (Elt F) X7) (arg9.view.read (Elt F) f9)⌝ ∗ ⌜(arg10.view.read (Elt F) g10) = step10 i (arg2.view.read (Elt F) X2) (arg3.view.read (Elt F) X3) (arg4.view.read (Elt F) X4) (arg5.view.read (Elt F) X5) (arg10.view.read (Elt F) f10)⌝ ∗ ⌜(arg11.view.read (Elt F) g11) = step11 i (arg2.view.read (Elt F) X2) (arg3.view.read (Elt F) X3) (arg4.view.read (Elt F) X4) (arg5.view.read (Elt F) X5) (arg6.view.read (Elt F) X6) (arg7.view.read (Elt F) X7) (arg11.view.read (Elt F) f11)⌝ ∗ at_ c arg2 X2 ∗ at_ c arg3 X3 ∗ at_ c arg4 X4 ∗ at_ c arg5 X5 ∗ at_ c arg6 X6 ∗ at_ c arg7 X7 ∗ at_ c arg8 g8 ∗ at_ c arg9 g9 ∗ at_ c arg10 g10 ∗ at_ c arg11 g11 ∗ at_ c arg12 g12 ∗ at_ c arg13 g13)) := by
  have h3 := (cond3_iff i).mpr hj2; have h1 : ¬k0_cond1 i = 1#1 := fun h => by have := (cond1_iff i).mp h; omega
  have h2 : ¬k0_cond2 i = 1#1 := fun h => by have := (cond2_iff i).mp h; omega
  simp only [cc0_qkv_proj_eq_skeleton]
  unfold cc0_qkv_proj_skel
  iintro ⟨H2, H3, H4, H5, H6, H7, H8, H9, H10, H11, H12, H13⟩
  sl_exec
  rw [wp_bind]
  iapply (wp_wand_r frame (wpE (defs₀ (F := F)) 𝒱₀ (c : Thread nD τ) none) Set.univ)
  isplitl [H4 H5 H12 H10 H11 H13]
  · iapply (loop3 c i arg2 harg2 arg3 harg3 arg4 harg4 arg5 harg5 arg6 harg6 arg7 harg7 arg8 harg8 arg9 harg9 arg10 harg10 arg11 harg11 arg12 harg12 arg13 harg13 (BitVec.ofNat 32 (i 1).val) h3 rfl X4 X5 _ f10 f11 f13)
    sl_close
  · iintro %_ ⟨%g10, %g11, %g13, %e10, %e11, H4, H5, H12, H10, H11, H13⟩
    have eA : arg12.view.read (Elt F) (arg12.view.writes (Elt F) arg12.view.junk (body3.sl.H12_1 c arg2 arg3 X2 X3)) = k0_pay1 (arg2.view.read (Elt F) X2) (arg3.view.read (Elt F) X3) := by
      refine (read_writes_full arg12.view _ inb_S512x512_S512x512_0_0 _).trans ?_
      exact congr (congrArg k0_pay1 (readAt_full arg2.view X2 inb_S512x12288_S512x12288_0_0)) (readAt_full arg3.view X3 inb_S12288x512_S12288x512_0_0)
    rw [eA] at e10 e11
    sl_exec
    sl_step
    iexists f8, f9, g10, g11, _, _
    isplitr
    · ipureintro; unfold step8; rw [if_neg (by omega)]
    isplitr
    · ipureintro; unfold step9; rw [if_neg (by omega)]
    isplitr
    · ipureintro; unfold step10; rw [if_pos hj2]; exact e10
    isplitr
    · ipureintro; unfold step11; rw [if_neg (by omega)]; exact e11
    sl_close

/-- A grid point's body, over whatever its buffers hold. -/
theorem body_step (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    (iprop(at_ c arg2 X2 ∗ at_ c arg3 X3 ∗ at_ c arg4 X4 ∗ at_ c arg5 X5 ∗ at_ c arg6 X6 ∗ at_ c arg7 X7 ∗ at_ c arg8 f8 ∗ at_ c arg9 f9 ∗ at_ c arg10 f10 ∗ at_ c arg11 f11 ∗ at_ c arg12 f12 ∗ at_ c arg13 f13) : sProp 𝕄)
    ⊢ wp frame (wpE (defs₀ (F := F)) 𝒱₀ (c : Thread nD τ) none) Set.univ (cc0_qkv_proj (F := F) i arg2 harg2 arg3 harg3 arg4 harg4 arg5 harg5 arg6 harg6 arg7 harg7 arg8 harg8 arg9 harg9 arg10 harg10 arg11 harg11 arg12 harg12 arg13 harg13)
      (fun _ => iprop(∃ g8 g9 g10 g11 g12 g13, ⌜(arg8.view.read (Elt F) g8) = step8 i (arg2.view.read (Elt F) X2) (arg3.view.read (Elt F) X3) (arg4.view.read (Elt F) X4) (arg5.view.read (Elt F) X5) (arg6.view.read (Elt F) X6) (arg7.view.read (Elt F) X7) (arg8.view.read (Elt F) f8)⌝ ∗ ⌜(arg9.view.read (Elt F) g9) = step9 i (arg2.view.read (Elt F) X2) (arg3.view.read (Elt F) X3) (arg4.view.read (Elt F) X4) (arg5.view.read (Elt F) X5) (arg6.view.read (Elt F) X6) (arg7.view.read (Elt F) X7) (arg9.view.read (Elt F) f9)⌝ ∗ ⌜(arg10.view.read (Elt F) g10) = step10 i (arg2.view.read (Elt F) X2) (arg3.view.read (Elt F) X3) (arg4.view.read (Elt F) X4) (arg5.view.read (Elt F) X5) (arg10.view.read (Elt F) f10)⌝ ∗ ⌜(arg11.view.read (Elt F) g11) = step11 i (arg2.view.read (Elt F) X2) (arg3.view.read (Elt F) X3) (arg4.view.read (Elt F) X4) (arg5.view.read (Elt F) X5) (arg6.view.read (Elt F) X6) (arg7.view.read (Elt F) X7) (arg11.view.read (Elt F) f11)⌝ ∗ at_ c arg2 X2 ∗ at_ c arg3 X3 ∗ at_ c arg4 X4 ∗ at_ c arg5 X5 ∗ at_ c arg6 X6 ∗ at_ c arg7 X7 ∗ at_ c arg8 g8 ∗ at_ c arg9 g9 ∗ at_ c arg10 g10 ∗ at_ c arg11 g11 ∗ at_ c arg12 g12 ∗ at_ c arg13 g13)) := by
  rcases Nat.lt_or_ge (i 1).val 24 with hj | hj
  · exact body1 c i arg2 harg2 arg3 harg3 arg4 harg4 arg5 harg5 arg6 harg6 arg7 harg7 arg8 harg8 arg9 harg9 arg10 harg10 arg11 harg11 arg12 harg12 arg13 harg13 hj X2 X3 X4 X5 X6 X7 f8 f9 f10 f11 f12 f13
  rcases Nat.lt_or_ge (i 1).val 26 with hj2 | hj2
  · exact body2 c i arg2 harg2 arg3 harg3 arg4 harg4 arg5 harg5 arg6 harg6 arg7 harg7 arg8 harg8 arg9 harg9 arg10 harg10 arg11 harg11 arg12 harg12 arg13 harg13 hj hj2 X2 X3 X4 X5 X6 X7 f8 f9 f10 f11 f12 f13
  · exact body3 c i arg2 harg2 arg3 harg3 arg4 harg4 arg5 harg5 arg6 harg6 arg7 harg7 arg8 harg8 arg9 harg9 arg10 harg10 arg11 harg11 arg12 harg12 arg13 harg13 hj2 X2 X3 X4 X5 X6 X7 f8 f9 f10 f11 f12 f13

end Cert.Proof.KI

end
-- ==== Proof.Ideal.Cells.lean ====
module

public import Idealize.ShloMosaic.Lib.Pipeline.DatRel
public import Idealize.ShloMosaic.Lib.Pipeline.Kit
public import proofs.«01_k».proof.Proof.Ideal.Body

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

/-! ## The grid's points -/

/-- A point's column of the grid. -/
theorem col_val (t : Fin cfg0.N) : (grid0.coords t 1).val = t.val % 28 := by
  have h := Pipeline.Grid.coords_val (G := grid0) t 1 (S := 1) (B := 28) (by decide) rfl
  rw [h, Nat.div_one]

/-- A point's row of the grid. -/
theorem row_val (t : Fin cfg0.N) : (grid0.coords t 0).val = t.val / 28 := by
  have h := Pipeline.Grid.coords_val (G := grid0) t 0 (S := 28) (B := 18) (by decide) rfl
  have ht : t.val < 504 := Nat.lt_of_lt_of_eq t.isLt N_0
  rw [h]; omega

/-- The point of `t`'s row of the grid at column `j`. -/
def pt (t : Fin cfg0.N) (j : ℕ) : Fin cfg0.N :=
  ⟨28 * (t.val / 28) + j % 28, by have ht : t.val < 504 := Nat.lt_of_lt_of_eq t.isLt N_0; have hN : cfg0.N = 504 := N_0; omega⟩

theorem pt_self (t : Fin cfg0.N) {j : ℕ} (h : j = t.val % 28) : pt t j = t := by
  apply Fin.ext; show 28 * (t.val / 28) + j % 28 = t.val; omega

theorem pt_congr {t u : Fin cfg0.N} (h : t.val / 28 = u.val / 28) (j : ℕ) : pt t j = pt u j := by
  apply Fin.ext; show 28 * (t.val / 28) + j % 28 = 28 * (u.val / 28) + j % 28; rw [h]

/-- The block of query codes is written back at the last of each run of columns that share it. -/
theorem flush0_6 : ∀ t : Fin cfg0.N, (cfg0.win 6).flush t = true ↔ (t.val % 28 = 7 ∨ t.val % 28 = 15 ∨ t.val % 28 = 27) :=
  (by decide +kernel : ∀ t : Fin grid0.N, win0_6.flush t = true ↔ (t.val % 28 = 7 ∨ t.val % 28 = 15 ∨ t.val % 28 = 27))

/-! ## The cells of the results -/

section Cells
variable (m : (ℓ : Loc nD τ sig) → Buf (Elt F) ℓ) (c : Dev nD)

/-- The rotated rows of the point's four heads, run by run. -/
def qAt (t : Fin cfg0.N) : Fin 16 → Fin 4 → FVec F S32x128 .f32 :=
  yQ (k0_pay1 (iblk m c 0 t) (iblk m c 1 t)) (iblk m c 2 t) (iblk m c 3 t) (iblk m c 4 t) (iblk m c 5 t)
/-- The rows of the point's four heads without rotation, run by run. -/
def vAt (t : Fin cfg0.N) : Fin 16 → Fin 4 → FVec F S32x128 .f32 :=
  yV (k0_pay1 (iblk m c 0 t) (iblk m c 1 t)) (iblk m c 2 t) (iblk m c 3 t)

/-- The first column that writes into the block of query codes that `t` holds. -/
def base6 (t : ℕ) : ℕ := 8 * min (t % 28 / 8) 2

/-- The block of query codes, complete. -/
def fin6 (t : Fin cfg0.N) : S512x32x128.Idx → F .fp8e4m3 := fun x =>
  codeCell (qAt m c (pt t (base6 t.val + (x 1).val / 4))) (x 0) ⟨(x 1).val % 4, by omega⟩ (x 2)
/-- The block of key codes, complete. -/
def fin7 (t : Fin cfg0.N) : S512x8x128.Idx → F .fp8e4m3 := fun x =>
  codeCell (qAt m c (pt t (24 + (x 1).val / 4))) (x 0) ⟨(x 1).val % 4, by omega⟩ (x 2)
/-- The block of value codes, complete. -/
def fin8 (t : Fin cfg0.N) : S512x8x128.Idx → F .fp8e4m3 := fun x =>
  codeCell (vAt m c (pt t (26 + (x 1).val / 4))) (x 0) ⟨(x 1).val % 4, by omega⟩ (x 2)
/-- The block of scales, complete (of the lanes from 112 on nothing is meant). -/
def fin9 (t : Fin cfg0.N) : S512x128.Idx → F .f32 := fun x =>
  if (x 1).val / 4 < 26 then scaleCell (qAt m c (pt t ((x 1).val / 4))) (x 0) ⟨(x 1).val % 4, by omega⟩ (x 1)
  else scaleCell (vAt m c (pt t ((x 1).val / 4))) (x 0) ⟨(x 1).val % 4, by omega⟩ (x 1)

/-- The query codes written by the columns up to `t`'s are the complete block's. -/
def ok6 (t : Fin cfg0.N) (X : S512x32x128.Idx → F .fp8e4m3) : Prop :=
  ∀ x : S512x32x128.Idx, base6 t.val + (x 1).val / 4 ≤ t.val % 28 → X x = fin6 m c t x
/-- The key codes written by the columns up to `t`'s are the complete block's. -/
def ok7 (t : Fin cfg0.N) (X : S512x8x128.Idx → F .fp8e4m3) : Prop :=
  ∀ x : S512x8x128.Idx, 24 + (x 1).val / 4 ≤ t.val % 28 → X x = fin7 m c t x
/-- The value codes written by the columns up to `t`'s are the complete block's. -/
def ok8 (t : Fin cfg0.N) (X : S512x8x128.Idx → F .fp8e4m3) : Prop :=
  ∀ x : S512x8x128.Idx, 26 + (x 1).val / 4 ≤ t.val % 28 → X x = fin8 m c t x
/-- The scales written by the columns up to `t`'s are the complete block's. -/
def ok9 (t : Fin cfg0.N) (X : S512x128.Idx → F .f32) : Prop :=
  ∀ x : S512x128.Idx, (x 1).val / 4 ≤ t.val % 28 → X x = fin9 m c t x

/-- The point before `t`. -/
def prev (t : Fin cfg0.N) : Fin cfg0.N := ⟨t.val - 1, Nat.lt_of_le_of_lt (Nat.sub_le _ _) t.isLt⟩

theorem base6_prev (t : Fin cfg0.N) (h : ¬(t.val % 28 = 0 ∨ t.val % 28 = 8 ∨ t.val % 28 = 16)) : base6 (prev t).val = base6 t.val := by
  unfold base6; show 8 * min ((t.val - 1) % 28 / 8) 2 = _; omega

theorem pt_prev (t : Fin cfg0.N) (h : t.val % 28 ≠ 0) (j : ℕ) : pt (prev t) j = pt t j :=
  pt_congr (show (t.val - 1) / 28 = t.val / 28 by omega) j

theorem ok6_step (t : Fin cfg0.N) (Y : S512x32x128.Idx → F .fp8e4m3)
    (hY : ¬(t.val % 28 = 0 ∨ t.val % 28 = 8 ∨ t.val % 28 = 16) → ok6 m c (prev t) Y) :
    ok6 m c t (step8 (grid0.coords t) (iblk m c 0 t) (iblk m c 1 t) (iblk m c 2 t) (iblk m c 3 t) (iblk m c 4 t) (iblk m c 5 t) Y) := by
  intro x hx
  have h1 : (x 1).val < 32 := (x 1).isLt
  have h0 : (x 0).val < 512 := (x 0).isLt
  have hb : base6 t.val = 8 * min (t.val % 28 / 8) 2 := rfl
  have hold : ¬(base6 t.val + (x 1).val / 4 = t.val % 28) → Y x = fin6 m c t x := fun hne => by
    have hn : ¬(t.val % 28 = 0 ∨ t.val % 28 = 8 ∨ t.val % 28 = 16) := by omega
    have e := hY hn x (by rw [base6_prev t hn]; show _ ≤ (t.val - 1) % 28; omega)
    rw [e]; unfold fin6; rw [base6_prev t hn, pt_prev t (by omega)]
  unfold step8
  split
  · next hj =>
    rw [col_val] at hj
    unfold updCodes word1; rw [col_val]
    split
    · next hq =>
      unfold fin6; rw [pt_self t (j := base6 t.val + (x 1).val / 4) (by omega)]; rfl
    · next hq => exact hold (by omega)
  · next hj => rw [col_val] at hj; exact hold (by omega)

theorem ok7_step (t : Fin cfg0.N) (Y : S512x8x128.Idx → F .fp8e4m3) (hY : t.val % 28 ≠ 0 → ok7 m c (prev t) Y) :
    ok7 m c t (step9 (grid0.coords t) (iblk m c 0 t) (iblk m c 1 t) (iblk m c 2 t) (iblk m c 3 t) (iblk m c 4 t) (iblk m c 5 t) Y) := by
  intro x hx
  have h1 : (x 1).val < 8 := (x 1).isLt
  have h0 : (x 0).val < 512 := (x 0).isLt
  have hold : ¬(24 + (x 1).val / 4 = t.val % 28) → Y x = fin7 m c t x := fun hne => by
    have e := hY (by omega) x (by show _ ≤ (t.val - 1) % 28; omega)
    rw [e]; unfold fin7; rw [pt_prev t (by omega)]
  unfold step9
  split
  · next hj =>
    rw [col_val] at hj
    unfold updCodes word2; rw [col_val]
    split
    · next hq =>
      unfold fin7; rw [pt_self t (j := 24 + (x 1).val / 4) (by omega)]; rfl
    · next hq => exact hold (by omega)
  · next hj => rw [col_val] at hj; exact hold (by omega)

theorem ok8_step (t : Fin cfg0.N) (Y : S512x8x128.Idx → F .fp8e4m3) (hY : t.val % 28 ≠ 0 → ok8 m c (prev t) Y) :
    ok8 m c t (step10 (grid0.coords t) (iblk m c 0 t) (iblk m c 1 t) (iblk m c 2 t) (iblk m c 3 t) Y) := by
  intro x hx
  have h1 : (x 1).val < 8 := (x 1).isLt
  have h0 : (x 0).val < 512 := (x 0).isLt
  have hold : ¬(26 + (x 1).val / 4 = t.val % 28) → Y x = fin8 m c t x := fun hne => by
    have e := hY (by omega) x (by show _ ≤ (t.val - 1) % 28; omega)
    rw [e]; unfold fin8; rw [pt_prev t (by omega)]
  unfold step10
  split
  · next hj =>
    rw [col_val] at hj
    unfold updCodes word3; rw [col_val]
    split
    · next hq =>
      unfold fin8; rw [pt_self t (j := 26 + (x 1).val / 4) (by omega)]; rfl
    · next hq => exact hold (by omega)
  · next hj => rw [col_val] at hj; exact hold (by omega)

theorem ok9_step (t : Fin cfg0.N) (Y : S512x128.Idx → F .f32) (hY : t.val % 28 ≠ 0 → ok9 m c (prev t) Y) :
    ok9 m c t (step11 (grid0.coords t) (iblk m c 0 t) (iblk m c 1 t) (iblk m c 2 t) (iblk m c 3 t) (iblk m c 4 t) (iblk m c 5 t) Y) := by
  intro x hx
  have h1 : (x 1).val < 128 := (x 1).isLt
  have h0 : (x 0).val < 512 := (x 0).isLt
  have hold : ¬((x 1).val / 4 = t.val % 28) → Y x = fin9 m c t x := fun hne => by
    have e := hY (by omega) x (by show _ ≤ (t.val - 1) % 28; omega)
    rw [e]; unfold fin9; rw [pt_prev t (by omega)]
  unfold step11
  rw [col_val]
  split
  · next hj =>
    unfold updScales
    split
    · next hq =>
      unfold fin9; rw [pt_self t (j := (x 1).val / 4) (by omega), if_pos (by omega)]; rfl
    · next hq => exact hold (by omega)
  · next hj =>
    unfold updScales
    split
    · next hq =>
      unfold fin9; rw [pt_self t (j := (x 1).val / 4) (by omega), if_neg (by omega)]; rfl
    · next hq => exact hold (by omega)

end Cells

end Cert.Proof.KI

end
-- ==== Proof.Ideal.Rel.lean ====
module

public import Idealize.ShloMosaic.Lib.Pipeline.DatRel
public import Idealize.ShloMosaic.Lib.Pipeline.Kit
public import proofs.«01_k».proof.Proof.Ideal.Cells
public import Idealize.ShloMosaic.Lib.Pipeline.ArrRel
public import Idealize.ShloMosaic.Lib.Pipeline.Frame
public import Idealize.ShloMosaic.Lib.Pipeline.FrameBody

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ (UR sig nD τ) ℕ

section Owns
variable (c : Dev nD) (i : grid0.Coords) (arg2 : Memref sig .tc .vmem S512x12288 .fp8e4m3) (harg2 : arg2.IsWhole) (arg3 : Memref sig .tc .vmem S12288x512 .fp8e4m3) (harg3 : arg3.IsWhole) (arg4 : Memref sig .tc .vmem S1x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x32x128 .fp8e4m3) (harg8 : arg8.IsWhole) (arg9 : Memref sig .tc .vmem S512x8x128 .fp8e4m3) (harg9 : arg9.IsWhole) (arg10 : Memref sig .tc .vmem S512x8x128 .fp8e4m3) (harg10 : arg10.IsWhole) (arg11 : Memref sig .tc .vmem S512x128 .f32) (harg11 : arg11.IsWhole) (arg12 : Memref sig .tc .vmem S512x512 .f32) (harg12 : arg12.IsWhole) (arg13 : Memref sig .tc .vmem S128x128 .f32) (harg13 : arg13.IsWhole)
/-- A grid point's triple over what the memrefs hold: the inputs are left, each output's block takes the point's step. -/
theorem body_owns (x : S512x12288.Idx → F .fp8e4m3) (w : S12288x512.Idx → F .fp8e4m3) (W : S1x512.Idx → F .f32) (X : S512x128.Idx → F .f32) (C : S512x128.Idx → F .f32) (S : S512x128.Idx → F .f32) (Y8 : S512x32x128.Idx → F .fp8e4m3) (Y9 Y10 : S512x8x128.Idx → F .fp8e4m3) (Y11 : S512x128.Idx → F .f32) :
    (iprop(owns (c : Thread nD τ) arg2 fullShare x ∗ owns (c : Thread nD τ) arg3 fullShare w ∗ owns (c : Thread nD τ) arg4 fullShare W ∗ owns (c : Thread nD τ) arg5 fullShare X ∗ owns (c : Thread nD τ) arg6 fullShare C ∗ owns (c : Thread nD τ) arg7 fullShare S ∗ owns (c : Thread nD τ) arg8 fullShare Y8 ∗ owns (c : Thread nD τ) arg9 fullShare Y9 ∗ owns (c : Thread nD τ) arg10 fullShare Y10 ∗ owns (c : Thread nD τ) arg11 fullShare Y11 ∗ (∃ f, at_ c arg12 f) ∗ (∃ f, at_ c arg13 f)) : sProp 𝕄)
    ⊢ wp frame (wpE (defs₀ (F := F)) 𝒱₀ (c : Thread nD τ) none) Set.univ (cc0_qkv_proj (F := F) i arg2 harg2 arg3 harg3 arg4 harg4 arg5 harg5 arg6 harg6 arg7 harg7 arg8 harg8 arg9 harg9 arg10 harg10 arg11 harg11 arg12 harg12 arg13 harg13)
      (fun _ => iprop(owns (c : Thread nD τ) arg2 fullShare x ∗ owns (c : Thread nD τ) arg3 fullShare w ∗ owns (c : Thread nD τ) arg4 fullShare W ∗ owns (c : Thread nD τ) arg5 fullShare X ∗ owns (c : Thread nD τ) arg6 fullShare C ∗ owns (c : Thread nD τ) arg7 fullShare S ∗ owns (c : Thread nD τ) arg8 fullShare (step8 i x w W X C S Y8) ∗ owns (c : Thread nD τ) arg9 fullShare (step9 i x w W X C S Y9) ∗ owns (c : Thread nD τ) arg10 fullShare (step10 i x w W X Y10) ∗ owns (c : Thread nD τ) arg11 fullShare (step11 i x w W X C S Y11) ∗ (∃ f, at_ c arg12 f) ∗ (∃ f, at_ c arg13 f))) := by
  unfold owns
  iintro ⟨⟨%X2, %e2, H2⟩, ⟨%X3, %e3, H3⟩, ⟨%X4, %e4, H4⟩, ⟨%X5, %e5, H5⟩, ⟨%X6, %e6, H6⟩, ⟨%X7, %e7, H7⟩, ⟨%f8, %e8, H8⟩, ⟨%f9, %e9, H9⟩, ⟨%f10, %e10, H10⟩, ⟨%f11, %e11, H11⟩, ⟨%f12, H12⟩, ⟨%f13, H13⟩⟩
  subst e2
  subst e3
  subst e4
  subst e5
  subst e6
  subst e7
  subst e8
  subst e9
  subst e10
  subst e11
  iapply (wp_wand_r frame (wpE (defs₀ (F := F)) 𝒱₀ (c : Thread nD τ) none) Set.univ)
  isplitl [H2 H3 H4 H5 H6 H7 H8 H9 H10 H11 H12 H13]
  · iapply (body_step c i arg2 harg2 arg3 harg3 arg4 harg4 arg5 harg5 arg6 harg6 arg7 harg7 arg8 harg8 arg9 harg9 arg10 harg10 arg11 harg11 arg12 harg12 arg13 harg13 X2 X3 X4 X5 X6 X7 f8 f9 f10 f11 f12 f13)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %u ⟨%g8, %g9, %g10, %g11, %g12, %g13, %r8, %r9, %r10, %r11, H2, H3, H4, H5, H6, H7, H8, H9, H10, H11, H12, H13⟩
  isplitl [H2]
  · iexists X2
    isplitr [H2]
    · ipureintro; rfl
    iexact H2
  isplitl [H3]
  · iexists X3
    isplitr [H3]
    · ipureintro; rfl
    iexact H3
  isplitl [H4]
  · iexists X4
    isplitr [H4]
    · ipureintro; rfl
    iexact H4
  isplitl [H5]
  · iexists X5
    isplitr [H5]
    · ipureintro; rfl
    iexact H5
  isplitl [H6]
  · iexists X6
    isplitr [H6]
    · ipureintro; rfl
    iexact H6
  isplitl [H7]
  · iexists X7
    isplitr [H7]
    · ipureintro; rfl
    iexact H7
  isplitl [H8]
  · iexists g8
    isplitr [H8]
    · ipureintro; exact r8
    iexact H8
  isplitl [H9]
  · iexists g9
    isplitr [H9]
    · ipureintro; exact r9
    iexact H9
  isplitl [H10]
  · iexists g10
    isplitr [H10]
    · ipureintro; exact r10
    iexact H10
  isplitl [H11]
  · iexists g11
    isplitr [H11]
    · ipureintro; exact r11
    iexact H11
  isplitl [H12]; · iexists g12; iexact H12
  iexists g13; iexact H13

end Owns

/-- The accumulator held whole is its memref held. -/
theorem at_scratch0 (c : Dev nD) (f : Buf (Elt F) ((c : Thread nD τ).loc cc0_scratch0)) :
    (at_ c (Memref.whole cc0_scratch0) f : sProp 𝕄) = (((c : Thread nD τ).loc cc0_scratch0) ↦{fullShare} f) := by
  unfold at_; rw [show (Memref.whole cc0_scratch0).view.set = Finset.univ from View.set_whole _]
/-- The packing buffer held whole is its memref held. -/
theorem at_scratch1 (c : Dev nD) (f : Buf (Elt F) ((c : Thread nD τ).loc cc0_scratch1)) :
    (at_ c (Memref.whole cc0_scratch1) f : sProp 𝕄) = (((c : Thread nD τ).loc cc0_scratch1) ↦{fullShare} f) := by
  unfold at_; rw [show (Memref.whole cc0_scratch1).view.set = Finset.univ from View.set_whole _]

/-! ## The proof data -/

section Data
variable (m : (ℓ : Loc nD τ sig) → Buf (Elt F) ℓ) (ρ : Dev nD → PrngReg)

/-- The proof data of the pipeline on core `c`: the arrays as the region finds them, each input's buffer left at its block,
    each output's block complete. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fin6 m c t
    | ⟨7, _⟩ => fin7 m c t
    | ⟨8, _⟩ => fin8 m c t
    | ⟨9, _⟩ => fin9 m c t
  Φ _ := Pipeline.ΦA spec0 c
  q _ := fullShare
  owed _ := 0

/-- The windows of which only part is stated at each point: the four outputs. -/
def part : Fin 10 → Bool := ![false, false, false, false, false, false, true, true, true, true]

/-- What is stated of an output's block after a point: what has been written so far. -/
def said (c : Dev nD) (w : Fin cfg0.W) (t : Fin cfg0.N) : ((cfg0.win w).block.Idx → Elt F (cfg0.win w).elt) → Prop := match w with
    | ⟨0, _⟩ => fun _ => True
    | ⟨1, _⟩ => fun _ => True
    | ⟨2, _⟩ => fun _ => True
    | ⟨3, _⟩ => fun _ => True
    | ⟨4, _⟩ => fun _ => True
    | ⟨5, _⟩ => fun _ => True
    | ⟨6, _⟩ => ok6 m c t
    | ⟨7, _⟩ => ok7 m c t
    | ⟨8, _⟩ => ok8 m c t
    | ⟨9, _⟩ => ok9 m c t

/-- The relational data. -/
abbrev rdat (c : Dev nD) : RDat τ (Elt F) Unit ℕ (UR sig nD τ) ℕ cfg0 c := (dats m 0 c).toRRel part (said m c)

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem said_6 (c : Dev nD) (t : Fin cfg0.N) : said m c 6 t = ok6 m c t := by dsimp only [said]
theorem said_7 (c : Dev nD) (t : Fin cfg0.N) : said m c 7 t = ok7 m c t := by dsimp only [said]
theorem said_8 (c : Dev nD) (t : Fin cfg0.N) : said m c 8 t = ok8 m c t := by dsimp only [said]
theorem said_9 (c : Dev nD) (t : Fin cfg0.N) : said m c 9 t = ok9 m c t := by dsimp only [said]

/-! ## What a point finds in an output's block -/

theorem finds_6 (c : Dev nD) (t : Fin cfg0.N) (Y : S512x32x128.Idx → F .fp8e4m3) (h : (rdat m c).Finds 6 t Y)
    (ht : ¬(t.val % 28 = 0 ∨ t.val % 28 = 8 ∨ t.val % 28 = 16)) : ok6 m c (prev t) Y := by
  have hlt : t.val < 504 := Nat.lt_of_lt_of_eq t.isLt N_0
  rcases ((rdat m c).finds_of_pos (w := 6) (t := t) rfl (by omega) Y).mp h with hf | hl
  · have := (flush0_6 (prev t)).mp hf
    rw [show (prev t).val = t.val - 1 from rfl] at this; omega
  · have := (dats m 0 c).toRRel_leaves (fgt := part) (Rl := said m c) (w := 6) rfl hl
    rw [said_6] at this; exact this
theorem finds_7 (c : Dev nD) (t : Fin cfg0.N) (Y : S512x8x128.Idx → F .fp8e4m3) (h : (rdat m c).Finds 7 t Y)
    (ht : t.val % 28 ≠ 0) : ok7 m c (prev t) Y := by
  have hlt : t.val < 504 := Nat.lt_of_lt_of_eq t.isLt N_0
  rcases ((rdat m c).finds_of_pos (w := 7) (t := t) rfl (by omega) Y).mp h with hf | hl
  · have := (flush0_7 (prev t)).mp hf
    rw [show (prev t).val = t.val - 1 from rfl] at this; omega
  · have := (dats m 0 c).toRRel_leaves (fgt := part) (Rl := said m c) (w := 7) rfl hl
    rw [said_7] at this; exact this
theorem finds_8 (c : Dev nD) (t : Fin cfg0.N) (Y : S512x8x128.Idx → F .fp8e4m3) (h : (rdat m c).Finds 8 t Y)
    (ht : t.val % 28 ≠ 0) : ok8 m c (prev t) Y := by
  have hlt : t.val < 504 := Nat.lt_of_lt_of_eq t.isLt N_0
  rcases ((rdat m c).finds_of_pos (w := 8) (t := t) rfl (by omega) Y).mp h with hf | hl
  · have := (flush0_8 (prev t)).mp hf
    rw [show (prev t).val = t.val - 1 from rfl] at this; omega
  · have := (dats m 0 c).toRRel_leaves (fgt := part) (Rl := said m c) (w := 8) rfl hl
    rw [said_8] at this; exact this
theorem finds_9 (c : Dev nD) (t : Fin cfg0.N) (Y : S512x128.Idx → F .f32) (h : (rdat m c).Finds 9 t Y)
    (ht : t.val % 28 ≠ 0) : ok9 m c (prev t) Y := by
  have hlt : t.val < 504 := Nat.lt_of_lt_of_eq t.isLt N_0
  rcases ((rdat m c).finds_of_pos (w := 9) (t := t) rfl (by omega) Y).mp h with hf | hl
  · have := (flush0_9 (prev t)).mp hf
    rw [show (prev t).val = t.val - 1 from rfl] at this; omega
  · have := (dats m 0 c).toRRel_leaves (fgt := part) (Rl := said m c) (w := 9) rfl hl
    rw [said_9] at this; exact this

/-- What the body is called with at a point, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜(rdat m c).Finds 6 t Y⌝ ∗ owns (c : Thread nD τ) (st0_6 t) fullShare Y)
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y))

/-- and what it returns. -/
def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜said m c 6 t X⌝ ∗ owns (c : Thread nD τ) (st0_6 t) fullShare X)
    ∗ (∃ X, ⌜said m c 7 t X⌝ ∗ owns (c : Thread nD τ) (st0_7 t) fullShare X)
    ∗ (∃ X, ⌜said m c 8 t X⌝ ∗ owns (c : Thread nD τ) (st0_8 t) fullShare X)
    ∗ (∃ X, ⌜said m c 9 t X⌝ ∗ owns (c : Thread nD τ) (st0_9 t) fullShare X))

/-- The body at any point. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, said_6, said_7, said_8, said_9,
    show (dats m 0 c).Φ t.castSucc = iprop(Pipeline.scopedRest spec0 c ∗ ∃ r, prngReg c r) from rfl, scopedRest0_eq]
  simp only [← at_scratch0, ← at_scratch1]
  iintro ⟨⟨⟨Hs0, Hs1⟩, Hp⟩, Ho, ⟨%d0, H0⟩, ⟨%d1, H1⟩, ⟨%d2, H2⟩, ⟨%d3, H3⟩, ⟨%d4, H4⟩, ⟨%d5, H5⟩, ⟨%Y6, %h6, H6⟩, ⟨%Y7, %h7, H7⟩, ⟨%Y8, %h8, H8⟩, ⟨%Y9, %h9, H9⟩⟩
  iapply (wp_wand_r frame (wpE (defs₀ (F := F)) 𝒱₀ (c : Thread nD τ) none) Set.univ)
  isplitl [H0 H1 H2 H3 H4 H5 H6 H7 H8 H9 Hs0 Hs1]
  · iapply (body_owns c _ _ _ _ _ _ _ _ _ _ _ _ _ _ _ _ _ _ _ _ _ _ _ _ _  (iblk m c 0 t) (iblk m c 1 t) (iblk m c 2 t) (iblk m c 3 t) (iblk m c 4 t) (iblk m c 5 t) Y6 Y7 Y8 Y9)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hs0]; · iexact Hs0
    iexact Hs1
  iintro %u ⟨H0, H1, H2, H3, H4, H5, H6, H7, H8, H9, Hs0, Hs1⟩
  isplitl [Hs0 Hs1 Hp]
  · isplitl [Hs0 Hs1]
    · isplitl [Hs0]; · iexact Hs0
      iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _
    isplitr [H6]
    · ipureintro; exact ok6_step m c t Y6 (finds_6 m c t Y6 h6)
    iexact H6
  isplitl [H7]
  · iexists _
    isplitr [H7]
    · ipureintro; exact ok7_step m c t Y7 (finds_7 m c t Y7 h7)
    iexact H7
  isplitl [H8]
  · iexists _
    isplitr [H8]
    · ipureintro; exact ok8_step m c t Y8 (finds_8 m c t Y8 h8)
    iexact H8
  iexists _
  isplitr [H9]
  · ipureintro; exact ok9_step m c t Y9 (finds_9 m c t Y9 h9)
  iexact H9

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation of the relational data, at every point. -/
theorem body_obligation (c : Dev nD) : BodyObligationRel (dats (F := F) m 0 c) (defs₀ (F := F)) 𝒱₀ () Set.univ part (said m c) := fun t => by
  rw [bigSep_W0, bigSep_W0, defs₀_row]
  exact triple_restated (sound_body m c t) rfl .rfl fun _ => .rfl

/-! ## The run -/

set_option backward.isDefEq.respectTransparency.types false in
set_option maxHeartbeats 800000 in
/-- The run of the whole program: every array ends as the relational data allow, every counter at zero. -/
theorem run_main : θ_run defs (onTc (τ := τ) (main (F := F))) (s₀ m ρ) (fun r => RDat.FramePost cfg0 (rdat m) (V m) r ∧ r.2.sem = fun _ => 0) :=
  RDat.θ_run_frame (Q' := _) cfgs (0 : Fin 1) launch0 defs₀ 𝒱₀ (rdat m) m ρ main
    (hbody := fun c => (body_obligation m c).toRRel) (hshare := fun c w => (dats m 0 c).share_full (fun _ => rfl) w)
    (howed := fun _ _ => rfl) (V := V m) (hmain := hmain m 𝒱₀) (hA := A_eq m) (hΦ := fun _ _ => rfl) (hQ' := fun _ h => h)

end Data

end Cert.Proof.KI

end
-- ==== Proof.Ideal.Final.lean ====
module

public import Idealize.ShloMosaic.Lib.Pipeline.DatRel
public import Idealize.ShloMosaic.Lib.Pipeline.Kit
public import proofs.«01_k».proof.Proof.Ideal.Rel
public import Idealize.ShloMosaic.Lib.Pipeline.Value
public import Idealize.ShloMosaic.Lib.Pipeline.ValueKit.Geometry
public import Idealize.ShloMosaic.Lib.Pipeline.ArrRel
public import Idealize.ShloMosaic.Lib.Pipeline.Frame
public import Idealize.ShloMosaic.Lib.Pipeline.FrameBody

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ (UR sig nD τ) ℕ

section Final
variable (m : (ℓ : Loc nD τ sig) → Buf (Elt F) ℓ) (ρ : Dev nD → PrngReg)

/-! ## The argument arrays -/

theorem args_of {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans ((A_eq m c 0).trans (V_main_arg0 m c)),
   (h.arr_in c 1 rfl).trans ((A_eq m c 1).trans (V_main_arg1 m c)),
   ((h c).2 main_arg2 (Pipeline.mem_restRefs_of main_arg2 (by decide) (by decide))).trans (V_main_arg2 m c),
   (h.arr_in c 3 rfl).trans ((A_eq m c 3).trans (V_main_arg3 m c)),
   (h.arr_in c 4 rfl).trans ((A_eq m c 4).trans (V_main_arg4 m c)),
   (h.arr_in c 5 rfl).trans ((A_eq m c 5).trans (V_main_arg5 m c))⟩

/-- The program runs, its argument arrays end unchanged and every counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_of m h.1, h.2⟩) (run_main m ρ)

/-! ## The results -/

/-- The grid's point at row `i` and column `j`. -/
def pij (i j : ℕ) (hi : i < 18) (hj : j < 28) : Fin cfg0.N := ⟨28 * i + j, by have hN : cfg0.N = 504 := N_0; omega⟩

theorem pt_eq_pij {t : Fin cfg0.N} {i j : ℕ} (hi : i < 18) (hj : j < 28) (h : t.val / 28 = i) : pt t j = pij i j hi hj := by
  apply Fin.ext; show 28 * (t.val / 28) + j % 28 = 28 * i + j; omega

/-- Result 1 at an index: the code of query head `x 1` of row `x 0` at lane `x 2`. -/
def res0 (c : Dev nD) (x : S9216x96x128.Idx) : F .fp8e4m3 :=
  codeCell (qAt m c (pij ((x 0).val / 512) ((x 1).val / 4) (by have := (x 0).isLt; have : (x 0).val < 9216 := this; omega) (by have := (x 1).isLt; have : (x 1).val < 96 := this; omega)))
    ⟨(x 0).val % 512, by omega⟩ ⟨(x 1).val % 4, by omega⟩ (x 2)
/-- Result 2 at an index: the code of key head `x 1`. -/
def res1 (c : Dev nD) (x : S9216x8x128.Idx) : F .fp8e4m3 :=
  codeCell (qAt m c (pij ((x 0).val / 512) (24 + (x 1).val / 4) (by have := (x 0).isLt; have : (x 0).val < 9216 := this; omega) (by have := (x 1).isLt; have : (x 1).val < 8 := this; omega)))
    ⟨(x 0).val % 512, by omega⟩ ⟨(x 1).val % 4, by omega⟩ (x 2)
/-- Result 3 at an index: the code of value head `x 1`. -/
def res2 (c : Dev nD) (x : S9216x8x128.Idx) : F .fp8e4m3 :=
  codeCell (vAt m c (pij ((x 0).val / 512) (26 + (x 1).val / 4) (by have := (x 0).isLt; have : (x 0).val < 9216 := this; omega) (by have := (x 1).isLt; have : (x 1).val < 8 := this; omega)))
    ⟨(x 0).val % 512, by omega⟩ ⟨(x 1).val % 4, by omega⟩ (x 2)
/-- Result 4 at an index of a lane that is written: the scale of head `x 1` of row `x 0`. -/
def res3 (c : Dev nD) (x : S9216x128.Idx) (hx : (x 1).val < 112) : F .f32 :=
  if (x 1).val / 4 < 26 then
    scaleCell (qAt m c (pij ((x 0).val / 512) ((x 1).val / 4) (by have := (x 0).isLt; have : (x 0).val < 9216 := this; omega) (by omega)))
      ⟨(x 0).val % 512, by omega⟩ ⟨(x 1).val % 4, by omega⟩ (x 1)
  else
    scaleCell (vAt m c (pij ((x 0).val / 512) ((x 1).val / 4) (by have := (x 0).isLt; have : (x 0).val < 9216 := this; omega) (by omega)))
      ⟨(x 0).val % 512, by omega⟩ ⟨(x 1).val % 4, by omega⟩ (x 1)

theorem index6 : ∀ t : Fin cfg0.N, win0_6.index t = ![t.val / 28, min (t.val % 28 / 8) 2, 0] :=
  (by decide +kernel : ∀ t : Fin grid0.N, _)
theorem index7 : ∀ t : Fin cfg0.N, win0_7.index t = ![t.val / 28, 0, 0] :=
  (by decide +kernel : ∀ t : Fin grid0.N, _)
theorem index8 : ∀ t : Fin cfg0.N, win0_8.index t = ![t.val / 28, 0, 0] :=
  (by decide +kernel : ∀ t : Fin grid0.N, _)
theorem index9 : ∀ t : Fin cfg0.N, win0_9.index t = ![t.val / 28, 0] :=
  (by decide +kernel : ∀ t : Fin grid0.N, _)

section At
variable {c : Dev nD} {after : (w' : Fin cfg0.W) → Fin cfg0.N → (cfg0.win w').block.Idx → Elt F (cfg0.win w').elt}
  (hL : ∀ (w : Fin cfg0.W) (u : Fin cfg0.N), (cfg0.win w).flush u = true → (rdat m c).Leaves w u (after w u))
include hL

omit hL in
theorem fin6_at (t : Fin cfg0.N) (y : S512x32x128.Idx) (i : S9216x96x128.Idx) (e0 : (i 0).val = t.val / 28 * 512 + (y 0).val) (e1 : (i 1).val = min (t.val % 28 / 8) 2 * 32 + (y 1).val) (e2 : (i 2).val = 0 * 128 + (y 2).val) : fin6 m c t y = res0 m c i := by
  have h0 : (y 0).val < 512 := (y 0).isLt
  have h1 : (y 1).val < 32 := (y 1).isLt
  have hi1 : (i 1).val < 96 := (i 1).isLt
  have hi0 : (i 0).val < 9216 := (i 0).isLt
  have hb : base6 t.val = 8 * min (t.val % 28 / 8) 2 := rfl
  unfold fin6 res0
  rw [pt_eq_pij (t := t) (j := base6 t.val + (y 1).val / 4) (i := t.val / 28) (by omega) (by omega) rfl]
  have ep : pij ((i 0).val / 512) ((i 1).val / 4) (by omega) (by omega) = pij (t.val / 28) (base6 t.val + (y 1).val / 4) (by omega) (by omega) :=
    Fin.ext (by show 28 * _ + _ = 28 * _ + _; omega)
  have e0' : (⟨(i 0).val % 512, by omega⟩ : Fin 512) = y 0 := Fin.ext (by show (i 0).val % 512 = (y 0).val; omega)
  have e1' : (⟨(i 1).val % 4, by omega⟩ : Fin 4) = ⟨(y 1).val % 4, by omega⟩ := Fin.ext (by show (i 1).val % 4 = (y 1).val % 4; omega)
  have e2' : (i 2 : Fin 128) = y 2 := Fin.ext (by omega)
  rw [ep, e0', e1', e2']

theorem arr_6 (i : S9216x96x128.Idx) : ((rdat m c).withAfter after).arrAt 6 cfg0.N i = res0 m c i := by
  refine (((rdat m c).withAfter after).arrAt_forall_of_covers 6 (fun i v => v = res0 m c i) (by decide +kernel) (fun t hf y => ?_) i)
  have hs := (dats m 0 c).toRRel_leaves (fgt := part) (Rl := said m c) (w := 6) rfl (hL 6 t hf)
  rw [said_6] at hs
  have hft := (flush0_6 t).mp hf
  blk_simp
  exact (hs y (by have h1 : (y 1).val < 32 := (y 1).isLt; have hb : base6 t.val = 8 * min (t.val % 28 / 8) 2 := rfl; omega)).trans (fin6_at m t y _ (by blk_simp [index6]) (by blk_simp [index6]) (by blk_simp [index6]))

omit hL in
theorem fin7_at (t : Fin cfg0.N) (y : S512x8x128.Idx) (i : S9216x8x128.Idx) (e0 : (i 0).val = t.val / 28 * 512 + (y 0).val) (e1 : (i 1).val = 0 * 8 + (y 1).val) (e2 : (i 2).val = 0 * 128 + (y 2).val) : fin7 m c t y = res1 m c i := by
  have h0 : (y 0).val < 512 := (y 0).isLt
  have h1 : (y 1).val < 8 := (y 1).isLt
  have hi1 : (i 1).val < 8 := (i 1).isLt
  have hi0 : (i 0).val < 9216 := (i 0).isLt
  have hb : base6 t.val = 8 * min (t.val % 28 / 8) 2 := rfl
  unfold fin7 res1
  rw [pt_eq_pij (t := t) (j := 24 + (y 1).val / 4) (i := t.val / 28) (by omega) (by omega) rfl]
  have ep : pij ((i 0).val / 512) (24 + (i 1).val / 4) (by omega) (by omega) = pij (t.val / 28) (24 + (y 1).val / 4) (by omega) (by omega) :=
    Fin.ext (by show 28 * _ + _ = 28 * _ + _; omega)
  have e0' : (⟨(i 0).val % 512, by omega⟩ : Fin 512) = y 0 := Fin.ext (by show (i 0).val % 512 = (y 0).val; omega)
  have e1' : (⟨(i 1).val % 4, by omega⟩ : Fin 4) = ⟨(y 1).val % 4, by omega⟩ := Fin.ext (by show (i 1).val % 4 = (y 1).val % 4; omega)
  have e2' : (i 2 : Fin 128) = y 2 := Fin.ext (by omega)
  rw [ep, e0', e1', e2']

theorem arr_7 (i : S9216x8x128.Idx) : ((rdat m c).withAfter after).arrAt 7 cfg0.N i = res1 m c i := by
  refine (((rdat m c).withAfter after).arrAt_forall_of_covers 7 (fun i v => v = res1 m c i) (by decide +kernel) (fun t hf y => ?_) i)
  have hs := (dats m 0 c).toRRel_leaves (fgt := part) (Rl := said m c) (w := 7) rfl (hL 7 t hf)
  rw [said_7] at hs
  have hft := (flush0_7 t).mp hf
  blk_simp
  exact (hs y (by have h1 : (y 1).val < 8 := (y 1).isLt; omega)).trans (fin7_at m t y _ (by blk_simp [index7]) (by blk_simp [index7]) (by blk_simp [index7]))

omit hL in
theorem fin8_at (t : Fin cfg0.N) (y : S512x8x128.Idx) (i : S9216x8x128.Idx) (e0 : (i 0).val = t.val / 28 * 512 + (y 0).val) (e1 : (i 1).val = 0 * 8 + (y 1).val) (e2 : (i 2).val = 0 * 128 + (y 2).val) : fin8 m c t y = res2 m c i := by
  have h0 : (y 0).val < 512 := (y 0).isLt
  have h1 : (y 1).val < 8 := (y 1).isLt
  have hi1 : (i 1).val < 8 := (i 1).isLt
  have hi0 : (i 0).val < 9216 := (i 0).isLt
  have hb : base6 t.val = 8 * min (t.val % 28 / 8) 2 := rfl
  unfold fin8 res2
  rw [pt_eq_pij (t := t) (j := 26 + (y 1).val / 4) (i := t.val / 28) (by omega) (by omega) rfl]
  have ep : pij ((i 0).val / 512) (26 + (i 1).val / 4) (by omega) (by omega) = pij (t.val / 28) (26 + (y 1).val / 4) (by omega) (by omega) :=
    Fin.ext (by show 28 * _ + _ = 28 * _ + _; omega)
  have e0' : (⟨(i 0).val % 512, by omega⟩ : Fin 512) = y 0 := Fin.ext (by show (i 0).val % 512 = (y 0).val; omega)
  have e1' : (⟨(i 1).val % 4, by omega⟩ : Fin 4) = ⟨(y 1).val % 4, by omega⟩ := Fin.ext (by show (i 1).val % 4 = (y 1).val % 4; omega)
  have e2' : (i 2 : Fin 128) = y 2 := Fin.ext (by omega)
  rw [ep, e0', e1', e2']

theorem arr_8 (i : S9216x8x128.Idx) : ((rdat m c).withAfter after).arrAt 8 cfg0.N i = res2 m c i := by
  refine (((rdat m c).withAfter after).arrAt_forall_of_covers 8 (fun i v => v = res2 m c i) (by decide +kernel) (fun t hf y => ?_) i)
  have hs := (dats m 0 c).toRRel_leaves (fgt := part) (Rl := said m c) (w := 8) rfl (hL 8 t hf)
  rw [said_8] at hs
  have hft := (flush0_8 t).mp hf
  blk_simp
  exact (hs y (by have h1 : (y 1).val < 8 := (y 1).isLt; omega)).trans (fin8_at m t y _ (by blk_simp [index8]) (by blk_simp [index8]) (by blk_simp [index8]))

omit hL in
theorem fin9_at (t : Fin cfg0.N) (y : S512x128.Idx) (i : S9216x128.Idx) (e0 : (i 0).val = t.val / 28 * 512 + (y 0).val) (e1 : (i 1).val = 0 * 128 + (y 1).val) (hx : (i 1).val < 112) : fin9 m c t y = res3 m c i hx := by
  have h0 : (y 0).val < 512 := (y 0).isLt
  have h1 : (y 1).val < 128 := (y 1).isLt
  have hi0 : (i 0).val < 9216 := (i 0).isLt
  unfold fin9 res3
  rw [pt_eq_pij (t := t) (j := (y 1).val / 4) (i := t.val / 28) (by omega) (by omega) rfl]
  have ep : pij ((i 0).val / 512) ((i 1).val / 4) (by omega) (by omega) = pij (t.val / 28) ((y 1).val / 4) (by omega) (by omega) :=
    Fin.ext (by show 28 * _ + _ = 28 * _ + _; omega)
  have e0' : (⟨(i 0).val % 512, by omega⟩ : Fin 512) = y 0 := Fin.ext (by show (i 0).val % 512 = (y 0).val; omega)
  have e1' : (⟨(i 1).val % 4, by omega⟩ : Fin 4) = ⟨(y 1).val % 4, by omega⟩ := Fin.ext (by show (i 1).val % 4 = (y 1).val % 4; omega)
  have e2' : (i 1 : Fin 128) = y 1 := Fin.ext (by omega)
  rw [ep, e0', e1', e2']

theorem arr_9 (i : S9216x128.Idx) (hx : (i 1).val < 112) : ((rdat m c).withAfter after).arrAt 9 cfg0.N i = res3 m c i hx := by
  refine (((rdat m c).withAfter after).arrAt_forall_of_covers 9 (fun i v => ∀ hx : (i 1).val < 112, v = res3 m c i hx) (by decide +kernel) (fun t hf y => ?_) i) hx
  have hs := (dats m 0 c).toRRel_leaves (fgt := part) (Rl := said m c) (w := 9) rfl (hL 9 t hf)
  rw [said_9] at hs
  have hft := (flush0_9 t).mp hf
  blk_simp
  intro hx
  exact (hs y (by have hx' := hx; blk_simp [index9] at hx'; omega)).trans (fin9_at m t y _ (by blk_simp [index9]) (by blk_simp [index9]) (by blk_simp; exact hx))

end At

/-- The program runs, and every core ends with the four results at their cells, the scales in the lanes that are written,
    and the argument arrays unchanged. -/
theorem run_cells : θ_run defs (onTc (τ := τ) (main (F := F))) ⟨m, fun _ => 0, ρ⟩ (fun r => ∀ c : Dev nD,
      (∀ i : S9216x96x128.Idx, r.2.mem ((c.tc : Thread nD τ).loc main_v1_0) i = res0 m c i)
      ∧ (∀ i : S9216x8x128.Idx, r.2.mem ((c.tc : Thread nD τ).loc main_v1_1) i = res1 m c i)
      ∧ (∀ i : S9216x8x128.Idx, r.2.mem ((c.tc : Thread nD τ).loc main_v1_2) i = res2 m c i)
      ∧ (∀ (i : S9216x128.Idx) (hx : (i 1).val < 112), r.2.mem ((c.tc : Thread nD τ).loc main_v1_3) i = res3 m c i hx)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨after, hL, hA⟩ := h.1.exists_exact c
    exact ⟨fun i => (congrFun (hA 6) i).trans (arr_6 m hL i), fun i => (congrFun (hA 7) i).trans (arr_7 m hL i),
      fun i => (congrFun (hA 8) i).trans (arr_8 m hL i), fun i hx => (congrFun (hA 9) i).trans (arr_9 m hL i hx), args_of m h.1 c⟩)
    (run_main m ρ)

end Final

end Cert.Proof.KI

end
-- ==== Proof.Scale.lean ====
module

public import Idealize.ShloMosaic.Lib.Pointwise.Tactic

@[expose] public section

noncomputable section

namespace Cert.Proof

open Idealize.ShloMosaic

/-! ## The power-of-two scale of a row, over the extended reals -/

/-- The float of the reciprocal of the largest code. -/
def unit448 : EReal := Ideal.ofBits .f32 0x3B124925#32

/-- One step of the kernel's search: bit `b` joins `v` where `t` is not below the float of both. -/
def fstep (b : BitVec 32) (t : EReal) (v : BitVec 32) : BitVec 32 := if t < Ideal.ofBits .f32 (v ||| b) then v else v ||| b

/-- The exponent bits that the kernel's eight steps find. -/
def fbits (t : EReal) : BitVec 32 :=
  fstep 8388608#32 t (fstep 16777216#32 t (fstep 33554432#32 t (fstep 67108864#32 t (fstep 134217728#32 t
    (fstep 268435456#32 t (fstep 536870912#32 t (fstep 1073741824#32 t 0#32)))))))

/-- The exponent bits, full ones for a number too large. -/
def gbits (t : EReal) : BitVec 32 := if t < Ideal.ofBits .f32 0x7E800000#32 then fbits t else 2139095040#32

/-- The kernel's exponent bits of a row whose maximum over 448 is `t`. -/
def sbits (t : EReal) : BitVec 32 := if t = 0 ∨ gbits t = 2139095040#32 then 1056964608#32 else gbits t

/-- The reference's exponent of a row with largest magnitude `a`. -/
def rexp (a : EReal) : EReal :=
  if a = 0 ∨ Ideal.ofBits .f32 0x7E800000#32 ≤ a * unit448 then 0
  else max (Ideal.liftRound Int.floor (Ideal.div (Ideal.log (a * unit448)) (Ideal.log (Ideal.ofBits .f32 0x40000000#32)))
    + Ideal.ofBits .f32 0x3F800000#32) (Ideal.ofBits .f32 0xC2FC0000#32)

/-- The float with exponent field `E` and no fraction. -/
def pw (E : ℕ) : EReal := Ideal.ofBits .f32 (BitVec.ofNat 32 (E * 8388608))

theorem pw_fields : ∀ E : Fin 256, (BitVec.ofNat 32 (E.val * 8388608)).extractLsb' (8 + 23) 1 = 0#1
    ∧ ((BitVec.ofNat 32 (E.val * 8388608)).extractLsb' 23 8).toNat = E.val
    ∧ ((BitVec.ofNat 32 (E.val * 8388608)).extractLsb' 0 23).toNat = 0 := by decide +kernel

/-- An exponent field from 1 to 254 denotes a power of two. -/
theorem pw_eq (E : ℕ) (h1 : 1 ≤ E) (h2 : E ≤ 254) : pw E = (((2 : ℝ) ^ ((E : ℤ) - 127) : ℝ) : EReal) := by
  obtain ⟨f1, f2, f3⟩ := pw_fields ⟨E, by omega⟩
  simp only at f1 f2 f3
  show Ideal.ieee 8 23 _ = _
  unfold Ideal.ieee
  simp only [f1, f2, f3]
  rw [if_neg (by omega), if_neg (by omega)]
  congr 1
  have : ((E : ℤ) - 127) = 23 + ((E : ℤ) - (2 ^ (8 - 1) - 1) - (23 : ℕ)) := by norm_num
  rw [this, zpow_add₀ (by norm_num)]
  norm_num

/-- The zero field denotes zero. -/
theorem pw_zero : pw 0 = 0 := Ideal.ofBits_zero_f32

/-- The full field denotes infinity. -/
theorem pw_top : pw 255 = ⊤ := by
  show Ideal.ieee 8 23 (BitVec.ofNat 32 (255 * 8388608)) = _
  unfold Ideal.ieee
  obtain ⟨f1, f2, f3⟩ := pw_fields ⟨255, by omega⟩
  simp only at f1 f2 f3
  simp only [f1, f2, f3]
  simp

theorem or_bits : ∀ (k : Fin 8) (E : Fin 256), E.val % 2 ^ (k.val + 1) = 0 →
    BitVec.ofNat 32 (E.val * 8388608) ||| BitVec.ofNat 32 (2 ^ k.val * 8388608) = BitVec.ofNat 32 ((E.val + 2 ^ k.val) * 8388608) := by
  decide +kernel

/-- What the search has found after the steps down to bit `k`: a field `E` of high bits with `t` at or above its float and
    below the next such field's. -/
def Found (t : EReal) (k : ℕ) (v : BitVec 32) : Prop :=
  ∃ E : ℕ, v = BitVec.ofNat 32 (E * 8388608) ∧ E % 2 ^ k = 0 ∧ E + 2 ^ k ≤ 256 ∧ pw E ≤ t ∧ (E + 2 ^ k = 256 ∨ t < pw (E + 2 ^ k))

theorem found_step (t : EReal) (k : ℕ) (hk : k < 8) (v : BitVec 32) (b : BitVec 32) (hb : b = BitVec.ofNat 32 (2 ^ k * 8388608))
    (h : Found t (k + 1) v) : Found t k (fstep b t v) := by
  obtain ⟨E, rfl, hm, hle, hlo, hhi⟩ := h
  subst hb
  have hp : 2 ^ (k + 1) = 2 ^ k + 2 ^ k := by rw [pow_succ]; omega
  have hpos : 0 < 2 ^ k := Nat.pos_of_ne_zero (by positivity)
  have hor := or_bits ⟨k, hk⟩ ⟨E, by omega⟩ hm
  simp only at hor
  have hd : 2 ^ (k + 1) ∣ E := Nat.dvd_of_mod_eq_zero hm
  have hd' : 2 ^ k ∣ E := dvd_trans ⟨2, by rw [pow_succ]⟩ hd
  unfold fstep
  rw [hor]
  split
  · rename_i hlt
    exact ⟨E, rfl, Nat.mod_eq_zero_of_dvd hd', by omega, hlo, Or.inr hlt⟩
  · rename_i hlt
    refine ⟨E + 2 ^ k, rfl, Nat.mod_eq_zero_of_dvd (dvd_add hd' dvd_rfl), by omega, not_lt.mp hlt, ?_⟩
    rw [show E + 2 ^ k + 2 ^ k = E + 2 ^ (k + 1) by omega]
    exact hhi

/-- The field found for a non-negative number. -/
theorem found_fbits (t : EReal) (h : 0 ≤ t) : Found t 0 (fbits t) := by
  have h0 : Found t 8 0#32 := ⟨0, rfl, rfl, by norm_num, by rw [pw_zero]; exact h, Or.inl rfl⟩
  unfold fbits
  iterate 8 refine found_step t _ (by norm_num) _ _ (by decide) ?_
  exact h0

/-- The field of a positive real below 2^126. -/
theorem fbits_eq (r : ℝ) (h : 0 < r) (hlt : (r : EReal) < Ideal.ofBits .f32 0x7E800000#32) :
    ∃ E : ℕ, E ≤ 252 ∧ fbits (r : EReal) = BitVec.ofNat 32 (E * 8388608) ∧ (1 ≤ E → (2 : ℝ) ^ ((E : ℤ) - 127) ≤ r) ∧ r < (2 : ℝ) ^ ((E : ℤ) - 126) := by
  obtain ⟨E, hv, -, hle, hlo, hhi⟩ := found_fbits (r : EReal) (by exact_mod_cast h.le)
  simp only [pow_zero] at hle hhi
  have h253 : Ideal.ofBits .f32 0x7E800000#32 = pw 253 := rfl
  rw [h253] at hlt
  have hE : E ≤ 252 := by
    by_contra hc
    have : pw 253 ≤ pw E := by
      rcases (by omega : E ≤ 254 ∨ E = 255) with h' | h'
      · rw [pw_eq 253 (by norm_num) (by norm_num), pw_eq E (by omega) h']
        exact EReal.coe_le_coe_iff.mpr (zpow_le_zpow_right₀ (by norm_num) (by omega))
      · rw [h', pw_top]; exact le_top
    exact absurd (lt_of_lt_of_le hlt this) (not_lt.mpr hlo)
  refine ⟨E, hE, hv, fun h1 => ?_, ?_⟩
  · rw [pw_eq E h1 (by omega)] at hlo
    exact_mod_cast hlo
  · rcases hhi with h' | h'
    · omega
    · rw [pw_eq (E + 1) (by omega) (by omega)] at h'
      have h'' : r < (2 : ℝ) ^ (((E + 1 : ℕ) : ℤ) - 127) := by exact_mod_cast h'
      rwa [show (((E + 1 : ℕ) : ℤ) - 127) = (E : ℤ) - 126 by push_cast; ring] at h''

theorem unit448_pos : ∃ u : ℝ, 0 < u ∧ unit448 = (u : EReal) := by
  refine ⟨(2 ^ 23 + 1198373 : ℕ) * (2 : ℝ) ^ (-32 : ℤ), by positivity, ?_⟩
  unfold unit448
  show Ideal.ieee 8 23 0x3B124925#32 = _
  unfold Ideal.ieee
  simp

theorem two_eq : Ideal.ofBits .f32 0x40000000#32 = ((2 : ℝ) : EReal) := by
  rw [show Ideal.ofBits .f32 0x40000000#32 = pw 128 from rfl, pw_eq 128 (by norm_num) (by norm_num)]
  norm_num

theorem neg126_eq : Ideal.ofBits .f32 0xC2FC0000#32 = ((-126 : ℝ) : EReal) := by
  show Ideal.ieee 8 23 0xC2FC0000#32 = _
  unfold Ideal.ieee
  simp
  rw [← EReal.coe_mul]
  norm_num

/-- The reference's exponent of a row whose maximum over 448 is a positive real below 2^126. -/
theorem rexp_eq (r : ℝ) (h : 0 < r) (E : ℕ) (h1 : 1 ≤ E → (2 : ℝ) ^ ((E : ℤ) - 127) ≤ r) (h2 : r < (2 : ℝ) ^ ((E : ℤ) - 126)) :
    max (Ideal.liftRound Int.floor (Ideal.div (Ideal.log (r : EReal)) (Ideal.log (Ideal.ofBits .f32 0x40000000#32)))
      + Ideal.ofBits .f32 0x3F800000#32) (Ideal.ofBits .f32 0xC2FC0000#32) = (((E : ℝ) - 126 : ℝ) : EReal) := by
  rw [two_eq, neg126_eq, Ideal.ofBits_one_f32]
  have hlog : Ideal.log (r : EReal) = (Real.log r : EReal) := by
    show (if r ≤ 0 then (⊥ : EReal) else (Real.log r : EReal)) = _
    rw [if_neg (not_le.mpr h)]
  have hlog2 : Ideal.log ((2 : ℝ) : EReal) = (Real.log 2 : EReal) := by
    show (if (2 : ℝ) ≤ 0 then (⊥ : EReal) else (Real.log 2 : EReal)) = _
    rw [if_neg (by norm_num)]
  have hl2 : (0 : ℝ) < Real.log 2 := Real.log_pos (by norm_num)
  have hdiv : Ideal.div (Real.log r : EReal) (Real.log 2 : EReal) = ((Real.log r / Real.log 2 : ℝ) : EReal) := by
    unfold Ideal.div
    rw [if_neg (by exact_mod_cast hl2.ne'), div_eq_mul_inv, EReal.coe_mul, EReal.coe_inv]
  rw [hlog, hlog2, hdiv]
  show max ((((⌊Real.log r / Real.log 2⌋ : ℤ) : ℝ) : EReal) + 1) _ = _
  have hlz : ∀ z : ℤ, Real.log ((2 : ℝ) ^ z) = z * Real.log 2 := fun z => Real.log_zpow 2 z
  have hup : Real.log r / Real.log 2 < (E : ℝ) - 126 := by
    rw [div_lt_iff₀ hl2]
    have := Real.log_lt_log h h2
    rw [hlz] at this; push_cast at this; exact this
  have hfl : ⌊Real.log r / Real.log 2⌋ < (E : ℤ) - 126 := by
    rw [Int.floor_lt]; push_cast; exact hup
  have hm : max (((⌊Real.log r / Real.log 2⌋ : ℤ) : ℝ) + 1) (-126) = (E : ℝ) - 126 := by
    rcases Nat.eq_zero_or_pos E with h0 | h0
    · subst h0
      rw [max_eq_right]
      · norm_num
      · have : ⌊Real.log r / Real.log 2⌋ + 1 ≤ -126 := by push_cast at hfl; omega
        exact_mod_cast this
    · have hlo : (E : ℝ) - 127 ≤ Real.log r / Real.log 2 := by
        rw [le_div_iff₀ hl2]
        have := Real.log_le_log (by positivity) (h1 h0)
        rw [hlz] at this; push_cast at this; exact this
      have hfl' : (E : ℤ) - 127 ≤ ⌊Real.log r / Real.log 2⌋ := by
        rw [Int.le_floor]; push_cast; exact hlo
      have he : ⌊Real.log r / Real.log 2⌋ = (E : ℤ) - 127 := by omega
      rw [he, max_eq_left]
      · push_cast; ring
      · push_cast
        have : (1 : ℝ) ≤ E := by exact_mod_cast h0
        linarith
  rw [← hm, (EReal.coe_strictMono.monotone.map_max), EReal.coe_add, EReal.coe_one]

theorem exp2_int (z : ℤ) : Ideal.exp2 (((z : ℝ) : EReal)) = (((2 : ℝ) ^ z : ℝ) : EReal) := by
  show ((Real.rpow 2 (z : ℝ) : ℝ) : EReal) = _
  congr 1
  exact Real.rpow_intCast 2 z

theorem exp2_zero : Ideal.exp2 0 = 1 := by
  have := exp2_int 0
  simpa using this

theorem sub_bits : ∀ E : Fin 253, 2122317824#32 - BitVec.ofNat 32 (E.val * 8388608) = BitVec.ofNat 32 ((253 - E.val) * 8388608)
    ∧ BitVec.ofNat 32 (E.val * 8388608) + 8388608#32 = BitVec.ofNat 32 ((E.val + 1) * 8388608)
    ∧ BitVec.ofNat 32 (E.val * 8388608) ≠ 2139095040#32 := by decide +kernel

/-- The kernel's scale and its inverse are the powers of two of the reference's exponent and its opposite. -/
theorem scales_eq (a : EReal) (ha : 0 ≤ a) :
    Ideal.ofBits .f32 (sbits (a * unit448) + 8388608#32) = Ideal.exp2 (rexp a)
    ∧ Ideal.ofBits .f32 (2122317824#32 - sbits (a * unit448)) = Ideal.exp2 (0 - rexp a) := by
  obtain ⟨u, hu, hc⟩ := unit448_pos
  have one : Ideal.ofBits .f32 (1056964608#32 + 8388608#32) = Ideal.exp2 0
      ∧ Ideal.ofBits .f32 (2122317824#32 - 1056964608#32) = Ideal.exp2 (0 - 0) := by
    rw [sub_zero, exp2_zero]
    exact ⟨Ideal.ofBits_one_f32, Ideal.ofBits_one_f32⟩
  have big : (a = 0 ∨ Ideal.ofBits .f32 0x7E800000#32 ≤ a * unit448) →
      Ideal.ofBits .f32 (sbits (a * unit448) + 8388608#32) = Ideal.exp2 (rexp a)
      ∧ Ideal.ofBits .f32 (2122317824#32 - sbits (a * unit448)) = Ideal.exp2 (0 - rexp a) := by
    intro hb
    have hs : sbits (a * unit448) = 1056964608#32 := by
      unfold sbits
      rw [if_pos]
      rcases hb with h0 | h1
      · left; rw [h0, zero_mul]
      · right; unfold gbits; rw [if_neg (not_lt.mpr h1)]
    have hr : rexp a = 0 := if_pos hb
    rw [hs, hr]
    exact one
  by_cases hb : a = 0 ∨ Ideal.ofBits .f32 0x7E800000#32 ≤ a * unit448
  · exact big hb
  · have hb' := hb
    rw [not_or, not_le] at hb'
    obtain ⟨hne, hlt⟩ := hb'
    have hpos : 0 < a := lt_of_le_of_ne ha (Ne.symm hne)
    induction a using EReal.rec with
    | bot => exact absurd hpos (by simp)
    | top =>
      exfalso
      rw [hc, EReal.top_mul_coe_of_pos hu] at hlt
      exact absurd hlt (not_lt.mpr le_top)
    | coe x =>
      have hx : 0 < x := by exact_mod_cast hpos
      have hm : ((x : EReal) * unit448) = ((x * u : ℝ) : EReal) := by rw [hc, EReal.coe_mul]
      rw [hm] at hlt
      obtain ⟨E, hE, hf, h1, h2⟩ := fbits_eq (x * u) (by positivity) hlt
      obtain ⟨b1, b2, b3⟩ := sub_bits ⟨E, by omega⟩
      simp only at b1 b2 b3
      have hs : sbits ((x : EReal) * unit448) = BitVec.ofNat 32 (E * 8388608) := by
        rw [hm]
        have hg : gbits ((x * u : ℝ) : EReal) = BitVec.ofNat 32 (E * 8388608) := by
          unfold gbits; rw [if_pos hlt, hf]
        unfold sbits
        rw [hg, if_neg]
        rw [not_or]
        refine ⟨?_, b3⟩
        have : x * u ≠ 0 := by positivity
        exact_mod_cast this
      have hr : rexp (x : EReal) = ((((E : ℤ) - 126 : ℤ) : ℝ) : EReal) := by
        unfold rexp
        rw [if_neg hb, hm, rexp_eq (x * u) (by positivity) E h1 h2]
        push_cast
        rfl
      rw [hs, hr, b1, b2]
      constructor
      · rw [exp2_int]
        have := pw_eq (E + 1) (by omega) (by omega)
        unfold pw at this
        rw [this]
        congr 2
        push_cast; ring
      · have hneg : (0 : EReal) - ((((E : ℤ) - 126 : ℤ) : ℝ) : EReal) = (((-((E : ℤ) - 126) : ℤ) : ℝ) : EReal) := by
          rw [zero_sub, ← EReal.coe_neg]; push_cast; rfl
        rw [hneg, exp2_int]
        have := pw_eq (253 - E) (by omega) (by omega)
        unfold pw at this
        rw [this]
        congr 2
        omega

end Cert.Proof

end
-- ==== Proof.Rows.lean ====
module

public import proofs.«01_k».proof.Proof.Scale

@[expose] public section

noncomputable section

namespace Cert.Proof

open Idealize.ShloMosaic

/-! ## What is computed of one head of one row -/

/-- A row's largest magnitude. -/
def rowAbs (v : Fin 128 → EReal) : EReal := Finset.univ.fold max (Ideal.ofBits .f32 0xFF800000#32) fun l => max (v l) (-(v l))

/-- It is not negative. -/
theorem rowAbs_nonneg (v : Fin 128 → EReal) : 0 ≤ rowAbs v := by
  unfold rowAbs
  rw [Finset.le_fold_max]
  refine Or.inr ⟨0, Finset.mem_univ _, ?_⟩
  rcases le_total 0 (v 0) with h | h
  · exact le_max_of_le_left h
  · exact le_max_of_le_right (by rw [EReal.le_neg, neg_zero]; exact h)

/-- A row's scale: the power of two that its largest magnitude calls for. -/
def rowScale (v : Fin 128 → EReal) : EReal := Ideal.exp2 (rexp (rowAbs v))

/-- A row's codes before they are narrowed: its numbers over its scale, clipped. -/
def rowCode (v : Fin 128 → EReal) (l : Fin 128) : EReal :=
  min (Ideal.ofBits .f32 0x43E00000#32) (max (Ideal.ofBits .f32 0xC3E00000#32) (v l * Ideal.exp2 (0 - rexp (rowAbs v))))

/-- The lane half a head away. -/
def across (l : Fin 128) : Fin 128 := ⟨(l.val + 64) % 128, Nat.mod_lt _ (by decide)⟩

/-- A row rotated. -/
def rowRot (v cos sin : Fin 128 → EReal) (l : Fin 128) : EReal := v l * cos l + v (across l) * sin l

/-- The column of a head's lane. -/
def colOf (n : Fin 112) (l : Fin 128) : Fin 14336 := ⟨128 * n.val + l.val, by omega⟩

/-- One head of one row of the product, scaled by its row's and its column's scales. -/
def head (x : (⟨2, ![9216, 12288]⟩ : Shape).Idx → EReal) (w : (⟨2, ![12288, 14336]⟩ : Shape).Idx → EReal) (ws : (⟨1, ![14336]⟩ : Shape).Idx → EReal)
    (xs : (⟨2, ![9216, 128]⟩ : Shape).Idx → EReal) (r : Fin 9216) (n : Fin 112) (l : Fin 128) : EReal :=
  (∑ k : Fin 12288, x (ix2 r k) * w (ix2 k (colOf n l))) * xs (ix2 r l) * ws (ix1 (colOf n l))

/-- What is quantised of one head of one row: the value heads, from 104 on, are not rotated. -/
def turned (x : (⟨2, ![9216, 12288]⟩ : Shape).Idx → EReal) (w : (⟨2, ![12288, 14336]⟩ : Shape).Idx → EReal) (ws : (⟨1, ![14336]⟩ : Shape).Idx → EReal)
    (xs cos sin : (⟨2, ![9216, 128]⟩ : Shape).Idx → EReal) (r : Fin 9216) (n : Fin 112) : Fin 128 → EReal :=
  if n.val < 104 then rowRot (head x w ws xs r n) (fun l => cos (ix2 r l)) (fun l => sin (ix2 r l)) else head x w ws xs r n

end Cert.Proof

end
-- ==== Proof.Ideal.Values.lean ====
module

public import proofs.«01_k».proof.Proof.Ideal.Final
public import proofs.«01_k».proof.Proof.Rows
public import Idealize.ShloMosaic.Lib.Pipeline.Value
public import Idealize.ShloMosaic.Lib.Pipeline.ValueKit
public import Idealize.ShloMosaic.Lib.Pointwise
public import Idealize.ShloMosaic.PureOps.Ideal.Laws

@[expose] public section

set_option maxRecDepth 16384

noncomputable section

namespace Cert.Proof.KI

open Cert.KernelIdeal Cert.KernelIdeal.Gen
open Idealize.ShloMosaic
open Idealize.ShloMosaic.TcCoe Idealize.ShloMosaic.Tactic

/-! ## The kernel's cells over the extended reals -/

theorem sel_or {α : Type} (x y : EReal) (u v : BitVec 32) (a b : α) :
    Scalar.select (IntOp.ori (BitVec.ofBool (decide (x = y))) (IntOp.cmpi CmpIPredicate.eq u v)) a b
      = if x = y ∨ u = v then a else b := by
  show (if BitVec.ofBool (decide (x = y)) ||| BitVec.ofBool (u == v) = 1 then a else b) = _
  have e1 : BitVec.ofBool (decide (x = y)) ||| BitVec.ofBool (u == v) = BitVec.ofBool (decide (x = y ∨ u = v)) := by
    rw [Bool.decide_or]
    show _ = BitVec.ofBool (decide (x = y) || (u == v))
    cases decide (x = y) <;> cases (u == v) <;> rfl
  rw [e1]
  by_cases h : x = y ∨ u = v
  · rw [if_pos h, decide_eq_true h]; rfl
  · rw [if_neg h, decide_eq_false h]; rfl

theorem expStep_apply (b : BitVec 32) (t : FVec Ideal S32x128 .f32) (v : IVec S32x128 32) (i : S32x128.Idx) :
    expStep b t v i = fstep b (t i) (v i) := by
  unfold expStep fstep
  simp only [pointwise]
  rfl

theorem expBits_apply (t : FVec Ideal S32x128 .f32) (i : S32x128.Idx) : expBits t i = fbits (t i) := by
  unfold expBits fbits
  simp only [expStep_apply]
  rfl

/-- The exponent bits at an index are those of the number there. -/
theorem scaleBits_apply (t : FVec Ideal S32x128 .f32) (i : S32x128.Idx) : scaleBits t i = sbits (t i) := by
  unfold scaleBits sbits gbits
  simp only [pointwise, expBits_apply]
  rw [sel_or]

theorem amax_apply (y : FVec Ideal S32x128 .f32) (a : Fin 32) (l : Fin 128) :
    amax y (ix2 a l) = rowAbs (fun l' => y (ix2 a l')) * unit448 := by
  unfold amax rowAbs unit448
  simp only [pointwise]
  rfl

theorem rot_apply (y c s : FVec Ideal S32x128 .f32) (a : Fin 32) (l : Fin 128) :
    rot y c s (ix2 a l) = rowRot (fun l' => y (ix2 a l')) (fun l' => c (ix2 a l')) (fun l' => s (ix2 a l')) l := by
  unfold rot rowRot
  simp only [pointwise]
  rfl

theorem lin_apply (acc xs : FVec Ideal S32x128 .f32) (ws : FVec Ideal S1x128 .f32) (a : Fin 32) (l : Fin 128) :
    lin acc xs ws (ix2 a l) = acc (ix2 a l) * xs (ix2 a l) * ws (ix2 0 l) := by
  unfold lin
  simp only [pointwise]
  rfl

/-- A number of the accumulator. -/
theorem acc_apply (x : Vec Ideal S512x12288 .fp8e4m3) (w : Vec Ideal S12288x512 .fp8e4m3) (a : Fin 512) (b : Fin 512) :
    k0_pay1 x w (ix2 a b) = ∑ k : Fin 12288, (x (ix2 a k) * w (ix2 k b) : EReal) := by
  unfold k0_pay1
  simp only [pointwise]
  rw [zero_add]

/-- A head's scales at an index. -/
theorem headScale_apply (y : FVec Ideal S32x128 .f32) (a : Fin 32) (l : Fin 128) :
    headScale y (ix2 a l) = rowScale (fun l' => y (ix2 a l')) := by
  unfold headScale rowScale
  rw [← (scales_eq _ (rowAbs_nonneg _)).1]
  simp only [pointwise, scaleBits_apply, amax_apply]
  rfl

/-- A head's codes at an index. -/
theorem headCode_apply (y : FVec Ideal S32x128 .f32) (a : Fin 32) (l : Fin 128) :
    headCode y (ix2 a l) = rowCode (fun l' => y (ix2 a l')) l := by
  unfold headCode rowCode
  rw [← (scales_eq _ (rowAbs_nonneg _)).2]
  simp only [pointwise, scaleBits_apply, amax_apply]
  rfl

/-! ## The blocks the body reads, as the arrays' numbers -/

theorem index0 : ∀ t : Fin cfg0.N, win0_0.index t = ![t.val / 28, 0] := (by decide +kernel : ∀ t : Fin grid0.N, _)
theorem index1 : ∀ t : Fin cfg0.N, win0_1.index t = ![0, t.val % 28] := (by decide +kernel : ∀ t : Fin grid0.N, _)
theorem index2 : ∀ t : Fin cfg0.N, win0_2.index t = ![0, t.val % 28] := (by decide +kernel : ∀ t : Fin grid0.N, _)
theorem index3 : ∀ t : Fin cfg0.N, win0_3.index t = ![t.val / 28, 0] := (by decide +kernel : ∀ t : Fin grid0.N, _)
theorem index4 : ∀ t : Fin cfg0.N, win0_4.index t = ![t.val / 28, 0] := (by decide +kernel : ∀ t : Fin grid0.N, _)
theorem index5 : ∀ t : Fin cfg0.N, win0_5.index t = ![t.val / 28, 0] := (by decide +kernel : ∀ t : Fin grid0.N, _)

section Blocks
variable (m : (ℓ : Loc nD τ sig) → Buf (Elt Ideal) ℓ) (c : Dev nD)

theorem blk0 (t : Fin cfg0.N) (a : Fin 512) (k : Fin 12288) (r : Fin 9216) (hr : r.val = t.val / 28 * 512 + a.val) :
    iblk m c 0 t (ix2 a k : S512x12288.Idx) = m ((c : Thread nD τ).loc main_arg0) (ix2 r k : S9216x12288.Idx) := by
  blk_simp [iblk]
  rw [V_main_arg0]
  congr 1
  blk_ext [index0, hr]

theorem blk1 (t : Fin cfg0.N) (k : Fin 12288) (b : Fin 512) (n : Fin 14336) (hn : n.val = t.val % 28 * 512 + b.val) :
    iblk m c 1 t (ix2 k b : S12288x512.Idx) = m ((c : Thread nD τ).loc main_arg1) (ix2 k n : S12288x14336.Idx) := by
  blk_simp [iblk]
  rw [V_main_arg1]
  congr 1
  blk_ext [index1, hn]

theorem blk2 (t : Fin cfg0.N) (b : Fin 512) (n : Fin 14336) (hn : n.val = t.val % 28 * 512 + b.val) :
    iblk m c 2 t (ix2 0 b : S1x512.Idx) = m ((c : Thread nD τ).loc main_arg2) (ix1 n : S14336.Idx) := by
  blk_simp [iblk]
  entry_read
  pointwise
  show m ((c : Thread nD τ).loc main_arg2) _ = _
  congr 1
  blk_ext [index2, hn]

theorem blk3 (t : Fin cfg0.N) (a : Fin 512) (l : Fin 128) (r : Fin 9216) (hr : r.val = t.val / 28 * 512 + a.val) :
    iblk m c 3 t (ix2 a l : S512x128.Idx) = m ((c : Thread nD τ).loc main_arg3) (ix2 r l : S9216x128.Idx) := by
  blk_simp [iblk]
  rw [V_main_arg3]
  congr 1
  blk_ext [index3, hr]

theorem blk4 (t : Fin cfg0.N) (a : Fin 512) (l : Fin 128) (r : Fin 9216) (hr : r.val = t.val / 28 * 512 + a.val) :
    iblk m c 4 t (ix2 a l : S512x128.Idx) = m ((c : Thread nD τ).loc main_arg4) (ix2 r l : S9216x128.Idx) := by
  blk_simp [iblk]
  rw [V_main_arg4]
  congr 1
  blk_ext [index4, hr]

theorem blk5 (t : Fin cfg0.N) (a : Fin 512) (l : Fin 128) (r : Fin 9216) (hr : r.val = t.val / 28 * 512 + a.val) :
    iblk m c 5 t (ix2 a l : S512x128.Idx) = m ((c : Thread nD τ).loc main_arg5) (ix2 r l : S9216x128.Idx) := by
  blk_simp [iblk]
  rw [V_main_arg5]
  congr 1
  blk_ext [index5, hr]

/-- The scaled products of one head of one row. -/
theorem vAt_apply (t : Fin cfg0.N) (a : Fin 512) (h : Fin 4) (l : Fin 128) (r : Fin 9216) (n : Fin 112) (hr : r.val = t.val / 28 * 512 + a.val)
    (hn : n.val = t.val % 28 * 4 + h.val) :
    vAt m c t (runOf a) h (ix2 (inRun a) l : S32x128.Idx)
      = head (m ((c : Thread nD τ).loc main_arg0)) (m ((c : Thread nD τ).loc main_arg1)) (m ((c : Thread nD τ).loc main_arg2)) (m ((c : Thread nD τ).loc main_arg3)) r n l := by
  have ha : rowIx (runOf a) (inRun a) = a := Fin.ext (by show 32 * (a.val / 32) + a.val % 32 = a.val; omega)
  have hc : (colOf n l).val = t.val % 28 * 512 + (laneIx h l).val := by show 128 * n.val + l.val = t.val % 28 * 512 + (128 * h.val + l.val); omega
  unfold vAt yV head
  rw [lin_apply]
  show k0_pay1 (F := Ideal) (iblk m c 0 t) (iblk m c 1 t) (ix2 (rowIx (runOf a) (inRun a)) (laneIx h l) : S512x512.Idx) * iblk m c 3 t (ix2 (rowIx (runOf a) (inRun a)) l : S512x128.Idx)
    * iblk m c 2 t (ix2 0 (laneIx h l) : S1x512.Idx) = _
  rw [ha, acc_apply, blk3 m c t a l r hr, blk2 m c t (laneIx h l) (colOf n l) hc]
  congr 2
  refine Finset.sum_congr rfl fun k _ => ?_
  rw [blk0 m c t a k r hr, blk1 m c t k (laneIx h l) (colOf n l) hc]

/-- The rotated products of one head of one row. -/
theorem qAt_apply (t : Fin cfg0.N) (a : Fin 512) (h : Fin 4) (l : Fin 128) (r : Fin 9216) (n : Fin 112) (hr : r.val = t.val / 28 * 512 + a.val)
    (hn : n.val = t.val % 28 * 4 + h.val) :
    qAt m c t (runOf a) h (ix2 (inRun a) l : S32x128.Idx)
      = rowRot (head (m ((c : Thread nD τ).loc main_arg0)) (m ((c : Thread nD τ).loc main_arg1)) (m ((c : Thread nD τ).loc main_arg2)) (m ((c : Thread nD τ).loc main_arg3)) r n)
        (fun l => m ((c : Thread nD τ).loc main_arg4) (ix2 r l : S9216x128.Idx)) (fun l => m ((c : Thread nD τ).loc main_arg5) (ix2 r l : S9216x128.Idx)) l := by
  have ha : rowIx (runOf a) (inRun a) = a := Fin.ext (by show 32 * (a.val / 32) + a.val % 32 = a.val; omega)
  unfold qAt yQ
  rw [rot_apply]
  congr 1
  · funext l'
    exact vAt_apply m c t a h l' r n hr hn
  · funext l'
    show iblk m c 4 t (ix2 (rowIx (runOf a) (inRun a)) l' : S512x128.Idx) = _
    rw [ha, blk4 m c t a l' r hr]
  · funext l'
    show iblk m c 5 t (ix2 (rowIx (runOf a) (inRun a)) l' : S512x128.Idx) = _
    rw [ha, blk5 m c t a l' r hr]

/-- What the kernel's arguments give of one head of one row. -/
def heads (r : Fin 9216) (n : Fin 112) : Fin 128 → EReal :=
  turned (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) r n

theorem qAt_heads (t : Fin cfg0.N) (a : Fin 512) (h : Fin 4) (r : Fin 9216) (n : Fin 112) (hr : r.val = t.val / 28 * 512 + a.val)
    (hn : n.val = t.val % 28 * 4 + h.val) (h104 : n.val < 104) :
    (fun l => qAt m c t (runOf a) h (ix2 (inRun a) l : S32x128.Idx)) = heads m c r n := by
  unfold heads turned
  rw [if_pos h104]
  exact funext fun l => qAt_apply m c t a h l r n hr hn

theorem vAt_heads (t : Fin cfg0.N) (a : Fin 512) (h : Fin 4) (r : Fin 9216) (n : Fin 112) (hr : r.val = t.val / 28 * 512 + a.val)
    (hn : n.val = t.val % 28 * 4 + h.val) (h104 : ¬ n.val < 104) :
    (fun l => vAt m c t (runOf a) h (ix2 (inRun a) l : S32x128.Idx)) = heads m c r n := by
  unfold heads turned
  rw [if_neg h104]
  exact funext fun l => vAt_apply m c t a h l r n hr hn

/-- A code cell is the row's code. -/
theorem codeCell_eq (y : Fin 16 → Fin 4 → FVec Ideal S32x128 .f32) (a : Fin 512) (h : Fin 4) (l : Fin 128) (v : Fin 128 → EReal)
    (hv : (fun l => y (runOf a) h (ix2 (inRun a) l : S32x128.Idx)) = v) : codeCell y a h l = rowCode v l := by
  subst hv
  exact headCode_apply (y (runOf a) h) (inRun a) l

/-- A scale cell is the row's scale. -/
theorem scaleCell_eq (y : Fin 16 → Fin 4 → FVec Ideal S32x128 .f32) (a : Fin 512) (h : Fin 4) (l : Fin 128) (v : Fin 128 → EReal)
    (hv : (fun l => y (runOf a) h (ix2 (inRun a) l : S32x128.Idx)) = v) : scaleCell y a h l = rowScale v := by
  subst hv
  exact headScale_apply (y (runOf a) h) (inRun a) l

/-- The query codes. -/
theorem res0_eq (x : S9216x96x128.Idx) (n : Fin 112) (hn : n.val = (x 1).val) : res0 m c x = rowCode (heads m c (x 0) n) (x 2) := by
  have h0 : (x 0).val < 9216 := (x 0).isLt
  have h1 : (x 1).val < 96 := (x 1).isLt
  exact codeCell_eq _ _ _ _ _ (qAt_heads m c _ _ _ (x 0) n
    (by show (x 0).val = (28 * ((x 0).val / 512) + (x 1).val / 4) / 28 * 512 + (x 0).val % 512; omega)
    (by show n.val = (28 * ((x 0).val / 512) + (x 1).val / 4) % 28 * 4 + (x 1).val % 4; omega) (by omega))

/-- The key codes. -/
theorem res1_eq (x : S9216x8x128.Idx) (n : Fin 112) (hn : n.val = 96 + (x 1).val) : res1 m c x = rowCode (heads m c (x 0) n) (x 2) := by
  have h0 : (x 0).val < 9216 := (x 0).isLt
  have h1 : (x 1).val < 8 := (x 1).isLt
  exact codeCell_eq _ _ _ _ _ (qAt_heads m c _ _ _ (x 0) n
    (by show (x 0).val = (28 * ((x 0).val / 512) + (24 + (x 1).val / 4)) / 28 * 512 + (x 0).val % 512; omega)
    (by show n.val = (28 * ((x 0).val / 512) + (24 + (x 1).val / 4)) % 28 * 4 + (x 1).val % 4; omega) (by omega))

/-- The value codes. -/
theorem res2_eq (x : S9216x8x128.Idx) (n : Fin 112) (hn : n.val = 104 + (x 1).val) : res2 m c x = rowCode (heads m c (x 0) n) (x 2) := by
  have h0 : (x 0).val < 9216 := (x 0).isLt
  have h1 : (x 1).val < 8 := (x 1).isLt
  exact codeCell_eq _ _ _ _ _ (vAt_heads m c _ _ _ (x 0) n
    (by show (x 0).val = (28 * ((x 0).val / 512) + (26 + (x 1).val / 4)) / 28 * 512 + (x 0).val % 512; omega)
    (by show n.val = (28 * ((x 0).val / 512) + (26 + (x 1).val / 4)) % 28 * 4 + (x 1).val % 4; omega) (by omega))

/-- The scales. -/
theorem res3_eq (x : S9216x128.Idx) (hx : (x 1).val < 112) : res3 m c x hx = rowScale (heads m c (x 0) ⟨(x 1).val, hx⟩) := by
  have h0 : (x 0).val < 9216 := (x 0).isLt
  unfold res3
  split
  · exact scaleCell_eq _ _ _ _ _ (qAt_heads m c _ _ _ (x 0) _
      (by show (x 0).val = (28 * ((x 0).val / 512) + (x 1).val / 4) / 28 * 512 + (x 0).val % 512; omega)
      (by show (x 1).val = (28 * ((x 0).val / 512) + (x 1).val / 4) % 28 * 4 + (x 1).val % 4; omega) (by show (x 1).val < 104; omega))
  · exact scaleCell_eq _ _ _ _ _ (vAt_heads m c _ _ _ (x 0) _
      (by show (x 0).val = (28 * ((x 0).val / 512) + (x 1).val / 4) / 28 * 512 + (x 0).val % 512; omega)
      (by show (x 1).val = (28 * ((x 0).val / 512) + (x 1).val / 4) % 28 * 4 + (x 1).val % 4; omega) (by show ¬ (x 1).val < 104; omega))

end Blocks

end Cert.Proof.KI

end
-- ==== Proof.RefValues.lean ====
module

public import proofs.«01_k».proof.Proof.Gen.ReferenceIdeal.Frame
public import proofs.«01_k».proof.Proof.Rows
public import Idealize.ShloMosaic.Lib.Pipeline.Value
public import Idealize.ShloMosaic.Lib.Pipeline.ValueKit
public import Idealize.ShloMosaic.Lib.Pointwise
public import Idealize.ShloMosaic.PureOps.Ideal.Laws

@[expose] public section

set_option maxRecDepth 16384

noncomputable section

namespace Cert.Proof.RI

open Cert.ReferenceIdeal Cert.ReferenceIdeal.Gen
open Idealize.ShloMosaic
open Idealize.ShloMosaic.TcCoe Idealize.ShloMosaic.Tactic

/-! ## The reference's values, head by head -/

theorem ix3_congr {p q r : ℕ} {a a' : Fin p} {b b' : Fin q} {c c' : Fin r} (h1 : a.val = a'.val) (h2 : b.val = b'.val) (h3 : c.val = c'.val) :
    (ix3 a b c : (⟨3, ![p, q, r]⟩ : Shape).Idx) = ix3 a' b' c' := by
  rw [Fin.ext h1, Fin.ext h2, Fin.ext h3]

theorem ix2_congr {p q : ℕ} {a a' : Fin p} {b b' : Fin q} (h1 : a.val = a'.val) (h2 : b.val = b'.val) :
    (ix2 a b : (⟨2, ![p, q]⟩ : Shape).Idx) = ix2 a' b' := by
  rw [Fin.ext h1, Fin.ext h2]

/-- A selection on one of two conditions. -/
theorem sel_or {α : Type} (p q : Prop) [Decidable p] [Decidable q] (a b : α) :
    Scalar.select (IntOp.ori (BitVec.ofBool (decide p)) (BitVec.ofBool (decide q))) a b = if p ∨ q then a else b := by
  by_cases hp : p <;> by_cases hq : q <;> simp only [hp, hq] <;> rfl

theorem mul_unit {s : Shape} (z : FVec Ideal s .f32) (i : s.Idx) : mulf z (broadcast s (Scalar.ofBits .f32 0x3B124925#32 : Ideal .f32)) i = z i * unit448 := by
  unfold unit448
  simp only [pointwise]

theorem log_at {s : Shape} (z : FVec Ideal s .f32) (i : s.Idx) : log z i = Ideal.log (z i) := by
  simp only [pointwise]

theorem floor_log {s : Shape} (z : FVec Ideal s .f32) (i : s.Idx) : floor (divf (log z) (log (broadcast s (Scalar.ofBits .f32 0x40000000#32 : Ideal .f32)))) i
    = Ideal.liftRound Int.floor (Ideal.div (Ideal.log (z i)) (Ideal.log (Ideal.ofBits .f32 0x40000000#32))) := by
  simp only [pointwise]

/-- The scaled products. -/
theorem pay4_apply (x : Vec Ideal S9216x12288 .fp8e4m3) (w : Vec Ideal S12288x14336 .fp8e4m3) (xs : Vec Ideal S9216x128 .f32)
    (ws : Vec Ideal S1x14336 .f32) (r : Fin 9216) (n : Fin 112) (l : Fin 128) :
    k0_pay4 x w xs ws (ix3 r n l) = (∑ k : Fin 12288, (x (ix2 r k) * w (ix2 k (colOf n l)) : EReal)) * xs (ix2 r l) * ws (ix2 0 (colOf n l)) := by
  unfold k0_pay4
  simp only [pointwise]
  have e : ∀ h, (⟨n.val * 128 + l.val, h⟩ : Fin 14336) = colOf n l := fun h => Fin.ext (by show n.val * 128 + l.val = 128 * n.val + l.val; omega)
  rw [zero_add]
  exact congrArg₂ (· * ·) (congrArg₂ (· * ·) (Finset.sum_congr rfl fun k _ => by rw [e]) rfl) (congrArg (fun j => ws (ix2 0 j)) (e _))

theorem pay5_apply (x : Vec Ideal S9216x12288 .fp8e4m3) (w : Vec Ideal S12288x14336 .fp8e4m3) (xs : Vec Ideal S9216x128 .f32)
    (ws : Vec Ideal S1x14336 .f32) (r : Fin 9216) (n : Fin 8) (l : Fin 128) (n' : Fin 112) (hn : n'.val = 96 + n.val) :
    k0_pay5 x w xs ws (ix3 r n l) = k0_pay4 x w xs ws (ix3 r n' l) := by
  unfold k0_pay5
  simp only [pointwise]
  refine congrArg _ (ix3_congr ?_ ?_ ?_) <;> simp [hn]

theorem pay6_apply (x : Vec Ideal S9216x12288 .fp8e4m3) (w : Vec Ideal S12288x14336 .fp8e4m3) (xs : Vec Ideal S9216x128 .f32)
    (ws : Vec Ideal S1x14336 .f32) (r : Fin 9216) (n : Fin 8) (l : Fin 128) (n' : Fin 112) (hn : n'.val = 104 + n.val) :
    k0_pay6 x w xs ws (ix3 r n l) = k0_pay4 x w xs ws (ix3 r n' l) := by
  unfold k0_pay6
  simp only [pointwise]
  refine congrArg _ (ix3_congr ?_ ?_ ?_) <;> simp [hn]

/-- A rotated row of Q. -/
theorem pay9_apply (v0 : Vec Ideal S9216x12288 .fp8e4m3) (v1 : Vec Ideal S12288x14336 .fp8e4m3) (v4 : Vec Ideal S9216x128 .f32) (v8 : Vec Ideal S1x14336 .f32)
    (v16 v18 : Vec Ideal S9216x128 .f32) (r : Fin 9216) (n : Fin 96) (l : Fin 128) (n' : Fin 112) (hn : n'.val = n.val) :
    k0_pay9 v0 v1 v4 v8 v16 v18 (ix3 r n l) = rowRot (fun l => k0_pay4 v0 v1 v4 v8 (ix3 r n' l)) (fun l => v16 (ix2 r l)) (fun l => v18 (ix2 r l)) l := by
  unfold k0_pay9 k0_pay7 k0_pay8 rowRot
  simp only [pointwise]
  have hl := l.isLt
  split
  · refine congrArg₂ (· + ·) (congrArg₂ (· * ·) (congrArg _ (ix3_congr ?_ ?_ ?_)) (congrArg _ (ix2_congr ?_ ?_)))
      (congrArg₂ (· * ·) (congrArg _ (ix3_congr ?_ ?_ ?_)) (congrArg _ (ix2_congr ?_ ?_))) <;> simp [across, hn] <;> omega
  · refine congrArg₂ (· + ·) (congrArg₂ (· * ·) (congrArg _ (ix3_congr ?_ ?_ ?_)) (congrArg _ (ix2_congr ?_ ?_)))
      (congrArg₂ (· * ·) (congrArg _ (ix3_congr ?_ ?_ ?_)) (congrArg _ (ix2_congr ?_ ?_))) <;> simp [across, hn] <;> omega

/-- A rotated row of K. -/
theorem pay17_apply (v14 : FVec Ideal S9216x8x128 .f32) (v16 v18 : Vec Ideal S9216x128 .f32) (r : Fin 9216) (n : Fin 8) (l : Fin 128) :
    k0_pay17 v14 (k0_pay7 v16) (k0_pay8 v18) (ix3 r n l) = rowRot (fun l => v14 (ix3 r n l)) (fun l => v16 (ix2 r l)) (fun l => v18 (ix2 r l)) l := by
  unfold k0_pay17 k0_pay7 k0_pay8 rowRot
  simp only [pointwise]
  have hl := l.isLt
  split
  · refine congrArg₂ (· + ·) (congrArg₂ (· * ·) (congrArg _ (ix3_congr ?_ ?_ ?_)) (congrArg _ (ix2_congr ?_ ?_)))
      (congrArg₂ (· * ·) (congrArg _ (ix3_congr ?_ ?_ ?_)) (congrArg _ (ix2_congr ?_ ?_))) <;> simp [across] <;> omega
  · refine congrArg₂ (· + ·) (congrArg₂ (· * ·) (congrArg _ (ix3_congr ?_ ?_ ?_)) (congrArg _ (ix2_congr ?_ ?_)))
      (congrArg₂ (· * ·) (congrArg _ (ix3_congr ?_ ?_ ?_)) (congrArg _ (ix2_congr ?_ ?_))) <;> simp [across] <;> omega

/-! ### The quantiser: maximum, exponent, codes -/

theorem pay10_apply (v0 : Vec Ideal S9216x12288 .fp8e4m3) (v1 : Vec Ideal S12288x14336 .fp8e4m3) (v4 : Vec Ideal S9216x128 .f32) (v8 : Vec Ideal S1x14336 .f32)
    (v16 v18 : Vec Ideal S9216x128 .f32) (r : Fin 9216) (n : Fin 96) :
    k0_pay10 v0 v1 v4 v8 v16 v18 (ix3 r n 0) = rowAbs (fun l => k0_pay9 v0 v1 v4 v8 v16 v18 (ix3 r n l)) := by
  unfold k0_pay10 rowAbs
  simp only [pointwise]
  rfl

theorem pay18_apply (v14 : FVec Ideal S9216x8x128 .f32) (v17 v19 : FVec Ideal S9216x1x128 .f32) (r : Fin 9216) (n : Fin 8) :
    k0_pay18 v14 v17 v19 (ix3 r n 0) = rowAbs (fun l => k0_pay17 v14 v17 v19 (ix3 r n l)) := by
  unfold k0_pay18 rowAbs
  simp only [pointwise]
  rfl

theorem pay22_apply (v15 : FVec Ideal S9216x8x128 .f32) (r : Fin 9216) (n : Fin 8) :
    k0_pay22 v15 (ix3 r n 0) = rowAbs (fun l => v15 (ix3 r n l)) := by
  unfold k0_pay22 rowAbs
  simp only [pointwise]
  rfl

theorem pay14_apply (v39 v41 v42 v43 : FVec Ideal S9216x96x1 .f32) (i : S9216x96x1.Idx) (a : EReal) (h1 : v39 i = a) (h2 : v41 i = a * unit448)
    (h3 : v42 i = Ideal.log (a * unit448)) (h4 : v43 i = Ideal.ofBits .f32 0x40000000#32) : k0_pay14 v39 v41 v42 v43 i = rexp a := by
  unfold k0_pay14 rexp
  simp only [pointwise, h1, h2, h3, h4]
  rw [sel_or]

theorem pay19_apply (v90 : FVec Ideal S9216x8x1 .f32) (i : S9216x8x1.Idx) : k0_pay19 v90 i = rexp (v90 i) := by
  unfold k0_pay19 rexp unit448
  simp only [pointwise]
  rw [sel_or]

theorem pay1_gen (v124 v126 v131 v132 : FVec Ideal S9216x8x1 .f32) (i : S9216x8x1.Idx) (a : EReal) (h1 : v124 i = a) (h2 : v126 i = a * unit448)
    (h3 : v131 i = Ideal.liftRound Int.floor (Ideal.div (Ideal.log (a * unit448)) (Ideal.log (Ideal.ofBits .f32 0x40000000#32))))
    (h4 : v132 i = Ideal.ofBits .f32 0x3F800000#32) : k0_pay1 v124 v126 v131 v132 i = rexp a := by
  unfold k0_pay1 rexp
  simp only [pointwise, h1, h2, h3, h4]
  rw [sel_or]

theorem pay23_apply (v15 : FVec Ideal S9216x8x128 .f32) (i : S9216x8x1.Idx) : k0_pay23 v15 i = k0_pay22 v15 i * unit448 := by
  unfold k0_pay23
  exact mul_unit _ _

theorem pay24_apply (v15 : FVec Ideal S9216x8x128 .f32) (i : S9216x8x1.Idx) : k0_pay24 v15 i
    = Ideal.liftRound Int.floor (Ideal.div (Ideal.log (k0_pay22 v15 i * unit448)) (Ideal.log (Ideal.ofBits .f32 0x40000000#32))) := by
  rw [← pay23_apply]
  unfold k0_pay24
  exact floor_log _ _

theorem pay25_apply (i : S9216x8x1.Idx) : (k0_pay25 : FVec Ideal S9216x8x1 .f32) i = Ideal.ofBits .f32 0x3F800000#32 := by
  unfold k0_pay25
  simp only [pointwise]

theorem pay1_row (v15 : FVec Ideal S9216x8x128 .f32) (r : Fin 9216) (n : Fin 8) :
    k0_pay1 (k0_pay22 v15) (k0_pay23 v15) (k0_pay24 v15) k0_pay25 (ix3 r n 0) = rexp (rowAbs (fun l => v15 (ix3 r n l))) := by
  rw [← pay22_apply]
  exact pay1_gen _ _ _ _ _ _ rfl (pay23_apply v15 _) (pay24_apply v15 _) (pay25_apply _)

theorem pay11_apply (v0 : Vec Ideal S9216x12288 .fp8e4m3) (v1 : Vec Ideal S12288x14336 .fp8e4m3) (v4 : Vec Ideal S9216x128 .f32) (v8 : Vec Ideal S1x14336 .f32)
    (v16 v18 : Vec Ideal S9216x128 .f32) (i : S9216x96x1.Idx) :
    k0_pay11 v0 v1 v4 v8 v16 v18 i = k0_pay10 v0 v1 v4 v8 v16 v18 i * unit448 := by
  unfold k0_pay11
  exact mul_unit _ _

theorem pay12_apply (v0 : Vec Ideal S9216x12288 .fp8e4m3) (v1 : Vec Ideal S12288x14336 .fp8e4m3) (v4 : Vec Ideal S9216x128 .f32) (v8 : Vec Ideal S1x14336 .f32)
    (v16 v18 : Vec Ideal S9216x128 .f32) (i : S9216x96x1.Idx) :
    k0_pay12 v0 v1 v4 v8 v16 v18 i = Ideal.log (k0_pay10 v0 v1 v4 v8 v16 v18 i * unit448) := by
  rw [← pay11_apply]
  unfold k0_pay12
  exact log_at _ _

theorem pay13_apply (i : S9216x96x1.Idx) : (k0_pay13 : FVec Ideal S9216x96x1 .f32) i = Ideal.ofBits .f32 0x40000000#32 := by
  unfold k0_pay13
  simp only [pointwise]

theorem pay14_row (v0 : Vec Ideal S9216x12288 .fp8e4m3) (v1 : Vec Ideal S12288x14336 .fp8e4m3) (v4 : Vec Ideal S9216x128 .f32) (v8 : Vec Ideal S1x14336 .f32)
    (v16 v18 : Vec Ideal S9216x128 .f32) (r : Fin 9216) (n : Fin 96) :
    k0_pay14 (k0_pay10 v0 v1 v4 v8 v16 v18) (k0_pay11 v0 v1 v4 v8 v16 v18) (k0_pay12 v0 v1 v4 v8 v16 v18) k0_pay13 (ix3 r n 0)
      = rexp (rowAbs (fun l => k0_pay9 v0 v1 v4 v8 v16 v18 (ix3 r n l))) := by
  rw [← pay10_apply]
  exact pay14_apply _ _ _ _ _ _ rfl (pay11_apply v0 v1 v4 v8 v16 v18 _) (pay12_apply v0 v1 v4 v8 v16 v18 _) (pay13_apply _)

theorem pay15_apply (v36 : FVec Ideal S9216x96x128 .f32) (v39 v41 v42 v43 : FVec Ideal S9216x96x1 .f32) (r : Fin 9216) (n : Fin 96) (l : Fin 128) :
    k0_pay15 v36 v39 v41 v42 v43 (ix3 r n l) = min (Ideal.ofBits .f32 0x43E00000#32) (max (Ideal.ofBits .f32 0xC3E00000#32)
      (v36 (ix3 r n l) * Ideal.exp2 (0 - k0_pay14 v39 v41 v42 v43 (ix3 r n 0)))) := by
  unfold k0_pay15
  generalize k0_pay14 v39 v41 v42 v43 = z
  simp only [pointwise]
  rfl

theorem pay20_apply (v87 : FVec Ideal S9216x8x128 .f32) (v90 : FVec Ideal S9216x8x1 .f32) (r : Fin 9216) (n : Fin 8) (l : Fin 128) :
    k0_pay20 v87 v90 (ix3 r n l) = min (Ideal.ofBits .f32 0x43E00000#32) (max (Ideal.ofBits .f32 0xC3E00000#32)
      (v87 (ix3 r n l) * Ideal.exp2 (0 - k0_pay19 v90 (ix3 r n 0)))) := by
  unfold k0_pay20
  generalize k0_pay19 v90 = z
  simp only [pointwise]
  rfl

theorem pay2_apply (v15 : FVec Ideal S9216x8x128 .f32) (v124 v126 v131 v132 : FVec Ideal S9216x8x1 .f32) (r : Fin 9216) (n : Fin 8) (l : Fin 128) :
    k0_pay2 v15 v124 v126 v131 v132 (ix3 r n l) = min (Ideal.ofBits .f32 0x43E00000#32) (max (Ideal.ofBits .f32 0xC3E00000#32)
      (v15 (ix3 r n l) * Ideal.exp2 (0 - k0_pay1 v124 v126 v131 v132 (ix3 r n 0)))) := by
  unfold k0_pay2
  generalize k0_pay1 v124 v126 v131 v132 = z
  simp only [pointwise]
  rfl

/-- The codes of Q. -/
theorem codeQ (v0 : Vec Ideal S9216x12288 .fp8e4m3) (v1 : Vec Ideal S12288x14336 .fp8e4m3) (v4 : Vec Ideal S9216x128 .f32) (v8 : Vec Ideal S1x14336 .f32)
    (v16 v18 : Vec Ideal S9216x128 .f32) (r : Fin 9216) (n : Fin 96) (l : Fin 128) :
    k0_pay15 (k0_pay9 v0 v1 v4 v8 v16 v18) (k0_pay10 v0 v1 v4 v8 v16 v18) (k0_pay11 v0 v1 v4 v8 v16 v18) (k0_pay12 v0 v1 v4 v8 v16 v18) k0_pay13 (ix3 r n l)
      = rowCode (fun l => k0_pay9 v0 v1 v4 v8 v16 v18 (ix3 r n l)) l := by
  unfold rowCode
  rw [pay15_apply, pay14_row]

/-- The codes of K. -/
theorem codeK (v14 : FVec Ideal S9216x8x128 .f32) (v17 v19 : FVec Ideal S9216x1x128 .f32) (r : Fin 9216) (n : Fin 8) (l : Fin 128) :
    k0_pay20 (k0_pay17 v14 v17 v19) (k0_pay18 v14 v17 v19) (ix3 r n l) = rowCode (fun l => k0_pay17 v14 v17 v19 (ix3 r n l)) l := by
  unfold rowCode
  rw [pay20_apply, pay19_apply, pay18_apply]

/-- The codes of V. -/
theorem codeV (v15 : FVec Ideal S9216x8x128 .f32) (r : Fin 9216) (n : Fin 8) (l : Fin 128) :
    k0_pay2 v15 (k0_pay22 v15) (k0_pay23 v15) (k0_pay24 v15) k0_pay25 (ix3 r n l) = rowCode (fun l => v15 (ix3 r n l)) l := by
  unfold rowCode
  rw [pay2_apply, pay1_row]

/-! ### The scales -/

theorem pay16_apply (v39 v41 v42 v43 : FVec Ideal S9216x96x1 .f32) (r : Fin 9216) (n : Fin 96) :
    k0_pay16 v39 v41 v42 v43 (ix2 r n) = Ideal.exp2 (k0_pay14 v39 v41 v42 v43 (ix3 r n 0)) := by
  unfold k0_pay16
  simp only [pointwise]
  rfl

theorem pay21_apply (v90 : FVec Ideal S9216x8x1 .f32) (r : Fin 9216) (n : Fin 8) :
    k0_pay21 v90 (ix2 r n) = Ideal.exp2 (rexp (v90 (ix3 r n 0))) := by
  rw [← pay19_apply]
  unfold k0_pay21
  generalize k0_pay19 v90 = z
  simp only [pointwise]
  rfl

/-- The scale array: Q's heads first. -/
theorem pay3_q (v69 : FVec Ideal S9216x96 .f32) (v120 : FVec Ideal S9216x8 .f32) (v124 v126 v131 v132 : FVec Ideal S9216x8x1 .f32) (r : Fin 9216) (n : Fin 128)
    (h : n.val < 96) : k0_pay3 v69 v120 v124 v126 v131 v132 (ix2 r n) = v69 (ix2 r ⟨n.val, h⟩) := by
  unfold k0_pay3
  generalize k0_pay1 v124 v126 v131 v132 = z
  simp only [pointwise]
  rw [dif_pos h]
  rfl

/-- Then K's. -/
theorem pay3_k (v69 : FVec Ideal S9216x96 .f32) (v120 : FVec Ideal S9216x8 .f32) (v124 v126 v131 v132 : FVec Ideal S9216x8x1 .f32) (r : Fin 9216) (n : Fin 128)
    (h : ¬ n.val < 96) (h' : n.val - 96 < 8) : k0_pay3 v69 v120 v124 v126 v131 v132 (ix2 r n) = v120 (ix2 r ⟨n.val - 96, h'⟩) := by
  unfold k0_pay3
  generalize k0_pay1 v124 v126 v131 v132 = z
  simp only [pointwise]
  rw [dif_neg h]
  exact dif_pos h'

/-- Then V's. -/
theorem pay3_v (v69 : FVec Ideal S9216x96 .f32) (v120 : FVec Ideal S9216x8 .f32) (v124 v126 v131 v132 : FVec Ideal S9216x8x1 .f32) (r : Fin 9216) (n : Fin 128)
    (h : ¬ n.val < 96) (h' : ¬ n.val - 96 < 8) (h'' : n.val - 96 - 8 < 8) :
    k0_pay3 v69 v120 v124 v126 v131 v132 (ix2 r n) = Ideal.exp2 (k0_pay1 v124 v126 v131 v132 (ix3 r ⟨n.val - 96 - 8, h''⟩ 0)) := by
  unfold k0_pay3
  generalize k0_pay1 v124 v126 v131 v132 = z
  simp only [pointwise]
  rw [dif_neg h]
  exact (dif_neg h').trans (dif_pos h'')

end Cert.Proof.RI

end
-- ==== Proof.RefCells.lean ====
module

public import proofs.«01_k».proof.Proof.RefValues

@[expose] public section

set_option maxRecDepth 16384

noncomputable section

namespace Cert.Proof.RI

open Cert.ReferenceIdeal Cert.ReferenceIdeal.Gen
open Idealize.ShloMosaic Idealize.SL.Sem
open Idealize.ShloMosaic.TcCoe Idealize.ShloMosaic.Tactic Idealize.ShloMosaic.Pipeline

/-! ## What the reference's body stores -/

section Outs
variable (x0 : Vec Ideal S9216x12288 .fp8e4m3) (x1 : Vec Ideal S12288x14336 .fp8e4m3) (x2 : Vec Ideal S1x14336 .f32) (x3 x4 x5 : Vec Ideal S9216x128 .f32)

theorem ld0 : View.ld x0 r0_0 = x0 := View.ld_unit_lit _ _ (by decide)
theorem ld1 : View.ld x1 r0_1 = x1 := View.ld_unit_lit _ _ (by decide)
theorem ld2 : View.ld x2 r0_3 = x2 := View.ld_unit_lit _ _ (by decide)
theorem ld3 : View.ld x3 r0_2 = x3 := View.ld_unit_lit _ _ (by decide)

theorem out6_eq : out0_6 x0 x1 x2 x3 x4 x5 = k0_pay15 (k0_pay9 x0 x1 x3 x2 x4 x5) (k0_pay10 x0 x1 x3 x2 x4 x5) (k0_pay11 x0 x1 x3 x2 x4 x5) (k0_pay12 x0 x1 x3 x2 x4 x5) k0_pay13 := by
  unfold_out out0_6
  rw [ld0, ld1, ld2, ld3, ld3, ld3]
  exact View.canon_cons_unit_lit _ _ _ (by decide)

theorem out7_eq : out0_7 x0 x1 x2 x3 x4 x5
    = k0_pay20 (k0_pay17 (k0_pay5 x0 x1 x3 x2) (k0_pay7 x4) (k0_pay8 x5)) (k0_pay18 (k0_pay5 x0 x1 x3 x2) (k0_pay7 x4) (k0_pay8 x5)) := by
  unfold_out out0_7
  rw [ld0, ld1, ld2, ld3, ld3, ld3]
  exact View.canon_cons_unit_lit _ _ _ (by decide)

theorem out8_eq : out0_8 x0 x1 x2 x3 x4 x5
    = k0_pay2 (k0_pay6 x0 x1 x3 x2) (k0_pay22 (k0_pay6 x0 x1 x3 x2)) (k0_pay23 (k0_pay6 x0 x1 x3 x2)) (k0_pay24 (k0_pay6 x0 x1 x3 x2)) k0_pay25 := by
  unfold_out out0_8
  rw [ld0, ld1, ld2, ld3]
  exact View.canon_cons_unit_lit _ _ _ (by decide)

theorem out9_eq : out0_9 x0 x1 x2 x3 x4 x5
    = k0_pay3 (k0_pay16 (k0_pay10 x0 x1 x3 x2 x4 x5) (k0_pay11 x0 x1 x3 x2 x4 x5) (k0_pay12 x0 x1 x3 x2 x4 x5) k0_pay13)
      (k0_pay21 (k0_pay18 (k0_pay5 x0 x1 x3 x2) (k0_pay7 x4) (k0_pay8 x5)))
      (k0_pay22 (k0_pay6 x0 x1 x3 x2)) (k0_pay23 (k0_pay6 x0 x1 x3 x2)) (k0_pay24 (k0_pay6 x0 x1 x3 x2)) k0_pay25 := by
  unfold_out out0_9
  rw [ld0, ld1, ld2, ld3, ld3, ld3]
  exact View.canon_cons_unit_lit _ _ _ (by decide)

/-- A head's row from the six blocks: the scaled products, rotated for the heads of Q and K. -/
def rowB (r : Fin 9216) (n : Fin 112) : Fin 128 → EReal :=
  if n.val < 104 then rowRot (fun l => k0_pay4 x0 x1 x3 x2 (ix3 r n l)) (fun l => x4 (ix2 r l)) (fun l => x5 (ix2 r l))
  else fun l => k0_pay4 x0 x1 x3 x2 (ix3 r n l)

theorem rowQ (r : Fin 9216) (n : Fin 96) (n' : Fin 112) (hn : n'.val = n.val) :
    (fun l => k0_pay9 x0 x1 x3 x2 x4 x5 (ix3 r n l)) = rowB x0 x1 x2 x3 x4 x5 r n' := by
  have h := n.isLt
  unfold rowB
  rw [if_pos (by omega)]
  funext l
  exact pay9_apply x0 x1 x3 x2 x4 x5 r n l n' hn

theorem rowK (r : Fin 9216) (n : Fin 8) (n' : Fin 112) (hn : n'.val = 96 + n.val) :
    (fun l => k0_pay17 (k0_pay5 x0 x1 x3 x2) (k0_pay7 x4) (k0_pay8 x5) (ix3 r n l)) = rowB x0 x1 x2 x3 x4 x5 r n' := by
  have h := n.isLt
  unfold rowB
  rw [if_pos (by omega)]
  funext l
  rw [pay17_apply]
  exact congrArg (fun v => rowRot v (fun l => x4 (ix2 r l)) (fun l => x5 (ix2 r l)) l) (funext fun l' => pay5_apply x0 x1 x3 x2 r n l' n' hn)

theorem rowV (r : Fin 9216) (n : Fin 8) (n' : Fin 112) (hn : n'.val = 104 + n.val) :
    (fun l => k0_pay6 x0 x1 x3 x2 (ix3 r n l)) = rowB x0 x1 x2 x3 x4 x5 r n' := by
  unfold rowB
  rw [if_neg (by omega)]
  funext l
  exact pay6_apply x0 x1 x3 x2 r n l n' hn

theorem out6_apply (r : Fin 9216) (n : Fin 96) (l : Fin 128) (n' : Fin 112) (hn : n'.val = n.val) :
    out0_6 x0 x1 x2 x3 x4 x5 (ix3 r n l) = rowCode (rowB x0 x1 x2 x3 x4 x5 r n') l := by
  rw [out6_eq, codeQ, rowQ x0 x1 x2 x3 x4 x5 r n n' hn]

theorem out7_apply (r : Fin 9216) (n : Fin 8) (l : Fin 128) (n' : Fin 112) (hn : n'.val = 96 + n.val) :
    out0_7 x0 x1 x2 x3 x4 x5 (ix3 r n l) = rowCode (rowB x0 x1 x2 x3 x4 x5 r n') l := by
  rw [out7_eq, codeK, rowK x0 x1 x2 x3 x4 x5 r n n' hn]

theorem out8_apply (r : Fin 9216) (n : Fin 8) (l : Fin 128) (n' : Fin 112) (hn : n'.val = 104 + n.val) :
    out0_8 x0 x1 x2 x3 x4 x5 (ix3 r n l) = rowCode (rowB x0 x1 x2 x3 x4 x5 r n') l := by
  rw [out8_eq, codeV, rowV x0 x1 x2 x3 x4 x5 r n n' hn]

theorem out9_apply (r : Fin 9216) (n : Fin 128) (hn : n.val < 112) :
    out0_9 x0 x1 x2 x3 x4 x5 (ix2 r n) = rowScale (rowB x0 x1 x2 x3 x4 x5 r ⟨n.val, hn⟩) := by
  rw [out9_eq]
  unfold rowScale
  by_cases h : n.val < 96
  · rw [pay3_q _ _ _ _ _ _ r n h, pay16_apply, pay14_row, rowQ x0 x1 x2 x3 x4 x5 r ⟨n.val, h⟩ ⟨n.val, hn⟩ rfl]
  · by_cases h' : n.val - 96 < 8
    · rw [pay3_k _ _ _ _ _ _ r n h h', pay21_apply, pay18_apply,
        rowK x0 x1 x2 x3 x4 x5 r ⟨n.val - 96, h'⟩ ⟨n.val, hn⟩ (by show n.val = 96 + (n.val - 96); omega)]
    · have h'' : n.val - 96 - 8 < 8 := by omega
      rw [pay3_v _ _ _ _ _ _ r n h h' h'', pay1_row,
        rowV x0 x1 x2 x3 x4 x5 r ⟨n.val - 96 - 8, h''⟩ ⟨n.val, hn⟩ (by show n.val = 104 + (n.val - 96 - 8); omega)]

end Outs

/-! ## The blocks, which are the arguments -/

section Blocks
variable (m : (ℓ : Loc nD τ sig) → Buf (Elt Ideal) ℓ) (c : Dev nD)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

theorem blk0 (t : Fin cfg0.N) (r : Fin 9216) (k : Fin 12288) :
    iblk m c 0 t (ix2 r k : S9216x12288.Idx) = m ((c : Thread nD τ).loc main_arg0) (ix2 r k : S9216x12288.Idx) := by
  blk_simp [iblk]
  rw [V_main_arg0]
  congr 1
  blk_ext [index0]

theorem blk1 (t : Fin cfg0.N) (k : Fin 12288) (n : Fin 14336) :
    iblk m c 1 t (ix2 k n : S12288x14336.Idx) = m ((c : Thread nD τ).loc main_arg1) (ix2 k n : S12288x14336.Idx) := by
  blk_simp [iblk]
  rw [V_main_arg1]
  congr 1
  blk_ext [index1]

theorem blk2 (t : Fin cfg0.N) (n : Fin 14336) :
    iblk m c 2 t (ix2 0 n : S1x14336.Idx) = m ((c : Thread nD τ).loc main_arg2) (ix1 n : S14336.Idx) := by
  blk_simp [iblk]
  entry_read
  pointwise
  show m ((c : Thread nD τ).loc main_arg2) _ = _
  congr 1
  blk_ext [index2]

theorem blk3 (t : Fin cfg0.N) (r : Fin 9216) (l : Fin 128) :
    iblk m c 3 t (ix2 r l : S9216x128.Idx) = m ((c : Thread nD τ).loc main_arg3) (ix2 r l : S9216x128.Idx) := by
  blk_simp [iblk]
  rw [V_main_arg3]
  congr 1
  blk_ext [index3]

theorem blk4 (t : Fin cfg0.N) (r : Fin 9216) (l : Fin 128) :
    iblk m c 4 t (ix2 r l : S9216x128.Idx) = m ((c : Thread nD τ).loc main_arg4) (ix2 r l : S9216x128.Idx) := by
  blk_simp [iblk]
  rw [V_main_arg4]
  congr 1
  blk_ext [index4]

theorem blk5 (t : Fin cfg0.N) (r : Fin 9216) (l : Fin 128) :
    iblk m c 5 t (ix2 r l : S9216x128.Idx) = m ((c : Thread nD τ).loc main_arg5) (ix2 r l : S9216x128.Idx) := by
  blk_simp [iblk]
  rw [V_main_arg5]
  congr 1
  blk_ext [index5]

/-- A head's row, of the reference's arguments. -/
def heads (r : Fin 9216) (n : Fin 112) : Fin 128 → EReal :=
  turned (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r n

theorem head_blk (t : Fin cfg0.N) (r : Fin 9216) (n : Fin 112) :
    (fun l => k0_pay4 (F := Ideal) (iblk m c 0 t) (iblk m c 1 t) (iblk m c 3 t) (iblk m c 2 t) (ix3 r n l))
      = head (m ((c : Thread nD τ).loc main_arg0)) (m ((c : Thread nD τ).loc main_arg1)) (m ((c : Thread nD τ).loc main_arg2)) (m ((c : Thread nD τ).loc main_arg3)) r n := by
  funext l
  unfold head
  rw [pay4_apply, blk3 m c t r l, blk2 m c t (colOf n l)]
  congr 2
  refine Finset.sum_congr rfl fun k _ => ?_
  rw [blk0 m c t r k, blk1 m c t k (colOf n l)]

theorem row_blk (t : Fin cfg0.N) (r : Fin 9216) (n : Fin 112) :
    rowB (iblk m c 0 t) (iblk m c 1 t) (iblk m c 2 t) (iblk m c 3 t) (iblk m c 4 t) (iblk m c 5 t) r n = heads m c r n := by
  have e4 : (fun l => iblk m c 4 t (ix2 r l : S9216x128.Idx)) = fun l => m ((c : Thread nD τ).loc main_arg4) (ix2 r l : S9216x128.Idx) := funext fun l => blk4 m c t r l
  have e5 : (fun l => iblk m c 5 t (ix2 r l : S9216x128.Idx)) = fun l => m ((c : Thread nD τ).loc main_arg5) (ix2 r l : S9216x128.Idx) := funext fun l => blk5 m c t r l
  unfold rowB heads turned
  rw [head_blk, e4, e5]

/-! ## The arrays after the run -/

theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0, 0] := (by decide +kernel : ∀ t : Fin grid0.N, _)
theorem index9 : ∀ t : Fin cfg0.N, win0_9.index t = ![0, 0] := (by decide +kernel : ∀ t : Fin grid0.N, _)

theorem eta3 {p q r : ℕ} (y : (⟨3, ![p, q, r]⟩ : Shape).Idx) : y = ix3 (y 0) (y 1) (y 2) := by
  funext a
  fin_cases a <;> rfl

theorem eta2 {p q : ℕ} (y : (⟨2, ![p, q]⟩ : Shape).Idx) : y = ix2 (y 0) (y 1) := by
  funext a
  fin_cases a <;> rfl

theorem arr6 : (dats m 0 c).arrAt 6 cfg0.N = fun i : S9216x96x128.Idx => rowCode (heads m c (i 0) ⟨(i 1).val, (i 1).isLt.trans (by decide)⟩) (i 2) := by
  refine (dats m 0 c).arrAt_eq_of_covers 6 _ (by decide +kernel) fun t hf y => ?_
  blk_simp
  rw [after0_6]
  refine (congrArg (out0_6 (iblk m c 0 t) (iblk m c 1 t) (iblk m c 2 t) (iblk m c 3 t) (iblk m c 4 t) (iblk m c 5 t)) (eta3 (p := 9216) (q := 96) (r := 128) y)).trans ?_
  refine (out6_apply _ _ _ _ _ _ _ _ _ ⟨(y 1).val, (by have h : (y 1).val < 96 := (y 1).isLt; omega)⟩ rfl).trans ?_
  refine (congrArg (fun v => rowCode v _) (row_blk m c t _ _)).trans ?_
  refine congrArg₂ rowCode (congrArg₂ (heads m c) (Fin.ext ?_) (Fin.ext ?_)) (Fin.ext ?_) <;> blk_simp [index6] <;> simp

theorem arr7 : (dats m 0 c).arrAt 7 cfg0.N = fun i : S9216x8x128.Idx => rowCode (heads m c (i 0) ⟨96 + (i 1).val, Nat.add_lt_add_left (i 1).isLt 96 |>.trans_le (by decide)⟩) (i 2) := by
  refine (dats m 0 c).arrAt_eq_of_covers 7 _ (by decide +kernel) fun t hf y => ?_
  blk_simp
  rw [after0_7]
  refine (congrArg (out0_7 (iblk m c 0 t) (iblk m c 1 t) (iblk m c 2 t) (iblk m c 3 t) (iblk m c 4 t) (iblk m c 5 t)) (eta3 (p := 9216) (q := 8) (r := 128) y)).trans ?_
  refine (out7_apply _ _ _ _ _ _ _ _ _ ⟨96 + (y 1).val, (by have h : (y 1).val < 8 := (y 1).isLt; omega)⟩ rfl).trans ?_
  refine (congrArg (fun v => rowCode v _) (row_blk m c t _ _)).trans ?_
  refine congrArg₂ rowCode (congrArg₂ (heads m c) (Fin.ext ?_) (Fin.ext ?_)) (Fin.ext ?_) <;> blk_simp [index7] <;> simp

theorem arr8 : (dats m 0 c).arrAt 8 cfg0.N = fun i : S9216x8x128.Idx => rowCode (heads m c (i 0) ⟨104 + (i 1).val, Nat.add_lt_add_left (i 1).isLt 104 |>.trans_le (by decide)⟩) (i 2) := by
  refine (dats m 0 c).arrAt_eq_of_covers 8 _ (by decide +kernel) fun t hf y => ?_
  blk_simp
  rw [after0_8]
  refine (congrArg (out0_8 (iblk m c 0 t) (iblk m c 1 t) (iblk m c 2 t) (iblk m c 3 t) (iblk m c 4 t) (iblk m c 5 t)) (eta3 (p := 9216) (q := 8) (r := 128) y)).trans ?_
  refine (out8_apply _ _ _ _ _ _ _ _ _ ⟨104 + (y 1).val, (by have h : (y 1).val < 8 := (y 1).isLt; omega)⟩ rfl).trans ?_
  refine (congrArg (fun v => rowCode v _) (row_blk m c t _ _)).trans ?_
  refine congrArg₂ rowCode (congrArg₂ (heads m c) (Fin.ext ?_) (Fin.ext ?_)) (Fin.ext ?_) <;> blk_simp [index8] <;> simp

/-- The grid's one point. -/
def t0 : Fin cfg0.N := ⟨0, by decide +kernel⟩

theorem all_t0 : ∀ t : Fin cfg0.N, t = t0 := (by decide +kernel : ∀ t : Fin grid0.N, t = ⟨0, by decide +kernel⟩)

theorem arr9 (i : S9216x128.Idx) (hi : (i 1).val < 112) :
    ((dats m 0 c).arrAt 9 cfg0.N : S9216x128.Idx → EReal) i = rowScale (heads m c (i 0) ⟨(i 1).val, hi⟩) := by
  have e : (dats m 0 c).arrAt 9 cfg0.N = fun i : S9216x128.Idx => out0_9 (iblk m c 0 t0) (iblk m c 1 t0) (iblk m c 2 t0) (iblk m c 3 t0) (iblk m c 4 t0) (iblk m c 5 t0) i := by
    refine (dats m 0 c).arrAt_eq_of_covers 9 _ (by decide +kernel) fun t hf y => ?_
    obtain rfl : t = t0 := all_t0 t
    blk_simp
    rw [after0_9]
    congr 1
    funext a
    fin_cases a <;> refine Fin.ext ?_ <;> blk_simp [index9] <;> simp
  rw [e]
  refine (congrArg (out0_9 (iblk m c 0 t0) (iblk m c 1 t0) (iblk m c 2 t0) (iblk m c 3 t0) (iblk m c 4 t0) (iblk m c 5 t0)) (eta2 (p := 9216) (q := 128) i)).trans ?_
  refine (out9_apply _ _ _ _ _ _ (i 0) (i 1) hi).trans ?_
  exact congrArg rowScale (row_blk m c t0 _ _)

end Blocks

section Run
variable (m : (ℓ : Loc nD τ sig) → Buf (Elt Ideal) ℓ) (ρ : Dev nD → PrngReg)

/-- The reference's run: the four results, cell by cell, and the arguments unchanged. -/
theorem run_cells : θ_run defs (onTc (τ := τ) (main (F := Ideal))) ⟨m, fun _ => 0, ρ⟩ (fun r => ∀ c : Dev nD,
      (∀ i : S9216x96x128.Idx, r.2.mem ((c.tc : Thread nD τ).loc main_v1_0) i = rowCode (heads m c (i 0) ⟨(i 1).val, (i 1).isLt.trans (by decide)⟩) (i 2))
      ∧ (∀ i : S9216x8x128.Idx, r.2.mem ((c.tc : Thread nD τ).loc main_v1_1) i = rowCode (heads m c (i 0) ⟨96 + (i 1).val, Nat.add_lt_add_left (i 1).isLt 96 |>.trans_le (by decide)⟩) (i 2))
      ∧ (∀ i : S9216x8x128.Idx, r.2.mem ((c.tc : Thread nD τ).loc main_v1_2) i = rowCode (heads m c (i 0) ⟨104 + (i 1).val, Nat.add_lt_add_left (i 1).isLt 104 |>.trans_le (by decide)⟩) (i 2))
      ∧ (∀ (i : S9216x128.Idx) (hx : (i 1).val < 112), r.2.mem ((c.tc : Thread nD τ).loc main_v1_3) i = rowScale (heads m c (i 0) ⟨(i 1).val, hx⟩))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ) (unchanged m ρ))
  exact ⟨fun i => congrFun ((h.1.out_eq c 6).trans (arr6 m c)) i, fun i => congrFun ((h.1.out_eq c 7).trans (arr7 m c)) i,
    fun i => congrFun ((h.1.out_eq c 8).trans (arr8 m c)) i, fun i hx => (congrFun (h.1.out_eq c 9) i).trans (arr9 m c i hx), h.2 c⟩

end Run

end Cert.Proof.RI

end
-- ==== Proof.Algebraic.lean ====
module

public import proofs.«01_k».proof.Defs
public import proofs.«01_k».proof.Proof.Ideal.Values
public import proofs.«01_k».proof.Proof.RefCells
public import proofs.«01_k».proof.Proof.Gen.On_written
public import Idealize.ShloMosaic.Lib.WordCmp

@[expose] public section

set_option maxRecDepth 16384

noncomputable section

namespace Cert.Proof

open Idealize.ShloMosaic Idealize.SL.Sem
open Idealize.ShloMosaic.TcCoe Idealize.ShloMosaic.Tactic

/-- The lanes of the scale array the mask sets are those of the 112 heads. -/
theorem lane_of_mask (x : FVec Ideal Cert.On_written.S9216x12288 .fp8e4m3) (w : FVec Ideal Cert.On_written.S12288x14336 .fp8e4m3)
    (ws : FVec Ideal Cert.On_written.S14336 .f32) (xs cos sin : FVec Ideal Cert.On_written.S9216x128 .f32) (r : Fin 9216) (l : Fin 128)
    (h : (Cert.On_written.fn x w ws xs cos sin).2.2.2 (ix2 r l) = 1#1) : l.val < 112 := by
  unfold Cert.On_written.fn at h
  dsimp only at h
  simp only [pointwise] at h
  exact (WordCmp.cmpi_slt_ofNat_eq_one_iff (w := 32) (a := l.val) (b := 112) (by have := l.isLt; omega) (by decide)).mp h

/-- The two programs' rows are the same numbers of the same arguments. -/
theorem heads_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (r : Fin 9216) (n : Fin 112) : RI.heads m' c r n = KI.heads m c r n := by
  obtain ⟨h0, h1, h2, h3, h4, h5⟩ := h
  unfold RI.heads KI.heads
  exact congrFun (congrFun (congr (congr (congr (congr (congr (congrArg turned h0) h1) h2) h3) h4) h5) r) n

/-- The kernel and the reference end with the same results, as extended reals, on every cell the mask sets. -/
theorem algebraic : Cert.algebraic_KernelIdeal_ReferenceIdeal_on_written (hKernelIdeal := Cert.KernelIdeal.Gen.facts)
    (hReferenceIdeal := Cert.ReferenceIdeal.Gen.facts) (hOn_written := Cert.On_written.Gen.facts) := by
  intro m g m' g' _ hargs
  refine ⟨fun c i => KI.res0 m c i, fun c i => KI.res1 m c i, fun c i => KI.res2 m c i,
    fun c (i : Cert.KernelIdeal.S9216x128.Idx) => if hx : (i 1).val < 112 then KI.res3 m c i hx else (0 : EReal), ?_, ?_⟩
  · refine (θ_run _ _ _).mono (fun r h c => ?_) (KI.run_cells m g)
    obtain ⟨e0, e1, e2, e3, ea⟩ := h c
    refine ⟨fun i _ => e0 i, fun i _ => e1 i, fun i _ => e2 i, fun i hi => ?_, ea⟩
    have hx : (i 1).val < 112 := lane_of_mask _ _ _ _ _ _ (i 0) (i 1) ((congrArg _ (RI.eta2 (p := 9216) (q := 128) i).symm).trans hi)
    exact (e3 i hx).trans (dif_pos hx).symm
  · refine (θ_run _ _ _).mono (fun r h c => ?_) (RI.run_cells m' g')
    obtain ⟨e0, e1, e2, e3, ea⟩ := h c
    have hh := heads_eq m m' c (hargs c)
    refine ⟨fun i _ => ?_, fun i _ => ?_, fun i _ => ?_, fun i hi => ?_, ea⟩
    · refine (e0 i).trans ?_
      exact (congrArg (fun v => rowCode v (i 2)) (hh (i 0) _)).trans (KI.res0_eq m c i _ rfl).symm
    · refine (e1 i).trans ?_
      exact (congrArg (fun v => rowCode v (i 2)) (hh (i 0) _)).trans (KI.res1_eq m c i _ rfl).symm
    · refine (e2 i).trans ?_
      exact (congrArg (fun v => rowCode v (i 2)) (hh (i 0) _)).trans (KI.res2_eq m c i _ rfl).symm
    · have hx : (i 1).val < 112 := lane_of_mask _ _ _ _ _ _ (i 0) (i 1) ((congrArg _ (RI.eta2 (p := 9216) (q := 128) i).symm).trans hi)
      refine (e3 i hx).trans ?_
      exact (congrArg rowScale (hh (i 0) _)).trans ((KI.res3_eq m c i hx).symm.trans (dif_pos hx).symm)

end Cert.Proof

end
-- ==== Proof.Quant.Trip.lean ====
module

public import proofs.«01_k».proof.Proof.Gen.QuantIdeal.Frame
public import proofs.«01_k».proof.Proof.Ideal.Tile

@[expose] public section

set_option maxRecDepth 16384

noncomputable section

namespace Cert.Proof.QI

open Cert.QuantIdeal Cert.QuantIdeal.Gen
open Idealize.ShloMosaic
open Idealize.ShloMosaic.TcCoe Idealize.ShloMosaic.Tactic

variable {F : FTy → Type} [FloatOps F]

/-! ## What one trip computes of 32 rows, read in 96 chunks of 128 columns -/

/-- The squares of the first `n` chunks, summed lane by lane. -/
def sqSum (L : Fin 96 → Vec F S32x128 .bf16) : (n : ℕ) → n ≤ 96 → FVec F S32x128 .f32
  | 0, _ => broadcast S32x128 (Scalar.ofBits .f32 0x00000000#32)
  | n + 1, h => addf (sqSum L n (by omega)) (mulf (extf .f32 (L ⟨n, h⟩) bitsLt_bf16_f32) (extf .f32 (L ⟨n, h⟩) bitsLt_bf16_f32))

/-- The reciprocal of each row's root mean square, in every lane, from the lanes' sums of squares. -/
def invRms (ss : FVec F S32x128 .f32) : FVec F S32x128 .f32 :=
  broadcastTo S32x128 (shapeCast S32x1 (rsqrt (addf (mulf (shapeCast S32x1 (multiReduction .add [1] S32 ss 0x00000000#32 reduces_S32x128_S32 (.inl rfl) rfl)
    shapeCasts_S32_S32x1) (broadcast S32x1 (Scalar.ofBits .f32 0x38AAAAAB#32))) (broadcast S32x1 (Scalar.ofBits .f32 0x358637BD#32)))) shapeCasts_S32x1_S32x1)
    broadcasts_S32x1_S32x128

/-- A chunk over the root mean squares of its rows, times the gains of its columns. -/
def chunkNorm (r : FVec F S32x128 .f32) (x : Vec F S32x128 .bf16) (g : Vec F S1x128 .f32) : FVec F S32x128 .f32 :=
  mulf (mulf (extf .f32 x bitsLt_bf16_f32) r) (broadcastTo S32x128 (shapeCast S1x128 g shapeCasts_S1x128_S1x128) broadcasts_S1x128_S32x128)

/-- The largest magnitudes of the first `n` chunks, lane by lane, and no less than zero. -/
def chunkMax (y : Fin 96 → FVec F S32x128 .f32) : (n : ℕ) → n ≤ 96 → FVec F S32x128 .f32
  | 0, _ => broadcast S32x128 (Scalar.ofBits .f32 0x00000000#32)
  | n + 1, h => maximumf (chunkMax y n (by omega)) (absf (y ⟨n, h⟩))

/-- Each row's largest magnitude over the largest code, in every lane. -/
def rowTop (am : FVec F S32x128 .f32) : FVec F S32x128 .f32 :=
  mulf (broadcastTo S32x128 (shapeCast S32x1 (shapeCast S32x1 (multiReduction .maximumf [1] S32 am 0xFF800000#32 reduces_S32x128_S32 (.inl rfl) rfl)
    shapeCasts_S32_S32x1) shapeCasts_S32x1_S32x1) broadcasts_S32x1_S32x128) (broadcast S32x128 (Scalar.ofBits .f32 0x3B124925#32))

/-- The chunks over their rows' root mean squares, times the gains. -/
def norms (L : Fin 96 → Vec F S32x128 .bf16) (G : Fin 96 → Vec F S1x128 .f32) (n : Fin 96) : FVec F S32x128 .f32 :=
  chunkNorm (invRms (sqSum L 96 le_rfl)) (L n) (G n)

/-- The exponent bits of the rows' scales, less one. -/
def tileBits (L : Fin 96 → Vec F S32x128 .bf16) (G : Fin 96 → Vec F S1x128 .f32) : IVec S32x128 32 :=
  KI.scaleBits (rowTop (chunkMax (norms L G) 96 le_rfl))

/-- The rows' scales, in every lane. -/
def tileScale (L : Fin 96 → Vec F S32x128 .bf16) (G : Fin 96 → Vec F S1x128 .f32) : FVec F S32x128 .f32 :=
  bitcastToFloat .f32 (addi (tileBits L G) (broadcast S32x128 8388608#32))

/-- Numbers times the reciprocals of their rows' scales, clipped to the codes' range. -/
def clipped (y : FVec F S32x128 .f32) (b : IVec S32x128 32) : FVec F S32x128 .f32 :=
  minimumf (broadcast S32x128 (Scalar.ofBits .f32 0x43E00000#32)) (maximumf (broadcast S32x128 (Scalar.ofBits .f32 0xC3E00000#32))
    (mulf y (bitcastToFloat .f32 (subi (broadcast S32x128 2122317824#32) b))))

/-- The codes of chunk `n`. -/
def tileCode (L : Fin 96 → Vec F S32x128 .bf16) (G : Fin 96 → Vec F S1x128 .f32) (n : Fin 96) : FVec F S32x128 .fp8e4m3 :=
  truncf .fp8e4m3 (clipped (norms L G n) (tileBits L G)) bitsLt_fp8e4m3_f32

/-! ## Where a trip reads and writes -/

/-- Where chunk `n` of trip `k`'s rows starts. -/
def chunkOff (k : Fin k0_t1_loop.trips) (n : Fin 96) : Fin 2 → ℕ := ![k0_off1 k 0, 128 * n.val]

theorem trips_eq : k0_t1_loop.trips = 4 := by decide

theorem chunkOff_eq (k : Fin k0_t1_loop.trips) (n : Fin 96) : chunkOff k n = ![32 * k.val, 128 * n.val] := by
  unfold chunkOff; rw [k0_off1_eq]; rfl

theorem chunkOff_inb (k : Fin k0_t1_loop.trips) (n : Fin 96) : ∀ a, chunkOff k n a + S32x128.size a ≤ S128x12288.size a := by
  have hk : k.val < 4 := lt_of_lt_of_eq k.isLt trips_eq
  rw [chunkOff_eq]
  refine Fin.forall_fin_two.mpr ⟨?_, ?_⟩
  · show 32 * k.val + 32 ≤ 128; omega
  · show 128 * n.val + 128 ≤ 12288; omega

theorem gainOff_inb (n : Fin 96) : ∀ a, (![0, 128 * n.val] : Fin 2 → ℕ) a + S1x128.size a ≤ S1x12288.size a := by
  refine Fin.forall_fin_two.mpr ⟨?_, ?_⟩
  · show 0 + 1 ≤ 1; omega
  · show 128 * n.val + 128 ≤ 12288; omega

/-- The first `n` chunks' stores, last first. -/
def codePieces (k : Fin k0_t1_loop.trips) (C : Fin 96 → FVec F S32x128 .fp8e4m3) : (n : ℕ) → n ≤ 96 → List (View.Piece (Elt F) S128x12288 .fp8e4m3)
  | 0, _ => []
  | n + 1, h => ⟨Rect.unit (s := S128x12288) (chunkOff k ⟨n, h⟩) S32x128.size (chunkOff_inb k ⟨n, h⟩), C ⟨n, h⟩⟩ :: codePieces k C n (by omega)

section
variable (𝒱 : Variants) (c : Dev nD) (bd : Option 𝒱.V) (i : grid0.Coords) (arg1 : Memref sig .tc .vmem S128x12288 .bf16) (harg1 : arg1.IsWhole) (arg2 : Memref sig .tc .vmem S1x12288 .f32) (harg2 : arg2.IsWhole) (arg3 : Memref sig .tc .vmem S128x1 .i32) (harg3 : arg3.IsWhole) (arg4 : Memref sig .tc .vmem S1x128 .f32) (harg4 : arg4.IsWhole) (arg5 : Memref sig .tc .vmem S128x12288 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (X_arg1 : BufTy.Contents (Elt F) arg1.view.ty) (X_arg2 : BufTy.Contents (Elt F) arg2.view.ty) (k : Fin k0_t1_loop.trips)

/-- Chunk `n` as trip `k` loads it. -/
def loadX (n : Fin 96) : Vec F S32x128 .bf16 :=
  arg1.view.readAt (Elt F) (Rect.unit (s := S128x12288) (chunkOff k n) S32x128.size (chunkOff_inb k n)).toLoadRect X_arg1

/-- The gains of chunk `n`'s columns as they are loaded. -/
def loadG (n : Fin 96) : Vec F S1x128 .f32 :=
  arg2.view.readAt (Elt F) (Rect.unit (s := S1x12288) ![0, 128 * n.val] S1x128.size (gainOff_inb n)).toLoadRect X_arg2

/-- A trip's scale store. -/
theorem trip_scale : (trip_k0_t1 (F := F) 𝒱 c bd i arg1 harg1 arg2 harg2 arg3 harg3 arg4 harg4 arg5 harg5 arg6 harg6 arg7 harg7 arg8 harg8 X_arg1 X_arg2 k).2.1
    = [⟨Rect.unit (s := S128x128) (k0_off97 k) S32x128.size (k0_off97_inb k), tileScale (loadX arg1 X_arg1 k) (loadG arg2 X_arg2)⟩] := by
  sl_kernel_rfl

/-- A trip's code stores. -/
theorem trip_codes : (trip_k0_t1 (F := F) 𝒱 c bd i arg1 harg1 arg2 harg2 arg3 harg3 arg4 harg4 arg5 harg5 arg6 harg6 arg7 harg7 arg8 harg8 X_arg1 X_arg2 k).1
    = codePieces k (tileCode (loadX arg1 X_arg1 k) (loadG arg2 X_arg2)) 96 le_rfl := by
  sl_kernel_rfl

end

end Cert.Proof.QI

end
-- ==== Proof.Quant.Rows.lean ====
module

public import proofs.«01_k».proof.Proof.Rows
public import Idealize.ShloMosaic.Lib.Pointwise
public import Idealize.ShloMosaic.PureOps.Ideal.Laws

@[expose] public section

noncomputable section

namespace Cert.Proof

open Idealize.ShloMosaic

/-! ## What is computed of one row of the input -/

/-- A row's largest magnitude. -/
def wideAbs (v : Fin 12288 → EReal) : EReal := Finset.univ.fold max (Ideal.ofBits .f32 0xFF800000#32) fun k => max (v k) (-(v k))

theorem abs_nonneg' (x : EReal) : 0 ≤ max x (-x) := by
  rcases le_total 0 x with h | h
  · exact le_max_of_le_left h
  · exact le_max_of_le_right (by rw [EReal.le_neg, neg_zero]; exact h)

/-- It is not negative. -/
theorem wideAbs_nonneg (v : Fin 12288 → EReal) : 0 ≤ wideAbs v := by
  unfold wideAbs
  rw [Finset.le_fold_max]
  exact Or.inr ⟨0, Finset.mem_univ _, abs_nonneg' _⟩

/-- A row's scale: the power of two that its largest magnitude calls for. -/
def wideScale (v : Fin 12288 → EReal) : EReal := Ideal.exp2 (rexp (wideAbs v))

/-- A row's codes before they are narrowed: its numbers over its scale, clipped. -/
def wideCode (v : Fin 12288 → EReal) (k : Fin 12288) : EReal :=
  min (Ideal.ofBits .f32 0x43E00000#32) (max (Ideal.ofBits .f32 0xC3E00000#32) (v k * Ideal.exp2 (0 - rexp (wideAbs v))))

/-- The reciprocal of a row's root mean square. -/
def rmsInv (v : Fin 12288 → EReal) : EReal :=
  Ideal.rsqrt ((∑ k, v k * v k) * Ideal.ofBits .f32 0x38AAAAAB#32 + Ideal.ofBits .f32 0x358637BD#32)

/-- A row over its root mean square, times the gains of the columns. -/
def normed (v g : Fin 12288 → EReal) (k : Fin 12288) : EReal := v k * rmsInv v * g k

/-! ## The tables of cosines and sines -/

/-- The frequency of a pair of lanes: one over the base raised to twice its number over the head's width. -/
def freqOf (l : Fin 64) : EReal :=
  Ideal.div 1 (Ideal.pow (Ideal.ofBits .f32 0x49742400#32)
    (Ideal.div (Ideal.ofBits .f32 0x40000000#32 * (((BitVec.ofNat 32 l.val).toInt : ℝ) : EReal)) (Ideal.ofBits .f32 0x43000000#32)))

/-- The pair that a lane belongs to. -/
def half (l : Fin 128) : Fin 64 := ⟨l.val % 64, by omega⟩

/-- The cosine of a position times a frequency. -/
def turnCos (p : BitVec 32) (f : EReal) : EReal := Ideal.cos (((p.toInt : ℝ) : EReal) * f)

/-- The sine of a position times a frequency, negated in the first 64 lanes. -/
def turnSin (p : BitVec 32) (f : EReal) (l : Fin 128) : EReal := if l.val < 64 then 0 - Ideal.sin (((p.toInt : ℝ) : EReal) * f) else Ideal.sin (((p.toInt : ℝ) : EReal) * f)

/-! ## A row in 96 chunks of 128 lanes -/

/-- The column of a chunk's lane. -/
def lane (c : Fin 96) (l : Fin 128) : Fin 12288 := ⟨128 * c.val + l.val, by omega⟩

/-- The chunks' sums, lane by lane, sum up to the row's. -/
theorem sum_lanes (f : Fin 12288 → EReal) : ∑ l : Fin 128, ∑ c : Fin 96, f (lane c l) = ∑ k, f k := by
  rw [Finset.sum_comm, ← Fintype.sum_prod_type']
  refine Fintype.sum_equiv (finProdFinEquiv (m := 96) (n := 128)) _ _ fun p => congrArg f (Fin.ext ?_)
  show 128 * p.1.val + p.2.val = p.2.val + 128 * p.1.val
  omega

/-- What bounds each lane's magnitudes of all chunks and zero is what bounds the row's magnitudes. -/
theorem abs_lanes (v : Fin 12288 → EReal) (M : Fin 128 → EReal)
    (hM : ∀ l z, M l ≤ z ↔ 0 ≤ z ∧ ∀ c : Fin 96, max (v (lane c l)) (-(v (lane c l))) ≤ z) :
    Finset.univ.fold max (Ideal.ofBits .f32 0xFF800000#32) M = wideAbs v := by
  refine eq_of_forall_ge_iff fun z => ?_
  unfold wideAbs
  rw [Finset.fold_max_le, Finset.fold_max_le]
  refine and_congr_right fun _ => ⟨fun h k _ => ?_, fun h l _ => (hM l z).mpr ⟨?_, fun c => h _ (Finset.mem_univ _)⟩⟩
  · have e : k = lane ⟨k.val / 128, by omega⟩ ⟨k.val % 128, by omega⟩ := Fin.ext (by show k.val = 128 * (k.val / 128) + k.val % 128; omega)
    rw [e]
    exact ((hM _ z).mp (h _ (Finset.mem_univ _))).2 _
  · exact (abs_nonneg' _).trans (h (lane 0 l) (Finset.mem_univ _))

end Cert.Proof

end
-- ==== Proof.Quant.Pieces.lean ====
module

public import proofs.«01_k».proof.Proof.Quant.Trip
public import proofs.«01_k».proof.Proof.Quant.Rows
public import Idealize.ShloMosaic.Lib.Pipeline.Value

@[expose] public section

set_option maxRecDepth 16384

noncomputable section

namespace Cert.Proof.QI

open Cert.QuantIdeal Cert.QuantIdeal.Gen
open Idealize.ShloMosaic
open Idealize.ShloMosaic.TcCoe Idealize.ShloMosaic.Tactic

variable {F : FTy → Type} [FloatOps F]

/-! ## The blocks a grid step leaves -/

/-- Row `a` of trip `k`. -/
def tripRow (k : Fin 4) (a : Fin 32) : Fin 128 := ⟨32 * k.val + a.val, by omega⟩

/-- Trip `k`'s rows of a block, cut into chunks. -/
def cutX (x0 : Vec F S128x12288 .bf16) (k : Fin 4) (n : Fin 96) : Vec F S32x128 .bf16 := fun x => x0 (ix2 (tripRow k (x 0)) (lane n (x 1)))

/-- The gains, cut into chunks. -/
def cutG (x1 : Vec F S1x12288 .f32) (n : Fin 96) : Vec F S1x128 .f32 := fun x => x1 (ix2 0 (lane n (x 1)))

/-- The trip of a row. -/
def tripOf (r : Fin 128) : Fin 4 := ⟨r.val / 32, by omega⟩
/-- The place of a row in its trip. -/
def inTrip (r : Fin 128) : Fin 32 := ⟨r.val % 32, by omega⟩
/-- The chunk of a column. -/
def chunkOf (k : Fin 12288) : Fin 96 := ⟨k.val / 128, by omega⟩
/-- The place of a column in its chunk. -/
def inChunk (k : Fin 12288) : Fin 128 := ⟨k.val % 128, by omega⟩

/-- The block of codes. -/
def codeBlock (x0 : Vec F S128x12288 .bf16) (x1 : Vec F S1x12288 .f32) (y : S128x12288.Idx) : F .fp8e4m3 :=
  tileCode (cutX x0 (tripOf (y 0))) (cutG x1) (chunkOf (y 1)) (ix2 (inTrip (y 0)) (inChunk (y 1)))

/-- The block of scales. -/
def scaleBlock (x0 : Vec F S128x12288 .bf16) (x1 : Vec F S1x12288 .f32) (y : S128x128.Idx) : F .f32 :=
  tileScale (cutX x0 (tripOf (y 0))) (cutG x1) (ix2 (inTrip (y 0)) (y 1))

/-- A whole buffer read at once. -/
theorem readAt_whole {s : Shape} {e : EltTy} {Val : EltTy → Type} (M : Memref sig .tc .vmem s e) (h : M.IsWhole) (X : s.Idx → Val e)
    {off : Fin s.rank → ℕ} (ho : ∀ a, off a = 0) (inb : ∀ a, off a + s.size a ≤ s.size a) :
    M.view.readAt Val (Rect.unit (s := s) off s.size inb).toLoadRect (h.unread X) = X := by
  funext x
  rw [View.readAt_apply, h.read_unread]
  refine congrArg X (funext fun a => Fin.ext ?_)
  show off a + 1 * (x a).val = _
  rw [ho, Nat.one_mul, Nat.zero_add]

/-- A whole buffer written at once. -/
theorem writes_whole {s : Shape} {e : EltTy} {Val : EltTy → Type} (v : View sig .tc .vmem s e) (f : v.ty.Contents Val) (w : s.Idx → Val e)
    {off : Fin s.rank → ℕ} (ho : ∀ a, off a = 0) (inb : ∀ a, off a + s.size a ≤ s.size a) :
    v.read Val (v.writes Val f [⟨Rect.unit (s := s) off s.size inb, w⟩]) = w := by
  have hem : ∀ x : s.Idx, (Rect.unit (s := s) off s.size inb).emb x = x := fun x => funext fun a => Fin.ext (by
    show off a + 1 * (x a).val = _
    rw [ho, Nat.one_mul, Nat.zero_add])
  funext y
  exact (congrArg _ (hem y)).symm.trans (View.read_writes_cons_emb v _ _ _ _ _)

/-- The number of a trip. -/
def trip4 (k : Fin k0_t1_loop.trips) : Fin 4 := ⟨k.val, lt_of_lt_of_eq k.isLt trips_eq⟩

section
variable (𝒱 : Variants) (c : Dev nD) (bd : Option 𝒱.V) (i : grid0.Coords) (arg1 : Memref sig .tc .vmem S128x12288 .bf16) (harg1 : arg1.IsWhole) (arg2 : Memref sig .tc .vmem S1x12288 .f32) (harg2 : arg2.IsWhole) (arg3 : Memref sig .tc .vmem S128x1 .i32) (harg3 : arg3.IsWhole) (arg4 : Memref sig .tc .vmem S1x128 .f32) (harg4 : arg4.IsWhole) (arg5 : Memref sig .tc .vmem S128x12288 .fp8e4m3) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (x0 : Vec F S128x12288 .bf16) (x1 : Vec F S1x12288 .f32) (x2 : Vec F S128x1 .i32) (x3 : Vec F S1x128 .f32)

theorem loadX_eq (k : Fin k0_t1_loop.trips) : loadX arg1 (harg1.unread x0) k = cutX x0 (trip4 k) := by
  funext n x
  unfold loadX
  rw [View.readAt_apply, harg1.read_unread]
  refine congrArg x0 (funext fun a => Fin.ext ?_)
  have e := congrFun (chunkOff_eq k n) a
  show chunkOff k n a + 1 * (x a).val = _
  rw [e, Nat.one_mul]
  fin_cases a <;> rfl

theorem loadG_eq : loadG arg2 (harg2.unread x1) = cutG x1 := by
  funext n x
  unfold loadG
  rw [View.readAt_apply, harg2.read_unread]
  refine congrArg x1 (funext fun a => Fin.ext ?_)
  show (![0, 128 * n.val] : Fin 2 → ℕ) a + 1 * (x a).val = _
  rw [Nat.one_mul]
  fin_cases a
  · show 0 + (x 0).val = 0
    have := (x 0).isLt
    have h1 : (x 0).val < 1 := (x 0).isLt
    omega
  · rfl

/-- Every code store of a trip agrees with the block of codes. -/
theorem codePieces_agree (k : Fin k0_t1_loop.trips) (h4 : tileCode (loadX arg1 (harg1.unread x0) k) (loadG arg2 (harg2.unread x1)) = tileCode (cutX x0 (trip4 k)) (cutG x1)) :
    ∀ (n : ℕ) (h : n ≤ 96), ∀ p ∈ codePieces k (tileCode (loadX arg1 (harg1.unread x0) k) (loadG arg2 (harg2.unread x1))) n h,
      ∀ x : p.1.shape.Idx, p.2 x = codeBlock x0 x1 (p.1.emb x)
  | 0, _ => fun p hp => absurd hp List.not_mem_nil
  | n + 1, h => fun p hp => by
    rcases List.mem_cons.mp hp with rfl | hp
    · intro x
      rw [h4]
      have hx0 : (x 0).val < 32 := (x 0).isLt
      have hx1 : (x 1).val < 128 := (x 1).isLt
      have hk : k.val < 4 := (trip4 k).isLt
      have e0 : ((Rect.unit (s := S128x12288) (chunkOff k ⟨n, h⟩) S32x128.size (chunkOff_inb k ⟨n, h⟩)).emb x 0).val = 32 * k.val + (x 0).val := by
        have z : chunkOff k ⟨n, h⟩ 0 = 32 * k.val := congrFun (chunkOff_eq k ⟨n, h⟩) 0
        show chunkOff k ⟨n, h⟩ 0 + 1 * (x 0).val = _
        omega
      have e1 : ((Rect.unit (s := S128x12288) (chunkOff k ⟨n, h⟩) S32x128.size (chunkOff_inb k ⟨n, h⟩)).emb x 1).val = 128 * n + (x 1).val := by
        have z : chunkOff k ⟨n, h⟩ 1 = 128 * n := congrFun (chunkOff_eq k ⟨n, h⟩) 1
        show chunkOff k ⟨n, h⟩ 1 + 1 * (x 1).val = _
        omega
      unfold codeBlock
      have q0 : tripOf ((Rect.unit (s := S128x12288) (chunkOff k ⟨n, h⟩) S32x128.size (chunkOff_inb k ⟨n, h⟩)).emb x 0) = trip4 k :=
        Fin.ext (by show _ / 32 = k.val; rw [e0]; omega)
      have q1 : inTrip ((Rect.unit (s := S128x12288) (chunkOff k ⟨n, h⟩) S32x128.size (chunkOff_inb k ⟨n, h⟩)).emb x 0) = x 0 :=
        Fin.ext (by show _ % 32 = (x 0).val; rw [e0]; omega)
      have q2 : chunkOf ((Rect.unit (s := S128x12288) (chunkOff k ⟨n, h⟩) S32x128.size (chunkOff_inb k ⟨n, h⟩)).emb x 1) = ⟨n, h⟩ :=
        Fin.ext (by show _ / 128 = n; rw [e1]; omega)
      have q3 : inChunk ((Rect.unit (s := S128x12288) (chunkOff k ⟨n, h⟩) S32x128.size (chunkOff_inb k ⟨n, h⟩)).emb x 1) = x 1 :=
        Fin.ext (by show _ % 128 = (x 1).val; rw [e1]; omega)
      rw [q0, q1, q2, q3]
      exact congrArg _ (funext fun a => by fin_cases a <;> rfl)
    · exact codePieces_agree k h4 n (by omega) p hp

/-- Every store of the first `n` trips agrees with the two blocks. -/
theorem pb_agree : ∀ (n : ℕ) (h : n ≤ k0_t1_loop.trips),
    (∀ p ∈ (pb_k0_t1 (F := F) 𝒱 c bd i arg1 harg1 arg2 harg2 arg3 harg3 arg4 harg4 arg5 harg5 arg6 harg6 arg7 harg7 arg8 harg8 (harg1.unread x0) (harg2.unread x1) n).1,
      ∀ x : p.1.shape.Idx, p.2 x = codeBlock x0 x1 (p.1.emb x))
    ∧ (∀ p ∈ (pb_k0_t1 (F := F) 𝒱 c bd i arg1 harg1 arg2 harg2 arg3 harg3 arg4 harg4 arg5 harg5 arg6 harg6 arg7 harg7 arg8 harg8 (harg1.unread x0) (harg2.unread x1) n).2,
      ∀ x : p.1.shape.Idx, p.2 x = scaleBlock x0 x1 (p.1.emb x))
  | 0, _ => ⟨fun p hp => absurd hp List.not_mem_nil, fun p hp => absurd hp List.not_mem_nil⟩
  | n + 1, h => by
    obtain ⟨ih1, ih2⟩ := pb_agree n (by omega)
    have e := pb_k0_t1_succ (F := F) 𝒱 c bd i arg1 harg1 arg2 harg2 arg3 harg3 arg4 harg4 arg5 harg5 arg6 harg6 arg7 harg7 arg8 harg8 (harg1.unread x0) (harg2.unread x1) ⟨n, h⟩
    rw [show n + 1 = (⟨n, h⟩ : Fin k0_t1_loop.trips).val + 1 from rfl, e]
    refine ⟨fun p hp => ?_, fun p hp => ?_⟩
    · rcases List.mem_append.mp hp with hp | hp
      · unfold tripL_k0_t1 at hp
        have hp' := Eq.mp (congrArg (fun L => p ∈ L) (trip_codes (F := F) 𝒱 c bd i arg1 harg1 arg2 harg2 arg3 harg3 arg4 harg4 arg5 harg5 arg6 harg6 arg7 harg7 arg8 harg8 (harg1.unread x0) (harg2.unread x1) ⟨n, h⟩)) hp
        exact codePieces_agree arg1 harg1 arg2 harg2 x0 x1 ⟨n, h⟩ (by rw [loadX_eq, loadG_eq]) 96 le_rfl p hp'
      · exact ih1 p hp
    · rcases List.mem_append.mp hp with hp | hp
      · unfold tripL_k0_t1 at hp
        have hp' := (trip_scale (F := F) 𝒱 c bd i arg1 harg1 arg2 harg2 arg3 harg3 arg4 harg4 arg5 harg5 arg6 harg6 arg7 harg7 arg8 harg8 (harg1.unread x0) (harg2.unread x1) ⟨n, h⟩) ▸ hp
        obtain rfl := List.mem_singleton.mp hp'
        intro x
        rw [loadX_eq, loadG_eq]
        have hx0 : (x 0).val < 32 := (x 0).isLt
        have e0 : ((Rect.unit (s := S128x128) (k0_off97 ⟨n, h⟩) S32x128.size (k0_off97_inb ⟨n, h⟩)).emb x 0).val = 32 * n + (x 0).val := by
          have z : k0_off97 ⟨n, h⟩ 0 = 32 * n := congrFun (k0_off97_eq ⟨n, h⟩) 0
          show k0_off97 ⟨n, h⟩ 0 + 1 * (x 0).val = _
          omega
        have e1 : ((Rect.unit (s := S128x128) (k0_off97 ⟨n, h⟩) S32x128.size (k0_off97_inb ⟨n, h⟩)).emb x 1) = x 1 := Fin.ext (by
          have z : k0_off97 ⟨n, h⟩ 1 = 0 := congrFun (k0_off97_eq ⟨n, h⟩) 1
          show k0_off97 ⟨n, h⟩ 1 + 1 * (x 1).val = (x 1).val
          omega)
        unfold scaleBlock
        have q0 : tripOf ((Rect.unit (s := S128x128) (k0_off97 ⟨n, h⟩) S32x128.size (k0_off97_inb ⟨n, h⟩)).emb x 0) = trip4 ⟨n, h⟩ :=
          Fin.ext (by show _ / 32 = n; rw [e0]; omega)
        have q1 : inTrip ((Rect.unit (s := S128x128) (k0_off97 ⟨n, h⟩) S32x128.size (k0_off97_inb ⟨n, h⟩)).emb x 0) = x 0 :=
          Fin.ext (by show _ % 32 = (x 0).val; rw [e0]; omega)
        rw [q0, q1, e1]
        exact congrArg _ (funext fun a => by fin_cases a <;> rfl)
      · exact ih2 p hp

theorem run_codes : (kernelRun0_A (F := F) c i arg1 harg1 arg2 harg2 arg3 harg3 arg4 harg4 arg5 harg5 arg6 harg6 arg7 harg7 arg8 harg8 x0 x1 x2 x3).1
    = (pb_k0_t1 (F := F) Variants.none c none i arg1 harg1 arg2 harg2 arg3 harg3 arg4 harg4 arg5 harg5 arg6 harg6 arg7 harg7 arg8 harg8 (harg1.unread x0) (harg2.unread x1) k0_t1_loop.trips).1 := by
  sl_kernel_rfl

theorem run_scales : (kernelRun0_A (F := F) c i arg1 harg1 arg2 harg2 arg3 harg3 arg4 harg4 arg5 harg5 arg6 harg6 arg7 harg7 arg8 harg8 x0 x1 x2 x3).2.1
    = (pb_k0_t1 (F := F) Variants.none c none i arg1 harg1 arg2 harg2 arg3 harg3 arg4 harg4 arg5 harg5 arg6 harg6 arg7 harg7 arg8 harg8 (harg1.unread x0) (harg2.unread x1) k0_t1_loop.trips).2 := by
  sl_kernel_rfl

/-- The codes a grid step leaves. -/
theorem out_codes (y : S128x12288.Idx) : out0_A_4 (F := F) c i arg1 harg1 arg2 harg2 arg3 harg3 arg4 harg4 arg5 harg5 arg6 harg6 arg7 harg7 arg8 harg8 x0 x1 x2 x3 y = codeBlock x0 x1 y := by
  unfold out0_A_4
  refine View.read_writes_apply_of_pieces _ _ (codeBlock x0 x1) _ ?_ y (cover0_A_4 c i arg1 harg1 arg2 harg2 arg3 harg3 arg4 harg4 arg5 harg5 arg6 harg6 arg7 harg7 arg8 harg8 x0 x1 x2 x3 y)
  rw [run_codes]
  exact (pb_agree Variants.none c none i arg1 harg1 arg2 harg2 arg3 harg3 arg4 harg4 arg5 harg5 arg6 harg6 arg7 harg7 arg8 harg8 x0 x1 _ le_rfl).1

/-- The scales a grid step leaves. -/
theorem out_scales (y : S128x128.Idx) : out0_A_5 (F := F) c i arg1 harg1 arg2 harg2 arg3 harg3 arg4 harg4 arg5 harg5 arg6 harg6 arg7 harg7 arg8 harg8 x0 x1 x2 x3 y = scaleBlock x0 x1 y := by
  unfold out0_A_5
  refine View.read_writes_apply_of_pieces _ _ (scaleBlock x0 x1) _ ?_ y (cover0_A_5 c i arg1 harg1 arg2 harg2 arg3 harg3 arg4 harg4 arg5 harg5 arg6 harg6 arg7 harg7 arg8 harg8 x0 x1 x2 x3 y)
  rw [run_scales]
  exact (pb_agree Variants.none c none i arg1 harg1 arg2 harg2 arg3 harg3 arg4 harg4 arg5 harg5 arg6 harg6 arg7 harg7 arg8 harg8 x0 x1 _ le_rfl).2

/-- The table of cosines a grid step leaves. -/
theorem out_cos : out0_A_6 (F := F) c i arg1 harg1 arg2 harg2 arg3 harg3 arg4 harg4 arg5 harg5 arg6 harg6 arg7 harg7 arg8 harg8 x0 x1 x2 x3 = k0_pay3 x2 x3 := by
  have e : (kernelRun0_A (F := F) c i arg1 harg1 arg2 harg2 arg3 harg3 arg4 harg4 arg5 harg5 arg6 harg6 arg7 harg7 arg8 harg8 x0 x1 x2 x3).2.2.1
      = [⟨Rect.unit (s := S128x128) ![0, 0] S128x128.size inb_S128x128_S128x128_0_0, k0_pay3
        (arg3.view.readAt (Elt F) (Rect.unit (s := S128x1) ![0, 0] S128x1.size inb_S128x1_S128x1_0_0).toLoadRect (harg3.unread x2))
        (arg4.view.readAt (Elt F) (Rect.unit (s := S1x128) ![0, 0] S1x128.size inb_S1x128_S1x128_0_0).toLoadRect (harg4.unread x3))⟩] := by
    sl_kernel_rfl
  unfold out0_A_6
  rw [e, readAt_whole arg3 harg3 x2 (by decide), readAt_whole arg4 harg4 x3 (by decide)]
  exact writes_whole _ _ _ (by decide) _

/-- The table of sines a grid step leaves. -/
theorem out_sin : out0_A_7 (F := F) c i arg1 harg1 arg2 harg2 arg3 harg3 arg4 harg4 arg5 harg5 arg6 harg6 arg7 harg7 arg8 harg8 x0 x1 x2 x3 = k0_pay4 x2 x3 := by
  have e : (kernelRun0_A (F := F) c i arg1 harg1 arg2 harg2 arg3 harg3 arg4 harg4 arg5 harg5 arg6 harg6 arg7 harg7 arg8 harg8 x0 x1 x2 x3).2.2.2.1
      = [⟨Rect.unit (s := S128x128) ![0, 0] S128x128.size inb_S128x128_S128x128_0_0, k0_pay4
        (arg3.view.readAt (Elt F) (Rect.unit (s := S128x1) ![0, 0] S128x1.size inb_S128x1_S128x1_0_0).toLoadRect (harg3.unread x2))
        (arg4.view.readAt (Elt F) (Rect.unit (s := S1x128) ![0, 0] S1x128.size inb_S1x128_S1x128_0_0).toLoadRect (harg4.unread x3))⟩] := by
    sl_kernel_rfl
  unfold out0_A_7
  rw [e, readAt_whole arg3 harg3 x2 (by decide), readAt_whole arg4 harg4 x3 (by decide)]
  exact writes_whole _ _ _ (by decide) _

end

end Cert.Proof.QI

end
-- ==== Proof.Quant.Values.lean ====
module

public import proofs.«01_k».proof.Proof.Quant.Trip
public import proofs.«01_k».proof.Proof.Quant.Rows
public import proofs.«01_k».proof.Proof.Ideal.Values

@[expose] public section

set_option maxRecDepth 16384

noncomputable section

namespace Cert.Proof.QI

open Cert.QuantIdeal Cert.QuantIdeal.Gen
open Idealize.ShloMosaic
open Idealize.ShloMosaic.TcCoe Idealize.ShloMosaic.Tactic

/-! ## What a trip computes, over the extended reals -/

theorem zero_bits : Ideal.ofBits .f32 0x00000000#32 = 0 := Ideal.ofBits_zero_f32

theorem sqSum_apply (L : Fin 96 → Vec Ideal S32x128 .bf16) (i : S32x128.Idx) :
    ∀ (n : ℕ) (h : n ≤ 96), sqSum L n h i = ∑ c : Fin n, ((L (c.castLE h) i : EReal) * L (c.castLE h) i : EReal)
  | 0, _ => zero_bits
  | n + 1, h => by
    rw [Fin.sum_univ_castSucc]
    exact congrArg (fun z : EReal => z + (L ⟨n, h⟩ i : EReal) * L ⟨n, h⟩ i) (sqSum_apply L i n (by omega))

theorem invRms_apply (ss : FVec Ideal S32x128 .f32) (a : Fin 32) (l : Fin 128) :
    invRms ss (ix2 a l) = Ideal.rsqrt ((∑ l' : Fin 128, (ss (ix2 a l') : EReal)) * Ideal.ofBits .f32 0x38AAAAAB#32 + Ideal.ofBits .f32 0x358637BD#32) := by
  unfold invRms
  simp only [pointwise]
  rfl

theorem chunkNorm_apply (r : FVec Ideal S32x128 .f32) (x : Vec Ideal S32x128 .bf16) (g : Vec Ideal S1x128 .f32) (a : Fin 32) (l : Fin 128) :
    chunkNorm r x g (ix2 a l) = ((x (ix2 a l) : EReal) * r (ix2 a l) * g (ix2 0 l) : EReal) := by
  unfold chunkNorm
  simp only [pointwise]
  rfl

theorem chunkMax_le (y : Fin 96 → FVec Ideal S32x128 .f32) (i : S32x128.Idx) (z : EReal) :
    ∀ (n : ℕ) (h : n ≤ 96), (chunkMax y n h i : EReal) ≤ z ↔ 0 ≤ z ∧ ∀ c : Fin n, max (y (c.castLE h) i : EReal) (-(y (c.castLE h) i : EReal)) ≤ z
  | 0, _ => by
    show Ideal.ofBits .f32 0x00000000#32 ≤ z ↔ _
    rw [zero_bits]
    exact ⟨fun h => ⟨h, fun c => c.elim0⟩, fun h => h.1⟩
  | n + 1, h => by
    show max (chunkMax y n _ i : EReal) (max (y ⟨n, h⟩ i : EReal) (-(y ⟨n, h⟩ i : EReal))) ≤ z ↔ _
    rw [max_le_iff (α := EReal), chunkMax_le y i z n, and_assoc, Fin.forall_fin_succ']
    rfl

theorem rowTop_apply (am : FVec Ideal S32x128 .f32) (a : Fin 32) (l : Fin 128) :
    rowTop am (ix2 a l) = Finset.univ.fold max (Ideal.ofBits .f32 0xFF800000#32) (fun l' : Fin 128 => (am (ix2 a l') : EReal)) * unit448 := by
  unfold rowTop unit448
  simp only [pointwise]
  rfl

theorem scale_at (B : IVec S32x128 32) (i : S32x128.Idx) :
    (bitcastToFloat .f32 (addi B (broadcast S32x128 8388608#32)) : FVec Ideal S32x128 .f32) i = Ideal.ofBits .f32 (B i + 8388608#32) := by
  simp only [pointwise]
  rfl

theorem sub_at (w : BitVec 32) (b : IVec S32x128 32) (i : S32x128.Idx) : subi (broadcast S32x128 w) b i = w - b i := rfl

theorem inv_at (b : IVec S32x128 32) (i : S32x128.Idx) :
    (bitcastToFloat .f32 (subi (broadcast S32x128 2122317824#32) b) : FVec Ideal S32x128 .f32) i = Ideal.ofBits .f32 (2122317824#32 - b i) :=
  congrArg (Ideal.ofBits .f32) (sub_at _ b i)

theorem clip_at (y z : FVec Ideal S32x128 .f32) (i : S32x128.Idx) :
    (minimumf (broadcast S32x128 (Scalar.ofBits .f32 0x43E00000#32)) (maximumf (broadcast S32x128 (Scalar.ofBits .f32 0xC3E00000#32)) (mulf y z)) : FVec Ideal S32x128 .f32) i
     = min (Ideal.ofBits .f32 0x43E00000#32) (max (Ideal.ofBits .f32 0xC3E00000#32) (y i * z i)) := by
  simp only [pointwise]

theorem clipped_apply (y : FVec Ideal S32x128 .f32) (b : IVec S32x128 32) (i : S32x128.Idx) :
    clipped y b i = min (Ideal.ofBits .f32 0x43E00000#32) (max (Ideal.ofBits .f32 0xC3E00000#32) (y i * Ideal.ofBits .f32 (2122317824#32 - b i))) := by
  unfold clipped
  rw [clip_at, inv_at]

theorem truncf_at (v : FVec Ideal S32x128 .f32) (i : S32x128.Idx) : (truncf .fp8e4m3 v bitsLt_fp8e4m3_f32 : FVec Ideal S32x128 .fp8e4m3) i = v i := by
  rw [truncf_apply]
  rfl

section
variable (L : Fin 96 → Vec Ideal S32x128 .bf16) (G : Fin 96 → Vec Ideal S1x128 .f32) (a : Fin 32) (v g : Fin 12288 → EReal)
  (hv : ∀ c l, L c (ix2 a l) = v (lane c l)) (hg : ∀ c l, G c (ix2 0 l) = g (lane c l))
include hv

theorem invRms_row (l : Fin 128) : invRms (sqSum L 96 le_rfl) (ix2 a l) = rmsInv v := by
  rw [invRms_apply]
  unfold rmsInv
  rw [← sum_lanes fun k => v k * v k]
  refine congrArg (fun z : EReal => Ideal.rsqrt (z * _ + _)) (Finset.sum_congr rfl fun l' _ => ?_)
  rw [sqSum_apply]
  refine Finset.sum_congr rfl fun c _ => ?_
  have e : L (c.castLE le_rfl) (ix2 a l') = v (lane c l') := hv c l'
  rw [e]

include hg

theorem norms_apply (c : Fin 96) (l : Fin 128) : norms L G c (ix2 a l) = normed v g (lane c l) := by
  unfold norms normed
  rw [chunkNorm_apply, invRms_row L a v hv, hv, hg]

theorem bits_apply (l : Fin 128) : tileBits L G (ix2 a l) = sbits (wideAbs (normed v g) * unit448) := by
  unfold tileBits
  refine (KI.scaleBits_apply _ _).trans (congrArg sbits ?_)
  rw [rowTop_apply]
  refine congrArg (fun z : EReal => z * unit448) (abs_lanes (normed v g) _ fun l' z => ?_)
  rw [chunkMax_le]
  refine and_congr_right fun _ => forall_congr' fun c => ?_
  have e : norms L G (c.castLE le_rfl) (ix2 a l') = normed v g (lane c l') := norms_apply L G a v g hv hg c l'
  rw [e]

theorem tileScale_apply (l : Fin 128) : tileScale L G (ix2 a l) = wideScale (normed v g) := by
  unfold tileScale wideScale
  refine (scale_at _ _).trans ((congrArg (fun b => Ideal.ofBits .f32 (b + 8388608#32)) (bits_apply L G a v g hv hg l)).trans ?_)
  exact (scales_eq _ (wideAbs_nonneg _)).1

theorem tileCode_apply (c : Fin 96) (l : Fin 128) : tileCode L G c (ix2 a l) = wideCode (normed v g) (lane c l) := by
  unfold tileCode wideCode
  refine (truncf_at _ _).trans ((clipped_apply _ _ _).trans ?_)
  rw [norms_apply L G a v g hv hg c l, bits_apply L G a v g hv hg l, (scales_eq _ (wideAbs_nonneg _)).2]

end

end Cert.Proof.QI

end
-- ==== Proof.Quant.Cells.lean ====
module

public import proofs.«01_k».proof.Proof.Quant.Pieces
public import proofs.«01_k».proof.Proof.Quant.Values
public import proofs.«01_k».proof.Proof.RefCells
public import Idealize.ShloMosaic.Lib.WordCmp

@[expose] public section

set_option maxRecDepth 16384

noncomputable section

namespace Cert.Proof.QI

open Cert.QuantIdeal Cert.QuantIdeal.Gen
open Idealize.ShloMosaic Idealize.SL.Sem
open Idealize.ShloMosaic.TcCoe Idealize.ShloMosaic.Tactic Idealize.ShloMosaic.Pipeline

/-! ## The two tables of a grid step -/

section Tables
variable (p : Vec Ideal S128x1 .i32) (f : Vec Ideal S1x128 .f32)

theorem angle_apply (r l : Fin 128) : k0_pay2 p f (ix2 r l) = (((p (ix2 r 0)).toInt : ℝ) : EReal) * f (ix2 0 l) := by
  unfold k0_pay2
  simp only [pointwise]
  refine congrArg₂ (fun i j => (FloatOps.sitofp FTy.f32 (p i) * f j : Ideal .f32)) (RI.ix2_congr ?_ ?_) (RI.ix2_congr ?_ ?_) <;> simp

theorem cos_apply (r l : Fin 128) : k0_pay3 p f (ix2 r l) = turnCos (p (ix2 r 0)) (f (ix2 0 l)) := by
  have h := angle_apply p f r l
  unfold k0_pay3
  generalize k0_pay2 p f = a at h ⊢
  simp only [pointwise]
  exact congrArg Ideal.cos h

theorem sin_apply (r l : Fin 128) : k0_pay4 p f (ix2 r l) = turnSin (p (ix2 r 0)) (f (ix2 0 l)) l := by
  have h := angle_apply p f r l
  unfold k0_pay4 turnSin
  generalize k0_pay2 p f = a at h ⊢
  simp only [pointwise]
  have hc : IntOp.cmpi (w := 32) .slt (BitVec.ofNat 32 l.val) (64 : BitVec 32) = 1#1 ↔ l.val < 64 :=
    WordCmp.cmpi_slt_ofNat_eq_one_iff (w := 32) (a := l.val) (b := 64) (by have := l.isLt; omega) (by decide)
  have hf : (List.foldl (fun n b => n * (![128, 128] : Fin 2 → ℕ) b + ((ix2 r l : S128x128.Idx) b).val) 0 [1]) = l.val := by simp
  rw [hf, h]
  by_cases hl : l.val < 64
  · rw [if_pos hl]
    exact if_pos (hc.mpr hl)
  · rw [if_neg hl]
    exact if_neg (fun e => hl (hc.mp e))

end Tables

/-! ## The blocks a grid step reads -/

section Blocks
variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `a` of a grid step. -/
def stepRow (t : Fin cfg0.N) (a : Fin 128) : Fin 9216 :=
  ⟨128 * t.val + a.val, by have ht : t.val < 72 := Nat.lt_of_lt_of_eq t.isLt N_0; omega⟩

/-- A row of the first argument. -/
def rowX (r : Fin 9216) (k : Fin 12288) : EReal := m ((c : Thread nD τ).loc main_arg0) (ix2 r k : S9216x12288.Idx)
/-- The gains. -/
def gains (k : Fin 12288) : EReal := m ((c : Thread nD τ).loc main_arg1) (ix1 k : S12288.Idx)
/-- The position of a row. -/
def posOf (r : Fin 9216) : BitVec 32 := m ((c : Thread nD τ).loc main_arg2) (ix1 r : S9216.Idx)

theorem blk0 (t : Fin cfg0.N) (a : Fin 128) (k : Fin 12288) : iblk m c 0 t (ix2 a k : S128x12288.Idx) = rowX m c (stepRow t a) k := by
  blk_simp [iblk]
  rw [V_main_arg0]
  unfold rowX stepRow
  congr 1
  blk_ext [index0]

theorem blk1 (t : Fin cfg0.N) (k : Fin 12288) : iblk m c 1 t (ix2 0 k : S1x12288.Idx) = gains m c k := by
  blk_simp [iblk]
  entry_read
  pointwise
  show m ((c : Thread nD τ).loc main_arg1) _ = _
  unfold gains
  congr 1
  blk_ext [index1]

theorem blk2 (t : Fin cfg0.N) (a : Fin 128) : iblk m c 2 t (ix2 a 0 : S128x1.Idx) = posOf m c (stepRow t a) := by
  blk_simp [iblk]
  entry_read
  pointwise
  show m ((c : Thread nD τ).loc main_arg2) _ = _
  unfold posOf stepRow
  congr 1
  blk_ext [index2]

theorem freq_congr {n : ℕ} {l : Fin 64} (h : n = l.val) :
    Ideal.div 1 (Ideal.pow (Ideal.ofBits .f32 0x49742400#32)
      (Ideal.div (Ideal.ofBits .f32 0x40000000#32 * (((BitVec.ofNat 32 n).toInt : ℝ) : EReal)) (Ideal.ofBits .f32 0x43000000#32))) = freqOf l := by
  subst h
  rfl

theorem blk3 (t : Fin cfg0.N) (l : Fin 128) : iblk m c 3 t (ix2 0 l : S1x128.Idx) = freqOf (half l) := by
  blk_simp [iblk]
  entry_read
  pointwise
  have he : (((View.whole main_v12).slice (win0_3.rect t)).emb (ix2 0 l : S1x128.Idx) 1).val = l.val := by blk_simp [index3]
  have hl := l.isLt
  split
  · next hlt =>
    refine freq_congr ?_
    show _ = l.val % 64
    omega
  · next hlt =>
    refine freq_congr ?_
    show _ = l.val % 64
    omega

/-! ## The blocks a grid step leaves, cell by cell -/

theorem row_eq (t : Fin cfg0.N) (a : Fin 128) (v : Fin 12288 → EReal) (g : Fin 12288 → EReal) (n : Fin 96) (l : Fin 128)
    (hv : ∀ k, iblk m c 0 t (ix2 a k : S128x12288.Idx) = v k) :
    cutX (F := Ideal) (iblk m c 0 t) (tripOf a) n (ix2 (inTrip a) l) = v (lane n l) := by
  refine Eq.trans ?_ (hv (lane n l))
  unfold cutX
  refine congrArg (iblk m c 0 t) (RI.ix2_congr ?_ rfl)
  show 32 * (a.val / 32) + a.val % 32 = a.val
  omega

theorem codes_at (t : Fin cfg0.N) (a : Fin 128) (k : Fin 12288) :
    codeBlock (F := Ideal) (iblk m c 0 t) (iblk m c 1 t) (ix2 a k : S128x12288.Idx) = wideCode (normed (rowX m c (stepRow t a)) (gains m c)) k := by
  unfold codeBlock
  refine (tileCode_apply _ _ _ (rowX m c (stepRow t a)) (gains m c) (fun n l => row_eq m c t a _ (gains m c) n l (blk0 m c t a)) (fun n l => blk1 m c t (lane n l)) _ _).trans ?_
  refine congrArg _ (Fin.ext ?_)
  show 128 * (k.val / 128) + k.val % 128 = k.val
  omega

theorem scales_at (t : Fin cfg0.N) (a : Fin 128) (l : Fin 128) :
    scaleBlock (F := Ideal) (iblk m c 0 t) (iblk m c 1 t) (ix2 a l : S128x128.Idx) = wideScale (normed (rowX m c (stepRow t a)) (gains m c)) := by
  unfold scaleBlock
  exact tileScale_apply _ _ _ (rowX m c (stepRow t a)) (gains m c) (fun n l => row_eq m c t a _ (gains m c) n l (blk0 m c t a)) (fun n l => blk1 m c t (lane n l)) _

theorem after4 (t : Fin cfg0.N) (y : S128x12288.Idx) :
    (dats m 0 c).after 4 t y = wideCode (normed (rowX m c (stepRow t (y 0))) (gains m c)) (y 1) := by
  rw [after0_4]
  refine (out_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) y).trans ?_
  exact (congrArg _ (RI.eta2 (p := 128) (q := 12288) y)).trans (codes_at m c t (y 0) (y 1))

theorem after5 (t : Fin cfg0.N) (y : S128x128.Idx) :
    (dats m 0 c).after 5 t y = wideScale (normed (rowX m c (stepRow t (y 0))) (gains m c)) := by
  rw [after0_5]
  refine (out_scales c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) y).trans ?_
  exact (congrArg _ (RI.eta2 (p := 128) (q := 128) y)).trans (scales_at m c t (y 0) (y 1))

theorem after6 (t : Fin cfg0.N) (y : S128x128.Idx) :
    (dats m 0 c).after 6 t y = turnCos (posOf m c (stepRow t (y 0))) (freqOf (half (y 1))) := by
  rw [after0_6]
  refine (congrFun (out_cos c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y).trans ?_
  refine (congrArg _ (RI.eta2 (p := 128) (q := 128) y)).trans ((cos_apply _ _ (y 0) (y 1)).trans ?_)
  exact congrArg₂ turnCos (blk2 m c t (y 0)) (blk3 m c t (y 1))

theorem after7 (t : Fin cfg0.N) (y : S128x128.Idx) :
    (dats m 0 c).after 7 t y = turnSin (posOf m c (stepRow t (y 0))) (freqOf (half (y 1))) (y 1) := by
  rw [after0_7]
  refine (congrFun (out_sin c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t)) y).trans ?_
  refine (congrArg _ (RI.eta2 (p := 128) (q := 128) y)).trans ((sin_apply _ _ (y 0) (y 1)).trans ?_)
  exact congrArg₂ (fun p f => turnSin p f (y 1)) (blk2 m c t (y 0)) (blk3 m c t (y 1))

/-! ## The arrays after the run -/

theorem arr4 : (dats m 0 c).arrAt 4 cfg0.N = fun i : S9216x12288.Idx => wideCode (normed (rowX m c (i 0)) (gains m c)) (i 1) := by
  refine (dats m 0 c).arrAt_eq_of_covers 4 _ (by decide +kernel) fun t hf y => ?_
  blk_simp
  refine (after4 m c t y).trans ?_
  refine congrArg₂ (fun r k => wideCode (normed (rowX m c r) (gains m c)) k) (Fin.ext ?_) (Fin.ext ?_) <;> blk_simp [index4] <;> simp [stepRow] <;> omega

theorem arr5 : (dats m 0 c).arrAt 5 cfg0.N = fun i : S9216x128.Idx => wideScale (normed (rowX m c (i 0)) (gains m c)) := by
  refine (dats m 0 c).arrAt_eq_of_covers 5 _ (by decide +kernel) fun t hf y => ?_
  blk_simp
  refine (after5 m c t y).trans ?_
  refine congrArg (fun r => wideScale (normed (rowX m c r) (gains m c))) (Fin.ext ?_) <;> blk_simp [index5] <;> simp [stepRow] <;> omega

theorem arr6 : (dats m 0 c).arrAt 6 cfg0.N = fun i : S9216x128.Idx => turnCos (posOf m c (i 0)) (freqOf (half (i 1))) := by
  refine (dats m 0 c).arrAt_eq_of_covers 6 _ (by decide +kernel) fun t hf y => ?_
  blk_simp
  refine (after6 m c t y).trans ?_
  refine congrArg₂ (fun r l => turnCos (posOf m c r) (freqOf (half l))) (Fin.ext ?_) (Fin.ext ?_) <;> blk_simp [index6] <;> simp [stepRow] <;> omega

theorem arr7 : (dats m 0 c).arrAt 7 cfg0.N = fun i : S9216x128.Idx => turnSin (posOf m c (i 0)) (freqOf (half (i 1))) (i 1) := by
  refine (dats m 0 c).arrAt_eq_of_covers 7 _ (by decide +kernel) fun t hf y => ?_
  blk_simp
  refine (after7 m c t y).trans ?_
  refine congrArg₂ (fun r l => turnSin (posOf m c r) (freqOf (half l)) l) (Fin.ext ?_) (Fin.ext ?_) <;> blk_simp [index7] <;> simp [stepRow] <;> omega

end Blocks

section Run
variable (m : (ℓ : Loc nD τ sig) → Buf (Elt Ideal) ℓ) (ρ : Dev nD → PrngReg)

/-- The kernel's run: the four results, cell by cell, and the arguments unchanged. -/
theorem run_cells : θ_run defs (onTc (τ := τ) (main (F := Ideal))) ⟨m, fun _ => 0, ρ⟩ (fun r => ∀ c : Dev nD,
      r.2.mem ((c.tc : Thread nD τ).loc main_v15_0) = (fun i : S9216x12288.Idx => wideCode (normed (rowX m c (i 0)) (gains m c)) (i 1))
      ∧ r.2.mem ((c.tc : Thread nD τ).loc main_v15_1) = (fun i : S9216x128.Idx => wideScale (normed (rowX m c (i 0)) (gains m c)))
      ∧ r.2.mem ((c.tc : Thread nD τ).loc main_v15_2) = (fun i : S9216x128.Idx => turnCos (posOf m c (i 0)) (freqOf (half (i 1))))
      ∧ r.2.mem ((c.tc : Thread nD τ).loc main_v15_3) = (fun i : S9216x128.Idx => turnSin (posOf m c (i 0)) (freqOf (half (i 1))) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (unchanged m ρ))
  exact ⟨(h.1.out_eq c 4).trans (arr4 m c), (h.1.out_eq c 5).trans (arr5 m c), (h.1.out_eq c 6).trans (arr6 m c), (h.1.out_eq c 7).trans (arr7 m c), h.2 c⟩

end Run

end Cert.Proof.QI

end
-- ==== Proof.Quant.RefValues.lean ====
module

public import proofs.«01_k».proof.Proof.Gen.QuantReferenceIdeal.Frame
public import proofs.«01_k».proof.Proof.Quant.Rows
public import proofs.«01_k».proof.Proof.RefCells
public import Idealize.ShloMosaic.Lib.Pipeline.Value
public import Idealize.ShloMosaic.Lib.Pipeline.ValueKit
public import Idealize.ShloMosaic.Lib.Pointwise
public import Idealize.ShloMosaic.PureOps.Ideal.Laws

@[expose] public section

set_option maxRecDepth 16384

noncomputable section

namespace Cert.Proof.QRI

open Cert.QuantReferenceIdeal Cert.QuantReferenceIdeal.Gen
open Idealize.ShloMosaic
open Idealize.ShloMosaic.TcCoe Idealize.ShloMosaic.Tactic

/-! ## The reference's values, row by row -/

section
variable (x : Vec Ideal S9216x12288 .bf16) (g : Vec Ideal S1x12288 .f32)

/-- A row of the normed input. -/
theorem pay6_apply (r : Fin 9216) (k : Fin 12288) : k0_pay6 x g (ix2 r k) = normed (fun k => x (ix2 r k)) (fun k => g (ix2 0 k)) k := by
  unfold k0_pay6 normed rmsInv
  simp only [pointwise]
  rfl

/-- A row's exponent, from its largest magnitude. -/
theorem exp_at {s : Shape} (z : FVec Ideal s .f32) (i : s.Idx) :
    select (ori (cmpf .oeq z (broadcast s (Scalar.ofBits .f32 0x00000000#32 : Ideal .f32)))
        (cmpf .oge (mulf z (broadcast s (Scalar.ofBits .f32 0x3B124925#32 : Ideal .f32))) (broadcast s (Scalar.ofBits .f32 0x7E800000#32 : Ideal .f32))))
      (broadcast s (Scalar.ofBits .f32 0x00000000#32 : Ideal .f32))
      (maximumf (addf (floor (divf (log (mulf z (broadcast s (Scalar.ofBits .f32 0x3B124925#32 : Ideal .f32)))) (log (broadcast s (Scalar.ofBits .f32 0x40000000#32 : Ideal .f32)))))
        (broadcast s (Scalar.ofBits .f32 0x3F800000#32 : Ideal .f32))) (broadcast s (Scalar.ofBits .f32 0xC2FC0000#32 : Ideal .f32))) i = rexp (z i) := by
  unfold rexp unit448
  simp only [pointwise]
  rw [RI.sel_or]

theorem max_at (z : FVec Ideal S9216x12288 .f32) (r : Fin 9216) :
    (shapeCast S9216x1 (multiReduction .maximumf [1] S9216 (absf z) 0xFF800000#32 reduces_S9216x12288_S9216 (.inl rfl) rfl) shapeCasts_S9216_S9216x1 : FVec Ideal S9216x1 .f32) (ix2 r 0)
      = wideAbs (fun k => z (ix2 r k)) := by
  unfold wideAbs
  simp only [pointwise]
  rfl

theorem pay7_apply (r : Fin 9216) : k0_pay7 x g (ix2 r 0) = rexp (wideAbs (fun k => k0_pay6 x g (ix2 r k))) := by
  rw [← max_at]
  unfold k0_pay7
  generalize k0_pay6 x g = z
  exact exp_at _ _

theorem scaled_at (z : FVec Ideal S9216x12288 .f32) (e : FVec Ideal S9216x1 .f32) (r : Fin 9216) (k : Fin 12288) :
    mulf z (broadcastTo S9216x12288 (exp2 (subf (broadcast S9216x1 (Scalar.ofBits .f32 0x00000000#32 : Ideal .f32)) e)) broadcasts_S9216x1_S9216x12288) (ix2 r k)
      = z (ix2 r k) * Ideal.exp2 (0 - e (ix2 r 0)) := by
  simp only [pointwise]
  rfl

theorem pay1_apply (z : FVec Ideal S9216x12288 .f32) (r : Fin 9216) (k : Fin 12288) :
    k0_pay1 z (Scalar.ofBits .f32 0xC3E00000#32) (Scalar.ofBits .f32 0x43E00000#32) (ix2 r k)
      = min (Ideal.ofBits .f32 0x43E00000#32) (max (Ideal.ofBits .f32 0xC3E00000#32) (z (ix2 r k))) := by
  unfold k0_pay1
  simp only [pointwise]
  first | done | rfl

/-- A row's codes. -/
theorem codes_apply (r : Fin 9216) (k : Fin 12288) :
    k0_pay1 (k0_pay8 x g) (Scalar.ofBits .f32 0xC3E00000#32) (Scalar.ofBits .f32 0x43E00000#32) (ix2 r k)
      = wideCode (normed (fun k => x (ix2 r k)) (fun k => g (ix2 0 k))) k := by
  have e : (fun k => k0_pay6 x g (ix2 r k)) = normed (fun k => x (ix2 r k)) (fun k => g (ix2 0 k)) := funext fun k => pay6_apply x g r k
  have e8 : k0_pay8 x g (ix2 r k) = k0_pay6 x g (ix2 r k) * Ideal.exp2 (0 - k0_pay7 x g (ix2 r 0)) := by
    unfold k0_pay8
    exact scaled_at _ _ _ _
  rw [pay1_apply, e8, pay7_apply, e, pay6_apply]
  rfl

theorem pay2_apply (z : FVec Ideal S9216x1 .f32) (r : Fin 9216) (l : Fin 128) : k0_pay2 z (ix2 r l) = Ideal.exp2 (z (ix2 r 0)) := by
  unfold k0_pay2
  simp only [pointwise]
  rfl

/-- A row's scale. -/
theorem scales_apply (r : Fin 9216) (l : Fin 128) : k0_pay2 (k0_pay7 x g) (ix2 r l) = wideScale (normed (fun k => x (ix2 r k)) (fun k => g (ix2 0 k))) := by
  have e : (fun k => k0_pay6 x g (ix2 r k)) = normed (fun k => x (ix2 r k)) (fun k => g (ix2 0 k)) := funext fun k => pay6_apply x g r k
  rw [pay2_apply, pay7_apply, e]
  rfl

end

/-! ### The tables -/

section
variable (p : Vec Ideal S9216x1 .i32) (f : Vec Ideal S1x64 .f32)

theorem turn_congr (i i' : S9216x1.Idx) (j j' : S1x64.Idx) (hi : i = i') (hj : j = j') :
    (FloatOps.sitofp FTy.f32 (p i) * f j : Ideal .f32) = ((((p i').toInt : ℝ) : EReal) * f j' : EReal) := by
  subst hi hj
  rfl

theorem cos_apply (r : Fin 9216) (l : Fin 128) : k0_pay4 p f (ix2 r l) = turnCos (p (ix2 r 0)) (f (ix2 0 (half l))) := by
  unfold k0_pay4 k0_pay3 turnCos
  simp only [pointwise]
  have hl := l.isLt
  split <;> refine congrArg Ideal.cos (turn_congr p f _ _ _ _ (RI.ix2_congr ?_ ?_) (RI.ix2_congr ?_ ?_)) <;> simp [half] <;> omega

theorem sin_apply (r : Fin 9216) (l : Fin 128) : k0_pay5 p f (ix2 r l) = turnSin (p (ix2 r 0)) (f (ix2 0 (half l))) l := by
  unfold k0_pay5 k0_pay3 turnSin
  simp only [pointwise]
  have hl := l.isLt
  split
  · refine congrArg (fun z : EReal => 0 - Ideal.sin z) (turn_congr p f _ _ _ _ (RI.ix2_congr ?_ ?_) (RI.ix2_congr ?_ ?_)) <;> simp [half] <;> omega
  · refine congrArg Ideal.sin (turn_congr p f _ _ _ _ (RI.ix2_congr ?_ ?_) (RI.ix2_congr ?_ ?_)) <;> simp [half] <;> omega

end

/-! ## The blocks, and the arrays after the run -/

section Blocks
variable (m : (ℓ : Loc nD τ sig) → Buf (Elt Ideal) ℓ) (c : Dev nD)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

theorem blk0 (t : Fin cfg0.N) (r : Fin 9216) (k : Fin 12288) :
    iblk m c 0 t (ix2 r k : S9216x12288.Idx) = m ((c : Thread nD τ).loc main_arg0) (ix2 r k : S9216x12288.Idx) := by
  blk_simp [iblk]
  rw [V_main_arg0]
  congr 1
  blk_ext [index0]

theorem blk1 (t : Fin cfg0.N) (k : Fin 12288) :
    iblk m c 1 t (ix2 0 k : S1x12288.Idx) = m ((c : Thread nD τ).loc main_arg1) (ix1 k : S12288.Idx) := by
  blk_simp [iblk]
  entry_read
  pointwise
  show m ((c : Thread nD τ).loc main_arg1) _ = _
  congr 1
  blk_ext [index1]

theorem blk2 (t : Fin cfg0.N) (r : Fin 9216) :
    iblk m c 2 t (ix2 r 0 : S9216x1.Idx) = m ((c : Thread nD τ).loc main_arg2) (ix1 r : S9216.Idx) := by
  blk_simp [iblk]
  entry_read
  pointwise
  show m ((c : Thread nD τ).loc main_arg2) _ = _
  congr 1
  blk_ext [index2]

theorem blk3 (t : Fin cfg0.N) (l : Fin 64) : iblk m c 3 t (ix2 0 l : S1x64.Idx) = freqOf l := by
  blk_simp [iblk]
  entry_read
  pointwise
  refine congrArg (fun n : ℕ => Ideal.div 1 (Ideal.pow (Ideal.ofBits .f32 0x49742400#32)
    (Ideal.div (Ideal.ofBits .f32 0x40000000#32 * (((BitVec.ofNat 32 n).toInt : ℝ) : EReal)) (Ideal.ofBits .f32 0x43000000#32)))) ?_
  blk_simp [index3]

/-- A row of the first argument. -/
def rowX (r : Fin 9216) (k : Fin 12288) : EReal := m ((c : Thread nD τ).loc main_arg0) (ix2 r k : S9216x12288.Idx)
/-- The gains. -/
def gains (k : Fin 12288) : EReal := m ((c : Thread nD τ).loc main_arg1) (ix1 k : S12288.Idx)
/-- The position of a row. -/
def posOf (r : Fin 9216) : BitVec 32 := m ((c : Thread nD τ).loc main_arg2) (ix1 r : S9216.Idx)

theorem row_eq (t : Fin cfg0.N) (r : Fin 9216) :
    normed (fun k => iblk m c 0 t (ix2 r k : S9216x12288.Idx)) (fun k => iblk m c 1 t (ix2 0 k : S1x12288.Idx)) = normed (rowX m c r) (gains m c) :=
  congrArg₂ normed (funext fun k => blk0 m c t r k) (funext fun k => blk1 m c t k)

theorem out4_apply (x0 : Vec Ideal S9216x12288 .bf16) (x1 : Vec Ideal S1x12288 .f32) (x2 : Vec Ideal S9216x1 .i32) (x3 : Vec Ideal S1x64 .f32) (r : Fin 9216) (k : Fin 12288) :
    out0_4 x0 x1 x2 x3 (ix2 r k : S9216x12288.Idx) = wideCode (normed (fun k => x0 (ix2 r k)) (fun k => x1 (ix2 0 k))) k := by
  unfold out0_4
  rw [View.canon_cons_unit_lit _ _ _ (by decide), View.ld_unit_lit _ _ (by decide), View.ld_unit_lit _ _ (by decide)]
  exact codes_apply x0 x1 r k

theorem out5_apply (x0 : Vec Ideal S9216x12288 .bf16) (x1 : Vec Ideal S1x12288 .f32) (x2 : Vec Ideal S9216x1 .i32) (x3 : Vec Ideal S1x64 .f32) (r : Fin 9216) (l : Fin 128) :
    out0_5 x0 x1 x2 x3 (ix2 r l : S9216x128.Idx) = wideScale (normed (fun k => x0 (ix2 r k)) (fun k => x1 (ix2 0 k))) := by
  unfold out0_5
  rw [View.canon_cons_unit_lit _ _ _ (by decide), View.ld_unit_lit _ _ (by decide), View.ld_unit_lit _ _ (by decide)]
  exact scales_apply x0 x1 r l

theorem out6_apply (x0 : Vec Ideal S9216x12288 .bf16) (x1 : Vec Ideal S1x12288 .f32) (x2 : Vec Ideal S9216x1 .i32) (x3 : Vec Ideal S1x64 .f32) (r : Fin 9216) (l : Fin 128) :
    out0_6 x0 x1 x2 x3 (ix2 r l : S9216x128.Idx) = turnCos (x2 (ix2 r 0)) (x3 (ix2 0 (half l))) := by
  unfold out0_6
  rw [View.canon_cons_unit_lit _ _ _ (by decide), View.ld_unit_lit _ _ (by decide), View.ld_unit_lit _ _ (by decide)]
  exact cos_apply x2 x3 r l

theorem out7_apply (x0 : Vec Ideal S9216x12288 .bf16) (x1 : Vec Ideal S1x12288 .f32) (x2 : Vec Ideal S9216x1 .i32) (x3 : Vec Ideal S1x64 .f32) (r : Fin 9216) (l : Fin 128) :
    out0_7 x0 x1 x2 x3 (ix2 r l : S9216x128.Idx) = turnSin (x2 (ix2 r 0)) (x3 (ix2 0 (half l))) l := by
  unfold out0_7
  rw [View.canon_cons_unit_lit _ _ _ (by decide), View.ld_unit_lit _ _ (by decide), View.ld_unit_lit _ _ (by decide)]
  exact sin_apply x2 x3 r l

theorem arr4 : (dats m 0 c).arrAt 4 cfg0.N = fun i : S9216x12288.Idx => wideCode (normed (rowX m c (i 0)) (gains m c)) (i 1) := by
  refine (dats m 0 c).arrAt_eq_of_covers 4 _ (by decide +kernel) fun t hf y => ?_
  blk_simp
  rw [after0_4]
  refine (congrArg (out0_4 (iblk m c 0 t) (iblk m c 1 t) (iblk m c 2 t) (iblk m c 3 t)) (RI.eta2 (p := 9216) (q := 12288) y)).trans ?_
  refine (out4_apply _ _ _ _ _ _).trans ((congrArg (fun v => wideCode v _) (row_eq m c t _)).trans ?_)
  refine congrArg₂ (fun r k => wideCode (normed (rowX m c r) (gains m c)) k) (Fin.ext ?_) (Fin.ext ?_) <;> blk_simp [index4] <;> simp

theorem arr5 : (dats m 0 c).arrAt 5 cfg0.N = fun i : S9216x128.Idx => wideScale (normed (rowX m c (i 0)) (gains m c)) := by
  refine (dats m 0 c).arrAt_eq_of_covers 5 _ (by decide +kernel) fun t hf y => ?_
  blk_simp
  rw [after0_5]
  refine (congrArg (out0_5 (iblk m c 0 t) (iblk m c 1 t) (iblk m c 2 t) (iblk m c 3 t)) (RI.eta2 (p := 9216) (q := 128) y)).trans ?_
  refine (out5_apply _ _ _ _ _ _).trans ((congrArg wideScale (row_eq m c t _)).trans ?_)
  refine congrArg (fun r => wideScale (normed (rowX m c r) (gains m c))) (Fin.ext ?_) <;> blk_simp [index5] <;> simp

theorem arr6 : (dats m 0 c).arrAt 6 cfg0.N = fun i : S9216x128.Idx => turnCos (posOf m c (i 0)) (freqOf (half (i 1))) := by
  refine (dats m 0 c).arrAt_eq_of_covers 6 _ (by decide +kernel) fun t hf y => ?_
  blk_simp
  rw [after0_6]
  refine (congrArg (out0_6 (iblk m c 0 t) (iblk m c 1 t) (iblk m c 2 t) (iblk m c 3 t)) (RI.eta2 (p := 9216) (q := 128) y)).trans ?_
  refine (out6_apply _ _ _ _ _ _).trans ((congrArg₂ turnCos (blk2 m c t _) (blk3 m c t _)).trans ?_)
  refine congrArg₂ (fun r l => turnCos (posOf m c r) (freqOf (half l))) (Fin.ext ?_) (Fin.ext ?_) <;> blk_simp [index6] <;> simp

theorem arr7 : (dats m 0 c).arrAt 7 cfg0.N = fun i : S9216x128.Idx => turnSin (posOf m c (i 0)) (freqOf (half (i 1))) (i 1) := by
  refine (dats m 0 c).arrAt_eq_of_covers 7 _ (by decide +kernel) fun t hf y => ?_
  blk_simp
  rw [after0_7]
  refine (congrArg (out0_7 (iblk m c 0 t) (iblk m c 1 t) (iblk m c 2 t) (iblk m c 3 t)) (RI.eta2 (p := 9216) (q := 128) y)).trans ?_
  refine (out7_apply _ _ _ _ _ _).trans ((congrArg₂ (fun p f => turnSin p f _) (blk2 m c t _) (blk3 m c t _)).trans ?_)
  refine congrArg₂ (fun r l => turnSin (posOf m c r) (freqOf (half l)) l) (Fin.ext ?_) (Fin.ext ?_) <;> blk_simp [index7] <;> simp

end Blocks

section Run
variable (m : (ℓ : Loc nD τ sig) → Buf (Elt Ideal) ℓ) (ρ : Dev nD → PrngReg)

/-- The reference's run: the four results, cell by cell, and the arguments unchanged. -/
theorem run_cells : θ_run defs (onTc (τ := τ) (main (F := Ideal))) ⟨m, fun _ => 0, ρ⟩ (fun r => ∀ c : Dev nD,
      r.2.mem ((c.tc : Thread nD τ).loc main_v14_0) = (fun i : S9216x12288.Idx => wideCode (normed (rowX m c (i 0)) (gains m c)) (i 1))
      ∧ r.2.mem ((c.tc : Thread nD τ).loc main_v14_1) = (fun i : S9216x128.Idx => wideScale (normed (rowX m c (i 0)) (gains m c)))
      ∧ r.2.mem ((c.tc : Thread nD τ).loc main_v14_2) = (fun i : S9216x128.Idx => turnCos (posOf m c (i 0)) (freqOf (half (i 1))))
      ∧ r.2.mem ((c.tc : Thread nD τ).loc main_v14_3) = (fun i : S9216x128.Idx => turnSin (posOf m c (i 0)) (freqOf (half (i 1))) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m ρ) (unchanged m ρ))
  exact ⟨(h.1.out_eq c 4).trans (arr4 m c), (h.1.out_eq c 5).trans (arr5 m c), (h.1.out_eq c 6).trans (arr6 m c), (h.1.out_eq c 7).trans (arr7 m c), h.2 c⟩

end Run

end Cert.Proof.QRI

end
-- ==== Proof.Quant.Algebraic.lean ====
module

public import proofs.«01_k».proof.Defs
public import proofs.«01_k».proof.Proof.Quant.Cells
public import proofs.«01_k».proof.Proof.Quant.RefValues

@[expose] public section

set_option maxRecDepth 16384

noncomputable section

namespace Cert.Proof

open Idealize.ShloMosaic Idealize.SL.Sem
open Idealize.ShloMosaic.TcCoe Idealize.ShloMosaic.Tactic

/-- The normalising kernel and its reference end with the same results, as extended reals, on every cell. -/
theorem quant_algebraic : Cert.algebraic_QuantIdeal_QuantReferenceIdeal (hQuantIdeal := Cert.QuantIdeal.Gen.facts)
    (hQuantReferenceIdeal := Cert.QuantReferenceIdeal.Gen.facts) := by
  intro m g m' g' _ hargs
  refine ⟨fun c (i : Cert.QuantIdeal.S9216x12288.Idx) => wideCode (normed (QI.rowX m c (i 0)) (QI.gains m c)) (i 1),
    fun c (i : Cert.QuantIdeal.S9216x128.Idx) => wideScale (normed (QI.rowX m c (i 0)) (QI.gains m c)),
    fun c (i : Cert.QuantIdeal.S9216x128.Idx) => turnCos (QI.posOf m c (i 0)) (freqOf (half (i 1))),
    fun c (i : Cert.QuantIdeal.S9216x128.Idx) => turnSin (QI.posOf m c (i 0)) (freqOf (half (i 1))) (i 1), QI.run_cells m g, ?_⟩
  refine (θ_run _ _ _).mono (fun r h c => ?_) (QRI.run_cells m' g')
  obtain ⟨e0, e1, e2, e3, ea⟩ := h c
  obtain ⟨h0, h1, h2⟩ := hargs c
  have hx : ∀ r, QRI.rowX m' c r = QI.rowX m c r := fun r => funext fun k => congrFun h0 (ix2 r k)
  have hg : QRI.gains m' c = QI.gains m c := funext fun k => congrFun h1 (ix1 k)
  have hp : ∀ r, QRI.posOf m' c r = QI.posOf m c r := fun r => congrFun h2 (ix1 r)
  refine ⟨e0.trans (funext fun i => ?_), e1.trans (funext fun i => ?_), e2.trans (funext fun i => ?_), e3.trans (funext fun i => ?_), ea⟩
  · exact congrArg (fun v => wideCode v (i 1)) (congrArg₂ normed (hx (i 0)) hg)
  · exact congrArg wideScale (congrArg₂ normed (hx (i 0)) hg)
  · exact congrArg (fun p => turnCos p (freqOf (half (i 1)))) (hp (i 0))
  · exact congrArg (fun p => turnSin p (freqOf (half (i 1))) (i 1)) (hp (i 0))

end Cert.Proof

end
-- ==== Proof.lean ====
module

public import proofs.«01_k».proof.Defs
public import proofs.«01_k».proof.Proof.Final
public import proofs.«01_k».proof.Proof.Ideal.Final
public import proofs.«01_k».proof.Proof.Algebraic
public import proofs.«01_k».proof.Proof.Quant.Algebraic
public import proofs.«01_k».proof.Proof.Gen.Quant.Frame
public import proofs.«01_k».proof.Proof.Gen.QuantIdeal.Frame
public import proofs.«01_k».proof.Proof.Gen.QuantReferenceIdeal.Frame
public import proofs.«01_k».proof.Proof.Gen.On_written
public import proofs.«01_k».proof.Proof.Gen.ReferenceIdeal.Frame

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Quant.Gen.facts, Cert.QuantIdeal.Gen.facts, Cert.QuantReferenceIdeal.Gen.facts, Cert.On_written.Gen.facts,
    fun m ρ _ => K.frame_all m ρ, fun m ρ _ => KI.frame_all m ρ, fun m ρ _ => Cert.ReferenceIdeal.Gen.frame m ρ,
    fun m ρ _ => Cert.Quant.Gen.frame m ρ, fun m ρ _ => Cert.QuantIdeal.Gen.frame m ρ, fun m ρ _ => Cert.QuantReferenceIdeal.Gen.frame m ρ,
    trivial, algebraic, trivial, quant_algebraic⟩

end Cert.Proof

end
